-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_norm [hPre_finite_norm : Cert.Pre_finite_norm.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_norm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite_norm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite_norm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_norm [hPre_finite_norm : Cert.Pre_finite_norm.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_norm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite_norm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite_norm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_input [hPre_finite_input : Cert.Pre_finite_input.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_input.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 = (fun _ => 1#1)
    ∧ (Cert.Pre_finite_input.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.1 = (fun _ => 1#1)
    ∧ (Cert.Pre_finite_input.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.1 = (fun _ => 1#1)
    ∧ (Cert.Pre_finite_input.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.1 = (fun _ => 1#1)
    ∧ (Cert.Pre_finite_input.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.1 = (fun _ => 1#1)
    ∧ (Cert.Pre_finite_input.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_input [hPre_finite_input : Cert.Pre_finite_input.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_input.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).1 = (fun _ => 1#1)
    ∧ (Cert.Pre_finite_input.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.1 = (fun _ => 1#1)
    ∧ (Cert.Pre_finite_input.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.1 = (fun _ => 1#1)
    ∧ (Cert.Pre_finite_input.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.1 = (fun _ => 1#1)
    ∧ (Cert.Pre_finite_input.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.1 = (fun _ => 1#1)
    ∧ (Cert.Pre_finite_input.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_branches [hPre_finite_branches : Cert.Pre_finite_branches.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_branches.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8))).1 = (fun _ => 1#1)
    ∧ (Cert.Pre_finite_branches.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8))).2.1 = (fun _ => 1#1)
    ∧ (Cert.Pre_finite_branches.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8))).2.2.1 = (fun _ => 1#1)
    ∧ (Cert.Pre_finite_branches.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8))).2.2.2.1 = (fun _ => 1#1)
    ∧ (Cert.Pre_finite_branches.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8))).2.2.2.2.1 = (fun _ => 1#1)
    ∧ (Cert.Pre_finite_branches.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8))).2.2.2.2.2.1 = (fun _ => 1#1)
    ∧ (Cert.Pre_finite_branches.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8))).2.2.2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_branches [hPre_finite_branches : Cert.Pre_finite_branches.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_branches.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8))).1 = (fun _ => 1#1)
    ∧ (Cert.Pre_finite_branches.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8))).2.1 = (fun _ => 1#1)
    ∧ (Cert.Pre_finite_branches.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8))).2.2.1 = (fun _ => 1#1)
    ∧ (Cert.Pre_finite_branches.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8))).2.2.2.1 = (fun _ => 1#1)
    ∧ (Cert.Pre_finite_branches.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8))).2.2.2.2.1 = (fun _ => 1#1)
    ∧ (Cert.Pre_finite_branches.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8))).2.2.2.2.2.1 = (fun _ => 1#1)
    ∧ (Cert.Pre_finite_branches.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8))).2.2.2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_norm [hKernel5Ideal : Cert.Kernel5Ideal.Facts] [hPre_finite_norm : Cert.Pre_finite_norm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_norm m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_norm [hReference5Ideal : Cert.Reference5Ideal.Facts] [hPre_finite_norm : Cert.Pre_finite_norm.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_norm m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite_input [hKernel8Ideal : Cert.Kernel8Ideal.Facts] [hPre_finite_input : Cert.Pre_finite_input.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_input m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite_input [hReference8Ideal : Cert.Reference8Ideal.Facts] [hPre_finite_input : Cert.Pre_finite_input.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_input m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Kernel14Ideal_pre_finite_branches [hKernel14Ideal : Cert.Kernel14Ideal.Facts] [hPre_finite_branches : Cert.Pre_finite_branches.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_branches m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Reference14Ideal_pre_finite_branches [hReference14Ideal : Cert.Reference14Ideal.Facts] [hPre_finite_branches : Cert.Pre_finite_branches.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_branches m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_v199) = v2 c
          ∧ r.2.mem ((c.tc : Thread Cert.ReferenceIdeal.nD Cert.ReferenceIdeal.τ).loc Cert.ReferenceIdeal.main_v200) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite_norm [hKernel5Ideal : Cert.Kernel5Ideal.Facts] [hReference5Ideal : Cert.Reference5Ideal.Facts] [hPre_finite_norm : Cert.Pre_finite_norm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_norm m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v31) = v2 c
          ∧ r.2.mem ((c.tc : Thread Cert.Reference5Ideal.nD Cert.Reference5Ideal.τ).loc Cert.Reference5Ideal.main_v55) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v66) = v1 c
          ∧ r.2.mem ((c.tc : Thread Cert.Reference6Ideal.nD Cert.Reference6Ideal.τ).loc Cert.Reference6Ideal.main_v67) = v2 c
          ∧ r.2.mem ((c.tc : Thread Cert.Reference6Ideal.nD Cert.Reference6Ideal.τ).loc Cert.Reference6Ideal.main_v45) = v3 c
          ∧ r.2.mem ((c.tc : Thread Cert.Reference6Ideal.nD Cert.Reference6Ideal.τ).loc Cert.Reference6Ideal.main_v68) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)) (v2 : (c : Dev Cert.Kernel7Ideal.nD) → Buf (Elt Ideal) ((c.tc : Thread Cert.Kernel7Ideal.nD Cert.Kernel7Ideal.τ).loc Cert.Kernel7Ideal.main_v9_2)) (v3 : (c : Dev Cert.Kernel7Ideal.nD) → Buf (Elt Ideal) ((c.tc : Thread Cert.Kernel7Ideal.nD Cert.Kernel7Ideal.τ).loc Cert.Kernel7Ideal.main_v9_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_v9_2) = v2 c
          ∧ r.2.mem ((c.tc : Thread Cert.Kernel7Ideal.nD Cert.Kernel7Ideal.τ).loc Cert.Kernel7Ideal.main_v9_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_v34) = v1 c
          ∧ r.2.mem ((c.tc : Thread Cert.Reference7Ideal.nD Cert.Reference7Ideal.τ).loc Cert.Reference7Ideal.main_v35) = v2 c
          ∧ r.2.mem ((c.tc : Thread Cert.Reference7Ideal.nD Cert.Reference7Ideal.τ).loc Cert.Reference7Ideal.main_v36) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite_input [hKernel8Ideal : Cert.Kernel8Ideal.Facts] [hReference8Ideal : Cert.Reference8Ideal.Facts] [hPre_finite_input : Cert.Pre_finite_input.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_input m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v62) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_v39) = v2 c
          ∧ r.2.mem ((c.tc : Thread Cert.Reference8Ideal.nD Cert.Reference8Ideal.τ).loc Cert.Reference8Ideal.main_v63) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite_branches [hKernel14Ideal : Cert.Kernel14Ideal.Facts] [hReference14Ideal : Cert.Reference14Ideal.Facts] [hPre_finite_branches : Cert.Pre_finite_branches.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_branches m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v44) = v0 c
          ∧ r.2.mem ((c.tc : Thread Cert.Reference14Ideal.nD Cert.Reference14Ideal.τ).loc Cert.Reference14Ideal.main_v45) = v1 c
          ∧ r.2.mem ((c.tc : Thread Cert.Reference14Ideal.nD Cert.Reference14Ideal.τ).loc Cert.Reference14Ideal.main_v46) = v2 c
          ∧ r.2.mem ((c.tc : Thread Cert.Reference14Ideal.nD Cert.Reference14Ideal.τ).loc Cert.Reference14Ideal.main_v47) = v3 c
          ∧ r.2.mem ((c.tc : Thread Cert.Reference14Ideal.nD Cert.Reference14Ideal.τ).loc Cert.Reference14Ideal.main_v48) = v4 c
          ∧ r.2.mem ((c.tc : Thread Cert.Reference14Ideal.nD Cert.Reference14Ideal.τ).loc Cert.Reference14Ideal.main_v49) = v5 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_2) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v8) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_operands : Cert.Pre_finite_operands.Facts) (hPre_finite_norm : Cert.Pre_finite_norm.Facts) (hPre_finite_input : Cert.Pre_finite_input.Facts) (hPre_finite_branches : Cert.Pre_finite_branches.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_norm (hKernel5Ideal := hKernel5Ideal) (hPre_finite_norm := hPre_finite_norm)
    ∧ quiescent_Reference5Ideal (hReference5Ideal := hReference5Ideal)
    ∧ quiescent_Reference5Ideal_pre_finite_norm (hReference5Ideal := hReference5Ideal) (hPre_finite_norm := hPre_finite_norm)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_input (hKernel8Ideal := hKernel8Ideal) (hPre_finite_input := hPre_finite_input)
    ∧ quiescent_Reference8Ideal (hReference8Ideal := hReference8Ideal)
    ∧ quiescent_Reference8Ideal_pre_finite_input (hReference8Ideal := hReference8Ideal) (hPre_finite_input := hPre_finite_input)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_branches (hKernel14Ideal := hKernel14Ideal) (hPre_finite_branches := hPre_finite_branches)
    ∧ quiescent_Reference14Ideal (hReference14Ideal := hReference14Ideal)
    ∧ quiescent_Reference14Ideal_pre_finite_branches (hReference14Ideal := hReference14Ideal) (hPre_finite_branches := hPre_finite_branches)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite_operands (hKernelIdeal := hKernelIdeal) (hReferenceIdeal := hReferenceIdeal) (hPre_finite_operands := hPre_finite_operands)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_norm (hKernel5Ideal := hKernel5Ideal) (hReference5Ideal := hReference5Ideal) (hPre_finite_norm := hPre_finite_norm)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_input (hKernel8Ideal := hKernel8Ideal) (hReference8Ideal := hReference8Ideal) (hPre_finite_input := hPre_finite_input)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_branches (hKernel14Ideal := hKernel14Ideal) (hReference14Ideal := hReference14Ideal) (hPre_finite_branches := hPre_finite_branches)
    ∧ preserves_Kernel15_Kernel15Ideal
    ∧ algebraic_Kernel15Ideal_Reference15Ideal (hKernel15Ideal := hKernel15Ideal) (hReference15Ideal := hReference15Ideal)
-- ==== Pre_finite_branches.lean ====
abbrev S8192x2048 : Shape := ⟨2, ![8192, 2048]⟩
abbrev S8192x1024 : Shape := ⟨2, ![8192, 1024]⟩
abbrev S8192x4608 : Shape := ⟨2, ![8192, 4608]⟩
abbrev S1024x2048 : Shape := ⟨2, ![1024, 2048]⟩
abbrev S4x256x256 : Shape := ⟨3, ![4, 256, 256]⟩
abbrev S1x1024 : Shape := ⟨2, ![1, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S1024x2048 : S_.BroadcastsInDim S1024x2048 (![] : Fin 0 → Fin S1024x2048.rank)
  bcast_S_S1x1024 : S_.BroadcastsInDim S1x1024 (![] : Fin 0 → Fin S1x1024.rank)

variable [Facts]

def fn_part1 {F : FTy → Type} [FloatOps F] (main_arg6 : FVec F S1024x2048 .bf16) (main_arg8 : FVec F S1x1024 .f32) (main_v3 : IVec S8192x2048 1) (main_v7 : IVec S8192x2048 1) (main_v11 : IVec S8192x1024 1) (main_v15 : IVec S8192x1024 1) (main_v17 : FVec F S1024x2048 .f32) (main_v18 : FVec F S1024x2048 .f32) : IVec S8192x2048 1 × IVec S8192x2048 1 × IVec S8192x1024 1 × IVec S8192x1024 1 × IVec S1024x2048 1 × IVec S1024x2048 1 × IVec S1x1024 1 :=
  let main_v19 : IVec S1024x2048 1 := cmpf .olt main_v17 main_v18
  let main_v20 : FVec F S1024x2048 .f32 := (extf .f32 · bitsLt_bf16_f32) main_arg6
  let main_v21 : FVec F S1024x2048 .f32 := Host.absf main_v20
  let main_cst_4 : FVec F S_ .f32 := constant S_ .f32 0x7F800000#32
  let main_v22 : FVec F S1024x2048 .f32 := broadcastInDim S1024x2048 ![] bcast_S_S1024x2048 main_cst_4
  let main_v23 : IVec S1024x2048 1 := cmpf .olt main_v21 main_v22
  let main_v24 : FVec F S1x1024 .f32 := Host.absf main_arg8
  let main_cst_5 : FVec F S_ .f32 := constant S_ .f32 0x7F800000#32
  let main_v25 : FVec F S1x1024 .f32 := broadcastInDim S1x1024 ![] bcast_S_S1x1024 main_cst_5
  let main_v26 : IVec S1x1024 1 := cmpf .olt main_v24 main_v25
  (main_v3, main_v7, main_v11, main_v15, main_v19, main_v23, main_v26)

def fn {F : FTy → Type} [FloatOps F] (main_arg0 : FVec F S8192x2048 .bf16) (main_arg1 : FVec F S8192x2048 .bf16) (main_arg2 : FVec F S8192x1024 .bf16) (main_arg3 : FVec F S8192x4608 .bf16) (main_arg4 : FVec F S8192x1024 .bf16) (main_arg5 : FVec F S1024x2048 .bf16) (main_arg6 : FVec F S1024x2048 .bf16) (main_arg7 : FVec F S4x256x256 .bf16) (main_arg8 : FVec F S1x1024 .f32) : IVec S8192x2048 1 × IVec S8192x2048 1 × IVec S8192x1024 1 × IVec S8192x1024 1 × IVec S1024x2048 1 × IVec S1024x2048 1 × IVec S1x1024 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x1024 .f32 := (extf .f32 · bitsLt_bf16_f32) main_arg4
  let main_v13 : FVec F S8192x1024 .f32 := Host.absf main_v12
  let main_cst_2 : FVec F S_ .f32 := constant S_ .f32 0x7F800000#32
  let main_v14 : FVec F S8192x1024 .f32 := broadcastInDim S8192x1024 ![] bcast_S_S8192x1024 main_cst_2
  let main_v15 : IVec S8192x1024 1 := cmpf .olt main_v13 main_v14
  let main_v16 : FVec F S1024x2048 .f32 := (extf .f32 · bitsLt_bf16_f32) main_arg5
  let main_v17 : FVec F S1024x2048 .f32 := Host.absf main_v16
  let main_cst_3 : FVec F S_ .f32 := constant S_ .f32 0x7F800000#32
  let main_v18 : FVec F S1024x2048 .f32 := broadcastInDim S1024x2048 ![] bcast_S_S1024x2048 main_cst_3
  fn_part1 (F := F) main_arg6 main_arg8 main_v3 main_v7 main_v11 main_v15 main_v17 main_v18
-- ==== Pre_finite_input.lean ====
abbrev S8192x4608 : Shape := ⟨2, ![8192, 4608]⟩
abbrev S8192x4096 : Shape := ⟨2, ![8192, 4096]⟩
abbrev S2048x4608 : Shape := ⟨2, ![2048, 4608]⟩
abbrev S2048x4096 : Shape := ⟨2, ![2048, 4096]⟩
abbrev S8192x2048 : Shape := ⟨2, ![8192, 2048]⟩
abbrev S1x6144 : Shape := ⟨2, ![1, 6144]⟩
abbrev S1x2048 : Shape := ⟨2, ![1, 2048]⟩
abbrev S_ : Shape := ⟨0, ![]⟩

class Facts : Prop where
  slices_S1x6144_S1x2048_0_2048 : S1x6144.Slices ![0, 2048] S1x2048
  bitsLt_bf16_f32 : FTy.bits .bf16 < FTy.bits .f32
  bcast_S_S8192x4608 : S_.BroadcastsInDim S8192x4608 (![] : Fin 0 → Fin S8192x4608.rank)
  bcast_S_S8192x4096 : S_.BroadcastsInDim S8192x4096 (![] : Fin 0 → Fin S8192x4096.rank)
  bcast_S_S2048x4608 : S_.BroadcastsInDim S2048x4608 (![] : Fin 0 → Fin S2048x4608.rank)
  bcast_S_S2048x4096 : S_.BroadcastsInDim S2048x4096 (![] : Fin 0 → Fin S2048x4096.rank)
  bcast_S_S1x2048 : S_.BroadcastsInDim S1x2048 (![] : Fin 0 → Fin S1x2048.rank)

variable [Facts]

def fn_part1 {F : FTy → Type} [FloatOps F] (main_arg7 : FVec F S1x2048 .f32) (main_v4 : IVec S8192x4608 1) (main_v8 : IVec S8192x4096 1) (main_v12 : IVec S2048x4608 1) (main_v16 : IVec S2048x4096 1) (main_v17 : FVec F S1x2048 .f32) (main_v18 : FVec F S1x2048 .f32) : IVec S8192x4608 1 × IVec S8192x4096 1 × IVec S2048x4608 1 × IVec S2048x4096 1 × IVec S1x2048 1 × IVec S1x2048 1 :=
  let main_v19 : IVec S1x2048 1 := cmpf .olt main_v17 main_v18
  let main_v20 : FVec F S1x2048 .f32 := Host.absf main_arg7
  let main_cst_4 : FVec F S_ .f32 := constant S_ .f32 0x7F800000#32
  let main_v21 : FVec F S1x2048 .f32 := broadcastInDim S1x2048 ![] bcast_S_S1x2048 main_cst_4
  let main_v22 : IVec S1x2048 1 := cmpf .olt main_v20 main_v21
  (main_v4, main_v8, main_v12, main_v16, main_v19, main_v22)

def fn {F : FTy → Type} [FloatOps F] (main_arg0 : FVec F S8192x4608 .bf16) (main_arg1 : FVec F S8192x4096 .bf16) (main_arg2 : FVec F S2048x4608 .bf16) (main_arg3 : FVec F S2048x4096 .bf16) (main_arg4 : FVec F S8192x2048 .f32) (main_arg5 : FVec F S8192x2048 .f32) (main_arg6 : FVec F S1x6144 .f32) (main_arg7 : FVec F S1x2048 .f32) : IVec S8192x4608 1 × IVec S8192x4096 1 × IVec S2048x4608 1 × IVec S2048x4096 1 × IVec S1x2048 1 × IVec S1x2048 1 :=
  let main_v0 : FVec F S1x2048 .f32 := (extractStridedSlice S1x2048 ![0, 2048] · slices_S1x6144_S1x2048_0_2048) main_arg6
  let main_v1 : FVec F S8192x4608 .f32 := (extf .f32 · bitsLt_bf16_f32) main_arg0
  let main_v2 : FVec F S8192x4608 .f32 := Host.absf main_v1
  let main_cst : FVec F S_ .f32 := constant S_ .f32 0x7F800000#32
  let main_v3 : FVec F S8192x4608 .f32 := broadcastInDim S8192x4608 ![] bcast_S_S8192x4608 main_cst
  let main_v4 : IVec S8192x4608 1 := cmpf .olt main_v2 main_v3
  let main_v5 : FVec F S8192x4096 .f32 := (extf .f32 · bitsLt_bf16_f32) main_arg1
  let main_v6 : FVec F S8192x4096 .f32 := Host.absf main_v5
  let main_cst_0 : FVec F S_ .f32 := constant S_ .f32 0x7F800000#32
  let main_v7 : FVec F S8192x4096 .f32 := broadcastInDim S8192x4096 ![] bcast_S_S8192x4096 main_cst_0
  let main_v8 : IVec S8192x4096 1 := cmpf .olt main_v6 main_v7
  let main_v9 : FVec F S2048x4608 .f32 := (extf .f32 · bitsLt_bf16_f32) main_arg2
  let main_v10 : FVec F S2048x4608 .f32 := Host.absf main_v9
  let main_cst_1 : FVec F S_ .f32 := constant S_ .f32 0x7F800000#32
  let main_v11 : FVec F S2048x4608 .f32 := broadcastInDim S2048x4608 ![] bcast_S_S2048x4608 main_cst_1
  let main_v12 : IVec S2048x4608 1 := cmpf .olt main_v10 main_v11
  let main_v13 : FVec F S2048x4096 .f32 := (extf .f32 · bitsLt_bf16_f32) main_arg3
  let main_v14 : FVec F S2048x4096 .f32 := Host.absf main_v13
  let main_cst_2 : FVec F S_ .f32 := constant S_ .f32 0x7F800000#32
  let main_v15 : FVec F S2048x4096 .f32 := broadcastInDim S2048x4096 ![] bcast_S_S2048x4096 main_cst_2
  let main_v16 : IVec S2048x4096 1 := cmpf .olt main_v14 main_v15
  let main_v17 : FVec F S1x2048 .f32 := Host.absf main_v0
  let main_cst_3 : FVec F S_ .f32 := constant S_ .f32 0x7F800000#32
  let main_v18 : FVec F S1x2048 .f32 := broadcastInDim S1x2048 ![] bcast_S_S1x2048 main_cst_3
  fn_part1 (F := F) main_arg7 main_v4 main_v8 main_v12 main_v16 main_v17 main_v18
-- ==== Pre_finite_norm.lean ====
abbrev S8192x2048 : Shape := ⟨2, ![8192, 2048]⟩
abbrev S1x6144 : Shape := ⟨2, ![1, 6144]⟩
abbrev S1x2048 : Shape := ⟨2, ![1, 2048]⟩
abbrev S_ : Shape := ⟨0, ![]⟩

class Facts : Prop where
  slices_S1x6144_S1x2048_0_2048 : S1x6144.Slices ![0, 2048] S1x2048
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .f32) (main_arg2 : FVec F S8192x2048 .f32) (main_arg3 : FVec F S1x6144 .f32) (main_arg4 : FVec F S1x2048 .f32) : IVec S8192x2048 1 × IVec S1x2048 1 × IVec S1x2048 1 :=
  let main_v0 : FVec F S1x2048 .f32 := (extractStridedSlice S1x2048 ![0, 2048] · slices_S1x6144_S1x2048_0_2048) main_arg3
  let main_v1 : FVec F S8192x2048 .f32 := Host.absf main_arg0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S1x2048 .f32 := Host.absf main_v0
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_v7 : FVec F S1x2048 .f32 := Host.absf main_arg4
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  (main_v3, main_v6, main_v9)
-- ==== Pre_finite_operands.lean ====
abbrev S8192x4608 : Shape := ⟨2, ![8192, 4608]⟩
abbrev S32x8 : Shape := ⟨2, ![32, 8]⟩
abbrev S1x8 : Shape := ⟨2, ![1, 8]⟩
abbrev S8192x1024 : Shape := ⟨2, ![8192, 1024]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  bcast_S_S32x8 : S_.BroadcastsInDim S32x8 (![] : Fin 0 → Fin S32x8.rank)
  bcast_S_S1x8 : S_.BroadcastsInDim S1x8 (![] : Fin 0 → Fin S1x8.rank)

variable [Facts]

def fn {F : FTy → Type} [FloatOps F] (main_arg0 : FVec F S8192x4608 .bf16) (main_arg1 : FVec F S32x8 .f32) (main_arg2 : FVec F S1x8 .f32) (main_arg3 : FVec F S8192x1024 .bf16) : IVec S8192x4608 1 × IVec S32x8 1 × IVec S1x8 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_v7 : FVec F S1x8 .f32 := Host.absf main_arg2
  let main_cst_1 : FVec F S_ .f32 := constant S_ .f32 0x7F800000#32
  let main_v8 : FVec F S1x8 .f32 := broadcastInDim S1x8 ![] bcast_S_S1x8 main_cst_1
  let main_v9 : IVec S1x8 1 := cmpf .olt main_v7 main_v8
  (main_v3, main_v6, main_v9)
-- ==== Kernel.lean ====
abbrev S8192x4608 : Shape := ⟨2, ![8192, 4608]⟩
abbrev S32x8 : Shape := ⟨2, ![32, 8]⟩
abbrev S1x8 : Shape := ⟨2, ![1, 8]⟩
abbrev S8192x1024 : Shape := ⟨2, ![8192, 1024]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x512x384 : Shape := ⟨3, ![2, 512, 384]⟩
abbrev S8192x512 : Shape := ⟨2, ![8192, 512]⟩
abbrev S1x128 : Shape := ⟨2, ![1, 128]⟩
abbrev S128x512 : Shape := ⟨2, ![128, 512]⟩
abbrev S128x1024 : Shape := ⟨2, ![128, 1024]⟩
abbrev S3x128x512 : Shape := ⟨3, ![3, 128, 512]⟩
abbrev S2x512x1 : Shape := ⟨3, ![2, 512, 1]⟩
abbrev S1x128x512 : Shape := ⟨3, ![1, 128, 512]⟩
abbrev S384x512 : Shape := ⟨2, ![384, 512]⟩
abbrev S128x128 : Shape := ⟨2, ![128, 128]⟩
abbrev S512x128 : Shape := ⟨2, ![512, 128]⟩
abbrev S384x128 : Shape := ⟨2, ![384, 128]⟩
abbrev S1x512x384 : Shape := ⟨3, ![1, 512, 384]⟩
abbrev S512x384 : Shape := ⟨2, ![512, 384]⟩
abbrev S512x1 : Shape := ⟨2, ![512, 1]⟩
abbrev S1x1 : Shape := ⟨2, ![1, 1]⟩
abbrev S512 : Shape := ⟨1, ![512]⟩
abbrev S1x512x1 : Shape := ⟨3, ![1, 512, 1]⟩
abbrev S1x128x128 : Shape := ⟨3, ![1, 128, 128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 74
  | .vmem => 21
  | .smem => 1
  | _ => 0

abbrev bufTy : (tb : Table) → Fin (tcTables nBuf tb) → BufTy
  | .hbm, ⟨0, _⟩ => ⟨S8192x4608, .bf16⟩
  | .hbm, ⟨1, _⟩ => ⟨S32x8, .f32⟩
  | .hbm, ⟨2, _⟩ => ⟨S1x8, .f32⟩
  | .hbm, ⟨3, _⟩ => ⟨S8192x1024, .bf16⟩
  | .hbm, ⟨4, _⟩ => ⟨S384, .i32⟩
  | .hbm, ⟨5, _⟩ => ⟨S1x384, .i32⟩
  | .hbm, ⟨6, _⟩ => ⟨S_, .i32⟩
  | .hbm, ⟨7, _⟩ => ⟨S1x384, .i32⟩
  | .hbm, ⟨8, _⟩ => ⟨S1x384, .i32⟩
  | .hbm, ⟨9, _⟩ => ⟨S128, .i32⟩
  | .hbm, ⟨10, _⟩ => ⟨S128x1, .i32⟩
  | .hbm, ⟨11, _⟩ => ⟨S128x384, .i32⟩
  | .hbm, ⟨12, _⟩ => ⟨S128x384, .i32⟩
  | .hbm, ⟨13, _⟩ => ⟨S128x384, .i32⟩
  | .hbm, ⟨14, _⟩ => ⟨S_, .i32⟩
  | .hbm, ⟨15, _⟩ => ⟨S128x384, .i32⟩
  | .hbm, ⟨16, _⟩ => ⟨S128x384, .i1⟩
  | .hbm, ⟨17, _⟩ => ⟨S_, .i32⟩
  | .hbm, ⟨18, _⟩ => ⟨S_, .i32⟩
  | .hbm, ⟨19, _⟩ => ⟨S128x384, .i32⟩
  | .hbm, ⟨20, _⟩ => ⟨S128x384, .i32⟩
  | .hbm, ⟨21, _⟩ => ⟨S128x384, .i32⟩
  | .hbm, ⟨22, _⟩ => ⟨S128x384, .i32⟩
  | .hbm, ⟨23, _⟩ => ⟨S_, .i32⟩
  | .hbm, ⟨24, _⟩ => ⟨S128x384, .i32⟩
  | .hbm, ⟨25, _⟩ => ⟨S128x384, .i32⟩
  | .hbm, ⟨26, _⟩ => ⟨S128x384, .f32⟩
  | .hbm, ⟨27, _⟩ => ⟨S_, .f32⟩
  | .hbm, ⟨28, _⟩ => ⟨S128x384, .f32⟩
  | .hbm, ⟨29, _⟩ => ⟨S128x384, .f32⟩
  | .hbm, ⟨30, _⟩ => ⟨S128x384, .f32⟩
  | .hbm, ⟨31, _⟩ => ⟨S_, .f32⟩
  | .hbm, ⟨32, _⟩ => ⟨S128x384, .f32⟩
  | .hbm, ⟨33, _⟩ => ⟨S128x384, .f32⟩
  | .hbm, ⟨34, _⟩ => ⟨S_, .f32⟩
  | .hbm, ⟨35, _⟩ => ⟨S128x384, .f32⟩
  | .hbm, ⟨36, _⟩ => ⟨S128x384, .f32⟩
  | .hbm, ⟨37, _⟩ => ⟨S128x384, .i32⟩
  | .hbm, ⟨38, _⟩ => ⟨S_, .i32⟩
  | .hbm, ⟨39, _⟩ => ⟨S128x384, .i32⟩
  | .hbm, ⟨40, _⟩ => ⟨S128x384, .i32⟩
  | .hbm, ⟨41, _⟩ => ⟨S_, .i32⟩
  | .hbm, ⟨42, _⟩ => ⟨S128x384, .i32⟩
  | .hbm, ⟨43, _⟩ => ⟨S128x384, .i32⟩
  | .hbm, ⟨44, _⟩ => ⟨S_, .i32⟩
  | .hbm, ⟨45, _⟩ => ⟨S128x384, .i32⟩
  | .hbm, ⟨46, _⟩ => ⟨S128x384, .i1⟩
  | .hbm, ⟨47, _⟩ => ⟨S128x384, .i32⟩
  | .hbm, ⟨48, _⟩ => ⟨S128x384, .i32⟩
  | .hbm, ⟨49, _⟩ => ⟨S128x384, .i32⟩
  | .hbm, ⟨50, _⟩ => ⟨S_, .i32⟩
  | .hbm, ⟨51, _⟩ => ⟨S128x384, .i32⟩
  | .hbm, ⟨52, _⟩ => ⟨S128x384, .i1⟩
  | .hbm, ⟨53, _⟩ => ⟨S_, .i32⟩
  | .hbm, ⟨54, _⟩ => ⟨S128x384, .i32⟩
  | .hbm, ⟨55, _⟩ => ⟨S128x384, .i32⟩
  | .hbm, ⟨56, _⟩ => ⟨S128x384, .i32⟩
  | .hbm, ⟨57, _⟩ => ⟨S128x384x1, .i32⟩
  | .hbm, ⟨58, _⟩ => ⟨S128x384x8, .f32⟩
  | .hbm, ⟨59, _⟩ => ⟨S8x128x384, .f32⟩
  | .hbm, ⟨60, _⟩ => ⟨S128x384, .i32⟩
  | .hbm, ⟨61, _⟩ => ⟨S_, .i32⟩
  | .hbm, ⟨62, _⟩ => ⟨S128x384, .i32⟩
  | .hbm, ⟨63, _⟩ => ⟨S128x384, .i1⟩
  | .hbm, ⟨64, _⟩ => ⟨S_, .f32⟩
  | .hbm, ⟨65, _⟩ => ⟨S_, .f32⟩
  | .hbm, ⟨66, _⟩ => ⟨S8x128x384, .i1⟩
  | .hbm, ⟨67, _⟩ => ⟨S8x128x384, .f32⟩
  | .hbm, ⟨68, _⟩ => ⟨S8x128x384, .f32⟩
  | .hbm, ⟨69, _⟩ => ⟨S2x512x384, .f32⟩
  | .hbm, ⟨70, _⟩ => ⟨S8192x1024, .bf16⟩
  | .hbm, ⟨71, _⟩ => ⟨S8192x512, .bf16⟩
  | .hbm, ⟨72, _⟩ => ⟨S2x512x384, .f32⟩
  | .hbm, ⟨73, _⟩ => ⟨S1x128, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x1024, .bf16⟩
  | .local _ .vmem, ⟨11, _⟩ => ⟨S128x1024, .bf16⟩
  | .local _ .vmem, ⟨12, _⟩ => ⟨S2x512x384, .f32⟩
  | .local _ .vmem, ⟨13, _⟩ => ⟨S128x1024, .bf16⟩
  | .local _ .vmem, ⟨14, _⟩ => ⟨S128x1024, .bf16⟩
  | .local _ .vmem, ⟨15, _⟩ => ⟨S128x512, .bf16⟩
  | .local _ .vmem, ⟨16, _⟩ => ⟨S128x512, .bf16⟩
  | .local _ .vmem, ⟨17, _⟩ => ⟨S2x512x384, .f32⟩
  | .local _ .vmem, ⟨18, _⟩ => ⟨S1x128, .f32⟩
  | .local _ .vmem, ⟨19, _⟩ => ⟨S3x128x512, .f32⟩
  | .local _ .vmem, ⟨20, _⟩ => ⟨S2x512x1, .f32⟩
  | .local _ .smem, ⟨0, _⟩ => ⟨S1x8, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev main_v46_2 : Ref sig .tc := ⟨.hbm, 72, rfl⟩
abbrev main_v46_3 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c64_i32 : BitVec 32 := 64#32
  let v4 : BitVec 1 := Scalar.cmpi .slt arg0 c64_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 3 → Nat :=
  let arg0 : BitVec 32 := BitVec.ofNat 32 (i 0).val
  let c1_i32_14 : BitVec 32 := 1#32
  let v31 : BitVec 32 := Scalar.addi arg0 c1_i32_14
  let c3_i32_15 : BitVec 32 := 3#32
  let c0_i32_16 : BitVec 32 := 0#32
  let v32 : BitVec 1 := Scalar.cmpi .eq c3_i32_15 c0_i32_16
  let c1_i32_17 : BitVec 32 := 1#32
  let v33 : BitVec 32 := Scalar.select v32 c1_i32_17 c3_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let v42 : Index := Scalar.indexCast v41
  let c0_21 : Index := 0#32
  let c0_22 : Index := 0#32
  ![v42.toNat, 0, 0]
def k0_cond3 (i : grid0.Coords) : BitVec 1 :=
  let arg0 : BitVec 32 := BitVec.ofNat 32 (i 0).val
  let c64_i32_2 : BitVec 32 := 64#32
  let v8 : BitVec 1 := Scalar.cmpi .slt arg0 c64_i32_2
  let v9 : BitVec 32 := Scalar.extui v8
  let c0_i32_3 : BitVec 32 := 0#32
  let v10 : BitVec 1 := Scalar.cmpi .ne v9 c0_i32_3
  v10

def k0_off2 (i : grid0.Coords) (c0_i32_79 : BitVec 32) : Fin 3 → Nat :=
  let arg0 : BitVec 32 := BitVec.ofNat 32 (i 0).val
  let c2_i32_78 : BitVec 32 := 2#32
  let v175 : BitVec 32 := Scalar.addi arg0 c2_i32_78
  let v176 : BitVec 32 := Scalar.addi v175 c0_i32_79
  let c3_i32_80 : BitVec 32 := 3#32
  let c0_i32_81 : BitVec 32 := 0#32
  let v177 : BitVec 1 := Scalar.cmpi .eq c3_i32_80 c0_i32_81
  let c1_i32_82 : BitVec 32 := 1#32
  let v178 : BitVec 32 := Scalar.select v177 c1_i32_82 c3_i32_80
  let v179 : BitVec 32 := Scalar.remsi v176 v178
  let c0_i32_84 : BitVec 32 := 0#32
  let v181 : BitVec 1 := Scalar.cmpi .slt v179 c0_i32_84
  let c0_i32_85 : BitVec 32 := 0#32
  let v182 : BitVec 1 := Scalar.cmpi .slt v178 c0_i32_85
  let v183 : BitVec 1 := Scalar.xori v181 v182
  let c0_i32_83 : BitVec 32 := 0#32
  let v180 : BitVec 1 := Scalar.cmpi .ne v179 c0_i32_83
  let v184 : BitVec 1 := Scalar.andi v183 v180
  let v185 : BitVec 32 := Scalar.addi v179 v178
  let v186 : BitVec 32 := Scalar.select v184 v185 v179
  let v187 : Index := Scalar.indexCast v186
  let c0_86 : Index := 0#32
  let c0_87 : Index := 0#32
  ![v187.toNat, 0, 0]
def k0_off3 (i : grid0.Coords) (c0_i32_79 : BitVec 32) : Fin 3 → Nat :=
  let arg0 : BitVec 32 := BitVec.ofNat 32 (i 0).val
  let c2_i32_78 : BitVec 32 := 2#32
  let v175 : BitVec 32 := Scalar.addi arg0 c2_i32_78
  let v176 : BitVec 32 := Scalar.addi v175 c0_i32_79
  let c3_i32_80 : BitVec 32 := 3#32
  let c0_i32_81 : BitVec 32 := 0#32
  let v177 : BitVec 1 := Scalar.cmpi .eq c3_i32_80 c0_i32_81
  let c1_i32_82 : BitVec 32 := 1#32
  let v178 : BitVec 32 := Scalar.select v177 c1_i32_82 c3_i32_80
  let v179 : BitVec 32 := Scalar.remsi v176 v178
  let c0_i32_84 : BitVec 32 := 0#32
  let v181 : BitVec 1 := Scalar.cmpi .slt v179 c0_i32_84
  let c0_i32_85 : BitVec 32 := 0#32
  let v182 : BitVec 1 := Scalar.cmpi .slt v178 c0_i32_85
  let v183 : BitVec 1 := Scalar.xori v181 v182
  let c0_i32_83 : BitVec 32 := 0#32
  let v180 : BitVec 1 := Scalar.cmpi .ne v179 c0_i32_83
  let v184 : BitVec 1 := Scalar.andi v183 v180
  let v185 : BitVec 32 := Scalar.addi v179 v178
  let v186 : BitVec 32 := Scalar.select v184 v185 v179
  let v196 : Index := Scalar.indexCast v186
  let c0_90 : Index := 0#32
  let c256_91 : Index := 256#32
  ![v196.toNat, 0, 256]
def k0_off4 (i : grid0.Coords) (c0_i32_176 : BitVec 32) : Fin 3 → Nat :=
  let arg0 : BitVec 32 := BitVec.ofNat 32 (i 0).val
  let c2_i32_175 : BitVec 32 := 2#32
  let v392 : BitVec 32 := Scalar.addi arg0 c2_i32_175
  let v393 : BitVec 32 := Scalar.addi v392 c0_i32_176
  let c3_i32_177 : BitVec 32 := 3#32
  let c0_i32_178 : BitVec 32 := 0#32
  let v394 : BitVec 1 := Scalar.cmpi .eq c3_i32_177 c0_i32_178
  let c1_i32_179 : BitVec 32 := 1#32
  let v395 : BitVec 32 := Scalar.select v394 c1_i32_179 c3_i32_177
  let v396 : BitVec 32 := Scalar.remsi v393 v395
  let c0_i32_181 : BitVec 32 := 0#32
  let v398 : BitVec 1 := Scalar.cmpi .slt v396 c0_i32_181
  let c0_i32_182 : BitVec 32 := 0#32
  let v399 : BitVec 1 := Scalar.cmpi .slt v395 c0_i32_182
  let v400 : BitVec 1 := Scalar.xori v398 v399
  let c0_i32_180 : BitVec 32 := 0#32
  let v397 : BitVec 1 := Scalar.cmpi .ne v396 c0_i32_180
  let v401 : BitVec 1 := Scalar.andi v400 v397
  let v402 : BitVec 32 := Scalar.addi v396 v395
  let v403 : BitVec 32 := Scalar.select v401 v402 v396
  let v404 : Index := Scalar.indexCast v403
  let c0_183 : Index := 0#32
  let c128_184 : Index := 128#32
  ![v404.toNat, 0, 128]
def k0_off5 (i : grid0.Coords) (c0_i32_176 : BitVec 32) : Fin 3 → Nat :=
  let arg0 : BitVec 32 := BitVec.ofNat 32 (i 0).val
  let c2_i32_175 : BitVec 32 := 2#32
  let v392 : BitVec 32 := Scalar.addi arg0 c2_i32_175
  let v393 : BitVec 32 := Scalar.addi v392 c0_i32_176
  let c3_i32_177 : BitVec 32 := 3#32
  let c0_i32_178 : BitVec 32 := 0#32
  let v394 : BitVec 1 := Scalar.cmpi .eq c3_i32_177 c0_i32_178
  let c1_i32_179 : BitVec 32 := 1#32
  let v395 : BitVec 32 := Scalar.select v394 c1_i32_179 c3_i32_177
  let v396 : BitVec 32 := Scalar.remsi v393 v395
  let c0_i32_181 : BitVec 32 := 0#32
  let v398 : BitVec 1 := Scalar.cmpi .slt v396 c0_i32_181
  let c0_i32_182 : BitVec 32 := 0#32
  let v399 : BitVec 1 := Scalar.cmpi .slt v395 c0_i32_182
  let v400 : BitVec 1 := Scalar.xori v398 v399
  let c0_i32_180 : BitVec 32 := 0#32
  let v397 : BitVec 1 := Scalar.cmpi .ne v396 c0_i32_180
  let v401 : BitVec 1 := Scalar.andi v400 v397
  let v402 : BitVec 32 := Scalar.addi v396 v395
  let v403 : BitVec 32 := Scalar.select v401 v402 v396
  let v413 : Index := Scalar.indexCast v403
  let c0_187 : Index := 0#32
  let c384_188 : Index := 384#32
  ![v413.toNat, 0, 384]
def k0_off6 (i : grid0.Coords) : Fin 3 → Nat :=
  let arg0 : BitVec 32 := BitVec.ofNat 32 (i 0).val
  let c2_i32 : BitVec 32 := 2#32
  let v11 : BitVec 32 := Scalar.addi arg0 c2_i32
  let c3_i32 : BitVec 32 := 3#32
  let c0_i32_4 : BitVec 32 := 0#32
  let v12 : BitVec 1 := Scalar.cmpi .eq c3_i32 c0_i32_4
  let c1_i32_5 : BitVec 32 := 1#32
  let v13 : BitVec 32 := Scalar.select v12 c1_i32_5 c3_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let v22 : Index := Scalar.indexCast v21
  let c0 : Index := 0#32
  let c0_9 : Index := 0#32
  ![v22.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg0 : BitVec 32 := BitVec.ofNat 32 (i 0).val
  let c64_i32_12 : BitVec 32 := 64#32
  let v27 : BitVec 1 := Scalar.cmpi .eq arg0 c64_i32_12
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.addi v0 c1_i32
  let c63_i32_0 : BitVec 32 := 63#32
  let v2 : BitVec 32 := Scalar.minsi v1 c63_i32_0
  let c2_i32 : BitVec 32 := 2#32
  let c0_i32 : BitVec 32 := 0#32
  ![v2.toNat, c2_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x512x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8192x4608 : Shape := ⟨2, ![8192, 4608]⟩
abbrev S32x8 : Shape := ⟨2, ![32, 8]⟩
abbrev S1x8 : Shape := ⟨2, ![1, 8]⟩
abbrev S8192x1024 : Shape := ⟨2, ![8192, 1024]⟩
abbrev S8192x256 : Shape := ⟨2, ![8192, 256]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S64x128x2x4x128 : Shape := ⟨5, ![64, 128, 2, 4, 128]⟩
abbrev S128x2x128 : Shape := ⟨3, ![128, 2, 128]⟩
abbrev S8192x2x128 : Shape := ⟨3, ![8192, 2, 128]⟩
abbrev S8448x2x128 : Shape := ⟨3, ![8448, 2, 128]⟩
abbrev S64 : Shape := ⟨1, ![64]⟩
abbrev S64x1 : Shape := ⟨2, ![64, 1]⟩
abbrev S64x384 : Shape := ⟨2, ![64, 384]⟩
abbrev S64x384x1 : Shape := ⟨3, ![64, 384, 1]⟩
abbrev S64x384x2x128 : Shape := ⟨4, ![64, 384, 2, 128]⟩
abbrev S64x2x384x128x4 : Shape := ⟨5, ![64, 2, 384, 128, 4]⟩
abbrev S64x2x4x128x384 : Shape := ⟨5, ![64, 2, 4, 128, 384]⟩
abbrev S1x128x384 : Shape := ⟨3, ![1, 128, 384]⟩
abbrev S64x1x384 : Shape := ⟨3, ![64, 1, 384]⟩
abbrev S64x128x384 : Shape := ⟨3, ![64, 128, 384]⟩
abbrev S64x1x1x128x384 : Shape := ⟨5, ![64, 1, 1, 128, 384]⟩
abbrev S2x4x128x384 : Shape := ⟨4, ![2, 4, 128, 384]⟩
abbrev S1x2x4x128x384 : Shape := ⟨5, ![1, 2, 4, 128, 384]⟩
abbrev S2x4x1x1 : Shape := ⟨4, ![2, 4, 1, 1]⟩
abbrev S64x2x4x128x1 : Shape := ⟨5, ![64, 2, 4, 128, 1]⟩
abbrev S64x2x4x128x385 : Shape := ⟨5, ![64, 2, 4, 128, 385]⟩
abbrev S64x2x4x128 : Shape := ⟨4, ![64, 2, 4, 128]⟩
abbrev S64x2x128x4x128 : Shape := ⟨5, ![64, 2, 128, 4, 128]⟩
abbrev S64x2x128x384 : Shape := ⟨4, ![64, 2, 128, 384]⟩
abbrev S2x4 : Shape := ⟨2, ![2, 4]⟩
abbrev S64x2x384x128 : Shape := ⟨4, ![64, 2, 384, 128]⟩
abbrev S8192x512 : Shape := ⟨2, ![8192, 512]⟩
abbrev S2x512x384 : Shape := ⟨3, ![2, 512, 384]⟩
abbrev S1x128 : Shape := ⟨2, ![1, 128]⟩

abbrev nBuf : Space → Nat
  | .hbm => 265
  | .vmem => 0
  | .smem => 0
  | _ => 0

abbrev hbmTy0_0 (i : Nat) : BufTy := match i % 128 with
  | 0 => ⟨S8192x4608, .bf16⟩
  | 1 => ⟨S32x8, .f32⟩
  | 2 => ⟨S1x8, .f32⟩
  | 3 => ⟨S8192x1024, .bf16⟩
  | 4 => ⟨S8192x4608, .f32⟩
  | 5 => ⟨S8192x1024, .f32⟩
  | 6 => ⟨S8192x256, .f32⟩
  | 7 => ⟨S8192x256, .f32⟩
  | 8 => ⟨S384, .i32⟩
  | 9 => ⟨S1x384, .i32⟩
  | 10 => ⟨S_, .i32⟩
  | 11 => ⟨S1x384, .i32⟩
  | 12 => ⟨S1x384, .i32⟩
  | 13 => ⟨S128, .i32⟩
  | 14 => ⟨S128x1, .i32⟩
  | 15 => ⟨S128x384, .i32⟩
  | 16 => ⟨S128x384, .i32⟩
  | 17 => ⟨S128x384, .i32⟩
  | 18 => ⟨S_, .i32⟩
  | 19 => ⟨S128x384, .i32⟩
  | 20 => ⟨S128x384, .i1⟩
  | 21 => ⟨S_, .i32⟩
  | 22 => ⟨S_, .i32⟩
  | 23 => ⟨S128x384, .i32⟩
  | 24 => ⟨S128x384, .i32⟩
  | 25 => ⟨S128x384, .i32⟩
  | 26 => ⟨S128x384, .i32⟩
  | 27 => ⟨S_, .i32⟩
  | 28 => ⟨S128x384, .i32⟩
  | 29 => ⟨S128x384, .i32⟩
  | 30 => ⟨S128x384, .f32⟩
  | 31 => ⟨S_, .f32⟩
  | 32 => ⟨S128x384, .f32⟩
  | 33 => ⟨S128x384, .f32⟩
  | 34 => ⟨S128x384, .f32⟩
  | 35 => ⟨S_, .f32⟩
  | 36 => ⟨S128x384, .f32⟩
  | 37 => ⟨S128x384, .f32⟩
  | 38 => ⟨S_, .f32⟩
  | 39 => ⟨S128x384, .f32⟩
  | 40 => ⟨S128x384, .f32⟩
  | 41 => ⟨S128x384, .i32⟩
  | 42 => ⟨S_, .i32⟩
  | 43 => ⟨S128x384, .i32⟩
  | 44 => ⟨S128x384, .i32⟩
  | 45 => ⟨S_, .i32⟩
  | 46 => ⟨S128x384, .i32⟩
  | 47 => ⟨S128x384, .i32⟩
  | 48 => ⟨S_, .i32⟩
  | 49 => ⟨S128x384, .i32⟩
  | 50 => ⟨S128x384, .i1⟩
  | 51 => ⟨S128x384, .i32⟩
  | 52 => ⟨S128x384, .i32⟩
  | 53 => ⟨S128x384, .i32⟩
  | 54 => ⟨S_, .i32⟩
  | 55 => ⟨S128x384, .i32⟩
  | 56 => ⟨S128x384, .i1⟩
  | 57 => ⟨S_, .i32⟩
  | 58 => ⟨S128x384, .i32⟩
  | 59 => ⟨S128x384, .i32⟩
  | 60 => ⟨S128x384, .i32⟩
  | 61 => ⟨S128x384x1, .i32⟩
  | 62 => ⟨S128x384x8, .f32⟩
  | 63 => ⟨S8x128x384, .f32⟩
  | 64 => ⟨S64x128x2x4x128, .f32⟩
  | 65 => ⟨S_, .f32⟩
  | 66 => ⟨S128x2x128, .f32⟩
  | 67 => ⟨S8192x2x128, .f32⟩
  | 68 => ⟨S8448x2x128, .f32⟩
  | 69 => ⟨S_, .f32⟩
  | 70 => ⟨S128x2x128, .f32⟩
  | 71 => ⟨S_, .f32⟩
  | 72 => ⟨S128x2x128, .f32⟩
  | 73 => ⟨S8192x2x128, .f32⟩
  | 74 => ⟨S8448x2x128, .f32⟩
  | 75 => ⟨S_, .f32⟩
  | 76 => ⟨S128x2x128, .f32⟩
  | 77 => ⟨S_, .f32⟩
  | 78 => ⟨S128x2x128, .f32⟩
  | 79 => ⟨S64, .i32⟩
  | 80 => ⟨S64x1, .i32⟩
  | 81 => ⟨S_, .i32⟩
  | 82 => ⟨S64x1, .i32⟩
  | 83 => ⟨S64x1, .i32⟩
  | 84 => ⟨S384, .i32⟩
  | 85 => ⟨S1x384, .i32⟩
  | 86 => ⟨S64x384, .i32⟩
  | 87 => ⟨S64x384, .i32⟩
  | 88 => ⟨S64x384, .i32⟩
  | 89 => ⟨S_, .i32⟩
  | 90 => ⟨S64x384, .i32⟩
  | 91 => ⟨S64x384, .i1⟩
  | 92 => ⟨S_, .i32⟩
  | 93 => ⟨S64x384, .i32⟩
  | 94 => ⟨S64x384, .i32⟩
  | 95 => ⟨S64x384, .i32⟩
  | 96 => ⟨S64x384x1, .i32⟩
  | 97 => ⟨S64x384x2x128, .f32⟩
  | 98 => ⟨S_, .i32⟩
  | 99 => ⟨S64x384, .i32⟩
  | 100 => ⟨S64x384, .i1⟩
  | 101 => ⟨S_, .i32⟩
  | 102 => ⟨S64x384, .i32⟩
  | 103 => ⟨S64x384, .i32⟩
  | 104 => ⟨S64x384, .i32⟩
  | 105 => ⟨S64x384x1, .i32⟩
  | 106 => ⟨S64x384x2x128, .f32⟩
  | 107 => ⟨S64x2x384x128x4, .f32⟩
  | 108 => ⟨S64x2x4x128x384, .f32⟩
  | 109 => ⟨S_, .f32⟩
  | 110 => ⟨S64x2x4x128x384, .f32⟩
  | 111 => ⟨S64x2x4x128x384, .f32⟩
  | 112 => ⟨S384, .i32⟩
  | 113 => ⟨S1x384, .i32⟩
  | 114 => ⟨S_, .i32⟩
  | 115 => ⟨S1x384, .i32⟩
  | 116 => ⟨S1x384, .i32⟩
  | 117 => ⟨S128, .i32⟩
  | 118 => ⟨S128x1, .i32⟩
  | 119 => ⟨S128x384, .i32⟩
  | 120 => ⟨S128x384, .i32⟩
  | 121 => ⟨S128x384, .i32⟩
  | 122 => ⟨S_, .i32⟩
  | 123 => ⟨S64x384, .i32⟩
  | 124 => ⟨S64x384, .i32⟩
  | 125 => ⟨S_, .i32⟩
  | 126 => ⟨S64x384, .i32⟩
  | 127 => ⟨S64x384, .i1⟩
  | _ => ⟨S8192x4608, .bf16⟩

abbrev hbmTy0_1 (i : Nat) : BufTy := match i % 128 with
  | 0 => ⟨S_, .i32⟩
  | 1 => ⟨S64x384, .i32⟩
  | 2 => ⟨S64x384, .i1⟩
  | 3 => ⟨S64x384, .i1⟩
  | 4 => ⟨S128x384, .i32⟩
  | 5 => ⟨S_, .i32⟩
  | 6 => ⟨S128x384, .i32⟩
  | 7 => ⟨S128x384, .i1⟩
  | 8 => ⟨S1x128x384, .i1⟩
  | 9 => ⟨S64x1x384, .i1⟩
  | 10 => ⟨S64x128x384, .i1⟩
  | 11 => ⟨S64x128x384, .i1⟩
  | 12 => ⟨S64x128x384, .i1⟩
  | 13 => ⟨S64x1x1x128x384, .i1⟩
  | 14 => ⟨S2x4x128x384, .f32⟩
  | 15 => ⟨S1x2x4x128x384, .f32⟩
  | 16 => ⟨S64x2x4x128x384, .f32⟩
  | 17 => ⟨S64x2x4x128x384, .f32⟩
  | 18 => ⟨S_, .f32⟩
  | 19 => ⟨S_, .f32⟩
  | 20 => ⟨S64x2x4x128x384, .i1⟩
  | 21 => ⟨S64x2x4x128x384, .f32⟩
  | 22 => ⟨S64x2x4x128x384, .f32⟩
  | 23 => ⟨S_, .f32⟩
  | 24 => ⟨S64x2x4x128x384, .f32⟩
  | 25 => ⟨S2x4x1x1, .f32⟩
  | 26 => ⟨S64x2x4x128x1, .f32⟩
  | 27 => ⟨S64x2x4x128x385, .f32⟩
  | 28 => ⟨S_, .f32⟩
  | 29 => ⟨S64x2x4x128, .f32⟩
  | 30 => ⟨S64x2x4x128x1, .f32⟩
  | 31 => ⟨S64x2x4x128x385, .f32⟩
  | 32 => ⟨S64x2x4x128x385, .i1⟩
  | 33 => ⟨S64x2x4x128x385, .f32⟩
  | 34 => ⟨S_, .f32⟩
  | 35 => ⟨S64x2x4x128, .f32⟩
  | 36 => ⟨S_, .f32⟩
  | 37 => ⟨S64x2x4x128, .f32⟩
  | 38 => ⟨S64x2x4x128, .f32⟩
  | 39 => ⟨S_, .f32⟩
  | 40 => ⟨S64x2x4x128, .f32⟩
  | 41 => ⟨S64x2x4x128, .i1⟩
  | 42 => ⟨S_, .f32⟩
  | 43 => ⟨S64x2x4x128, .f32⟩
  | 44 => ⟨S64x2x4x128, .i1⟩
  | 45 => ⟨S_, .f32⟩
  | 46 => ⟨S64x2x4x128, .f32⟩
  | 47 => ⟨S_, .f32⟩
  | 48 => ⟨S64x2x4x128, .f32⟩
  | 49 => ⟨S_, .f32⟩
  | 50 => ⟨S64x2x4x128, .f32⟩
  | 51 => ⟨S64x2x4x128, .f32⟩
  | 52 => ⟨S64x2x4x128, .f32⟩
  | 53 => ⟨S64x2x4x128x1, .f32⟩
  | 54 => ⟨S64x2x4x128x385, .f32⟩
  | 55 => ⟨S64x2x4x128x385, .f32⟩
  | 56 => ⟨S64x2x4x128x385, .f32⟩
  | 57 => ⟨S_, .f32⟩
  | 58 => ⟨S64x2x4x128, .f32⟩
  | 59 => ⟨S64x2x4x128x1, .f32⟩
  | 60 => ⟨S64x2x4x128x385, .f32⟩
  | 61 => ⟨S64x2x4x128x385, .f32⟩
  | 62 => ⟨S64x2x4x128x1, .f32⟩
  | 63 => ⟨S_, .f32⟩
  | 64 => ⟨S64x2x4x128x1, .f32⟩
  | 65 => ⟨S64x2x4x128x1, .f32⟩
  | 66 => ⟨S64x2x4x128x384, .f32⟩
  | 67 => ⟨S64x2x128x4x128, .f32⟩
  | 68 => ⟨S64x128x2x4x128, .f32⟩
  | 69 => ⟨S8192x1024, .f32⟩
  | 70 => ⟨S8192x1024, .f32⟩
  | 71 => ⟨S64x128x2x4x128, .f32⟩
  | 72 => ⟨S64x2x128x4x128, .f32⟩
  | 73 => ⟨S64x2x4x128x384, .f32⟩
  | 74 => ⟨S64x2x128x384, .f32⟩
  | 75 => ⟨S64x384x2x128, .f32⟩
  | 76 => ⟨S_, .f32⟩
  | 77 => ⟨S64x2x4x128x385, .f32⟩
  | 78 => ⟨S64x2x4x128x385, .f32⟩
  | 79 => ⟨S64x2x4x128x385, .f32⟩
  | 80 => ⟨S64x2x4x128x385, .f32⟩
  | 81 => ⟨S_, .f32⟩
  | 82 => ⟨S64x2x4x128, .f32⟩
  | 83 => ⟨S64x2x4x128x1, .f32⟩
  | 84 => ⟨S64x2x4x128x1, .f32⟩
  | 85 => ⟨S64x2x4x128x385, .f32⟩
  | 86 => ⟨S64x2x4x128x385, .f32⟩
  | 87 => ⟨S_, .f32⟩
  | 88 => ⟨S64x2x4x128, .f32⟩
  | 89 => ⟨S64x2x4x128x385, .f32⟩
  | 90 => ⟨S64x2x4x128x385, .f32⟩
  | 91 => ⟨S64x2x4x128x385, .f32⟩
  | 92 => ⟨S64x2x4x128x384, .f32⟩
  | 93 => ⟨S64x2x4x128x1, .f32⟩
  | 94 => ⟨S_, .f32⟩
  | 95 => ⟨S2x4, .f32⟩
  | 96 => ⟨S2x4x1x1, .f32⟩
  | 97 => ⟨S1x8, .f32⟩
  | 98 => ⟨S_, .f32⟩
  | 99 => ⟨S64x2x4x128x384, .f32⟩
  | 100 => ⟨S64x2x4x128x384, .f32⟩
  | 101 => ⟨S_, .f32⟩
  | 102 => ⟨S2x4x128x384, .f32⟩
  | 103 => ⟨S1x2x4x128x384, .f32⟩
  | 104 => ⟨S_, .f32⟩
  | 105 => ⟨S2x4x128x384, .f32⟩
  | 106 => ⟨S8x128x384, .f32⟩
  | 107 => ⟨S_, .f32⟩
  | 108 => ⟨S64x2x4x128x384, .f32⟩
  | 109 => ⟨S64x2x4x128x384, .f32⟩
  | 110 => ⟨S64x2x384x128x4, .f32⟩
  | 111 => ⟨S64x2x128x4x128, .f32⟩
  | 112 => ⟨S64x128x2x4x128, .f32⟩
  | 113 => ⟨S64x2x384x128, .f32⟩
  | 114 => ⟨S64x384x2x128, .f32⟩
  | 115 => ⟨S_, .f32⟩
  | 116 => ⟨S8448x2x128, .f32⟩
  | 117 => ⟨S8448x2x128, .f32⟩
  | 118 => ⟨S_, .f32⟩
  | 119 => ⟨S8448x2x128, .f32⟩
  | 120 => ⟨S8448x2x128, .f32⟩
  | 121 => ⟨S128x2x128, .f32⟩
  | 122 => ⟨S8192x2x128, .f32⟩
  | 123 => ⟨S128x2x128, .f32⟩
  | 124 => ⟨S8192x256, .f32⟩
  | 125 => ⟨S128x2x128, .f32⟩
  | 126 => ⟨S8192x2x128, .f32⟩
  | 127 => ⟨S128x2x128, .f32⟩
  | _ => ⟨S8192x4608, .bf16⟩

abbrev hbmTy0_2 (i : Nat) : BufTy := match i % 128 with
  | 0 => ⟨S8192x256, .f32⟩
  | 1 => ⟨S8192x1024, .f32⟩
  | 2 => ⟨S8192x1024, .bf16⟩
  | 3 => ⟨S8192x512, .f32⟩
  | 4 => ⟨S8192x512, .bf16⟩
  | 5 => ⟨S2x512x384, .f32⟩
  | 6 => ⟨S_, .i32⟩
  | 7 => ⟨S_, .f32⟩
  | 8 => ⟨S1x128, .f32⟩
  | _ => ⟨S8192x4608, .bf16⟩

abbrev hbmTy (i : Nat) : BufTy := match i / 128 with
  | 0 => hbmTy0_0 i
  | 1 => hbmTy0_1 i
  | 2 => hbmTy0_2 i
  | _ => ⟨S8192x4608, .bf16⟩

abbrev bufTy : (tb : Table) → Fin (tcTables nBuf tb) → BufTy
  | .hbm, ⟨i, _⟩ => hbmTy i
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_16 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_17 : Ref sig .tc := ⟨.hbm, 89, rfl⟩
abbrev main_v64 : Ref sig .tc := ⟨.hbm, 90, rfl⟩
abbrev main_v65 : Ref sig .tc := ⟨.hbm, 91, rfl⟩
abbrev main_c_18 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_19 : Ref sig .tc := ⟨.hbm, 98, rfl⟩
abbrev main_v71 : Ref sig .tc := ⟨.hbm, 99, rfl⟩
abbrev main_v72 : Ref sig .tc := ⟨.hbm, 100, rfl⟩
abbrev main_c_20 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_21 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_22 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_23 : Ref sig .tc := ⟨.hbm, 122, rfl⟩
abbrev main_v91 : Ref sig .tc := ⟨.hbm, 123, rfl⟩
abbrev main_v92 : Ref sig .tc := ⟨.hbm, 124, rfl⟩
abbrev main_c_24 : Ref sig .tc := ⟨.hbm, 125, rfl⟩
abbrev main_v93 : Ref sig .tc := ⟨.hbm, 126, rfl⟩
abbrev main_v94 : Ref sig .tc := ⟨.hbm, 127, rfl⟩
abbrev main_c_25 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_26 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_27 : Ref sig .tc := ⟨.hbm, 146, rfl⟩
abbrev main_call2_v0 : Ref sig .tc := ⟨.hbm, 147, rfl⟩
abbrev main_v111_1 : Ref sig .tc := ⟨.hbm, 148, rfl⟩
abbrev main_call2_v2 : Ref sig .tc := ⟨.hbm, 149, rfl⟩
abbrev main_v111_0 : Ref sig .tc := ⟨.hbm, 150, rfl⟩
abbrev main_call2_cst : Ref sig .tc := ⟨.hbm, 151, rfl⟩
abbrev main_v111_2 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_28 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_29 : Ref sig .tc := ⟨.hbm, 162, rfl⟩
abbrev main_v120 : Ref sig .tc := ⟨.hbm, 163, rfl⟩
abbrev main_cst_30 : Ref sig .tc := ⟨.hbm, 164, rfl⟩
abbrev main_v121 : Ref sig .tc := ⟨.hbm, 165, rfl⟩
abbrev main_v122 : Ref sig .tc := ⟨.hbm, 166, rfl⟩
abbrev main_cst_31 : Ref sig .tc := ⟨.hbm, 167, rfl⟩
abbrev main_v123 : Ref sig .tc := ⟨.hbm, 168, rfl⟩
abbrev main_v124 : Ref sig .tc := ⟨.hbm, 169, rfl⟩
abbrev main_cst_32 : Ref sig .tc := ⟨.hbm, 170, rfl⟩
abbrev main_v125 : Ref sig .tc := ⟨.hbm, 171, rfl⟩
abbrev main_v126 : Ref sig .tc := ⟨.hbm, 172, rfl⟩
abbrev main_cst_33 : Ref sig .tc := ⟨.hbm, 173, rfl⟩
abbrev main_v127 : Ref sig .tc := ⟨.hbm, 174, rfl⟩
abbrev main_cst_34 : Ref sig .tc := ⟨.hbm, 175, rfl⟩
abbrev main_v128 : Ref sig .tc := ⟨.hbm, 176, rfl⟩
abbrev main_cst_35 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_36 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_37 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_38 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_39 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_40 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_41 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_call3_cst : Ref sig .tc := ⟨.hbm, 226, rfl⟩
abbrev main_call3_v0 : Ref sig .tc := ⟨.hbm, 227, rfl⟩
abbrev main_v171 : Ref sig .tc := ⟨.hbm, 228, rfl⟩
abbrev main_cst_42 : Ref sig .tc := ⟨.hbm, 229, rfl⟩
abbrev main_v172 : Ref sig .tc := ⟨.hbm, 230, rfl⟩
abbrev main_v173 : Ref sig .tc := ⟨.hbm, 231, rfl⟩
abbrev main_cst_43 : Ref sig .tc := ⟨.hbm, 232, rfl⟩
abbrev main_v174 : Ref sig .tc := ⟨.hbm, 233, rfl⟩
abbrev main_v175 : Ref sig .tc := ⟨.hbm, 234, rfl⟩
abbrev main_cst_44 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_cst_45 : Ref sig .tc := ⟨.hbm, 243, rfl⟩
abbrev main_v183 : Ref sig .tc := ⟨.hbm, 244, rfl⟩
abbrev main_v184 : Ref sig .tc := ⟨.hbm, 245, rfl⟩
abbrev main_cst_46 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_c_47 : Ref sig .tc := ⟨.hbm, 262, rfl⟩
abbrev main_call4_v0 : Ref sig .tc := ⟨.hbm, 263, rfl⟩
abbrev main_v200 : Ref sig .tc := ⟨.hbm, 264, rfl⟩

abbrev nD : Nat := 1
abbrev τ : Topo := Topo.v7x

variable {F : FTy → Type} [FloatOps F]

def κ : String → Option EReal := fun
  | "mask" => some ⊥
  | _ => none
-- ==== Kernel2.lean ====
abbrev S8192x2048 : Shape := ⟨2, ![8192, 2048]⟩
abbrev S8192x4096 : Shape := ⟨2, ![8192, 4096]⟩
abbrev S2048x4096 : Shape := ⟨2, ![2048, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S1x6144 : Shape := ⟨2, ![1, 6144]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x6144, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x6144, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S8192x2048 : Shape := ⟨2, ![8192, 2048]⟩
abbrev S1x6144 : Shape := ⟨2, ![1, 6144]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x6144, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S1x2048 : Shape := ⟨2, ![1, 2048]⟩
abbrev S1x6144 : Shape := ⟨2, ![1, 6144]⟩
abbrev S1x1 : Shape := ⟨2, ![1, 1]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩
abbrev S1 : Shape := ⟨1, ![1]⟩

abbrev nBuf : Space → Nat
  | .hbm => 11
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S2048x2048, .bf16⟩
  | .hbm, ⟨4, _⟩ => ⟨S1x2048, .f32⟩
  | .hbm, ⟨5, _⟩ => ⟨S1x6144, .f32⟩
  | .hbm, ⟨6, _⟩ => ⟨S8192x2048, .f32⟩
  | .hbm, ⟨7, _⟩ => ⟨S8192x2048, .bf16⟩
  | .hbm, ⟨8, _⟩ => ⟨S1x1, .f32⟩
  | .hbm, ⟨9, _⟩ => ⟨S1x2048, .f32⟩
  | .hbm, ⟨10, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x2048, .f32⟩
  | .local _ .vmem, ⟨8, _⟩ => ⟨S1x6144, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x1, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v129 : BitVec 1 := Scalar.cmpi .eq arg0 c31_i32
  let v130 : BitVec 32 := Scalar.extui v129
  let c0_i32_69 : BitVec 32 := 0#32
  let v131 : BitVec 1 := Scalar.cmpi .ne v130 c0_i32_69
  v131

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S8192x2048 : Shape := ⟨2, ![8192, 2048]⟩
abbrev S2048x2048 : Shape := ⟨2, ![2048, 2048]⟩
abbrev S1x2048 : Shape := ⟨2, ![1, 2048]⟩
abbrev S1x6144 : Shape := ⟨2, ![1, 6144]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1 : Shape := ⟨2, ![1, 1]⟩

abbrev nBuf : Space → Nat
  | .hbm => 93
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S2048x2048, .bf16⟩
  | .hbm, ⟨4, _⟩ => ⟨S1x2048, .f32⟩
  | .hbm, ⟨5, _⟩ => ⟨S1x6144, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S2048x2048, .f32⟩
  | .hbm, ⟨11, _⟩ => ⟨S8192x2048, .f32⟩
  | .hbm, ⟨12, _⟩ => ⟨S2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S8192x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S2048, .f32⟩
  | .hbm, ⟨73, _⟩ => ⟨S8192x2048, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x2048, .f32⟩
  | .hbm, ⟨78, _⟩ => ⟨S8192x2048, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .bf16⟩
  | .hbm, ⟨91, _⟩ => ⟨S1x1, .f32⟩
  | .hbm, ⟨92, _⟩ => ⟨S1x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel7.lean ====
abbrev S8192x2048 : Shape := ⟨2, ![8192, 2048]⟩
abbrev S8192x4096 : Shape := ⟨2, ![8192, 4096]⟩
abbrev S1x4096 : Shape := ⟨2, ![1, 4096]⟩
abbrev S2048x2048 : Shape := ⟨2, ![2048, 2048]⟩
abbrev S_ : Shape := ⟨0, ![]⟩
abbrev S256x2048 : Shape := ⟨2, ![256, 2048]⟩
abbrev S256x4096 : Shape := ⟨2, ![256, 4096]⟩
abbrev S1x2048 : Shape := ⟨2, ![1, 2048]⟩
abbrev S2048 : Shape := ⟨1, ![2048]⟩

abbrev nBuf : Space → Nat
  | .hbm => 21
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .f32⟩
  | .hbm, ⟨2, _⟩ => ⟨S1x4096, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .bf16⟩
  | .hbm, ⟨17, _⟩ => ⟨S8192x2048, .bf16⟩
  | .hbm, ⟨18, _⟩ => ⟨S8192x2048, .bf16⟩
  | .hbm, ⟨19, _⟩ => ⟨S8192x4096, .bf16⟩
  | .hbm, ⟨20, _⟩ => ⟨S1x4096, .f32⟩
  | .local _ .vmem, ⟨0, _⟩ => ⟨S256x2048, .bf16⟩
  | .local _ .vmem, ⟨1, _⟩ => ⟨S256x2048, .bf16⟩
  | .local _ .vmem, ⟨2, _⟩ => ⟨S256x4096, .bf16⟩
  | .local _ .vmem, ⟨3, _⟩ => ⟨S256x4096, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S2048x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x4096, .bf16⟩
  | .local _ .vmem, ⟨14, _⟩ => ⟨S256x4096, .bf16⟩
  | .local _ .vmem, ⟨15, _⟩ => ⟨S1x4096, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S8192x2048 : Shape := ⟨2, ![8192, 2048]⟩
abbrev S8192x4096 : Shape := ⟨2, ![8192, 4096]⟩
abbrev S1x4096 : Shape := ⟨2, ![1, 4096]⟩
abbrev S2048x2048 : Shape := ⟨2, ![2048, 2048]⟩
abbrev S4096 : Shape := ⟨1, ![4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .f32⟩
  | .hbm, ⟨2, _⟩ => ⟨S1x4096, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .hbm, ⟨6, _⟩ => ⟨S4096, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S4096, .f32⟩
  | .hbm, ⟨41, _⟩ => ⟨S1x4096, .f32⟩
  | .hbm, ⟨42, _⟩ => ⟨S_, .f32⟩
  | .hbm, ⟨43, _⟩ => ⟨S4096, .f32⟩
  | .hbm, ⟨44, _⟩ => ⟨S8192x2048, .bf16⟩
  | .hbm, ⟨45, _⟩ => ⟨S8192x2048, .bf16⟩
  | .hbm, ⟨46, _⟩ => ⟨S8192x4096, .bf16⟩
  | .hbm, ⟨47, _⟩ => ⟨S1x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel8.lean ====
abbrev S8192x4608 : Shape := ⟨2, ![8192, 4608]⟩
abbrev S8192x4096 : Shape := ⟨2, ![8192, 4096]⟩
abbrev S2048x4608 : Shape := ⟨2, ![2048, 4608]⟩
abbrev S2048x4096 : Shape := ⟨2, ![2048, 4096]⟩
abbrev S8192x2048 : Shape := ⟨2, ![8192, 2048]⟩
abbrev S1x6144 : Shape := ⟨2, ![1, 6144]⟩
abbrev S1x2048 : Shape := ⟨2, ![1, 2048]⟩
abbrev S512x512 : Shape := ⟨2, ![512, 512]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 12
  | .vmem => 20
  | .smem => 0
  | _ => 0

abbrev bufTy : (tb : Table) → Fin (tcTables nBuf tb) → BufTy
  | .hbm, ⟨0, _⟩ => ⟨S8192x4608, .bf16⟩
  | .hbm, ⟨1, _⟩ => ⟨S8192x4096, .bf16⟩
  | .hbm, ⟨2, _⟩ => ⟨S2048x4608, .bf16⟩
  | .hbm, ⟨3, _⟩ => ⟨S2048x4096, .bf16⟩
  | .hbm, ⟨4, _⟩ => ⟨S8192x2048, .f32⟩
  | .hbm, ⟨5, _⟩ => ⟨S8192x2048, .f32⟩
  | .hbm, ⟨6, _⟩ => ⟨S1x6144, .f32⟩
  | .hbm, ⟨7, _⟩ => ⟨S1x2048, .f32⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S1x6144, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S512x2048, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![16, 17], ![false, false]⟩

def k0_cond5 (i : grid0.Coords) : BitVec 1 :=
  let arg1 : BitVec 32 := BitVec.ofNat 32 (i 1).val
  let c16_i32 : BitVec 32 := 16#32
  let v14 : BitVec 1 := Scalar.cmpi .eq arg1 c16_i32
  let v15 : BitVec 32 := Scalar.extui v14
  let c0_i32_7 : BitVec 32 := 0#32
  let v16 : BitVec 1 := Scalar.cmpi .ne v15 c0_i32_7
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference8Ideal.lean ====
abbrev S8192x4608 : Shape := ⟨2, ![8192, 4608]⟩
abbrev S8192x4096 : Shape := ⟨2, ![8192, 4096]⟩
abbrev S2048x4608 : Shape := ⟨2, ![2048, 4608]⟩
abbrev S2048x4096 : Shape := ⟨2, ![2048, 4096]⟩
abbrev S8192x2048 : Shape := ⟨2, ![8192, 2048]⟩
abbrev S1x6144 : Shape := ⟨2, ![1, 6144]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S8192x4096, .bf16⟩
  | .hbm, ⟨2, _⟩ => ⟨S2048x4608, .bf16⟩
  | .hbm, ⟨3, _⟩ => ⟨S2048x4096, .bf16⟩
  | .hbm, ⟨4, _⟩ => ⟨S8192x2048, .f32⟩
  | .hbm, ⟨5, _⟩ => ⟨S8192x2048, .f32⟩
  | .hbm, ⟨6, _⟩ => ⟨S1x6144, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S2048x4608, .f32⟩
  | .hbm, ⟨40, _⟩ => ⟨S8192x4608, .f32⟩
  | .hbm, ⟨41, _⟩ => ⟨S2048x4096, .f32⟩
  | .hbm, ⟨42, _⟩ => ⟨S8192x4096, .f32⟩
  | .hbm, ⟨43, _⟩ => ⟨S8192x4608, .f32⟩
  | .hbm, ⟨44, _⟩ => ⟨S8192x4096, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S2048, .f32⟩
  | .hbm, ⟨65, _⟩ => ⟨S8192x2048, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x2048, .f32⟩
  | .hbm, ⟨70, _⟩ => ⟨S8192x2048, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S1x2048, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel9.lean ====
abbrev S8192x2048 : Shape := ⟨2, ![8192, 2048]⟩
abbrev S8192x4608 : Shape := ⟨2, ![8192, 4608]⟩
abbrev S2048x4608 : Shape := ⟨2, ![2048, 4608]⟩
abbrev S512x1024 : Shape := ⟨2, ![512, 1024]⟩
abbrev S512x1152 : Shape := ⟨2, ![512, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4608, .bf16⟩
  | .hbm, ⟨2, _⟩ => ⟨S2048x4608, .bf16⟩
  | .local _ .vmem, ⟨0, _⟩ => ⟨S512x1024, .bf16⟩
  | .local _ .vmem, ⟨1, _⟩ => ⟨S512x1024, .bf16⟩
  | .local _ .vmem, ⟨2, _⟩ => ⟨S512x1152, .bf16⟩
  | .local _ .vmem, ⟨3, _⟩ => ⟨S512x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x4608 : Shape := ⟨2, ![8192, 4608]⟩
abbrev S_ : Shape := ⟨0, ![]⟩
abbrev S2048x4608 : Shape := ⟨2, ![2048, 4608]⟩
abbrev S4608x2048 : Shape := ⟨2, ![4608, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4608, .bf16⟩
  | .hbm, ⟨2, _⟩ => ⟨S_, .f32⟩
  | .hbm, ⟨3, _⟩ => ⟨S2048x4608, .f32⟩
  | .hbm, ⟨4, _⟩ => ⟨S8192x2048, .f32⟩
  | .hbm, ⟨5, _⟩ => ⟨S8192x4608, .f32⟩
  | .hbm, ⟨6, _⟩ => ⟨S8192x4608, .f32⟩
  | .hbm, ⟨7, _⟩ => ⟨S4608x2048, .f32⟩
  | .hbm, ⟨8, _⟩ => ⟨S2048x4608, .f32⟩
  | .hbm, ⟨9, _⟩ => ⟨S2048x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S4x256x256 : Shape := ⟨3, ![4, 256, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x256x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8192x1024 : Shape := ⟨2, ![8192, 1024]⟩
abbrev S_ : Shape := ⟨0, ![]⟩
abbrev S4x256x256 : Shape := ⟨3, ![4, 256, 256]⟩
abbrev S8192x4x256 : Shape := ⟨3, ![8192, 4, 256]⟩
abbrev S4x256x8192 : Shape := ⟨3, ![4, 256, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S4x256x256, .f32⟩
  | .hbm, ⟨4, _⟩ => ⟨S8192x1024, .f32⟩
  | .hbm, ⟨5, _⟩ => ⟨S8192x4x256, .f32⟩
  | .hbm, ⟨6, _⟩ => ⟨S4x256x8192, .f32⟩
  | .hbm, ⟨7, _⟩ => ⟨S8192x4x256, .f32⟩
  | .hbm, ⟨8, _⟩ => ⟨S8192x1024, .f32⟩
  | .hbm, ⟨9, _⟩ => ⟨S8192x1024, .f32⟩
  | .hbm, ⟨10, _⟩ => ⟨S8192x4x256, .f32⟩
  | .hbm, ⟨11, _⟩ => ⟨S4x256x8192, .f32⟩
  | .hbm, ⟨12, _⟩ => ⟨S4x256x256, .f32⟩
  | .hbm, ⟨13, _⟩ => ⟨S4x256x256, .f32⟩
  | .hbm, ⟨14, _⟩ => ⟨S4x256x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel11.lean ====
abbrev S8192x2048 : Shape := ⟨2, ![8192, 2048]⟩
abbrev S2048x4608 : Shape := ⟨2, ![2048, 4608]⟩
abbrev S8192x4608 : Shape := ⟨2, ![8192, 4608]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4608, .bf16⟩
  | .hbm, ⟨2, _⟩ => ⟨S8192x4608, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x2048 : Shape := ⟨2, ![8192, 2048]⟩
abbrev S2048x4608 : Shape := ⟨2, ![2048, 4608]⟩
abbrev S8192x4608 : Shape := ⟨2, ![8192, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4608, .bf16⟩
  | .hbm, ⟨2, _⟩ => ⟨S8192x2048, .f32⟩
  | .hbm, ⟨3, _⟩ => ⟨S2048x4608, .f32⟩
  | .hbm, ⟨4, _⟩ => ⟨S8192x4608, .f32⟩
  | .hbm, ⟨5, _⟩ => ⟨S8192x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x2048 : Shape := ⟨2, ![8192, 2048]⟩
abbrev S2048x4096 : Shape := ⟨2, ![2048, 4096]⟩
abbrev S1x4096 : Shape := ⟨2, ![1, 4096]⟩
abbrev S8192x4096 : Shape := ⟨2, ![8192, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S1x4096, .f32⟩
  | .hbm, ⟨3, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x2048 : Shape := ⟨2, ![8192, 2048]⟩
abbrev S2048x4096 : Shape := ⟨2, ![2048, 4096]⟩
abbrev S1x4096 : Shape := ⟨2, ![1, 4096]⟩
abbrev S8192x4096 : Shape := ⟨2, ![8192, 4096]⟩
abbrev S4096 : Shape := ⟨1, ![4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S1x4096, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel13.lean ====
abbrev S8192x2048 : Shape := ⟨2, ![8192, 2048]⟩
abbrev S1x6144 : Shape := ⟨2, ![1, 6144]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x6144, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x6144, .f32⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8192x2048 : Shape := ⟨2, ![8192, 2048]⟩
abbrev S1x6144 : Shape := ⟨2, ![1, 6144]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x6144, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel14.lean ====
abbrev S8192x2048 : Shape := ⟨2, ![8192, 2048]⟩
abbrev S8192x1024 : Shape := ⟨2, ![8192, 1024]⟩
abbrev S8192x4608 : Shape := ⟨2, ![8192, 4608]⟩
abbrev S1024x2048 : Shape := ⟨2, ![1024, 2048]⟩
abbrev S4x256x256 : Shape := ⟨3, ![4, 256, 256]⟩
abbrev S1x1024 : Shape := ⟨2, ![1, 1024]⟩
abbrev S256x2048 : Shape := ⟨2, ![256, 2048]⟩
abbrev S256x1024 : Shape := ⟨2, ![256, 1024]⟩
abbrev S256x512 : Shape := ⟨2, ![256, 512]⟩
abbrev S1024 : Shape := ⟨1, ![1024]⟩
abbrev S256x256 : Shape := ⟨2, ![256, 256]⟩
abbrev S1x256x256 : Shape := ⟨3, ![1, 256, 256]⟩

abbrev nBuf : Space → Nat
  | .hbm => 15
  | .vmem => 31
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x4608, .bf16⟩
  | .hbm, ⟨4, _⟩ => ⟨S8192x1024, .bf16⟩
  | .hbm, ⟨5, _⟩ => ⟨S1024x2048, .bf16⟩
  | .hbm, ⟨6, _⟩ => ⟨S1024x2048, .bf16⟩
  | .hbm, ⟨7, _⟩ => ⟨S4x256x256, .bf16⟩
  | .hbm, ⟨8, _⟩ => ⟨S1x1024, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x1024, .bf16⟩
  | .local _ .vmem, ⟨15, _⟩ => ⟨S256x1024, .bf16⟩
  | .local _ .vmem, ⟨16, _⟩ => ⟨S1024x2048, .bf16⟩
  | .local _ .vmem, ⟨17, _⟩ => ⟨S1024x2048, .bf16⟩
  | .local _ .vmem, ⟨18, _⟩ => ⟨S4x256x256, .bf16⟩
  | .local _ .vmem, ⟨19, _⟩ => ⟨S1x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference14Ideal.lean ====
abbrev S8192x2048 : Shape := ⟨2, ![8192, 2048]⟩
abbrev S8192x1024 : Shape := ⟨2, ![8192, 1024]⟩
abbrev S8192x4608 : Shape := ⟨2, ![8192, 4608]⟩
abbrev S1024x2048 : Shape := ⟨2, ![1024, 2048]⟩
abbrev S4x256x256 : Shape := ⟨3, ![4, 256, 256]⟩
abbrev S1x1024 : Shape := ⟨2, ![1, 1024]⟩
abbrev S1024 : Shape := ⟨1, ![1024]⟩
abbrev S_ : Shape := ⟨0, ![]⟩
abbrev S8192x4x256 : Shape := ⟨3, ![8192, 4, 256]⟩
abbrev S4x256x8192 : Shape := ⟨3, ![4, 256, 8192]⟩
abbrev S4x8192x256 : Shape := ⟨3, ![4, 8192, 256]⟩

abbrev nBuf : Space → Nat
  | .hbm => 92
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x4608, .bf16⟩
  | .hbm, ⟨4, _⟩ => ⟨S8192x1024, .bf16⟩
  | .hbm, ⟨5, _⟩ => ⟨S1024x2048, .bf16⟩
  | .hbm, ⟨6, _⟩ => ⟨S1024x2048, .bf16⟩
  | .hbm, ⟨7, _⟩ => ⟨S4x256x256, .bf16⟩
  | .hbm, ⟨8, _⟩ => ⟨S1x1024, .f32⟩
  | .hbm, ⟨9, _⟩ => ⟨S8192x4608, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1024, .f32⟩
  | .hbm, ⟨15, _⟩ => ⟨S1024x2048, .f32⟩
  | .hbm, ⟨16, _⟩ => ⟨S1024x2048, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S4x256x256, .f32⟩
  | .hbm, ⟨77, _⟩ => ⟨S8192x4x256, .f32⟩
  | .hbm, ⟨78, _⟩ => ⟨S4x256x8192, .f32⟩
  | .hbm, ⟨79, _⟩ => ⟨S8192x4x256, .f32⟩
  | .hbm, ⟨80, _⟩ => ⟨S8192x1024, .f32⟩
  | .hbm, ⟨81, _⟩ => ⟨S8192x4x256, .f32⟩
  | .hbm, ⟨82, _⟩ => ⟨S4x256x8192, .f32⟩
  | .hbm, ⟨83, _⟩ => ⟨S4x8192x256, .f32⟩
  | .hbm, ⟨84, _⟩ => ⟨S8192x4x256, .f32⟩
  | .hbm, ⟨85, _⟩ => ⟨S8192x1024, .f32⟩
  | .hbm, ⟨86, _⟩ => ⟨S8192x1024, .bf16⟩
  | .hbm, ⟨87, _⟩ => ⟨S8192x1024, .bf16⟩
  | .hbm, ⟨88, _⟩ => ⟨S8192x1024, .bf16⟩
  | .hbm, ⟨89, _⟩ => ⟨S8192x1024, .bf16⟩
  | .hbm, ⟨90, _⟩ => ⟨S8192x1024, .bf16⟩
  | .hbm, ⟨91, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v8_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v8_1 : Ref sig .tc := ⟨.hbm, 28, rfl⟩
abbrev main_v8_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_v13_2 : Ref sig .tc := ⟨.hbm, 41, rfl⟩
abbrev main_call1_cst_1 : Ref sig .tc := ⟨.hbm, 42, rfl⟩
abbrev main_call1_v6 : Ref sig .tc := ⟨.hbm, 43, rfl⟩
abbrev main_call1_v7 : Ref sig .tc := ⟨.hbm, 44, rfl⟩
abbrev main_v13_1 : Ref sig .tc := ⟨.hbm, 45, rfl⟩
abbrev main_v13_0 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v23 : Ref sig .tc := ⟨.hbm, 59, rfl⟩
abbrev main_v24 : Ref sig .tc := ⟨.hbm, 60, rfl⟩
abbrev main_cst : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_0 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v32 : Ref sig .tc := ⟨.hbm, 73, rfl⟩
abbrev main_cst_1 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩

abbrev nD : Nat := 1
abbrev τ : Topo := Topo.v7x

variable {F : FTy → Type} [FloatOps F]
-- ==== Kernel15.lean ====
abbrev S8192x4608 : Shape := ⟨2, ![8192, 4608]⟩
abbrev S8192x1024 : Shape := ⟨2, ![8192, 1024]⟩
abbrev S8192x4096 : Shape := ⟨2, ![8192, 4096]⟩
abbrev S1024x2048 : Shape := ⟨2, ![1024, 2048]⟩
abbrev S4x256x256 : Shape := ⟨3, ![4, 256, 256]⟩
abbrev S1x1024 : Shape := ⟨2, ![1, 1024]⟩
abbrev S8192x2048 : Shape := ⟨2, ![8192, 2048]⟩
abbrev S256x1024 : Shape := ⟨2, ![256, 1024]⟩
abbrev S256x512 : Shape := ⟨2, ![256, 512]⟩
abbrev S16x512 : Shape := ⟨2, ![16, 512]⟩
abbrev S256x4096 : Shape := ⟨2, ![256, 4096]⟩
abbrev S256x2048 : Shape := ⟨2, ![256, 2048]⟩
abbrev S16x1024 : Shape := ⟨2, ![16, 1024]⟩
abbrev S288x1024 : Shape := ⟨2, ![288, 1024]⟩
abbrev S288x256 : Shape := ⟨2, ![288, 256]⟩
abbrev S256x256 : Shape := ⟨2, ![256, 256]⟩
abbrev S1x256x256 : Shape := ⟨3, ![1, 256, 256]⟩

abbrev nBuf : Space → Nat
  | .hbm => 14
  | .vmem => 42
  | .smem => 0
  | _ => 0

abbrev bufTy : (tb : Table) → Fin (tcTables nBuf tb) → BufTy
  | .hbm, ⟨0, _⟩ => ⟨S8192x4608, .bf16⟩
  | .hbm, ⟨1, _⟩ => ⟨S8192x1024, .bf16⟩
  | .hbm, ⟨2, _⟩ => ⟨S8192x4096, .bf16⟩
  | .hbm, ⟨3, _⟩ => ⟨S1024x2048, .bf16⟩
  | .hbm, ⟨4, _⟩ => ⟨S1024x2048, .bf16⟩
  | .hbm, ⟨5, _⟩ => ⟨S4x256x256, .bf16⟩
  | .hbm, ⟨6, _⟩ => ⟨S1x1024, .f32⟩
  | .hbm, ⟨7, _⟩ => ⟨S8192x1024, .bf16⟩
  | .hbm, ⟨8, _⟩ => ⟨S8192x1024, .bf16⟩
  | .hbm, ⟨9, _⟩ => ⟨S8192x2048, .bf16⟩
  | .hbm, ⟨10, _⟩ => ⟨S8192x2048, .bf16⟩
  | .hbm, ⟨11, _⟩ => ⟨S8192x2048, .bf16⟩
  | .hbm, ⟨12, _⟩ => ⟨S8192x1024, .bf16⟩
  | .hbm, ⟨13, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x4096, .bf16⟩
  | .local _ .vmem, ⟨23, _⟩ => ⟨S256x4096, .bf16⟩
  | .local _ .vmem, ⟨24, _⟩ => ⟨S1024x2048, .bf16⟩
  | .local _ .vmem, ⟨25, _⟩ => ⟨S1024x2048, .bf16⟩
  | .local _ .vmem, ⟨26, _⟩ => ⟨S4x256x256, .bf16⟩
  | .local _ .vmem, ⟨27, _⟩ => ⟨S1x1024, .f32⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x2048, .bf16⟩
  | .local _ .vmem, ⟨33, _⟩ => ⟨S256x2048, .bf16⟩
  | .local _ .vmem, ⟨34, _⟩ => ⟨S256x2048, .bf16⟩
  | .local _ .vmem, ⟨35, _⟩ => ⟨S256x2048, .bf16⟩
  | .local _ .vmem, ⟨36, _⟩ => ⟨S256x2048, .bf16⟩
  | .local _ .vmem, ⟨37, _⟩ => ⟨S256x2048, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c5_i32 : BitVec 32 := 5#32
  let c0_i32 : BitVec 32 := 0#32
  ![v2.toNat, c5_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c6_i32 : BitVec 32 := 6#32
  let c0_i32 : BitVec 32 := 0#32
  ![v2.toNat, c6_i32.toNat]

def cc0_transform_9 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_10 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference15Ideal.lean ====
abbrev S8192x4608 : Shape := ⟨2, ![8192, 4608]⟩
abbrev S8192x1024 : Shape := ⟨2, ![8192, 1024]⟩
abbrev S8192x4096 : Shape := ⟨2, ![8192, 4096]⟩
abbrev S1024x2048 : Shape := ⟨2, ![1024, 2048]⟩
abbrev S4x256x256 : Shape := ⟨3, ![4, 256, 256]⟩
abbrev S1x1024 : Shape := ⟨2, ![1, 1024]⟩
abbrev S_ : Shape := ⟨0, ![]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S8192x1024, .bf16⟩
  | .hbm, ⟨2, _⟩ => ⟨S8192x4096, .bf16⟩
  | .hbm, ⟨3, _⟩ => ⟨S1024x2048, .bf16⟩
  | .hbm, ⟨4, _⟩ => ⟨S1024x2048, .bf16⟩
  | .hbm, ⟨5, _⟩ => ⟨S4x256x256, .bf16⟩
  | .hbm, ⟨6, _⟩ => ⟨S1x1024, .f32⟩
  | .hbm, ⟨7, _⟩ => ⟨S8192x4608, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x2048, .f32⟩
  | .hbm, ⟨22, _⟩ => ⟨S8192x2048, .f32⟩
  | .hbm, ⟨23, _⟩ => ⟨S8192x2048, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩

abbrev nD : Nat := 1
abbrev τ : Topo := Topo.v7x

variable {F : FTy → Type} [FloatOps F]
-- ==== Proof.Body.lean ====
/- The kernel's body at its three kinds of grid point (first, middle, last), run once over any float type `F`:
   what it leaves in its output blocks and its two scratch buffers is the value the run finds. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]
local notation "𝕄" => MT nD τ sig Unit (Elt F) ℕ (UR sig nD τ) ℕ
abbrev 𝒱₀ : Variants := Variants.none

/-- The type of the contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The slot that step `n` of the kernel clears ahead: that of the next block. -/
theorem off1_eq : ∀ i : grid0.Coords, k0_off1 i = ![((i 0).val + 1) % 3, 0, 0] := by decide +kernel
/-- The slots that step `n` adds its key gradients of the first head to. -/
theorem off2_eq : ∀ (i : grid0.Coords) (r : Fin 3), k0_off2 i (BitVec.ofNat 32 r.val) = ![((i 0).val + 2 + r.val) % 3, 0, 0] := by decide +kernel
theorem off3_eq : ∀ (i : grid0.Coords) (r : Fin 3), k0_off3 i (BitVec.ofNat 32 r.val) = ![((i 0).val + 2 + r.val) % 3, 0, 256] := by decide +kernel
theorem off4_eq : ∀ (i : grid0.Coords) (r : Fin 3), k0_off4 i (BitVec.ofNat 32 r.val) = ![((i 0).val + 2 + r.val) % 3, 0, 128] := by decide +kernel
theorem off5_eq : ∀ (i : grid0.Coords) (r : Fin 3), k0_off5 i (BitVec.ofNat 32 r.val) = ![((i 0).val + 2 + r.val) % 3, 0, 384] := by decide +kernel
/-- The slot that step `n` hands out: that of the block before. -/
theorem off6_eq : ∀ i : grid0.Coords, k0_off6 i = ![((i 0).val + 2) % 3, 0, 0] := by decide +kernel

instance (i : grid0.Coords) : ClosedOff (k0_off1 i) := ⟨![((i 0).val + 1) % 3, 0, 0], off1_eq i⟩
instance (i : grid0.Coords) : ClosedOff (k0_off2 i 0#32) := ⟨![((i 0).val + 2) % 3, 0, 0], off2_eq i 0⟩
instance (i : grid0.Coords) : ClosedOff (k0_off2 i 1#32) := ⟨![((i 0).val + 3) % 3, 0, 0], off2_eq i 1⟩
instance (i : grid0.Coords) : ClosedOff (k0_off2 i 2#32) := ⟨![((i 0).val + 4) % 3, 0, 0], off2_eq i 2⟩
instance (i : grid0.Coords) : ClosedOff (k0_off3 i 0#32) := ⟨![((i 0).val + 2) % 3, 0, 256], off3_eq i 0⟩
instance (i : grid0.Coords) : ClosedOff (k0_off3 i 1#32) := ⟨![((i 0).val + 3) % 3, 0, 256], off3_eq i 1⟩
instance (i : grid0.Coords) : ClosedOff (k0_off3 i 2#32) := ⟨![((i 0).val + 4) % 3, 0, 256], off3_eq i 2⟩
instance (i : grid0.Coords) : ClosedOff (k0_off4 i 0#32) := ⟨![((i 0).val + 2) % 3, 0, 128], off4_eq i 0⟩
instance (i : grid0.Coords) : ClosedOff (k0_off4 i 1#32) := ⟨![((i 0).val + 3) % 3, 0, 128], off4_eq i 1⟩
instance (i : grid0.Coords) : ClosedOff (k0_off4 i 2#32) := ⟨![((i 0).val + 4) % 3, 0, 128], off4_eq i 2⟩
instance (i : grid0.Coords) : ClosedOff (k0_off5 i 0#32) := ⟨![((i 0).val + 2) % 3, 0, 384], off5_eq i 0⟩
instance (i : grid0.Coords) : ClosedOff (k0_off5 i 1#32) := ⟨![((i 0).val + 3) % 3, 0, 384], off5_eq i 1⟩
instance (i : grid0.Coords) : ClosedOff (k0_off5 i 2#32) := ⟨![((i 0).val + 4) % 3, 0, 384], off5_eq i 2⟩
instance (i : grid0.Coords) : ClosedOff (k0_off6 i) := ⟨![((i 0).val + 2) % 3, 0, 0], off6_eq i⟩

/-- The first point: the scratch buffers and the two constant output blocks are cleared, then the block's gradients are added. -/
noncomputable def runFirst (c : Dev nD) (i : grid0.Coords)
    (hc1 : k0_cond1 i = 1#1) (hc2 : ¬ k0_cond2 i = 1#1) (hc3 : k0_cond3 i = 1#1) (hc4 : ¬ k0_cond4 i = 1#1)
    (M1 : Memref sig .tc .vmem S128x512 .bf16) (h1 : M1.IsWhole) (M2 : Memref sig .tc .vmem S128x512 .bf16) (h2 : M2.IsWhole)
    (M3 : Memref sig .tc .vmem S128x512 .bf16) (h3 : M3.IsWhole) (M4 : Memref sig .tc .vmem S128x512 .bf16) (h4 : M4.IsWhole)
    (M5 : Memref sig .tc .vmem S128x512 .bf16) (h5 : M5.IsWhole) (M6 : Memref sig .tc .vmem S128x1024 .bf16) (h6 : M6.IsWhole)
    (M7 : Memref sig .tc .vmem S2x512x384 .f32) (h7 : M7.IsWhole) (M8 : Memref sig .tc .smem S1x8 .f32) (h8 : M8.IsWhole)
    (M9 : Memref sig .tc .vmem S128x1024 .bf16) (h9 : M9.IsWhole) (M10 : Memref sig .tc .vmem S128x512 .bf16) (h10 : M10.IsWhole)
    (M11 : Memref sig .tc .vmem S2x512x384 .f32) (h11 : M11.IsWhole) (M12 : Memref sig .tc .vmem S1x128 .f32) (h12 : M12.IsWhole)
    (M13 : Memref sig .tc .vmem S3x128x512 .f32) (h13 : M13.IsWhole) (M14 : Memref sig .tc .vmem S2x512x1 .f32) (h14 : M14.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) :
    { W : Bf (F := F) c M9 × Bf (F := F) c M10 × Bf (F := F) c M11 × Bf (F := F) c M12 × Bf (F := F) c M13 × Bf (F := F) c M14 //
      ∀ (f9 : Bf (F := F) c M9) (f10 : Bf (F := F) c M10) (f11 : Bf (F := F) c M11) (f12 : Bf (F := F) c M12) (f13 : Bf (F := F) c M13) (f14 : Bf (F := F) c M14) (E : Set ℕ) (K : PUnit → sProp 𝕄),
      iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14
        ∗ (iprop(pt c M1 f1 ∗ pt c M2 f2 ∗ pt c M3 f3 ∗ pt c M4 f4 ∗ pt c M5 f5 ∗ pt c M6 f6 ∗ pt c M7 f7 ∗ pt c M8 f8 ∗ pt c M9 W.1 ∗ pt c M10 W.2.1 ∗ pt c M11 W.2.2.1 ∗ pt c M12 W.2.2.2.1 ∗ pt c M13 W.2.2.2.2.1 ∗ pt c M14 W.2.2.2.2.2) -∗ K ⟨⟩))
      ⊢ wp frame (wpE (defs₀ (F := F)) 𝒱₀ c none) E
          (cc0_attn_backward i M1 h1 M2 h2 M3 h3 M4 h4 M5 h5 M6 h6 M7 h7 M8 h8 M9 h9 M10 h10 M11 h11 M12 h12 M13 h13 M14 h14) K } := by
  refine ⟨⟨?_, ?_, ?_, ?_, ?_, ?_⟩, fun f9 f10 f11 f12 f13 f14 E K => ?run⟩
  case run =>
    iintro ⟨H1, H2, H3, H4, H5, H6, H7, H8, H9, H10, H11, H12, H13, H14, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- A middle point: one slot of the scratch is cleared, the block's gradients are added, the finished slot is handed out. -/
noncomputable def runMid (c : Dev nD) (i : grid0.Coords)
    (hc1 : ¬ k0_cond1 i = 1#1) (hc2 : k0_cond2 i = 1#1) (hc3 : k0_cond3 i = 1#1) (hc4 : ¬ k0_cond4 i = 1#1)
    (M1 : Memref sig .tc .vmem S128x512 .bf16) (h1 : M1.IsWhole) (M2 : Memref sig .tc .vmem S128x512 .bf16) (h2 : M2.IsWhole)
    (M3 : Memref sig .tc .vmem S128x512 .bf16) (h3 : M3.IsWhole) (M4 : Memref sig .tc .vmem S128x512 .bf16) (h4 : M4.IsWhole)
    (M5 : Memref sig .tc .vmem S128x512 .bf16) (h5 : M5.IsWhole) (M6 : Memref sig .tc .vmem S128x1024 .bf16) (h6 : M6.IsWhole)
    (M7 : Memref sig .tc .vmem S2x512x384 .f32) (h7 : M7.IsWhole) (M8 : Memref sig .tc .smem S1x8 .f32) (h8 : M8.IsWhole)
    (M9 : Memref sig .tc .vmem S128x1024 .bf16) (h9 : M9.IsWhole) (M10 : Memref sig .tc .vmem S128x512 .bf16) (h10 : M10.IsWhole)
    (M11 : Memref sig .tc .vmem S2x512x384 .f32) (h11 : M11.IsWhole) (M12 : Memref sig .tc .vmem S1x128 .f32) (h12 : M12.IsWhole)
    (M13 : Memref sig .tc .vmem S3x128x512 .f32) (h13 : M13.IsWhole) (M14 : Memref sig .tc .vmem S2x512x1 .f32) (h14 : M14.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f11 : Bf (F := F) c M11) (f13 : Bf (F := F) c M13) (f14 : Bf (F := F) c M14) :
    { W : Bf (F := F) c M9 × Bf (F := F) c M10 × Bf (F := F) c M11 × Bf (F := F) c M13 × Bf (F := F) c M14 //
      ∀ (f9 : Bf (F := F) c M9) (f10 : Bf (F := F) c M10) (f12 : Bf (F := F) c M12) (E : Set ℕ) (K : PUnit → sProp 𝕄),
      iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14
        ∗ (iprop(pt c M1 f1 ∗ pt c M2 f2 ∗ pt c M3 f3 ∗ pt c M4 f4 ∗ pt c M5 f5 ∗ pt c M6 f6 ∗ pt c M7 f7 ∗ pt c M8 f8 ∗ pt c M9 W.1 ∗ pt c M10 W.2.1 ∗ pt c M11 W.2.2.1 ∗ pt c M12 f12 ∗ pt c M13 W.2.2.2.1 ∗ pt c M14 W.2.2.2.2) -∗ K ⟨⟩))
      ⊢ wp frame (wpE (defs₀ (F := F)) 𝒱₀ c none) E
          (cc0_attn_backward i M1 h1 M2 h2 M3 h3 M4 h4 M5 h5 M6 h6 M7 h7 M8 h8 M9 h9 M10 h10 M11 h11 M12 h12 M13 h13 M14 h14) K } := by
  refine ⟨⟨?_, ?_, ?_, ?_, ?_⟩, fun f9 f10 f12 E K => ?run⟩
  case run =>
    iintro ⟨H1, H2, H3, H4, H5, H6, H7, H8, H9, H10, H11, H12, H13, H14, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The last point: the last slot is handed out and the sink's gradient is summed. -/
noncomputable def runLast (c : Dev nD) (i : grid0.Coords)
    (hc1 : ¬ k0_cond1 i = 1#1) (hc2 : ¬ k0_cond2 i = 1#1) (hc3 : ¬ k0_cond3 i = 1#1) (hc4 : k0_cond4 i = 1#1)
    (M1 : Memref sig .tc .vmem S128x512 .bf16) (h1 : M1.IsWhole) (M2 : Memref sig .tc .vmem S128x512 .bf16) (h2 : M2.IsWhole)
    (M3 : Memref sig .tc .vmem S128x512 .bf16) (h3 : M3.IsWhole) (M4 : Memref sig .tc .vmem S128x512 .bf16) (h4 : M4.IsWhole)
    (M5 : Memref sig .tc .vmem S128x512 .bf16) (h5 : M5.IsWhole) (M6 : Memref sig .tc .vmem S128x1024 .bf16) (h6 : M6.IsWhole)
    (M7 : Memref sig .tc .vmem S2x512x384 .f32) (h7 : M7.IsWhole) (M8 : Memref sig .tc .smem S1x8 .f32) (h8 : M8.IsWhole)
    (M9 : Memref sig .tc .vmem S128x1024 .bf16) (h9 : M9.IsWhole) (M10 : Memref sig .tc .vmem S128x512 .bf16) (h10 : M10.IsWhole)
    (M11 : Memref sig .tc .vmem S2x512x384 .f32) (h11 : M11.IsWhole) (M12 : Memref sig .tc .vmem S1x128 .f32) (h12 : M12.IsWhole)
    (M13 : Memref sig .tc .vmem S3x128x512 .f32) (h13 : M13.IsWhole) (M14 : Memref sig .tc .vmem S2x512x1 .f32) (h14 : M14.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f13 : Bf (F := F) c M13) (f14 : Bf (F := F) c M14) :
    { W : Bf (F := F) c M10 × Bf (F := F) c M12 //
      ∀ (f9 : Bf (F := F) c M9) (f10 : Bf (F := F) c M10) (f11 : Bf (F := F) c M11) (f12 : Bf (F := F) c M12) (E : Set ℕ) (K : PUnit → sProp 𝕄),
      iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14
        ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 W.1 ∗ pt c M11 f11 ∗ pt c M12 W.2 ∗ pt c M13 f13 ∗ pt c M14 f14) -∗ K ⟨⟩))
      ⊢ wp frame (wpE (defs₀ (F := F)) 𝒱₀ c none) E
          (cc0_attn_backward i M1 h1 M2 h2 M3 h3 M4 h4 M5 h5 M6 h6 M7 h7 M8 h8 M9 h9 M10 h10 M11 h11 M12 h12 M13 h13 M14 h14) K } := by
  refine ⟨⟨?_, ?_⟩, fun f9 f10 f11 f12 E K => ?run⟩
  case run =>
    iintro ⟨H1, H2, H3, H4, H5, H6, H7, H8, H9, H10, H11, H12, H13, H14, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.Proof.Attn

end
-- ==== Proof.Data.lean ====
/- The proof data of the attention backward's pipeline, over any float type: what every grid point leaves in the output
   blocks and in the two scratch buffers, as a recursion over the points, with the body obligation and the run. -/
module

public import proofs.«01_k».proof.Proof.Body

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]
local notation "𝕄" => MT nD τ sig Unit (Elt F) ℕ (UR sig nD τ) ℕ

/-! ## The grid's conditions -/

theorem cond1_iff : ∀ i : grid0.Coords, k0_cond1 i = 1#1 ↔ (i 0).val = 0 := by decide +kernel
theorem cond2_iff : ∀ i : grid0.Coords, k0_cond2 i = 1#1 ↔ (1 ≤ (i 0).val ∧ (i 0).val < 64) := by decide +kernel
theorem cond3_iff : ∀ i : grid0.Coords, k0_cond3 i = 1#1 ↔ (i 0).val < 64 := by decide +kernel
theorem cond4_iff : ∀ i : grid0.Coords, k0_cond4 i = 1#1 ↔ (i 0).val = 64 := by decide +kernel
/-- The grid has one axis: a point's coordinate is its position. -/
theorem coord_eq : ∀ t : Fin cfg0.N, (grid0.coords t 0).val = t.val := by decide +kernel

theorem idle8 : ∀ t : Fin cfg0.N, cfg0.idle 8 (cfg0.grid.coords t) = decide (t.val = 64) := by decide +kernel
theorem idle10 : ∀ t : Fin cfg0.N, cfg0.idle 10 (cfg0.grid.coords t) = decide (t.val = 64) := by decide +kernel
theorem idle11 : ∀ t : Fin cfg0.N, cfg0.idle 11 (cfg0.grid.coords t) = decide (t.val ≠ 0 ∧ t.val ≠ 64) := by decide +kernel
theorem flush8 : ∀ t : Fin cfg0.N, t.val = 63 → (cfg0.win 8).flush t = false := by decide +kernel
theorem flush10 : ∀ t : Fin cfg0.N, (cfg0.win 10).flush t = decide (t.val = 64) := by decide +kernel
theorem flush11 : ∀ t : Fin cfg0.N, (cfg0.win 11).flush t = decide (t.val = 64) := by decide +kernel
theorem flush8_last : ∀ t : Fin cfg0.N, t.val = 64 → (cfg0.win 8).flush t = true := by decide +kernel

/-! ## Raw contents and what they read -/

/-- A whole memref owned at `x` is held at the contents that read `x`. -/
theorem pt_of_owns (c : Dev nD) {sp : Space} {S : Shape} {e : EltTy} (M : Memref sig .tc sp S e) (h : M.IsWhole) (x : S.Idx → Elt F e) :
    (owns (c : Thread nD τ) M fullShare x : sProp 𝕄) ⊢ pt c M (h.unread x) := by
  unfold owns
  iintro ⟨%f, %hf, H⟩
  obtain rfl := h.eq_unread hf
  rw [h.set_eq_univ]
  iexact H

/-- A whole memref held at contents `f` is owned at what they read. -/
theorem owns_of_pt (c : Dev nD) {sp : Space} {S : Shape} {e : EltTy} (M : Memref sig .tc sp S e) (h : M.IsWhole) (f : Bf (F := F) c M) :
    pt c M f ⊢ (owns (c : Thread nD τ) M fullShare (M.view.read (Elt F) f) : sProp 𝕄) := by
  unfold owns
  rw [h.set_eq_univ]
  iintro H
  iexists _; isplitr; · ipureintro; rfl
  iexact H

/-- The same at contents known to read `x`. -/
theorem owns_of_pt_eq (c : Dev nD) {sp : Space} {S : Shape} {e : EltTy} (M : Memref sig .tc sp S e) (h : M.IsWhole) {f : Bf (F := F) c M}
    {x : S.Idx → Elt F e} (hx : M.view.read (Elt F) f = x) : pt c M f ⊢ (owns (c : Thread nD τ) M fullShare x : sProp 𝕄) :=
  hx ▸ owns_of_pt c M h f

/-! ## What a point leaves -/

/-- What the kernel carries between grid points: the bias gradient's block, the key and value gradients' three slots, the
    sink column's sums. -/
abbrev St (F : FTy → Type) [FloatOps F] : Type := Vec F S2x512x384 .f32 × Vec F S3x128x512 .f32 × Vec F S2x512x1 .f32

/-- What a point leaves: the query gradient's block, the key and value gradient's block, the sink gradient's block, the state. -/
abbrev Out (F : FTy → Type) [FloatOps F] : Type := Vec F S128x1024 .bf16 × Vec F S128x512 .bf16 × Vec F S1x128 .f32 × St F

abbrev sc13 : Memref sig .tc .vmem S3x128x512 .f32 := Memref.whole cc0_scratch0
abbrev sc14 : Memref sig .tc .vmem S2x512x1 .f32 := Memref.whole cc0_scratch1

variable (m : (ℓ : Loc nD τ sig) → Buf (Elt F) ℓ) (ρ : Dev nD → PrngReg)

theorem hs0 (t : Fin cfg0.N) : (win0_0.stage (cfg0.slots t 0)).IsWhole := hstage0_0 ((cfg0.slots t 0).cast nbuf0_0)
theorem hs1 (t : Fin cfg0.N) : (win0_1.stage (cfg0.slots t 1)).IsWhole := hstage0_1 ((cfg0.slots t 1).cast nbuf0_1)
theorem hs2 (t : Fin cfg0.N) : (win0_2.stage (cfg0.slots t 2)).IsWhole := hstage0_2 ((cfg0.slots t 2).cast nbuf0_2)
theorem hs3 (t : Fin cfg0.N) : (win0_3.stage (cfg0.slots t 3)).IsWhole := hstage0_3 ((cfg0.slots t 3).cast nbuf0_3)
theorem hs4 (t : Fin cfg0.N) : (win0_4.stage (cfg0.slots t 4)).IsWhole := hstage0_4 ((cfg0.slots t 4).cast nbuf0_4)
theorem hs5 (t : Fin cfg0.N) : (win0_5.stage (cfg0.slots t 5)).IsWhole := hstage0_5 ((cfg0.slots t 5).cast nbuf0_5)
theorem hs6 (t : Fin cfg0.N) : (win0_6.stage (cfg0.slots t 6)).IsWhole := hstage0_6 ((cfg0.slots t 6).cast nbuf0_6)
theorem hs7 (t : Fin cfg0.N) : (win0_7.stage (cfg0.slots t 7)).IsWhole := hstage0_7 ((cfg0.slots t 7).cast nbuf0_7)
theorem hs8 (t : Fin cfg0.N) : (win0_8.stage (cfg0.slots t 8)).IsWhole := hstage0_8 ((cfg0.slots t 8).cast nbuf0_8)
theorem hs9 (t : Fin cfg0.N) : (win0_9.stage (cfg0.slots t 9)).IsWhole := hstage0_9 ((cfg0.slots t 9).cast nbuf0_9)
theorem hs10 (t : Fin cfg0.N) : (win0_10.stage (cfg0.slots t 10)).IsWhole := hstage0_10 ((cfg0.slots t 10).cast nbuf0_10)
theorem hs11 (t : Fin cfg0.N) : (win0_11.stage (cfg0.slots t 11)).IsWhole := hstage0_11 ((cfg0.slots t 11).cast nbuf0_11)

/-- The first point's run on the point's staging memrefs and blocks. -/
def runF (c : Dev nD) (t : Fin cfg0.N) (ht : t.val = 0) :=
  runFirst (F := F) c (grid0.coords t) ((cond1_iff _).mpr (by rw [coord_eq]; omega)) (fun h => absurd ((cond2_iff _).mp h) (by rw [coord_eq]; omega)) ((cond3_iff _).mpr (by rw [coord_eq]; omega)) (fun h => absurd ((cond4_iff _).mp h) (by rw [coord_eq]; omega))
    (win0_0.stage (cfg0.slots t 0)) (hs0 t) (win0_1.stage (cfg0.slots t 1)) (hs1 t) (win0_2.stage (cfg0.slots t 2)) (hs2 t) (win0_3.stage (cfg0.slots t 3)) (hs3 t) (win0_4.stage (cfg0.slots t 4)) (hs4 t) (win0_5.stage (cfg0.slots t 5)) (hs5 t) (win0_6.stage (cfg0.slots t 6)) (hs6 t) (win0_7.stage (cfg0.slots t 7)) (hs7 t) (win0_8.stage (cfg0.slots t 8)) (hs8 t) (win0_9.stage (cfg0.slots t 9)) (hs9 t) (win0_10.stage (cfg0.slots t 10)) (hs10 t) (win0_11.stage (cfg0.slots t 11)) (hs11 t) sc13 (Memref.isWhole_whole _) sc14 (Memref.isWhole_whole _)
    ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t))

/-- A middle point's run on the point's staging memrefs and blocks, from state `s`. -/
def runM (c : Dev nD) (t : Fin cfg0.N) (h0 : t.val ≠ 0) (h1 : t.val < 64) (s : St F) :=
  runMid (F := F) c (grid0.coords t) (fun h => absurd ((cond1_iff _).mp h) (by rw [coord_eq]; omega)) ((cond2_iff _).mpr (by rw [coord_eq]; omega)) ((cond3_iff _).mpr (by rw [coord_eq]; omega)) (fun h => absurd ((cond4_iff _).mp h) (by rw [coord_eq]; omega))
    (win0_0.stage (cfg0.slots t 0)) (hs0 t) (win0_1.stage (cfg0.slots t 1)) (hs1 t) (win0_2.stage (cfg0.slots t 2)) (hs2 t) (win0_3.stage (cfg0.slots t 3)) (hs3 t) (win0_4.stage (cfg0.slots t 4)) (hs4 t) (win0_5.stage (cfg0.slots t 5)) (hs5 t) (win0_6.stage (cfg0.slots t 6)) (hs6 t) (win0_7.stage (cfg0.slots t 7)) (hs7 t) (win0_8.stage (cfg0.slots t 8)) (hs8 t) (win0_9.stage (cfg0.slots t 9)) (hs9 t) (win0_10.stage (cfg0.slots t 10)) (hs10 t) (win0_11.stage (cfg0.slots t 11)) (hs11 t) sc13 (Memref.isWhole_whole _) sc14 (Memref.isWhole_whole _)
    ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) ((hs10 t).unread s.1) ((Memref.isWhole_whole cc0_scratch0).unread s.2.1) ((Memref.isWhole_whole cc0_scratch1).unread s.2.2)

/-- The last point's run on the point's staging memrefs and blocks, from state `s`. -/
def runL (c : Dev nD) (t : Fin cfg0.N) (h1 : ¬ t.val < 64) (s : St F) :=
  runLast (F := F) c (grid0.coords t) (fun h => absurd ((cond1_iff _).mp h) (by have := t.isLt; have hN : cfg0.N = 65 := N_0; rw [coord_eq]; omega)) (fun h => absurd ((cond2_iff _).mp h) (by have := t.isLt; have hN : cfg0.N = 65 := N_0; rw [coord_eq]; omega)) (fun h => absurd ((cond3_iff _).mp h) (by have := t.isLt; have hN : cfg0.N = 65 := N_0; rw [coord_eq]; omega)) ((cond4_iff _).mpr (by have := t.isLt; have hN : cfg0.N = 65 := N_0; rw [coord_eq]; omega))
    (win0_0.stage (cfg0.slots t 0)) (hs0 t) (win0_1.stage (cfg0.slots t 1)) (hs1 t) (win0_2.stage (cfg0.slots t 2)) (hs2 t) (win0_3.stage (cfg0.slots t 3)) (hs3 t) (win0_4.stage (cfg0.slots t 4)) (hs4 t) (win0_5.stage (cfg0.slots t 5)) (hs5 t) (win0_6.stage (cfg0.slots t 6)) (hs6 t) (win0_7.stage (cfg0.slots t 7)) (hs7 t) (win0_8.stage (cfg0.slots t 8)) (hs8 t) (win0_9.stage (cfg0.slots t 9)) (hs9 t) (win0_10.stage (cfg0.slots t 10)) (hs10 t) (win0_11.stage (cfg0.slots t 11)) (hs11 t) sc13 (Memref.isWhole_whole _) sc14 (Memref.isWhole_whole _)
    ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) ((Memref.isWhole_whole cc0_scratch0).unread s.2.1) ((Memref.isWhole_whole cc0_scratch1).unread s.2.2)

def rd8 (t : Fin cfg0.N) (c : Dev nD) (f : Bf (F := F) c (win0_8.stage (cfg0.slots t 8))) : Vec F S128x1024 .bf16 := (win0_8.stage (cfg0.slots t 8)).view.read (Elt F) f
def rd9 (t : Fin cfg0.N) (c : Dev nD) (f : Bf (F := F) c (win0_9.stage (cfg0.slots t 9))) : Vec F S128x512 .bf16 := (win0_9.stage (cfg0.slots t 9)).view.read (Elt F) f
def rd10 (t : Fin cfg0.N) (c : Dev nD) (f : Bf (F := F) c (win0_10.stage (cfg0.slots t 10))) : Vec F S2x512x384 .f32 := (win0_10.stage (cfg0.slots t 10)).view.read (Elt F) f
def rd11 (t : Fin cfg0.N) (c : Dev nD) (f : Bf (F := F) c (win0_11.stage (cfg0.slots t 11))) : Vec F S1x128 .f32 := (win0_11.stage (cfg0.slots t 11)).view.read (Elt F) f
def rd13 (c : Dev nD) (f : Bf (F := F) c sc13) : Vec F S3x128x512 .f32 := sc13.view.read (Elt F) f
def rd14 (c : Dev nD) (f : Bf (F := F) c sc14) : Vec F S2x512x1 .f32 := sc14.view.read (Elt F) f

theorem rd8_def (t : Fin cfg0.N) (c : Dev nD) (f : Bf (F := F) c (win0_8.stage (cfg0.slots t 8))) : (win0_8.stage (cfg0.slots t 8)).view.read (Elt F) f = rd8 t c f := rfl
theorem rd9_def (t : Fin cfg0.N) (c : Dev nD) (f : Bf (F := F) c (win0_9.stage (cfg0.slots t 9))) : (win0_9.stage (cfg0.slots t 9)).view.read (Elt F) f = rd9 t c f := rfl
theorem rd10_def (t : Fin cfg0.N) (c : Dev nD) (f : Bf (F := F) c (win0_10.stage (cfg0.slots t 10))) : (win0_10.stage (cfg0.slots t 10)).view.read (Elt F) f = rd10 t c f := rfl
theorem rd11_def (t : Fin cfg0.N) (c : Dev nD) (f : Bf (F := F) c (win0_11.stage (cfg0.slots t 11))) : (win0_11.stage (cfg0.slots t 11)).view.read (Elt F) f = rd11 t c f := rfl
theorem rd13_def (c : Dev nD) (f : Bf (F := F) c sc13) : sc13.view.read (Elt F) f = rd13 c f := rfl
theorem rd14_def (c : Dev nD) (f : Bf (F := F) c sc14) : sc14.view.read (Elt F) f = rd14 c f := rfl

/-- What point `t` leaves, from the state `s` it finds (the first point reads none of it). -/
def stepOut (c : Dev nD) (t : Fin cfg0.N) (s : St F) : Out F :=
  if h0 : t.val = 0 then
    (rd8 t c (runF m c t h0).1.1, rd9 t c (runF m c t h0).1.2.1, rd11 t c (runF m c t h0).1.2.2.2.1,
      rd10 t c (runF m c t h0).1.2.2.1, rd13 c (runF m c t h0).1.2.2.2.2.1, rd14 c (runF m c t h0).1.2.2.2.2.2)
  else if h1 : t.val < 64 then
    (rd8 t c (runM m c t h0 h1 s).1.1, rd9 t c (runM m c t h0 h1 s).1.2.1, k0_pay4,
      rd10 t c (runM m c t h0 h1 s).1.2.2.1, rd13 c (runM m c t h0 h1 s).1.2.2.2.1, rd14 c (runM m c t h0 h1 s).1.2.2.2.2)
  else (k0_pay10 (iblk m c 0 t) (iblk m c 1 t), rd9 t c (runL m c t h1 s).1.1, rd11 t c (runL m c t h1 s).1.2, s)

/-- The state before point `n`. -/
def stAt (c : Dev nD) : ℕ → St F
  | 0 => (k0_pay3, k0_pay1, k0_pay2)
  | n + 1 => if h : n < cfg0.N then (stepOut m c ⟨n, h⟩ (stAt c n)).2.2.2 else stAt c n

/-- What point `t` leaves in the run. -/
def outAt (c : Dev nD) (t : Fin cfg0.N) : Out F := stepOut m c t (stAt m c t.val)

theorem stAt_succ (c : Dev nD) (t : Fin cfg0.N) : stAt m c (t.val + 1) = (outAt m c t).2.2.2 := by
  rw [stAt, dif_pos t.isLt, outAt]

/-- The query gradient's block after point `t`: the last point leaves the one before it in place. -/
def dqAt (c : Dev nD) (t : Fin cfg0.N) : Vec F S128x1024 .bf16 :=
  if t.val = 64 then (outAt m c ⟨t.val - 1, Nat.lt_of_le_of_lt (Nat.sub_le _ _) t.isLt⟩).1 else (outAt m c t).1

/-! ## The pipeline's proof data -/

/-- Before point `n` the scratch buffers are held, from the second point on at the state's contents, with the register of
    random bits. -/
def PhiAt (c : Dev nD) (n : ℕ) : sProp 𝕄 :=
  iprop((∃ f : Bf (F := F) c sc13, ⌜n ≠ 0 → sc13.view.read (Elt F) f = (stAt m c n).2.1⌝ ∗ pt c sc13 f)
    ∗ (∃ f : Bf (F := F) c sc14, ⌜n ≠ 0 → sc14.view.read (Elt F) f = (stAt m c n).2.2⌝ ∗ pt c sc14 f) ∗ ∃ r, prngReg c r)

/-- The arrays as the region finds them; every input's buffer at its block, every output's at what the point leaves; the
    scratch buffers at the state from the second point on; the inputs that share an array at their shares of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t
    | ⟨9, _⟩ => (outAt m c t).2.1
    | ⟨10, _⟩ => (stAt m c (t.val + 1)).1
    | ⟨11, _⟩ => (outAt m c t).2.2.1
  Φ t := PhiAt m c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqAt m c t := by dsimp only [dats]
theorem after0_9 (c : Dev nD) (t : Fin cfg0.N) : (dats m 0 c).after 9 t = (outAt m c t).2.1 := by dsimp only [dats]
theorem after0_10 (c : Dev nD) (t : Fin cfg0.N) : (dats m 0 c).after 10 t = (stAt m c (t.val + 1)).1 := by dsimp only [dats]
theorem after0_11 (c : Dev nD) (t : Fin cfg0.N) : (dats m 0 c).after 11 t = (outAt m c t).2.2.1 := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

theorem stAt_last (c : Dev nD) (t : Fin cfg0.N) (ht : t.val = 64) : stAt m c (t.val + 1) = stAt m c t.val := by
  rw [stAt_succ, outAt, stepOut, dif_neg (by omega), dif_neg (by omega)]

/-- From the second point on the bias gradient's buffer holds the state's. -/
theorem before0_10 (c : Dev nD) (t : Fin cfg0.N) (h0 : t.val ≠ 0) (d) : (dats m 0 c).before 10 t d = (stAt m c t.val).1 := by
  have hN : cfg0.N = 65 := N_0
  have ht := t.isLt
  have e : (⟨t.val - 1, Nat.lt_of_le_of_lt (Nat.sub_le _ _) t.isLt⟩ : Fin cfg0.N).val = t.val - 1 := rfl
  rw [Dat.before_of_pos (dats m 0 c) 10 t h0 ((cfg0.win 10).fetch_out rfl t) d, flush10, e,
    if_neg (by simp only [decide_eq_true_eq]; omega)]
  unfold Dat.left
  rw [idle10, e, decide_eq_false (by omega)]
  show (dats m 0 c).kept 10 _ d = _
  unfold Dat.kept
  rw [Pipeline.fill_of_clip_none (cfg := cfg0) 10 _ (fun _ => rfl) d ((dats m 0 c).after 10 _), Window.fill_cut, after0_10]
  show (stAt m c (t.val - 1 + 1)).1 = _
  rw [Nat.sub_add_cancel (by omega)]

theorem before0_8 (c : Dev nD) (t : Fin cfg0.N) (h0 : t.val = 64) (d) : (dats m 0 c).before 8 t d = dqAt m c t := by
  have hN : cfg0.N = 65 := N_0
  have ht := t.isLt
  have e : (⟨t.val - 1, Nat.lt_of_le_of_lt (Nat.sub_le _ _) t.isLt⟩ : Fin cfg0.N).val = t.val - 1 := rfl
  rw [Dat.before_of_pos (dats m 0 c) 8 t (by omega) ((cfg0.win 8).fetch_out rfl t) d, flush8 _ (by rw [e]; omega), if_neg Bool.false_ne_true]
  unfold Dat.left
  rw [idle8, e, decide_eq_false (by omega)]
  show (dats m 0 c).kept 8 _ d = _
  unfold Dat.kept
  rw [Pipeline.fill_of_clip_none (cfg := cfg0) 8 _ (fun _ => rfl) d ((dats m 0 c).after 8 _), Window.fill_cut, after0_8]
  unfold dqAt
  rw [if_pos h0, if_neg (by rw [e]; omega)]

end Cert.Proof.Attn

end
-- ==== Proof.Run.lean ====
/- The run of the attention backward's pipeline, over any float type: the body obligation at the three kinds of grid
   point, the launch, and the frame. -/
module

public import proofs.«01_k».proof.Proof.Data

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)
theorem idle0 (t : Fin cfg0.N) : cfg0.idle 0 (cfg0.grid.coords t) = false := rfl
theorem idle1 (t : Fin cfg0.N) : cfg0.idle 1 (cfg0.grid.coords t) = false := rfl
theorem idle2 (t : Fin cfg0.N) : cfg0.idle 2 (cfg0.grid.coords t) = false := rfl
theorem idle3 (t : Fin cfg0.N) : cfg0.idle 3 (cfg0.grid.coords t) = false := rfl
theorem idle4 (t : Fin cfg0.N) : cfg0.idle 4 (cfg0.grid.coords t) = false := rfl
theorem idle5 (t : Fin cfg0.N) : cfg0.idle 5 (cfg0.grid.coords t) = false := rfl
theorem idle6 (t : Fin cfg0.N) : cfg0.idle 6 (cfg0.grid.coords t) = false := rfl
theorem idle7 (t : Fin cfg0.N) : cfg0.idle 7 (cfg0.grid.coords t) = false := rfl
theorem idle9 (t : Fin cfg0.N) : cfg0.idle 9 (cfg0.grid.coords t) = false := rfl
set_option backward.isDefEq.respectTransparency.types false
/-- The body obligation at the first point. -/
theorem ob_first (c : Dev nD) (t : Fin cfg0.N) (h0 : t.val = 0) :
    iprop(PhiAt m c t.val ∗ (dats m 0 c).owesAt () t.castSucc ∗ (∃ d : (cfg0.win 0).block.Idx → Elt F (cfg0.win 0).elt, owns (c : Thread nD τ) (win0_0.stage (cfg0.slots t 0)) fullShare (iblk m c 0 t)) ∗ (∃ d : (cfg0.win 1).block.Idx → Elt F (cfg0.win 1).elt, owns (c : Thread nD τ) (win0_1.stage (cfg0.slots t 1)) fullShare (iblk m c 1 t)) ∗ (∃ d : (cfg0.win 2).block.Idx → Elt F (cfg0.win 2).elt, owns (c : Thread nD τ) (win0_2.stage (cfg0.slots t 2)) fullShare (iblk m c 2 t)) ∗ (∃ d : (cfg0.win 3).block.Idx → Elt F (cfg0.win 3).elt, owns (c : Thread nD τ) (win0_3.stage (cfg0.slots t 3)) fullShare (iblk m c 3 t)) ∗ (∃ d : (cfg0.win 4).block.Idx → Elt F (cfg0.win 4).elt, owns (c : Thread nD τ) (win0_4.stage (cfg0.slots t 4)) fullShare (iblk m c 4 t)) ∗ (∃ d : (cfg0.win 5).block.Idx → Elt F (cfg0.win 5).elt, owns (c : Thread nD τ) (win0_5.stage (cfg0.slots t 5)) fullShare (iblk m c 5 t)) ∗ (∃ d : (cfg0.win 6).block.Idx → Elt F (cfg0.win 6).elt, owns (c : Thread nD τ) (win0_6.stage (cfg0.slots t 6)) fullShare (iblk m c 6 t)) ∗ (∃ d : (cfg0.win 7).block.Idx → Elt F (cfg0.win 7).elt, owns (c : Thread nD τ) (win0_7.stage (cfg0.slots t 7)) fullShare (iblk m c 7 t)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)))
      ⊢ wp frame (wpE (defs₀ (F := F)) 𝒱₀ c none) Set.univ (bodyAt0 t) fun _ => iprop(PhiAt m c (t.val + 1) ∗ (dats m 0 c).owesAt () t.castSucc ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (dqAt m c t) ∗ owns (c : Thread nD τ) (win0_9.stage (cfg0.slots t 9)) fullShare ((outAt m c t).2.1) ∗ owns (c : Thread nD τ) (win0_10.stage (cfg0.slots t 10)) fullShare ((stAt m c (t.val + 1)).1) ∗ owns (c : Thread nD τ) (win0_11.stage (cfg0.slots t 11)) fullShare ((outAt m c t).2.2.1)) := by
  unfold PhiAt
  have hS := stAt_succ m c t
  have hO : outAt m c t = stepOut m c t (stAt m c t.val) := rfl
  rw [stepOut, dif_pos h0] at hO
  iintro ⟨⟨⟨%g13, %hg13, H12⟩, ⟨%g14, %hg14, H13⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave H0 := (pt_of_owns c _ (hs0 t) _) $$ H0
  ihave H1 := (pt_of_owns c _ (hs1 t) _) $$ H1
  ihave H2 := (pt_of_owns c _ (hs2 t) _) $$ H2
  ihave H3 := (pt_of_owns c _ (hs3 t) _) $$ H3
  ihave H4 := (pt_of_owns c _ (hs4 t) _) $$ H4
  ihave H5 := (pt_of_owns c _ (hs5 t) _) $$ H5
  ihave H6 := (pt_of_owns c _ (hs6 t) _) $$ H6
  ihave H7 := (pt_of_owns c _ (hs7 t) _) $$ H7
  ihave H8 := (pt_of_owns c _ (hs8 t) _) $$ H8
  ihave H9 := (pt_of_owns c _ (hs9 t) _) $$ H9
  ihave H10 := (pt_of_owns c _ (hs10 t) _) $$ H10
  ihave H11 := (pt_of_owns c _ (hs11 t) _) $$ H11
  iapply ((runF m c t h0).2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [H12 H13 Hr]
  · isplitl [H12]
    · iexists _; isplitr; swap; · iexact H12
      ipureintro; intro _; rw [hS, hO]; dsimp only [rd13]
    isplitl [H13]
    · iexists _; isplitr; swap; · iexact H13
      ipureintro; intro _; rw [hS, hO]; dsimp only [rd14]
    iexact Hr
  isplitl [Ho]; · iexact Ho
  isplitl [H0]; · iapply (owns_of_pt_eq c _ (hs0 t) ((hs0 t).read_unread _)); iexact H0
  isplitl [H1]; · iapply (owns_of_pt_eq c _ (hs1 t) ((hs1 t).read_unread _)); iexact H1
  isplitl [H2]; · iapply (owns_of_pt_eq c _ (hs2 t) ((hs2 t).read_unread _)); iexact H2
  isplitl [H3]; · iapply (owns_of_pt_eq c _ (hs3 t) ((hs3 t).read_unread _)); iexact H3
  isplitl [H4]; · iapply (owns_of_pt_eq c _ (hs4 t) ((hs4 t).read_unread _)); iexact H4
  isplitl [H5]; · iapply (owns_of_pt_eq c _ (hs5 t) ((hs5 t).read_unread _)); iexact H5
  isplitl [H6]; · iapply (owns_of_pt_eq c _ (hs6 t) ((hs6 t).read_unread _)); iexact H6
  isplitl [H7]; · iapply (owns_of_pt_eq c _ (hs7 t) ((hs7 t).read_unread _)); iexact H7
  isplitl [H8]; · iapply (owns_of_pt_eq c _ (hs8 t) (by rw [dqAt, if_neg (by omega), hO]; dsimp only [rd8])); iexact H8
  isplitl [H9]; · iapply (owns_of_pt_eq c _ (hs9 t) (by rw [hO]; dsimp only [rd9])); iexact H9
  isplitl [H10]; · iapply (owns_of_pt_eq c _ (hs10 t) (by rw [hS, hO]; dsimp only [rd10])); iexact H10
  iapply (owns_of_pt_eq c _ (hs11 t) (by rw [hO]; dsimp only [rd11])); iexact H11

/-- The body obligation at a middle point. -/
theorem ob_mid (c : Dev nD) (t : Fin cfg0.N) (h0 : t.val ≠ 0) (h1 : t.val < 64) :
    iprop(PhiAt m c t.val ∗ (dats m 0 c).owesAt () t.castSucc ∗ (∃ d : (cfg0.win 0).block.Idx → Elt F (cfg0.win 0).elt, owns (c : Thread nD τ) (win0_0.stage (cfg0.slots t 0)) fullShare (iblk m c 0 t)) ∗ (∃ d : (cfg0.win 1).block.Idx → Elt F (cfg0.win 1).elt, owns (c : Thread nD τ) (win0_1.stage (cfg0.slots t 1)) fullShare (iblk m c 1 t)) ∗ (∃ d : (cfg0.win 2).block.Idx → Elt F (cfg0.win 2).elt, owns (c : Thread nD τ) (win0_2.stage (cfg0.slots t 2)) fullShare (iblk m c 2 t)) ∗ (∃ d : (cfg0.win 3).block.Idx → Elt F (cfg0.win 3).elt, owns (c : Thread nD τ) (win0_3.stage (cfg0.slots t 3)) fullShare (iblk m c 3 t)) ∗ (∃ d : (cfg0.win 4).block.Idx → Elt F (cfg0.win 4).elt, owns (c : Thread nD τ) (win0_4.stage (cfg0.slots t 4)) fullShare (iblk m c 4 t)) ∗ (∃ d : (cfg0.win 5).block.Idx → Elt F (cfg0.win 5).elt, owns (c : Thread nD τ) (win0_5.stage (cfg0.slots t 5)) fullShare (iblk m c 5 t)) ∗ (∃ d : (cfg0.win 6).block.Idx → Elt F (cfg0.win 6).elt, owns (c : Thread nD τ) (win0_6.stage (cfg0.slots t 6)) fullShare (iblk m c 6 t)) ∗ (∃ d : (cfg0.win 7).block.Idx → Elt F (cfg0.win 7).elt, owns (c : Thread nD τ) (win0_7.stage (cfg0.slots t 7)) fullShare (iblk m c 7 t)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d : (cfg0.win 10).block.Idx → Elt F (cfg0.win 10).elt, owns (c : Thread nD τ) (win0_10.stage (cfg0.slots t 10)) fullShare ((stAt m c t.val).1)) ∗ (∃ d, owns (c : Thread nD τ) (win0_11.stage (cfg0.slots t 11)) fullShare ((dats m 0 c).before 11 t d)))
      ⊢ wp frame (wpE (defs₀ (F := F)) 𝒱₀ c none) Set.univ (bodyAt0 t) fun _ => iprop(PhiAt m c (t.val + 1) ∗ (dats m 0 c).owesAt () t.castSucc ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (dqAt m c t) ∗ owns (c : Thread nD τ) (win0_9.stage (cfg0.slots t 9)) fullShare ((outAt m c t).2.1) ∗ owns (c : Thread nD τ) (win0_10.stage (cfg0.slots t 10)) fullShare ((stAt m c (t.val + 1)).1) ∗ (∃ d, owns (c : Thread nD τ) (win0_11.stage (cfg0.slots t 11)) fullShare ((dats m 0 c).before 11 t d))) := by
  unfold PhiAt
  have hS := stAt_succ m c t
  have hO : outAt m c t = stepOut m c t (stAt m c t.val) := rfl
  rw [stepOut, dif_neg h0, dif_pos h1] at hO
  iintro ⟨⟨⟨%g13, %hg13, H12⟩, ⟨%g14, %hg14, H13⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := (Memref.isWhole_whole cc0_scratch0).eq_unread (hg13 h0)
  obtain rfl := (Memref.isWhole_whole cc0_scratch1).eq_unread (hg14 h0)
  ihave H0 := (pt_of_owns c _ (hs0 t) _) $$ H0
  ihave H1 := (pt_of_owns c _ (hs1 t) _) $$ H1
  ihave H2 := (pt_of_owns c _ (hs2 t) _) $$ H2
  ihave H3 := (pt_of_owns c _ (hs3 t) _) $$ H3
  ihave H4 := (pt_of_owns c _ (hs4 t) _) $$ H4
  ihave H5 := (pt_of_owns c _ (hs5 t) _) $$ H5
  ihave H6 := (pt_of_owns c _ (hs6 t) _) $$ H6
  ihave H7 := (pt_of_owns c _ (hs7 t) _) $$ H7
  ihave H8 := (pt_of_owns c _ (hs8 t) _) $$ H8
  ihave H9 := (pt_of_owns c _ (hs9 t) _) $$ H9
  ihave H10 := (pt_of_owns c _ (hs10 t) _) $$ H10
  ihave H11 := (pt_of_owns c _ (hs11 t) _) $$ H11
  iapply ((runM m c t h0 h1 (stAt m c t.val)).2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [H12 H13 Hr]
  · isplitl [H12]
    · iexists _; isplitr; swap; · iexact H12
      ipureintro; intro _; rw [hS, hO]; dsimp only [rd13]
    isplitl [H13]
    · iexists _; isplitr; swap; · iexact H13
      ipureintro; intro _; rw [hS, hO]; dsimp only [rd14]
    iexact Hr
  isplitl [Ho]; · iexact Ho
  isplitl [H0]; · iapply (owns_of_pt_eq c _ (hs0 t) ((hs0 t).read_unread _)); iexact H0
  isplitl [H1]; · iapply (owns_of_pt_eq c _ (hs1 t) ((hs1 t).read_unread _)); iexact H1
  isplitl [H2]; · iapply (owns_of_pt_eq c _ (hs2 t) ((hs2 t).read_unread _)); iexact H2
  isplitl [H3]; · iapply (owns_of_pt_eq c _ (hs3 t) ((hs3 t).read_unread _)); iexact H3
  isplitl [H4]; · iapply (owns_of_pt_eq c _ (hs4 t) ((hs4 t).read_unread _)); iexact H4
  isplitl [H5]; · iapply (owns_of_pt_eq c _ (hs5 t) ((hs5 t).read_unread _)); iexact H5
  isplitl [H6]; · iapply (owns_of_pt_eq c _ (hs6 t) ((hs6 t).read_unread _)); iexact H6
  isplitl [H7]; · iapply (owns_of_pt_eq c _ (hs7 t) ((hs7 t).read_unread _)); iexact H7
  isplitl [H8]; · iapply (owns_of_pt_eq c _ (hs8 t) (by rw [dqAt, if_neg (by omega), hO]; dsimp only [rd8])); iexact H8
  isplitl [H9]; · iapply (owns_of_pt_eq c _ (hs9 t) (by rw [hO]; dsimp only [rd9])); iexact H9
  isplitl [H10]; · iapply (owns_of_pt_eq c _ (hs10 t) (by rw [hS, hO]; dsimp only [rd10])); iexact H10
  iexists d11; iapply (owns_of_pt_eq c _ (hs11 t) ((hs11 t).read_unread _)); iexact H11

/-- The body obligation at the last point. -/
theorem ob_last (c : Dev nD) (t : Fin cfg0.N) (h0 : t.val ≠ 0) (h1 : ¬ t.val < 64) :
    iprop(PhiAt m c t.val ∗ (dats m 0 c).owesAt () t.castSucc ∗ (∃ d : (cfg0.win 0).block.Idx → Elt F (cfg0.win 0).elt, owns (c : Thread nD τ) (win0_0.stage (cfg0.slots t 0)) fullShare (iblk m c 0 t)) ∗ (∃ d : (cfg0.win 1).block.Idx → Elt F (cfg0.win 1).elt, owns (c : Thread nD τ) (win0_1.stage (cfg0.slots t 1)) fullShare (iblk m c 1 t)) ∗ (∃ d : (cfg0.win 2).block.Idx → Elt F (cfg0.win 2).elt, owns (c : Thread nD τ) (win0_2.stage (cfg0.slots t 2)) fullShare (iblk m c 2 t)) ∗ (∃ d : (cfg0.win 3).block.Idx → Elt F (cfg0.win 3).elt, owns (c : Thread nD τ) (win0_3.stage (cfg0.slots t 3)) fullShare (iblk m c 3 t)) ∗ (∃ d : (cfg0.win 4).block.Idx → Elt F (cfg0.win 4).elt, owns (c : Thread nD τ) (win0_4.stage (cfg0.slots t 4)) fullShare (iblk m c 4 t)) ∗ (∃ d : (cfg0.win 5).block.Idx → Elt F (cfg0.win 5).elt, owns (c : Thread nD τ) (win0_5.stage (cfg0.slots t 5)) fullShare (iblk m c 5 t)) ∗ (∃ d : (cfg0.win 6).block.Idx → Elt F (cfg0.win 6).elt, owns (c : Thread nD τ) (win0_6.stage (cfg0.slots t 6)) fullShare (iblk m c 6 t)) ∗ (∃ d : (cfg0.win 7).block.Idx → Elt F (cfg0.win 7).elt, owns (c : Thread nD τ) (win0_7.stage (cfg0.slots t 7)) fullShare (iblk m c 7 t)) ∗ (∃ d : (cfg0.win 8).block.Idx → Elt F (cfg0.win 8).elt, owns (c : Thread nD τ) (win0_8.stage (cfg0.slots t 8)) fullShare (dqAt m c t)) ∗ (∃ d, owns (c : Thread nD τ) (win0_9.stage (cfg0.slots t 9)) fullShare ((dats m 0 c).before 9 t d)) ∗ (∃ d : (cfg0.win 10).block.Idx → Elt F (cfg0.win 10).elt, owns (c : Thread nD τ) (win0_10.stage (cfg0.slots t 10)) fullShare ((stAt m c t.val).1)) ∗ (∃ d, owns (c : Thread nD τ) (win0_11.stage (cfg0.slots t 11)) fullShare ((dats m 0 c).before 11 t d)))
      ⊢ wp frame (wpE (defs₀ (F := F)) 𝒱₀ c none) Set.univ (bodyAt0 t) fun _ => iprop(PhiAt m c (t.val + 1) ∗ (dats m 0 c).owesAt () t.castSucc ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (dqAt m c t) ∗ owns (c : Thread nD τ) (win0_9.stage (cfg0.slots t 9)) fullShare ((outAt m c t).2.1) ∗ owns (c : Thread nD τ) (win0_10.stage (cfg0.slots t 10)) fullShare ((stAt m c (t.val + 1)).1) ∗ owns (c : Thread nD τ) (win0_11.stage (cfg0.slots t 11)) fullShare ((outAt m c t).2.2.1)) := by
  have hN : cfg0.N = 65 := N_0
  have htl := t.isLt
  unfold PhiAt
  have hS := stAt_succ m c t
  have hO : outAt m c t = stepOut m c t (stAt m c t.val) := rfl
  rw [stepOut, dif_neg h0, dif_neg (by omega)] at hO
  have h64 : t.val = 64 := by omega
  iintro ⟨⟨⟨%g13, %hg13, H12⟩, ⟨%g14, %hg14, H13⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := (Memref.isWhole_whole cc0_scratch0).eq_unread (hg13 h0)
  obtain rfl := (Memref.isWhole_whole cc0_scratch1).eq_unread (hg14 h0)
  ihave H0 := (pt_of_owns c _ (hs0 t) _) $$ H0
  ihave H1 := (pt_of_owns c _ (hs1 t) _) $$ H1
  ihave H2 := (pt_of_owns c _ (hs2 t) _) $$ H2
  ihave H3 := (pt_of_owns c _ (hs3 t) _) $$ H3
  ihave H4 := (pt_of_owns c _ (hs4 t) _) $$ H4
  ihave H5 := (pt_of_owns c _ (hs5 t) _) $$ H5
  ihave H6 := (pt_of_owns c _ (hs6 t) _) $$ H6
  ihave H7 := (pt_of_owns c _ (hs7 t) _) $$ H7
  ihave H8 := (pt_of_owns c _ (hs8 t) _) $$ H8
  ihave H9 := (pt_of_owns c _ (hs9 t) _) $$ H9
  ihave H10 := (pt_of_owns c _ (hs10 t) _) $$ H10
  ihave H11 := (pt_of_owns c _ (hs11 t) _) $$ H11
  iapply ((runL m c t (by omega) (stAt m c t.val)).2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [H12 H13 Hr]
  · isplitl [H12]
    · iexists _; isplitr; swap; · iexact H12
      ipureintro; intro _; rw [stAt_last m c t h64]; exact (Memref.isWhole_whole cc0_scratch0).read_unread _
    isplitl [H13]
    · iexists _; isplitr; swap; · iexact H13
      ipureintro; intro _; rw [stAt_last m c t h64]; exact (Memref.isWhole_whole cc0_scratch1).read_unread _
    iexact Hr
  isplitl [Ho]; · iexact Ho
  isplitl [H0]; · iapply (owns_of_pt_eq c _ (hs0 t) ((hs0 t).read_unread _)); iexact H0
  isplitl [H1]; · iapply (owns_of_pt_eq c _ (hs1 t) ((hs1 t).read_unread _)); iexact H1
  isplitl [H2]; · iapply (owns_of_pt_eq c _ (hs2 t) ((hs2 t).read_unread _)); iexact H2
  isplitl [H3]; · iapply (owns_of_pt_eq c _ (hs3 t) ((hs3 t).read_unread _)); iexact H3
  isplitl [H4]; · iapply (owns_of_pt_eq c _ (hs4 t) ((hs4 t).read_unread _)); iexact H4
  isplitl [H5]; · iapply (owns_of_pt_eq c _ (hs5 t) ((hs5 t).read_unread _)); iexact H5
  isplitl [H6]; · iapply (owns_of_pt_eq c _ (hs6 t) ((hs6 t).read_unread _)); iexact H6
  isplitl [H7]; · iapply (owns_of_pt_eq c _ (hs7 t) ((hs7 t).read_unread _)); iexact H7
  isplitl [H8]; · iapply (owns_of_pt_eq c _ (hs8 t) ((hs8 t).read_unread _)); iexact H8
  isplitl [H9]; · iapply (owns_of_pt_eq c _ (hs9 t) (by rw [hO]; dsimp only [rd9])); iexact H9
  isplitl [H10]; · iapply (owns_of_pt_eq c _ (hs10 t) (by rw [stAt_last m c t h64]; exact (hs10 t).read_unread _)); iexact H10
  iapply (owns_of_pt_eq c _ (hs11 t) (by rw [hO]; dsimp only [rd11])); iexact H11

set_option backward.isDefEq.respectTransparency.types false in
/-- The pipeline's body obligation: by the kind of the point, the body's run on the point's staging memrefs and blocks. -/
theorem body_obligation (c : Dev nD) : BodyObligation (dats (F := F) m 0 c) (defs₀ (F := F)) 𝒱₀ () Set.univ := fun t => by
  have hN : cfg0.N = 65 := N_0
  have htl := t.isLt
  rw [bigSep_W0, bigSep_W0]
  sl_whnfR [defs₀, Defs.onTc]
  skip
  simp only [before0_0, before0_1, before0_2, before0_3, before0_4, before0_5, before0_6, before0_7, idle0, idle1, idle2, idle3, idle4, idle5, idle6, idle7, idle9, idle8, idle10, idle11, flush10, flush11]
  rw [show (dats m 0 c).owesAt () t.succ = (dats m 0 c).owesAt () t.castSucc from rfl]
  simp only [after0_0, after0_1, after0_2, after0_3, after0_4, after0_5, after0_6, after0_7, after0_8, after0_9, after0_10, after0_11]
  rw [show (dats m 0 c).Φ t.castSucc = PhiAt m c t.val from rfl, show (dats m 0 c).Φ t.succ = PhiAt m c (t.val + 1) from rfl]
  by_cases h0 : t.val = 0
  · skip
    have ei8 : KernelIdeal.idle0 8 (grid0.coords t) = false := (idle8 t).trans (decide_eq_false (by omega))
    have ei10 : KernelIdeal.idle0 10 (grid0.coords t) = false := (idle10 t).trans (decide_eq_false (by omega))
    have ei11 : KernelIdeal.idle0 11 (grid0.coords t) = false := (idle11 t).trans (decide_eq_false (by omega))
    simp only [ei8, ei10, ei11]
    exact ob_first m c t h0
  by_cases h1 : t.val < 64
  · skip
    have ei8 : KernelIdeal.idle0 8 (grid0.coords t) = false := (idle8 t).trans (decide_eq_false (by omega))
    have ei10 : KernelIdeal.idle0 10 (grid0.coords t) = false := (idle10 t).trans (decide_eq_false (by omega))
    have ei11 : KernelIdeal.idle0 11 (grid0.coords t) = true := (idle11 t).trans (decide_eq_true (by omega))
    have ef11 : (win0 11).flush t = false := (flush11 t).trans (decide_eq_false (by omega))
    simp only [ei8, ei10, ei11, ef11]
    simp only [before0_10 m c t h0]
    exact ob_mid m c t h0 h1
  have h64 : t.val = 64 := by omega
  have ei8 : KernelIdeal.idle0 8 (grid0.coords t) = true := (idle8 t).trans (decide_eq_true (by omega))
  have ef8 : (win0 8).flush t = true := flush8_last t (by omega)
  have ei10 : KernelIdeal.idle0 10 (grid0.coords t) = true := (idle10 t).trans (decide_eq_true (by omega))
  have ef10 : (win0 10).flush t = true := (flush10 t).trans (decide_eq_true (by omega))
  have ei11 : KernelIdeal.idle0 11 (grid0.coords t) = false := (idle11 t).trans (decide_eq_false (by omega))
  simp only [ei8, ei10, ei11, ef8, ef10]
  simp only [before0_10 m c t h0, before0_8 m c t h64]
  exact ob_last m c t h0 h1

/-! ## The run and the frame -/

theorem phi_in (c : Dev nD) : ΦA spec0 c ⊢ (dats (F := F) m 0 c).Φ 0 := by
  rw [show (dats m 0 c).Φ 0 = PhiAt m c 0 from rfl]
  unfold PhiAt Pipeline.ΦA
  rw [scopedRest0_eq]
  iintro ⟨⟨⟨%f, H⟩, ⟨%g, G⟩⟩, Hr⟩
  isplitl [H]
  · iexists f; isplitr; · ipureintro; exact fun h => absurd rfl h
    iexact H
  isplitl [G]
  · iexists g; isplitr; · ipureintro; exact fun h => absurd rfl h
    iexact G
  iexact Hr

theorem phi_out (c : Dev nD) : (dats (F := F) m 0 c).Φ (Fin.last cfg0.N) ⊢ ΦA spec0 c := by
  rw [show (dats m 0 c).Φ (Fin.last cfg0.N) = PhiAt m c cfg0.N from rfl]
  unfold PhiAt Pipeline.ΦA
  rw [scopedRest0_eq]
  iintro ⟨⟨%f, -, H⟩, ⟨%g, -, G⟩, Hr⟩
  isplitl [H G]
  · isplitl [H]
    · iexists f; iexact H
    iexists g; iexact G
  iexact Hr

set_option backward.isDefEq.respectTransparency.types false in
/-- From any memory with zero counters every weakly fair execution terminates, and every final state has each array of the
    pipeline at what the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hin := phi_in m) (hout := phi_out m)

/-- Every run terminates with the arguments unchanged and the counters at zero, whatever the values. -/
theorem frame_generic : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Proof.Attn

end
-- ==== Proof.Frames.lean ====
/- The frames of the three programs and the idealization's ledger. -/
module

public import proofs.«01_k».proof.Defs
public import proofs.«01_k».proof.Proof.Run
public import proofs.«01_k».proof.Proof.AsPrinted.Run
public import proofs.«01_k».proof.Proof.Gen.ReferenceIdeal.Run

@[expose] public section

set_option maxRecDepth 16384

noncomputable section

namespace Cert.Proof.Attn

open Idealize.ShloMosaic Idealize.ShloMosaic.TcCoe Idealize.SL.Sem

/-- The side conditions of the precondition's operations. -/
theorem pre_facts : Cert.Pre_finite_operands.Facts where
  bitsLt_bf16_f32 := by decide
  bcast_S_S8192x4608 := by decide
  bcast_S_S32x8 := by decide
  bcast_S_S1x8 := by decide

/-- The kernel as printed runs, its arguments unchanged and every counter back at zero. -/
theorem frame_kernel : Cert.quiescent_Kernel (hKernel := Cert.Kernel.Gen.facts) := fun m g _ =>
  AttnPrinted.frame_generic (F := Bits) m g

/-- The same of its idealization. -/
theorem frame_ideal : Cert.quiescent_KernelIdeal (hKernelIdeal := Cert.KernelIdeal.Gen.facts) := fun m g _ =>
  frame_generic (F := Ideal) m g

/-- The same under the precondition, which the run does not need. -/
theorem frame_ideal_pre : Cert.quiescent_KernelIdeal_pre_finite_operands (hKernelIdeal := Cert.KernelIdeal.Gen.facts) (hPre_finite_operands := pre_facts) :=
  fun m g _ => frame_generic (F := Ideal) m g

/-- The same of the reference, which has no counters. -/
theorem frame_reference : Cert.quiescent_ReferenceIdeal (hReferenceIdeal := Cert.ReferenceIdeal.Gen.facts) := fun m g _ =>
  (θ_run Cert.ReferenceIdeal.defs _ _).mono (fun r h => ⟨fun c => (h c).2.2.2.2,
    Idealize.ShloMosaic.sem_eq_zero_of_no_sems (by decide) r.2⟩) (Cert.ReferenceIdeal.Value.run (F := Ideal) m g)

/-- The same of the reference under the precondition. -/
theorem frame_reference_pre : Cert.quiescent_ReferenceIdeal_pre_finite_operands (hReferenceIdeal := Cert.ReferenceIdeal.Gen.facts)
    (hPre_finite_operands := pre_facts) := fun m g _ => frame_reference m g trivial

/-- The one rewrite of the idealization: the mask's constant is read as `−∞`. -/
theorem preserves : Cert.preserves_Kernel_KernelIdeal :=
  IdealRules.named_const.statement Cert.KernelIdeal.κ "mask" .f32 0xF149F2CA#32 ⊥ rfl

end Cert.Proof.Attn

end
-- ==== Proof.Val.Run.lean ====
/- The lists of writes of the kernel's body at its three kinds of grid point, named: what each point writes into its
   output blocks and its scratch buffers, from the blocks it reads. -/
module

public import proofs.«01_k».proof.Proof.Body

@[expose] public section

set_option maxRecDepth 16384

noncomputable section

namespace Cert.Proof.Attn

open Cert.KernelIdeal Cert.KernelIdeal.Gen
open Idealize.ShloMosaic Idealize.ShloMosaic.TcCoe

variable {F : FTy → Type} [FloatOps F] [Named F]

/-- What the body reads at a point: the query columns of its four and four heads, the rows of the key and value columns before,
    at and after the point's block, the rows of the attention's gradient, the two heads' biases, the sink's logits. -/
structure Ins (F : FTy → Type) [FloatOps F] where
  i : grid0.Coords
  b0 : Vec F S128x512 .bf16
  b1 : Vec F S128x512 .bf16
  b2 : Vec F S128x512 .bf16
  b3 : Vec F S128x512 .bf16
  b4 : Vec F S128x512 .bf16
  b5 : Vec F S128x1024 .bf16
  b6 : Vec F S1x512x384 .f32
  b7 : Vec F S1x512x384 .f32
  s0 : Elt F .f32
  s1 : Elt F .f32
  s2 : Elt F .f32
  s3 : Elt F .f32
  s4 : Elt F .f32
  s5 : Elt F .f32
  s6 : Elt F .f32
  s7 : Elt F .f32

namespace Ins
variable (I : Ins F)

def mask : IVec S1x384 1 := k0_pay12 (BitVec.ofNat 32 (I.i 0).val)
def q0 : FVec F S512x128 .bf16 := k0_pay13 I.b0 I.b1
def o0 : FVec F S512x128 .bf16 := k0_pay14 I.b5
def k0 : FVec F S384x128 .bf16 := k0_pay15 I.b2 I.b3 I.b4
def v0 : FVec F S384x128 .bf16 := k0_pay16 I.b2 I.b3 I.b4
def bias0 : FVec F S512x384 .f32 := k0_pay17 I.b6
def snk0 : FVec F S512x1 .f32 :=
  k0_pay20 (iota .tc S512x1 32 [0] iota_S512x1_d0_w32) 128#32 k0_pay18 k0_pay19 0#32 I.s0 I.s1 I.s2 I.s3
def c0 : F .f32 := Scalar.ofBits .f32 0x3DB504F3#32
def sc0 : FVec F S512x384 .f32 := k0_pay21 I.q0 I.k0
def p0 : FVec F S512x384 .f32 := k0_pay27 I.mask I.bias0 I.snk0 I.sc0 c0
def ds0 : FVec F S512x384 .f32 := k0_pay30 I.mask I.o0 I.v0 I.bias0 I.snk0 I.sc0 c0
def dk0 : FVec F S384x128 .f32 := k0_pay40 I.q0 I.ds0
def dv0 : FVec F S384x128 .f32 := k0_pay41 I.o0 I.p0
def q1 : FVec F S512x128 .bf16 := k0_pay51 (k0_pay10 I.b0 I.b1)
def o1 : FVec F S512x128 .bf16 := k0_pay52 I.b5
def k1 : FVec F S384x128 .bf16 := k0_pay53 (k0_pay11 I.b2 I.b3 I.b4)
def v1 : FVec F S384x128 .bf16 := k0_pay54 (k0_pay11 I.b2 I.b3 I.b4)
def bias1 : FVec F S512x384 .f32 := k0_pay55 I.b7
def p1 : FVec F S512x384 .f32 := k0_pay64 I.mask I.q1 I.k1 I.bias1 k0_pay56 k0_pay57 0#32 I.s4 I.s5 I.s6 I.s7
def e1 : FVec F S512x1 .f32 := k0_pay62 I.mask I.q1 I.k1 I.bias1 k0_pay56 k0_pay57 0#32 I.s4 I.s5 I.s6 I.s7
def z1 : FVec F S512x1 .f32 := k0_pay63 I.mask I.q1 I.k1 I.bias1 k0_pay56 k0_pay57 0#32 I.s4 I.s5 I.s6 I.s7
def dk1 : FVec F S384x128 .f32 := k0_pay76 I.q1 (k0_pay70 I.o1 I.v1 I.p1)
def dv1 : FVec F S384x128 .f32 := k0_pay77 I.o1 I.p1

/-- The query gradient's eight pieces. -/
def L9 : List (View.Piece (Elt F) S128x1024 .bf16) :=
  [⟨Rect.unit (s := S128x1024) ![0, 896] S128x128.size inb_S128x1024_S128x128_0_896, k0_pay75 (k0_pay71 I.o1 I.k1 I.v1 I.p1)⟩,
   ⟨Rect.unit (s := S128x1024) ![0, 768] S128x128.size inb_S128x1024_S128x128_0_768, k0_pay74 I.o1 I.k1 I.v1 I.p1⟩,
   ⟨Rect.unit (s := S128x1024) ![0, 640] S128x128.size inb_S128x1024_S128x128_0_640, k0_pay73 I.o1 I.k1 I.v1 I.p1⟩,
   ⟨Rect.unit (s := S128x1024) ![0, 512] S128x128.size inb_S128x1024_S128x128_0_512, k0_pay72 I.o1 I.k1 I.v1 I.p1⟩,
   ⟨Rect.unit (s := S128x1024) ![0, 384] S128x128.size inb_S128x1024_S128x128_0_384, k0_pay39 I.k0 I.ds0⟩,
   ⟨Rect.unit (s := S128x1024) ![0, 256] S128x128.size inb_S128x1024_S128x128_0_256, k0_pay38 I.k0 I.ds0⟩,
   ⟨Rect.unit (s := S128x1024) ![0, 128] S128x128.size inb_S128x1024_S128x128_0_128, k0_pay37 I.k0 I.ds0⟩,
   ⟨Rect.unit (s := S128x1024) ![0, 0] S128x128.size inb_S128x1024_S128x128_0_0, k0_pay36 I.k0 I.ds0⟩]

/-- The bias gradient's two pieces, each added to what was read. -/
def L11a (x0 : Vec F S1x512x384 .f32) : List (View.Piece (Elt F) S2x512x384 .f32) :=
  [⟨Rect.unit (s := S2x512x384) ![0, 0, 0] S1x512x384.size inb_S2x512x384_S1x512x384_0_0_0, k0_pay31 I.mask I.o0 I.v0 I.bias0 I.snk0 I.sc0 c0 x0⟩]

/-- The bias gradient's two pieces. -/
def L11 (x0 x1 : Vec F S1x512x384 .f32) : List (View.Piece (Elt F) S2x512x384 .f32) :=
  [⟨Rect.unit (s := S2x512x384) ![1, 0, 0] S1x512x384.size inb_S2x512x384_S1x512x384_1_0_0, k0_pay68 I.o1 I.v1 I.p1 x1⟩,
   ⟨Rect.unit (s := S2x512x384) ![0, 0, 0] S1x512x384.size inb_S2x512x384_S1x512x384_0_0_0, k0_pay31 I.mask I.o0 I.v0 I.bias0 I.snk0 I.sc0 c0 x0⟩]

/-- The sink column's two pieces, each added to what was read. -/
def L14a (x0 : Vec F S1x512x1 .f32) : List (View.Piece (Elt F) S2x512x1 .f32) :=
  [⟨Rect.unit (s := S2x512x1) ![0, 0, 0] S1x512x1.size inb_S2x512x1_S1x512x1_0_0_0, k0_pay33 (k0_pay32 I.mask I.o0 I.v0 I.bias0 I.snk0 I.sc0 c0 x0)⟩]

/-- The sink column's two pieces. -/
def L14 (x0 x1 : Vec F S1x512x1 .f32) : List (View.Piece (Elt F) S2x512x1 .f32) :=
  [⟨Rect.unit (s := S2x512x1) ![1, 0, 0] S1x512x1.size inb_S2x512x1_S1x512x1_1_0_0, k0_pay69 I.o1 I.v1 I.e1 I.z1 I.p1 x1⟩,
   ⟨Rect.unit (s := S2x512x1) ![0, 0, 0] S1x512x1.size inb_S2x512x1_S1x512x1_0_0_0, k0_pay33 (k0_pay32 I.mask I.o0 I.v0 I.bias0 I.snk0 I.sc0 c0 x0)⟩]

end Ins

/-- The blocks read through the body's memrefs. -/
def insOf (c : Dev nD) (i : grid0.Coords)
    (M1 : Memref sig .tc .vmem S128x512 .bf16) (M2 : Memref sig .tc .vmem S128x512 .bf16)
    (M3 : Memref sig .tc .vmem S128x512 .bf16) (M4 : Memref sig .tc .vmem S128x512 .bf16)
    (M5 : Memref sig .tc .vmem S128x512 .bf16) (M6 : Memref sig .tc .vmem S128x1024 .bf16)
    (M7 : Memref sig .tc .vmem S2x512x384 .f32) (M8 : Memref sig .tc .smem S1x8 .f32)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) : Ins F where
  i := i
  b0 := M1.view.readAt (Elt F) (Rect.unit (s := S128x512) ![0, 0] S128x512.size inb_S128x512_S128x512_0_0).toLoadRect f1
  b1 := M2.view.readAt (Elt F) (Rect.unit (s := S128x512) ![0, 0] S128x512.size inb_S128x512_S128x512_0_0).toLoadRect f2
  b2 := M3.view.readAt (Elt F) (Rect.unit (s := S128x512) ![0, 0] S128x512.size inb_S128x512_S128x512_0_0).toLoadRect f3
  b3 := M4.view.readAt (Elt F) (Rect.unit (s := S128x512) ![0, 0] S128x512.size inb_S128x512_S128x512_0_0).toLoadRect f4
  b4 := M5.view.readAt (Elt F) (Rect.unit (s := S128x512) ![0, 0] S128x512.size inb_S128x512_S128x512_0_0).toLoadRect f5
  b5 := M6.view.readAt (Elt F) (Rect.unit (s := S128x1024) ![0, 0] S128x1024.size inb_S128x1024_S128x1024_0_0).toLoadRect f6
  b6 := M7.view.readAt (Elt F) (Rect.unit (s := S2x512x384) ![0, 0, 0] S1x512x384.size inb_S2x512x384_S1x512x384_0_0_0).toLoadRect f7
  b7 := M7.view.readAt (Elt F) (Rect.unit (s := S2x512x384) ![1, 0, 0] S1x512x384.size inb_S2x512x384_S1x512x384_1_0_0).toLoadRect f7
  s0 := M8.view.readAt (Elt F) (Rect.unit (s := S1x8) ![0, 0] S1x1.size inb_S1x8_S1x1_0_0).toLoadRect f8 (Shape.Idx.first (by decide))
  s1 := M8.view.readAt (Elt F) (Rect.unit (s := S1x8) ![0, 1] S1x1.size inb_S1x8_S1x1_0_1).toLoadRect f8 (Shape.Idx.first (by decide))
  s2 := M8.view.readAt (Elt F) (Rect.unit (s := S1x8) ![0, 2] S1x1.size inb_S1x8_S1x1_0_2).toLoadRect f8 (Shape.Idx.first (by decide))
  s3 := M8.view.readAt (Elt F) (Rect.unit (s := S1x8) ![0, 3] S1x1.size inb_S1x8_S1x1_0_3).toLoadRect f8 (Shape.Idx.first (by decide))
  s4 := M8.view.readAt (Elt F) (Rect.unit (s := S1x8) ![0, 4] S1x1.size inb_S1x8_S1x1_0_4).toLoadRect f8 (Shape.Idx.first (by decide))
  s5 := M8.view.readAt (Elt F) (Rect.unit (s := S1x8) ![0, 5] S1x1.size inb_S1x8_S1x1_0_5).toLoadRect f8 (Shape.Idx.first (by decide))
  s6 := M8.view.readAt (Elt F) (Rect.unit (s := S1x8) ![0, 6] S1x1.size inb_S1x8_S1x1_0_6).toLoadRect f8 (Shape.Idx.first (by decide))
  s7 := M8.view.readAt (Elt F) (Rect.unit (s := S1x8) ![0, 7] S1x1.size inb_S1x8_S1x1_0_7).toLoadRect f8 (Shape.Idx.first (by decide))

/-- A 128-row part of a block's gradient. -/
def part (j : Fin 3) (D : FVec F S384x128 .f32) : FVec F S128x128 .f32 :=
  match j with
  | 0 => extractStridedSlice S128x128 ![0, 0] D slices_S384x128_o0_0_S128x128
  | 1 => extractStridedSlice S128x128 ![128, 0] D slices_S384x128_o128_0_S128x128
  | 2 => extractStridedSlice S128x128 ![256, 0] D slices_S384x128_o256_0_S128x128

/-- One more write on the list `L`: a 128 × 128 part of the scratch at `off`, with `D` added to what it holds. -/
def accW (v : View sig .tc .vmem S3x128x512 .f32) (f : v.ty.Contents (Elt F)) (off : Fin 3 → ℕ)
    (inb : ∀ a, off a + S1x128x128.size a ≤ S3x128x512.size a) (D : FVec F S128x128 .f32)
    (L : List (View.Piece (Elt F) S3x128x512 .f32)) : List (View.Piece (Elt F) S3x128x512 .f32) :=
  ⟨Rect.unit off S1x128x128.size inb,
    shapeCast S1x128x128 (addf (shapeCast S128x128 (v.readAt (Elt F) (Rect.unit (s := S3x128x512) off S1x128x128.size inb).toLoadRect (v.writes (Elt F) f L)) shapeCasts_S1x128x128_S128x128) D)
      shapeCasts_S128x128_S1x128x128⟩ :: L

theorem inb1 : ∀ (i : grid0.Coords) (a : Fin 3), k0_off1 i a + S1x128x512.size a ≤ S3x128x512.size a := by decide +kernel
theorem inb2 : ∀ (i : grid0.Coords) (r : Fin 3) (a : Fin 3), k0_off2 i (BitVec.ofNat 32 r.val) a + S1x128x128.size a ≤ S3x128x512.size a := by decide +kernel
theorem inb3 : ∀ (i : grid0.Coords) (r : Fin 3) (a : Fin 3), k0_off3 i (BitVec.ofNat 32 r.val) a + S1x128x128.size a ≤ S3x128x512.size a := by decide +kernel
theorem inb4 : ∀ (i : grid0.Coords) (r : Fin 3) (a : Fin 3), k0_off4 i (BitVec.ofNat 32 r.val) a + S1x128x128.size a ≤ S3x128x512.size a := by decide +kernel
theorem inb5 : ∀ (i : grid0.Coords) (r : Fin 3) (a : Fin 3), k0_off5 i (BitVec.ofNat 32 r.val) a + S1x128x128.size a ≤ S3x128x512.size a := by decide +kernel
theorem inb6 : ∀ (i : grid0.Coords) (a : Fin 3), k0_off6 i a + S1x128x512.size a ≤ S3x128x512.size a := by decide +kernel

/-- The scratch's twelve additions at a point, after the writes `L`. -/
def Ins.L13 (I : Ins F) (v : View sig .tc .vmem S3x128x512 .f32) (f : v.ty.Contents (Elt F)) (L : List (View.Piece (Elt F) S3x128x512 .f32)) :
    List (View.Piece (Elt F) S3x128x512 .f32) :=
  accW v f (k0_off5 I.i 2#32) (inb5 I.i 2) (part 2 I.dv1) <| accW v f (k0_off4 I.i 2#32) (inb4 I.i 2) (part 2 I.dk1) <|
  accW v f (k0_off5 I.i 1#32) (inb5 I.i 1) (part 1 I.dv1) <| accW v f (k0_off4 I.i 1#32) (inb4 I.i 1) (part 1 I.dk1) <|
  accW v f (k0_off5 I.i 0#32) (inb5 I.i 0) (part 0 I.dv1) <| accW v f (k0_off4 I.i 0#32) (inb4 I.i 0) (part 0 I.dk1) <|
  accW v f (k0_off3 I.i 2#32) (inb3 I.i 2) (part 2 I.dv0) <| accW v f (k0_off2 I.i 2#32) (inb2 I.i 2) (part 2 I.dk0) <|
  accW v f (k0_off3 I.i 1#32) (inb3 I.i 1) (part 1 I.dv0) <| accW v f (k0_off2 I.i 1#32) (inb2 I.i 1) (part 1 I.dk0) <|
  accW v f (k0_off3 I.i 0#32) (inb3 I.i 0) (part 0 I.dv0) <| accW v f (k0_off2 I.i 0#32) (inb2 I.i 0) (part 0 I.dk0) L

section
variable (c : Dev nD) (i : grid0.Coords)
    (M1 : Memref sig .tc .vmem S128x512 .bf16) (h1 : M1.IsWhole) (M2 : Memref sig .tc .vmem S128x512 .bf16) (h2 : M2.IsWhole)
    (M3 : Memref sig .tc .vmem S128x512 .bf16) (h3 : M3.IsWhole) (M4 : Memref sig .tc .vmem S128x512 .bf16) (h4 : M4.IsWhole)
    (M5 : Memref sig .tc .vmem S128x512 .bf16) (h5 : M5.IsWhole) (M6 : Memref sig .tc .vmem S128x1024 .bf16) (h6 : M6.IsWhole)
    (M7 : Memref sig .tc .vmem S2x512x384 .f32) (h7 : M7.IsWhole) (M8 : Memref sig .tc .smem S1x8 .f32) (h8 : M8.IsWhole)
    (M9 : Memref sig .tc .vmem S128x1024 .bf16) (h9 : M9.IsWhole) (M10 : Memref sig .tc .vmem S128x512 .bf16) (h10 : M10.IsWhole)
    (M11 : Memref sig .tc .vmem S2x512x384 .f32) (h11 : M11.IsWhole) (M12 : Memref sig .tc .vmem S1x128 .f32) (h12 : M12.IsWhole)
    (M13 : Memref sig .tc .vmem S3x128x512 .f32) (h13 : M13.IsWhole) (M14 : Memref sig .tc .vmem S2x512x1 .f32) (h14 : M14.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f11 : Bf (F := F) c M11) (f13 : Bf (F := F) c M13) (f14 : Bf (F := F) c M14)

local notation "𝐈" => insOf c i M1 M2 M3 M4 M5 M6 M7 M8 f1 f2 f3 f4 f5 f6 f7 f8

theorem mid_mask : Ins.mask 𝐈 = runMid.sl.v47 i := (rfl)
theorem mid_q0 : Ins.q0 𝐈 = runMid.sl.v52 c M1 M2 f1 f2 := (rfl)
theorem mid_o0 : Ins.o0 𝐈 = runMid.sl.v57 c M6 f6 := (rfl)
theorem mid_k0 : Ins.k0 𝐈 = runMid.sl.v58 c M3 M4 M5 f3 f4 f5 := (rfl)
theorem mid_v0 : Ins.v0 𝐈 = runMid.sl.v59 c M3 M4 M5 f3 f4 f5 := (rfl)
theorem mid_bias0 : Ins.bias0 𝐈 = runMid.sl.v61 c M7 f7 := (rfl)
theorem mid_snk0 : Ins.snk0 𝐈 = runMid.sl.v107 c M8 f8 := (rfl)
theorem mid_sc0 : Ins.sc0 𝐈 = runMid.sl.v108 c M1 M2 M3 M4 M5 f1 f2 f3 f4 f5 := by
  simp only [Ins.sc0, mid_q0 c i M1 M2 M3 M4 M5 M6 M7 M8 f1 f2 f3 f4 f5 f6 f7 f8, mid_k0 c i M1 M2 M3 M4 M5 M6 M7 M8 f1 f2 f3 f4 f5 f6 f7 f8]
  rfl
theorem mid_p0 : Ins.p0 𝐈 = runMid.sl.r_5 c i M1 M2 M3 M4 M5 M7 M8 f1 f2 f3 f4 f5 f7 f8 := by
  simp only [Ins.p0, mid_mask c i M1 M2 M3 M4 M5 M6 M7 M8 f1 f2 f3 f4 f5 f6 f7 f8, mid_bias0 c i M1 M2 M3 M4 M5 M6 M7 M8 f1 f2 f3 f4 f5 f6 f7 f8, mid_snk0 c i M1 M2 M3 M4 M5 M6 M7 M8 f1 f2 f3 f4 f5 f6 f7 f8, mid_sc0 c i M1 M2 M3 M4 M5 M6 M7 M8 f1 f2 f3 f4 f5 f6 f7 f8]
  rfl
theorem mid_ds0 : Ins.ds0 𝐈 = runMid.sl.r_6 c i M1 M2 M3 M4 M5 M6 M7 M8 f1 f2 f3 f4 f5 f6 f7 f8 := by
  simp only [Ins.ds0, mid_mask c i M1 M2 M3 M4 M5 M6 M7 M8 f1 f2 f3 f4 f5 f6 f7 f8, mid_o0 c i M1 M2 M3 M4 M5 M6 M7 M8 f1 f2 f3 f4 f5 f6 f7 f8, mid_v0 c i M1 M2 M3 M4 M5 M6 M7 M8 f1 f2 f3 f4 f5 f6 f7 f8, mid_bias0 c i M1 M2 M3 M4 M5 M6 M7 M8 f1 f2 f3 f4 f5 f6 f7 f8, mid_snk0 c i M1 M2 M3 M4 M5 M6 M7 M8 f1 f2 f3 f4 f5 f6 f7 f8, mid_sc0 c i M1 M2 M3 M4 M5 M6 M7 M8 f1 f2 f3 f4 f5 f6 f7 f8]
  rfl
theorem mid_dk0 : Ins.dk0 𝐈 = runMid.sl.v172 c i M1 M2 M3 M4 M5 M6 M7 M8 f1 f2 f3 f4 f5 f6 f7 f8 := by
  simp only [Ins.dk0, mid_q0 c i M1 M2 M3 M4 M5 M6 M7 M8 f1 f2 f3 f4 f5 f6 f7 f8, mid_ds0 c i M1 M2 M3 M4 M5 M6 M7 M8 f1 f2 f3 f4 f5 f6 f7 f8]
  rfl
theorem mid_dv0 : Ins.dv0 𝐈 = runMid.sl.v174 c i M1 M2 M3 M4 M5 M6 M7 M8 f1 f2 f3 f4 f5 f6 f7 f8 := by
  simp only [Ins.dv0, mid_o0 c i M1 M2 M3 M4 M5 M6 M7 M8 f1 f2 f3 f4 f5 f6 f7 f8, mid_p0 c i M1 M2 M3 M4 M5 M6 M7 M8 f1 f2 f3 f4 f5 f6 f7 f8]
  rfl
theorem mid_q1 : Ins.q1 𝐈 = runMid.sl.v269 c M1 M2 f1 f2 := (rfl)
theorem mid_o1 : Ins.o1 𝐈 = runMid.sl.v274 c M6 f6 := (rfl)
theorem mid_k1 : Ins.k1 𝐈 = runMid.sl.v275 c M3 M4 M5 f3 f4 f5 := (rfl)
theorem mid_v1 : Ins.v1 𝐈 = runMid.sl.v276 c M3 M4 M5 f3 f4 f5 := (rfl)
theorem mid_bias1 : Ins.bias1 𝐈 = runMid.sl.v278 c M7 f7 := (rfl)
theorem mid_e1 : Ins.e1 𝐈 = runMid.sl.r_12 c i M1 M2 M3 M4 M5 M7 M8 f1 f2 f3 f4 f5 f7 f8 := by
  simp only [Ins.e1, mid_mask c i M1 M2 M3 M4 M5 M6 M7 M8 f1 f2 f3 f4 f5 f6 f7 f8, mid_q1 c i M1 M2 M3 M4 M5 M6 M7 M8 f1 f2 f3 f4 f5 f6 f7 f8, mid_k1 c i M1 M2 M3 M4 M5 M6 M7 M8 f1 f2 f3 f4 f5 f6 f7 f8, mid_bias1 c i M1 M2 M3 M4 M5 M6 M7 M8 f1 f2 f3 f4 f5 f6 f7 f8]
  rfl
theorem mid_z1 : Ins.z1 𝐈 = runMid.sl.r_13 c i M1 M2 M3 M4 M5 M7 M8 f1 f2 f3 f4 f5 f7 f8 := by
  simp only [Ins.z1, mid_mask c i M1 M2 M3 M4 M5 M6 M7 M8 f1 f2 f3 f4 f5 f6 f7 f8, mid_q1 c i M1 M2 M3 M4 M5 M6 M7 M8 f1 f2 f3 f4 f5 f6 f7 f8, mid_k1 c i M1 M2 M3 M4 M5 M6 M7 M8 f1 f2 f3 f4 f5 f6 f7 f8, mid_bias1 c i M1 M2 M3 M4 M5 M6 M7 M8 f1 f2 f3 f4 f5 f6 f7 f8]
  rfl
theorem mid_p1 : Ins.p1 𝐈 = runMid.sl.r_14 c i M1 M2 M3 M4 M5 M7 M8 f1 f2 f3 f4 f5 f7 f8 := by
  simp only [Ins.p1, mid_mask c i M1 M2 M3 M4 M5 M6 M7 M8 f1 f2 f3 f4 f5 f6 f7 f8, mid_q1 c i M1 M2 M3 M4 M5 M6 M7 M8 f1 f2 f3 f4 f5 f6 f7 f8, mid_k1 c i M1 M2 M3 M4 M5 M6 M7 M8 f1 f2 f3 f4 f5 f6 f7 f8, mid_bias1 c i M1 M2 M3 M4 M5 M6 M7 M8 f1 f2 f3 f4 f5 f6 f7 f8]
  rfl
theorem mid_dk1 : Ins.dk1 𝐈 = runMid.sl.v389 c i M1 M2 M3 M4 M5 M6 M7 M8 f1 f2 f3 f4 f5 f6 f7 f8 := by
  simp only [Ins.dk1, mid_q1 c i M1 M2 M3 M4 M5 M6 M7 M8 f1 f2 f3 f4 f5 f6 f7 f8, mid_o1 c i M1 M2 M3 M4 M5 M6 M7 M8 f1 f2 f3 f4 f5 f6 f7 f8, mid_v1 c i M1 M2 M3 M4 M5 M6 M7 M8 f1 f2 f3 f4 f5 f6 f7 f8, mid_p1 c i M1 M2 M3 M4 M5 M6 M7 M8 f1 f2 f3 f4 f5 f6 f7 f8]
  rfl
theorem mid_dv1 : Ins.dv1 𝐈 = runMid.sl.v391 c i M1 M2 M3 M4 M5 M6 M7 M8 f1 f2 f3 f4 f5 f6 f7 f8 := by
  simp only [Ins.dv1, mid_o1 c i M1 M2 M3 M4 M5 M6 M7 M8 f1 f2 f3 f4 f5 f6 f7 f8, mid_p1 c i M1 M2 M3 M4 M5 M6 M7 M8 f1 f2 f3 f4 f5 f6 f7 f8]
  rfl

set_option maxHeartbeats 4000000 in
/-- The query gradient's block, piece by piece. -/
theorem mid_9 (hc1 : ¬ k0_cond1 i = 1#1) (hc2 : k0_cond2 i = 1#1) (hc3 : k0_cond3 i = 1#1) (hc4 : ¬ k0_cond4 i = 1#1) : (runMid c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 f11 f13 f14).1.1 = M9.view.writes (Elt F) M9.view.junk (Ins.L9 𝐈) := by
  have e : (runMid c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 f11 f13 f14).1.1 = M9.view.writes (Elt F) M9.view.junk (runMid.sl.H9_8 c i M1 M2 M3 M4 M5 M6 M7 M8 f1 f2 f3 f4 f5 f6 f7 f8) := (rfl)
  rw [e]
  refine congrArg (fun L => M9.view.writes (Elt F) _ L) ?_
  simp only [Ins.L9, mid_mask c i M1 M2 M3 M4 M5 M6 M7 M8 f1 f2 f3 f4 f5 f6 f7 f8, mid_q0 c i M1 M2 M3 M4 M5 M6 M7 M8 f1 f2 f3 f4 f5 f6 f7 f8, mid_o0 c i M1 M2 M3 M4 M5 M6 M7 M8 f1 f2 f3 f4 f5 f6 f7 f8, mid_k0 c i M1 M2 M3 M4 M5 M6 M7 M8 f1 f2 f3 f4 f5 f6 f7 f8, mid_v0 c i M1 M2 M3 M4 M5 M6 M7 M8 f1 f2 f3 f4 f5 f6 f7 f8, mid_bias0 c i M1 M2 M3 M4 M5 M6 M7 M8 f1 f2 f3 f4 f5 f6 f7 f8, mid_snk0 c i M1 M2 M3 M4 M5 M6 M7 M8 f1 f2 f3 f4 f5 f6 f7 f8, mid_sc0 c i M1 M2 M3 M4 M5 M6 M7 M8 f1 f2 f3 f4 f5 f6 f7 f8, mid_p0 c i M1 M2 M3 M4 M5 M6 M7 M8 f1 f2 f3 f4 f5 f6 f7 f8, mid_ds0 c i M1 M2 M3 M4 M5 M6 M7 M8 f1 f2 f3 f4 f5 f6 f7 f8, mid_dk0 c i M1 M2 M3 M4 M5 M6 M7 M8 f1 f2 f3 f4 f5 f6 f7 f8, mid_dv0 c i M1 M2 M3 M4 M5 M6 M7 M8 f1 f2 f3 f4 f5 f6 f7 f8, mid_q1 c i M1 M2 M3 M4 M5 M6 M7 M8 f1 f2 f3 f4 f5 f6 f7 f8, mid_o1 c i M1 M2 M3 M4 M5 M6 M7 M8 f1 f2 f3 f4 f5 f6 f7 f8, mid_k1 c i M1 M2 M3 M4 M5 M6 M7 M8 f1 f2 f3 f4 f5 f6 f7 f8, mid_v1 c i M1 M2 M3 M4 M5 M6 M7 M8 f1 f2 f3 f4 f5 f6 f7 f8, mid_bias1 c i M1 M2 M3 M4 M5 M6 M7 M8 f1 f2 f3 f4 f5 f6 f7 f8, mid_e1 c i M1 M2 M3 M4 M5 M6 M7 M8 f1 f2 f3 f4 f5 f6 f7 f8, mid_z1 c i M1 M2 M3 M4 M5 M6 M7 M8 f1 f2 f3 f4 f5 f6 f7 f8, mid_p1 c i M1 M2 M3 M4 M5 M6 M7 M8 f1 f2 f3 f4 f5 f6 f7 f8, mid_dk1 c i M1 M2 M3 M4 M5 M6 M7 M8 f1 f2 f3 f4 f5 f6 f7 f8, mid_dv1 c i M1 M2 M3 M4 M5 M6 M7 M8 f1 f2 f3 f4 f5 f6 f7 f8]
  rfl

set_option maxHeartbeats 4000000 in
theorem mid_11 (hc1 : ¬ k0_cond1 i = 1#1) (hc2 : k0_cond2 i = 1#1) (hc3 : k0_cond3 i = 1#1) (hc4 : ¬ k0_cond4 i = 1#1) : (runMid c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 f11 f13 f14).1.2.2.1 = M11.view.writes (Elt F) M11.view.junk (Ins.L11 𝐈
      (M11.view.readAt (Elt F) (Rect.unit (s := S2x512x384) ![0, 0, 0] S1x512x384.size inb_S2x512x384_S1x512x384_0_0_0).toLoadRect f11)
      (M11.view.readAt (Elt F) (Rect.unit (s := S2x512x384) ![1, 0, 0] S1x512x384.size inb_S2x512x384_S1x512x384_1_0_0).toLoadRect f11)) := by
  have e : (runMid c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 f11 f13 f14).1.2.2.1 = M11.view.writes (Elt F) M11.view.junk (runMid.sl.H11_2 c i M1 M2 M3 M4 M5 M6 M7 M8 M11 f1 f2 f3 f4 f5 f6 f7 f8 f11) := (rfl)
  rw [e]
  refine congrArg (fun L => M11.view.writes (Elt F) _ L) ?_
  simp only [Ins.L11, Ins.L11a, List.cons_append, List.nil_append, mid_mask c i M1 M2 M3 M4 M5 M6 M7 M8 f1 f2 f3 f4 f5 f6 f7 f8, mid_q0 c i M1 M2 M3 M4 M5 M6 M7 M8 f1 f2 f3 f4 f5 f6 f7 f8, mid_o0 c i M1 M2 M3 M4 M5 M6 M7 M8 f1 f2 f3 f4 f5 f6 f7 f8, mid_k0 c i M1 M2 M3 M4 M5 M6 M7 M8 f1 f2 f3 f4 f5 f6 f7 f8, mid_v0 c i M1 M2 M3 M4 M5 M6 M7 M8 f1 f2 f3 f4 f5 f6 f7 f8, mid_bias0 c i M1 M2 M3 M4 M5 M6 M7 M8 f1 f2 f3 f4 f5 f6 f7 f8, mid_snk0 c i M1 M2 M3 M4 M5 M6 M7 M8 f1 f2 f3 f4 f5 f6 f7 f8, mid_sc0 c i M1 M2 M3 M4 M5 M6 M7 M8 f1 f2 f3 f4 f5 f6 f7 f8, mid_p0 c i M1 M2 M3 M4 M5 M6 M7 M8 f1 f2 f3 f4 f5 f6 f7 f8, mid_ds0 c i M1 M2 M3 M4 M5 M6 M7 M8 f1 f2 f3 f4 f5 f6 f7 f8, mid_dk0 c i M1 M2 M3 M4 M5 M6 M7 M8 f1 f2 f3 f4 f5 f6 f7 f8, mid_dv0 c i M1 M2 M3 M4 M5 M6 M7 M8 f1 f2 f3 f4 f5 f6 f7 f8, mid_q1 c i M1 M2 M3 M4 M5 M6 M7 M8 f1 f2 f3 f4 f5 f6 f7 f8, mid_o1 c i M1 M2 M3 M4 M5 M6 M7 M8 f1 f2 f3 f4 f5 f6 f7 f8, mid_k1 c i M1 M2 M3 M4 M5 M6 M7 M8 f1 f2 f3 f4 f5 f6 f7 f8, mid_v1 c i M1 M2 M3 M4 M5 M6 M7 M8 f1 f2 f3 f4 f5 f6 f7 f8, mid_bias1 c i M1 M2 M3 M4 M5 M6 M7 M8 f1 f2 f3 f4 f5 f6 f7 f8, mid_e1 c i M1 M2 M3 M4 M5 M6 M7 M8 f1 f2 f3 f4 f5 f6 f7 f8, mid_z1 c i M1 M2 M3 M4 M5 M6 M7 M8 f1 f2 f3 f4 f5 f6 f7 f8, mid_p1 c i M1 M2 M3 M4 M5 M6 M7 M8 f1 f2 f3 f4 f5 f6 f7 f8, mid_dk1 c i M1 M2 M3 M4 M5 M6 M7 M8 f1 f2 f3 f4 f5 f6 f7 f8, mid_dv1 c i M1 M2 M3 M4 M5 M6 M7 M8 f1 f2 f3 f4 f5 f6 f7 f8]
  rfl

set_option maxHeartbeats 4000000 in
theorem mid_14 (hc1 : ¬ k0_cond1 i = 1#1) (hc2 : k0_cond2 i = 1#1) (hc3 : k0_cond3 i = 1#1) (hc4 : ¬ k0_cond4 i = 1#1) : (runMid c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 f11 f13 f14).1.2.2.2.2 = M14.view.writes (Elt F) M14.view.junk (Ins.L14 𝐈
      (M14.view.readAt (Elt F) (Rect.unit (s := S2x512x1) ![0, 0, 0] S1x512x1.size inb_S2x512x1_S1x512x1_0_0_0).toLoadRect f14)
      (M14.view.readAt (Elt F) (Rect.unit (s := S2x512x1) ![1, 0, 0] S1x512x1.size inb_S2x512x1_S1x512x1_1_0_0).toLoadRect f14)) := by
  have e : (runMid c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 f11 f13 f14).1.2.2.2.2 = M14.view.writes (Elt F) M14.view.junk (runMid.sl.H14_2 c i M1 M2 M3 M4 M5 M6 M7 M8 M14 f1 f2 f3 f4 f5 f6 f7 f8 f14) := (rfl)
  rw [e]
  refine congrArg (fun L => M14.view.writes (Elt F) _ L) ?_
  simp only [Ins.L14, Ins.L14a, List.cons_append, List.nil_append, mid_mask c i M1 M2 M3 M4 M5 M6 M7 M8 f1 f2 f3 f4 f5 f6 f7 f8, mid_q0 c i M1 M2 M3 M4 M5 M6 M7 M8 f1 f2 f3 f4 f5 f6 f7 f8, mid_o0 c i M1 M2 M3 M4 M5 M6 M7 M8 f1 f2 f3 f4 f5 f6 f7 f8, mid_k0 c i M1 M2 M3 M4 M5 M6 M7 M8 f1 f2 f3 f4 f5 f6 f7 f8, mid_v0 c i M1 M2 M3 M4 M5 M6 M7 M8 f1 f2 f3 f4 f5 f6 f7 f8, mid_bias0 c i M1 M2 M3 M4 M5 M6 M7 M8 f1 f2 f3 f4 f5 f6 f7 f8, mid_snk0 c i M1 M2 M3 M4 M5 M6 M7 M8 f1 f2 f3 f4 f5 f6 f7 f8, mid_sc0 c i M1 M2 M3 M4 M5 M6 M7 M8 f1 f2 f3 f4 f5 f6 f7 f8, mid_p0 c i M1 M2 M3 M4 M5 M6 M7 M8 f1 f2 f3 f4 f5 f6 f7 f8, mid_ds0 c i M1 M2 M3 M4 M5 M6 M7 M8 f1 f2 f3 f4 f5 f6 f7 f8, mid_dk0 c i M1 M2 M3 M4 M5 M6 M7 M8 f1 f2 f3 f4 f5 f6 f7 f8, mid_dv0 c i M1 M2 M3 M4 M5 M6 M7 M8 f1 f2 f3 f4 f5 f6 f7 f8, mid_q1 c i M1 M2 M3 M4 M5 M6 M7 M8 f1 f2 f3 f4 f5 f6 f7 f8, mid_o1 c i M1 M2 M3 M4 M5 M6 M7 M8 f1 f2 f3 f4 f5 f6 f7 f8, mid_k1 c i M1 M2 M3 M4 M5 M6 M7 M8 f1 f2 f3 f4 f5 f6 f7 f8, mid_v1 c i M1 M2 M3 M4 M5 M6 M7 M8 f1 f2 f3 f4 f5 f6 f7 f8, mid_bias1 c i M1 M2 M3 M4 M5 M6 M7 M8 f1 f2 f3 f4 f5 f6 f7 f8, mid_e1 c i M1 M2 M3 M4 M5 M6 M7 M8 f1 f2 f3 f4 f5 f6 f7 f8, mid_z1 c i M1 M2 M3 M4 M5 M6 M7 M8 f1 f2 f3 f4 f5 f6 f7 f8, mid_p1 c i M1 M2 M3 M4 M5 M6 M7 M8 f1 f2 f3 f4 f5 f6 f7 f8, mid_dk1 c i M1 M2 M3 M4 M5 M6 M7 M8 f1 f2 f3 f4 f5 f6 f7 f8, mid_dv1 c i M1 M2 M3 M4 M5 M6 M7 M8 f1 f2 f3 f4 f5 f6 f7 f8]
  rfl

theorem mid_13l (hc1 : ¬ k0_cond1 i = 1#1) (hc2 : k0_cond2 i = 1#1) (hc3 : k0_cond3 i = 1#1) (hc4 : ¬ k0_cond4 i = 1#1) : runMid.sl.H13_13 c i hc2 hc3 M1 M2 M3 M4 M5 M6 M7 M8 M13 f1 f2 f3 f4 f5 f6 f7 f8 f13 = Ins.L13 𝐈 M13.view f13 [⟨Rect.unit (k0_off1 i) S1x128x512.size (inb1 i), k0_pay5⟩] := by
  have ei : Ins.i 𝐈 = i := rfl
  simp only [Ins.L13, mid_mask c i M1 M2 M3 M4 M5 M6 M7 M8 f1 f2 f3 f4 f5 f6 f7 f8, mid_q0 c i M1 M2 M3 M4 M5 M6 M7 M8 f1 f2 f3 f4 f5 f6 f7 f8, mid_o0 c i M1 M2 M3 M4 M5 M6 M7 M8 f1 f2 f3 f4 f5 f6 f7 f8, mid_k0 c i M1 M2 M3 M4 M5 M6 M7 M8 f1 f2 f3 f4 f5 f6 f7 f8, mid_v0 c i M1 M2 M3 M4 M5 M6 M7 M8 f1 f2 f3 f4 f5 f6 f7 f8, mid_bias0 c i M1 M2 M3 M4 M5 M6 M7 M8 f1 f2 f3 f4 f5 f6 f7 f8, mid_snk0 c i M1 M2 M3 M4 M5 M6 M7 M8 f1 f2 f3 f4 f5 f6 f7 f8, mid_sc0 c i M1 M2 M3 M4 M5 M6 M7 M8 f1 f2 f3 f4 f5 f6 f7 f8, mid_p0 c i M1 M2 M3 M4 M5 M6 M7 M8 f1 f2 f3 f4 f5 f6 f7 f8, mid_ds0 c i M1 M2 M3 M4 M5 M6 M7 M8 f1 f2 f3 f4 f5 f6 f7 f8, mid_dk0 c i M1 M2 M3 M4 M5 M6 M7 M8 f1 f2 f3 f4 f5 f6 f7 f8, mid_dv0 c i M1 M2 M3 M4 M5 M6 M7 M8 f1 f2 f3 f4 f5 f6 f7 f8, mid_q1 c i M1 M2 M3 M4 M5 M6 M7 M8 f1 f2 f3 f4 f5 f6 f7 f8, mid_o1 c i M1 M2 M3 M4 M5 M6 M7 M8 f1 f2 f3 f4 f5 f6 f7 f8, mid_k1 c i M1 M2 M3 M4 M5 M6 M7 M8 f1 f2 f3 f4 f5 f6 f7 f8, mid_v1 c i M1 M2 M3 M4 M5 M6 M7 M8 f1 f2 f3 f4 f5 f6 f7 f8, mid_bias1 c i M1 M2 M3 M4 M5 M6 M7 M8 f1 f2 f3 f4 f5 f6 f7 f8, mid_e1 c i M1 M2 M3 M4 M5 M6 M7 M8 f1 f2 f3 f4 f5 f6 f7 f8, mid_z1 c i M1 M2 M3 M4 M5 M6 M7 M8 f1 f2 f3 f4 f5 f6 f7 f8, mid_p1 c i M1 M2 M3 M4 M5 M6 M7 M8 f1 f2 f3 f4 f5 f6 f7 f8, mid_dk1 c i M1 M2 M3 M4 M5 M6 M7 M8 f1 f2 f3 f4 f5 f6 f7 f8, mid_dv1 c i M1 M2 M3 M4 M5 M6 M7 M8 f1 f2 f3 f4 f5 f6 f7 f8]
  rfl

set_option maxHeartbeats 4000000 in
theorem mid_13 (hc1 : ¬ k0_cond1 i = 1#1) (hc2 : k0_cond2 i = 1#1) (hc3 : k0_cond3 i = 1#1) (hc4 : ¬ k0_cond4 i = 1#1) : (runMid c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 f11 f13 f14).1.2.2.2.1 = M13.view.writes (Elt F) f13 (Ins.L13 𝐈 M13.view f13 [⟨Rect.unit (k0_off1 i) S1x128x512.size (inb1 i), k0_pay5⟩]) := by
  rw [← mid_13l c i M1 M2 M3 M4 M5 M6 M7 M8 M13 f1 f2 f3 f4 f5 f6 f7 f8 f13 hc1 hc2 hc3 hc4]
  exact (rfl)

set_option maxHeartbeats 4000000 in
theorem mid_10 (hc1 : ¬ k0_cond1 i = 1#1) (hc2 : k0_cond2 i = 1#1) (hc3 : k0_cond3 i = 1#1) (hc4 : ¬ k0_cond4 i = 1#1) : (runMid c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 f11 f13 f14).1.2.1 = M10.view.writes (Elt F) M10.view.junk [⟨Rect.unit (s := S128x512) ![0, 0] S128x512.size inb_S128x512_S128x512_0_0,
      k0_pay8 (M13.view.readCov (Ins.L13 𝐈 M13.view f13 [⟨Rect.unit (k0_off1 i) S1x128x512.size (inb1 i), k0_pay5⟩]) (Rect.unit (s := S3x128x512) (k0_off6 i) S1x128x512.size (inb6 i)).toLoadRect)⟩] := by
  rw [← mid_13l c i M1 M2 M3 M4 M5 M6 M7 M8 M13 f1 f2 f3 f4 f5 f6 f7 f8 f13 hc1 hc2 hc3 hc4]
  exact (rfl)

theorem fst_mask : Ins.mask 𝐈 = runFirst.sl.v47 i := (rfl)
theorem fst_q0 : Ins.q0 𝐈 = runFirst.sl.v52 c M1 M2 f1 f2 := (rfl)
theorem fst_o0 : Ins.o0 𝐈 = runFirst.sl.v57 c M6 f6 := (rfl)
theorem fst_k0 : Ins.k0 𝐈 = runFirst.sl.v58 c M3 M4 M5 f3 f4 f5 := (rfl)
theorem fst_v0 : Ins.v0 𝐈 = runFirst.sl.v59 c M3 M4 M5 f3 f4 f5 := (rfl)
theorem fst_bias0 : Ins.bias0 𝐈 = runFirst.sl.v61 c M7 f7 := (rfl)
theorem fst_snk0 : Ins.snk0 𝐈 = runFirst.sl.v107 c M8 f8 := (rfl)
theorem fst_sc0 : Ins.sc0 𝐈 = runFirst.sl.v108 c M1 M2 M3 M4 M5 f1 f2 f3 f4 f5 := by
  simp only [Ins.sc0, fst_q0 c i M1 M2 M3 M4 M5 M6 M7 M8 f1 f2 f3 f4 f5 f6 f7 f8, fst_k0 c i M1 M2 M3 M4 M5 M6 M7 M8 f1 f2 f3 f4 f5 f6 f7 f8]
  rfl
theorem fst_p0 : Ins.p0 𝐈 = runFirst.sl.r_5 c i M1 M2 M3 M4 M5 M7 M8 f1 f2 f3 f4 f5 f7 f8 := by
  simp only [Ins.p0, fst_mask c i M1 M2 M3 M4 M5 M6 M7 M8 f1 f2 f3 f4 f5 f6 f7 f8, fst_bias0 c i M1 M2 M3 M4 M5 M6 M7 M8 f1 f2 f3 f4 f5 f6 f7 f8, fst_snk0 c i M1 M2 M3 M4 M5 M6 M7 M8 f1 f2 f3 f4 f5 f6 f7 f8, fst_sc0 c i M1 M2 M3 M4 M5 M6 M7 M8 f1 f2 f3 f4 f5 f6 f7 f8]
  rfl
theorem fst_ds0 : Ins.ds0 𝐈 = runFirst.sl.r_6 c i M1 M2 M3 M4 M5 M6 M7 M8 f1 f2 f3 f4 f5 f6 f7 f8 := by
  simp only [Ins.ds0, fst_mask c i M1 M2 M3 M4 M5 M6 M7 M8 f1 f2 f3 f4 f5 f6 f7 f8, fst_o0 c i M1 M2 M3 M4 M5 M6 M7 M8 f1 f2 f3 f4 f5 f6 f7 f8, fst_v0 c i M1 M2 M3 M4 M5 M6 M7 M8 f1 f2 f3 f4 f5 f6 f7 f8, fst_bias0 c i M1 M2 M3 M4 M5 M6 M7 M8 f1 f2 f3 f4 f5 f6 f7 f8, fst_snk0 c i M1 M2 M3 M4 M5 M6 M7 M8 f1 f2 f3 f4 f5 f6 f7 f8, fst_sc0 c i M1 M2 M3 M4 M5 M6 M7 M8 f1 f2 f3 f4 f5 f6 f7 f8]
  rfl
theorem fst_dk0 : Ins.dk0 𝐈 = runFirst.sl.v172 c i M1 M2 M3 M4 M5 M6 M7 M8 f1 f2 f3 f4 f5 f6 f7 f8 := by
  simp only [Ins.dk0, fst_q0 c i M1 M2 M3 M4 M5 M6 M7 M8 f1 f2 f3 f4 f5 f6 f7 f8, fst_ds0 c i M1 M2 M3 M4 M5 M6 M7 M8 f1 f2 f3 f4 f5 f6 f7 f8]
  rfl
theorem fst_dv0 : Ins.dv0 𝐈 = runFirst.sl.v174 c i M1 M2 M3 M4 M5 M6 M7 M8 f1 f2 f3 f4 f5 f6 f7 f8 := by
  simp only [Ins.dv0, fst_o0 c i M1 M2 M3 M4 M5 M6 M7 M8 f1 f2 f3 f4 f5 f6 f7 f8, fst_p0 c i M1 M2 M3 M4 M5 M6 M7 M8 f1 f2 f3 f4 f5 f6 f7 f8]
  rfl
theorem fst_q1 : Ins.q1 𝐈 = runFirst.sl.v269 c M1 M2 f1 f2 := (rfl)
theorem fst_o1 : Ins.o1 𝐈 = runFirst.sl.v274 c M6 f6 := (rfl)
theorem fst_k1 : Ins.k1 𝐈 = runFirst.sl.v275 c M3 M4 M5 f3 f4 f5 := (rfl)
theorem fst_v1 : Ins.v1 𝐈 = runFirst.sl.v276 c M3 M4 M5 f3 f4 f5 := (rfl)
theorem fst_bias1 : Ins.bias1 𝐈 = runFirst.sl.v278 c M7 f7 := (rfl)
theorem fst_e1 : Ins.e1 𝐈 = runFirst.sl.r_12 c i M1 M2 M3 M4 M5 M7 M8 f1 f2 f3 f4 f5 f7 f8 := by
  simp only [Ins.e1, fst_mask c i M1 M2 M3 M4 M5 M6 M7 M8 f1 f2 f3 f4 f5 f6 f7 f8, fst_q1 c i M1 M2 M3 M4 M5 M6 M7 M8 f1 f2 f3 f4 f5 f6 f7 f8, fst_k1 c i M1 M2 M3 M4 M5 M6 M7 M8 f1 f2 f3 f4 f5 f6 f7 f8, fst_bias1 c i M1 M2 M3 M4 M5 M6 M7 M8 f1 f2 f3 f4 f5 f6 f7 f8]
  rfl
theorem fst_z1 : Ins.z1 𝐈 = runFirst.sl.r_13 c i M1 M2 M3 M4 M5 M7 M8 f1 f2 f3 f4 f5 f7 f8 := by
  simp only [Ins.z1, fst_mask c i M1 M2 M3 M4 M5 M6 M7 M8 f1 f2 f3 f4 f5 f6 f7 f8, fst_q1 c i M1 M2 M3 M4 M5 M6 M7 M8 f1 f2 f3 f4 f5 f6 f7 f8, fst_k1 c i M1 M2 M3 M4 M5 M6 M7 M8 f1 f2 f3 f4 f5 f6 f7 f8, fst_bias1 c i M1 M2 M3 M4 M5 M6 M7 M8 f1 f2 f3 f4 f5 f6 f7 f8]
  rfl
theorem fst_p1 : Ins.p1 𝐈 = runFirst.sl.r_14 c i M1 M2 M3 M4 M5 M7 M8 f1 f2 f3 f4 f5 f7 f8 := by
  simp only [Ins.p1, fst_mask c i M1 M2 M3 M4 M5 M6 M7 M8 f1 f2 f3 f4 f5 f6 f7 f8, fst_q1 c i M1 M2 M3 M4 M5 M6 M7 M8 f1 f2 f3 f4 f5 f6 f7 f8, fst_k1 c i M1 M2 M3 M4 M5 M6 M7 M8 f1 f2 f3 f4 f5 f6 f7 f8, fst_bias1 c i M1 M2 M3 M4 M5 M6 M7 M8 f1 f2 f3 f4 f5 f6 f7 f8]
  rfl
theorem fst_dk1 : Ins.dk1 𝐈 = runFirst.sl.v389 c i M1 M2 M3 M4 M5 M6 M7 M8 f1 f2 f3 f4 f5 f6 f7 f8 := by
  simp only [Ins.dk1, fst_q1 c i M1 M2 M3 M4 M5 M6 M7 M8 f1 f2 f3 f4 f5 f6 f7 f8, fst_o1 c i M1 M2 M3 M4 M5 M6 M7 M8 f1 f2 f3 f4 f5 f6 f7 f8, fst_v1 c i M1 M2 M3 M4 M5 M6 M7 M8 f1 f2 f3 f4 f5 f6 f7 f8, fst_p1 c i M1 M2 M3 M4 M5 M6 M7 M8 f1 f2 f3 f4 f5 f6 f7 f8]
  rfl
theorem fst_dv1 : Ins.dv1 𝐈 = runFirst.sl.v391 c i M1 M2 M3 M4 M5 M6 M7 M8 f1 f2 f3 f4 f5 f6 f7 f8 := by
  simp only [Ins.dv1, fst_o1 c i M1 M2 M3 M4 M5 M6 M7 M8 f1 f2 f3 f4 f5 f6 f7 f8, fst_p1 c i M1 M2 M3 M4 M5 M6 M7 M8 f1 f2 f3 f4 f5 f6 f7 f8]
  rfl

set_option maxHeartbeats 4000000 in
/-- The query gradient's block, piece by piece. -/
theorem fst_9 (hc1 : k0_cond1 i = 1#1) (hc2 : ¬ k0_cond2 i = 1#1) (hc3 : k0_cond3 i = 1#1) (hc4 : ¬ k0_cond4 i = 1#1) : (runFirst c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 ).1.1 = M9.view.writes (Elt F) M9.view.junk (Ins.L9 𝐈) := by
  have e : (runFirst c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 ).1.1 = M9.view.writes (Elt F) M9.view.junk (runFirst.sl.H9_8 c i M1 M2 M3 M4 M5 M6 M7 M8 f1 f2 f3 f4 f5 f6 f7 f8) := (rfl)
  rw [e]
  refine congrArg (fun L => M9.view.writes (Elt F) _ L) ?_
  simp only [Ins.L9, fst_mask c i M1 M2 M3 M4 M5 M6 M7 M8 f1 f2 f3 f4 f5 f6 f7 f8, fst_q0 c i M1 M2 M3 M4 M5 M6 M7 M8 f1 f2 f3 f4 f5 f6 f7 f8, fst_o0 c i M1 M2 M3 M4 M5 M6 M7 M8 f1 f2 f3 f4 f5 f6 f7 f8, fst_k0 c i M1 M2 M3 M4 M5 M6 M7 M8 f1 f2 f3 f4 f5 f6 f7 f8, fst_v0 c i M1 M2 M3 M4 M5 M6 M7 M8 f1 f2 f3 f4 f5 f6 f7 f8, fst_bias0 c i M1 M2 M3 M4 M5 M6 M7 M8 f1 f2 f3 f4 f5 f6 f7 f8, fst_snk0 c i M1 M2 M3 M4 M5 M6 M7 M8 f1 f2 f3 f4 f5 f6 f7 f8, fst_sc0 c i M1 M2 M3 M4 M5 M6 M7 M8 f1 f2 f3 f4 f5 f6 f7 f8, fst_p0 c i M1 M2 M3 M4 M5 M6 M7 M8 f1 f2 f3 f4 f5 f6 f7 f8, fst_ds0 c i M1 M2 M3 M4 M5 M6 M7 M8 f1 f2 f3 f4 f5 f6 f7 f8, fst_dk0 c i M1 M2 M3 M4 M5 M6 M7 M8 f1 f2 f3 f4 f5 f6 f7 f8, fst_dv0 c i M1 M2 M3 M4 M5 M6 M7 M8 f1 f2 f3 f4 f5 f6 f7 f8, fst_q1 c i M1 M2 M3 M4 M5 M6 M7 M8 f1 f2 f3 f4 f5 f6 f7 f8, fst_o1 c i M1 M2 M3 M4 M5 M6 M7 M8 f1 f2 f3 f4 f5 f6 f7 f8, fst_k1 c i M1 M2 M3 M4 M5 M6 M7 M8 f1 f2 f3 f4 f5 f6 f7 f8, fst_v1 c i M1 M2 M3 M4 M5 M6 M7 M8 f1 f2 f3 f4 f5 f6 f7 f8, fst_bias1 c i M1 M2 M3 M4 M5 M6 M7 M8 f1 f2 f3 f4 f5 f6 f7 f8, fst_e1 c i M1 M2 M3 M4 M5 M6 M7 M8 f1 f2 f3 f4 f5 f6 f7 f8, fst_z1 c i M1 M2 M3 M4 M5 M6 M7 M8 f1 f2 f3 f4 f5 f6 f7 f8, fst_p1 c i M1 M2 M3 M4 M5 M6 M7 M8 f1 f2 f3 f4 f5 f6 f7 f8, fst_dk1 c i M1 M2 M3 M4 M5 M6 M7 M8 f1 f2 f3 f4 f5 f6 f7 f8, fst_dv1 c i M1 M2 M3 M4 M5 M6 M7 M8 f1 f2 f3 f4 f5 f6 f7 f8]
  rfl

set_option maxHeartbeats 4000000 in
theorem fst_11 (hc1 : k0_cond1 i = 1#1) (hc2 : ¬ k0_cond2 i = 1#1) (hc3 : k0_cond3 i = 1#1) (hc4 : ¬ k0_cond4 i = 1#1) : (runFirst c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 ).1.2.2.1 = M11.view.writes (Elt F) M11.view.junk (Ins.L11 𝐈
      (M11.view.readAt (Elt F) (Rect.unit (s := S2x512x384) ![0, 0, 0] S1x512x384.size inb_S2x512x384_S1x512x384_0_0_0).toLoadRect (M11.view.writes (Elt F) M11.view.junk [⟨Rect.unit (s := S2x512x384) ![0, 0, 0] S2x512x384.size inb_S2x512x384_S2x512x384_0_0_0, k0_pay3⟩]))
      (M11.view.readAt (Elt F) (Rect.unit (s := S2x512x384) ![1, 0, 0] S1x512x384.size inb_S2x512x384_S1x512x384_1_0_0).toLoadRect (M11.view.writes (Elt F) M11.view.junk (Ins.L11a 𝐈 (M11.view.readAt (Elt F) (Rect.unit (s := S2x512x384) ![0, 0, 0] S1x512x384.size inb_S2x512x384_S1x512x384_0_0_0).toLoadRect (M11.view.writes (Elt F) M11.view.junk [⟨Rect.unit (s := S2x512x384) ![0, 0, 0] S2x512x384.size inb_S2x512x384_S2x512x384_0_0_0, k0_pay3⟩])) ++ [⟨Rect.unit (s := S2x512x384) ![0, 0, 0] S2x512x384.size inb_S2x512x384_S2x512x384_0_0_0, k0_pay3⟩]))) ++ [⟨Rect.unit (s := S2x512x384) ![0, 0, 0] S2x512x384.size inb_S2x512x384_S2x512x384_0_0_0, k0_pay3⟩]) := by
  have e : (runFirst c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 ).1.2.2.1 = M11.view.writes (Elt F) M11.view.junk (runFirst.sl.H11_3 c i M1 M2 M3 M4 M5 M6 M7 M8 M11 f1 f2 f3 f4 f5 f6 f7 f8) := (rfl)
  rw [e]
  refine congrArg (fun L => M11.view.writes (Elt F) _ L) ?_
  simp only [Ins.L11, Ins.L11a, List.cons_append, List.nil_append, fst_mask c i M1 M2 M3 M4 M5 M6 M7 M8 f1 f2 f3 f4 f5 f6 f7 f8, fst_q0 c i M1 M2 M3 M4 M5 M6 M7 M8 f1 f2 f3 f4 f5 f6 f7 f8, fst_o0 c i M1 M2 M3 M4 M5 M6 M7 M8 f1 f2 f3 f4 f5 f6 f7 f8, fst_k0 c i M1 M2 M3 M4 M5 M6 M7 M8 f1 f2 f3 f4 f5 f6 f7 f8, fst_v0 c i M1 M2 M3 M4 M5 M6 M7 M8 f1 f2 f3 f4 f5 f6 f7 f8, fst_bias0 c i M1 M2 M3 M4 M5 M6 M7 M8 f1 f2 f3 f4 f5 f6 f7 f8, fst_snk0 c i M1 M2 M3 M4 M5 M6 M7 M8 f1 f2 f3 f4 f5 f6 f7 f8, fst_sc0 c i M1 M2 M3 M4 M5 M6 M7 M8 f1 f2 f3 f4 f5 f6 f7 f8, fst_p0 c i M1 M2 M3 M4 M5 M6 M7 M8 f1 f2 f3 f4 f5 f6 f7 f8, fst_ds0 c i M1 M2 M3 M4 M5 M6 M7 M8 f1 f2 f3 f4 f5 f6 f7 f8, fst_dk0 c i M1 M2 M3 M4 M5 M6 M7 M8 f1 f2 f3 f4 f5 f6 f7 f8, fst_dv0 c i M1 M2 M3 M4 M5 M6 M7 M8 f1 f2 f3 f4 f5 f6 f7 f8, fst_q1 c i M1 M2 M3 M4 M5 M6 M7 M8 f1 f2 f3 f4 f5 f6 f7 f8, fst_o1 c i M1 M2 M3 M4 M5 M6 M7 M8 f1 f2 f3 f4 f5 f6 f7 f8, fst_k1 c i M1 M2 M3 M4 M5 M6 M7 M8 f1 f2 f3 f4 f5 f6 f7 f8, fst_v1 c i M1 M2 M3 M4 M5 M6 M7 M8 f1 f2 f3 f4 f5 f6 f7 f8, fst_bias1 c i M1 M2 M3 M4 M5 M6 M7 M8 f1 f2 f3 f4 f5 f6 f7 f8, fst_e1 c i M1 M2 M3 M4 M5 M6 M7 M8 f1 f2 f3 f4 f5 f6 f7 f8, fst_z1 c i M1 M2 M3 M4 M5 M6 M7 M8 f1 f2 f3 f4 f5 f6 f7 f8, fst_p1 c i M1 M2 M3 M4 M5 M6 M7 M8 f1 f2 f3 f4 f5 f6 f7 f8, fst_dk1 c i M1 M2 M3 M4 M5 M6 M7 M8 f1 f2 f3 f4 f5 f6 f7 f8, fst_dv1 c i M1 M2 M3 M4 M5 M6 M7 M8 f1 f2 f3 f4 f5 f6 f7 f8]
  rfl

set_option maxHeartbeats 4000000 in
theorem fst_14 (hc1 : k0_cond1 i = 1#1) (hc2 : ¬ k0_cond2 i = 1#1) (hc3 : k0_cond3 i = 1#1) (hc4 : ¬ k0_cond4 i = 1#1) : (runFirst c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 ).1.2.2.2.2.2 = M14.view.writes (Elt F) M14.view.junk (Ins.L14 𝐈
      (M14.view.readAt (Elt F) (Rect.unit (s := S2x512x1) ![0, 0, 0] S1x512x1.size inb_S2x512x1_S1x512x1_0_0_0).toLoadRect (M14.view.writes (Elt F) M14.view.junk [⟨Rect.unit (s := S2x512x1) ![0, 0, 0] S2x512x1.size inb_S2x512x1_S2x512x1_0_0_0, k0_pay2⟩]))
      (M14.view.readAt (Elt F) (Rect.unit (s := S2x512x1) ![1, 0, 0] S1x512x1.size inb_S2x512x1_S1x512x1_1_0_0).toLoadRect (M14.view.writes (Elt F) M14.view.junk (Ins.L14a 𝐈 (M14.view.readAt (Elt F) (Rect.unit (s := S2x512x1) ![0, 0, 0] S1x512x1.size inb_S2x512x1_S1x512x1_0_0_0).toLoadRect (M14.view.writes (Elt F) M14.view.junk [⟨Rect.unit (s := S2x512x1) ![0, 0, 0] S2x512x1.size inb_S2x512x1_S2x512x1_0_0_0, k0_pay2⟩])) ++ [⟨Rect.unit (s := S2x512x1) ![0, 0, 0] S2x512x1.size inb_S2x512x1_S2x512x1_0_0_0, k0_pay2⟩]))) ++ [⟨Rect.unit (s := S2x512x1) ![0, 0, 0] S2x512x1.size inb_S2x512x1_S2x512x1_0_0_0, k0_pay2⟩]) := by
  have e : (runFirst c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 ).1.2.2.2.2.2 = M14.view.writes (Elt F) M14.view.junk (runFirst.sl.H14_3 c i M1 M2 M3 M4 M5 M6 M7 M8 M14 f1 f2 f3 f4 f5 f6 f7 f8) := (rfl)
  rw [e]
  refine congrArg (fun L => M14.view.writes (Elt F) _ L) ?_
  simp only [Ins.L14, Ins.L14a, List.cons_append, List.nil_append, fst_mask c i M1 M2 M3 M4 M5 M6 M7 M8 f1 f2 f3 f4 f5 f6 f7 f8, fst_q0 c i M1 M2 M3 M4 M5 M6 M7 M8 f1 f2 f3 f4 f5 f6 f7 f8, fst_o0 c i M1 M2 M3 M4 M5 M6 M7 M8 f1 f2 f3 f4 f5 f6 f7 f8, fst_k0 c i M1 M2 M3 M4 M5 M6 M7 M8 f1 f2 f3 f4 f5 f6 f7 f8, fst_v0 c i M1 M2 M3 M4 M5 M6 M7 M8 f1 f2 f3 f4 f5 f6 f7 f8, fst_bias0 c i M1 M2 M3 M4 M5 M6 M7 M8 f1 f2 f3 f4 f5 f6 f7 f8, fst_snk0 c i M1 M2 M3 M4 M5 M6 M7 M8 f1 f2 f3 f4 f5 f6 f7 f8, fst_sc0 c i M1 M2 M3 M4 M5 M6 M7 M8 f1 f2 f3 f4 f5 f6 f7 f8, fst_p0 c i M1 M2 M3 M4 M5 M6 M7 M8 f1 f2 f3 f4 f5 f6 f7 f8, fst_ds0 c i M1 M2 M3 M4 M5 M6 M7 M8 f1 f2 f3 f4 f5 f6 f7 f8, fst_dk0 c i M1 M2 M3 M4 M5 M6 M7 M8 f1 f2 f3 f4 f5 f6 f7 f8, fst_dv0 c i M1 M2 M3 M4 M5 M6 M7 M8 f1 f2 f3 f4 f5 f6 f7 f8, fst_q1 c i M1 M2 M3 M4 M5 M6 M7 M8 f1 f2 f3 f4 f5 f6 f7 f8, fst_o1 c i M1 M2 M3 M4 M5 M6 M7 M8 f1 f2 f3 f4 f5 f6 f7 f8, fst_k1 c i M1 M2 M3 M4 M5 M6 M7 M8 f1 f2 f3 f4 f5 f6 f7 f8, fst_v1 c i M1 M2 M3 M4 M5 M6 M7 M8 f1 f2 f3 f4 f5 f6 f7 f8, fst_bias1 c i M1 M2 M3 M4 M5 M6 M7 M8 f1 f2 f3 f4 f5 f6 f7 f8, fst_e1 c i M1 M2 M3 M4 M5 M6 M7 M8 f1 f2 f3 f4 f5 f6 f7 f8, fst_z1 c i M1 M2 M3 M4 M5 M6 M7 M8 f1 f2 f3 f4 f5 f6 f7 f8, fst_p1 c i M1 M2 M3 M4 M5 M6 M7 M8 f1 f2 f3 f4 f5 f6 f7 f8, fst_dk1 c i M1 M2 M3 M4 M5 M6 M7 M8 f1 f2 f3 f4 f5 f6 f7 f8, fst_dv1 c i M1 M2 M3 M4 M5 M6 M7 M8 f1 f2 f3 f4 f5 f6 f7 f8]
  rfl

theorem fst_13l (hc1 : k0_cond1 i = 1#1) (hc2 : ¬ k0_cond2 i = 1#1) (hc3 : k0_cond3 i = 1#1) (hc4 : ¬ k0_cond4 i = 1#1) : runFirst.sl.H13_13 c i hc3 M1 M2 M3 M4 M5 M6 M7 M8 M13 f1 f2 f3 f4 f5 f6 f7 f8 = Ins.L13 𝐈 M13.view M13.view.junk [⟨Rect.unit (s := S3x128x512) ![0, 0, 0] S3x128x512.size inb_S3x128x512_S3x128x512_0_0_0, k0_pay1⟩] := by
  have ei : Ins.i 𝐈 = i := rfl
  simp only [Ins.L13, fst_mask c i M1 M2 M3 M4 M5 M6 M7 M8 f1 f2 f3 f4 f5 f6 f7 f8, fst_q0 c i M1 M2 M3 M4 M5 M6 M7 M8 f1 f2 f3 f4 f5 f6 f7 f8, fst_o0 c i M1 M2 M3 M4 M5 M6 M7 M8 f1 f2 f3 f4 f5 f6 f7 f8, fst_k0 c i M1 M2 M3 M4 M5 M6 M7 M8 f1 f2 f3 f4 f5 f6 f7 f8, fst_v0 c i M1 M2 M3 M4 M5 M6 M7 M8 f1 f2 f3 f4 f5 f6 f7 f8, fst_bias0 c i M1 M2 M3 M4 M5 M6 M7 M8 f1 f2 f3 f4 f5 f6 f7 f8, fst_snk0 c i M1 M2 M3 M4 M5 M6 M7 M8 f1 f2 f3 f4 f5 f6 f7 f8, fst_sc0 c i M1 M2 M3 M4 M5 M6 M7 M8 f1 f2 f3 f4 f5 f6 f7 f8, fst_p0 c i M1 M2 M3 M4 M5 M6 M7 M8 f1 f2 f3 f4 f5 f6 f7 f8, fst_ds0 c i M1 M2 M3 M4 M5 M6 M7 M8 f1 f2 f3 f4 f5 f6 f7 f8, fst_dk0 c i M1 M2 M3 M4 M5 M6 M7 M8 f1 f2 f3 f4 f5 f6 f7 f8, fst_dv0 c i M1 M2 M3 M4 M5 M6 M7 M8 f1 f2 f3 f4 f5 f6 f7 f8, fst_q1 c i M1 M2 M3 M4 M5 M6 M7 M8 f1 f2 f3 f4 f5 f6 f7 f8, fst_o1 c i M1 M2 M3 M4 M5 M6 M7 M8 f1 f2 f3 f4 f5 f6 f7 f8, fst_k1 c i M1 M2 M3 M4 M5 M6 M7 M8 f1 f2 f3 f4 f5 f6 f7 f8, fst_v1 c i M1 M2 M3 M4 M5 M6 M7 M8 f1 f2 f3 f4 f5 f6 f7 f8, fst_bias1 c i M1 M2 M3 M4 M5 M6 M7 M8 f1 f2 f3 f4 f5 f6 f7 f8, fst_e1 c i M1 M2 M3 M4 M5 M6 M7 M8 f1 f2 f3 f4 f5 f6 f7 f8, fst_z1 c i M1 M2 M3 M4 M5 M6 M7 M8 f1 f2 f3 f4 f5 f6 f7 f8, fst_p1 c i M1 M2 M3 M4 M5 M6 M7 M8 f1 f2 f3 f4 f5 f6 f7 f8, fst_dk1 c i M1 M2 M3 M4 M5 M6 M7 M8 f1 f2 f3 f4 f5 f6 f7 f8, fst_dv1 c i M1 M2 M3 M4 M5 M6 M7 M8 f1 f2 f3 f4 f5 f6 f7 f8]
  rfl

set_option maxHeartbeats 4000000 in
theorem fst_13 (hc1 : k0_cond1 i = 1#1) (hc2 : ¬ k0_cond2 i = 1#1) (hc3 : k0_cond3 i = 1#1) (hc4 : ¬ k0_cond4 i = 1#1) : (runFirst c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 ).1.2.2.2.2.1 = M13.view.writes (Elt F) M13.view.junk (Ins.L13 𝐈 M13.view M13.view.junk [⟨Rect.unit (s := S3x128x512) ![0, 0, 0] S3x128x512.size inb_S3x128x512_S3x128x512_0_0_0, k0_pay1⟩]) := by
  rw [← fst_13l c i M1 M2 M3 M4 M5 M6 M7 M8 M13 f1 f2 f3 f4 f5 f6 f7 f8  hc1 hc2 hc3 hc4]
  exact (rfl)

set_option maxHeartbeats 4000000 in
theorem fst_10 (hc1 : k0_cond1 i = 1#1) (hc2 : ¬ k0_cond2 i = 1#1) (hc3 : k0_cond3 i = 1#1) (hc4 : ¬ k0_cond4 i = 1#1) : (runFirst c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 ).1.2.1 = M10.view.writes (Elt F) M10.view.junk [⟨Rect.unit (s := S128x512) ![0, 0] S128x512.size inb_S128x512_S128x512_0_0,
      k0_pay8 (M13.view.readCov (Ins.L13 𝐈 M13.view M13.view.junk [⟨Rect.unit (s := S3x128x512) ![0, 0, 0] S3x128x512.size inb_S3x128x512_S3x128x512_0_0_0, k0_pay1⟩]) (Rect.unit (s := S3x128x512) (k0_off6 i) S1x128x512.size (inb6 i)).toLoadRect)⟩] := by
  rw [← fst_13l c i M1 M2 M3 M4 M5 M6 M7 M8 M13 f1 f2 f3 f4 f5 f6 f7 f8  hc1 hc2 hc3 hc4]
  exact (rfl)

set_option maxHeartbeats 4000000 in
theorem lst_10 (hc1 : ¬ k0_cond1 i = 1#1) (hc2 : ¬ k0_cond2 i = 1#1) (hc3 : ¬ k0_cond3 i = 1#1) (hc4 : k0_cond4 i = 1#1) : (runLast c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 f13 f14).1.1 = M10.view.writes (Elt F) M10.view.junk [⟨Rect.unit (s := S128x512) ![0, 0] S128x512.size inb_S128x512_S128x512_0_0,
      k0_pay8 (M13.view.readAt (Elt F) (Rect.unit (s := S3x128x512) (k0_off6 i) S1x128x512.size (inb6 i)).toLoadRect f13)⟩] := (rfl)

set_option maxHeartbeats 4000000 in
theorem lst_12 (hc1 : ¬ k0_cond1 i = 1#1) (hc2 : ¬ k0_cond2 i = 1#1) (hc3 : ¬ k0_cond3 i = 1#1) (hc4 : k0_cond4 i = 1#1) : (runLast c i hc1 hc2 hc3 hc4 M1 h1 M2 h2 M3 h3 M4 h4 M5 h5 M6 h6 M7 h7 M8 h8 M9 h9 M10 h10 M11 h11 M12 h12 M13 h13 M14 h14 f1 f2 f3 f4 f5 f6 f7 f8 f13 f14).1.2 = M12.view.writes (Elt F) M12.view.junk [⟨Rect.unit (s := S1x128) ![0, 0] S1x128.size inb_S1x128_S1x128_0_0,
      k0_pay9 (iota .tc S1x128 32 [1] iota_S1x128_d1_w32)
        (k0_pay83 (M14.view.readAt (Elt F) (Rect.unit (s := S2x512x1) ![0, 0, 0] S1x512x1.size inb_S2x512x1_S1x512x1_0_0_0).toLoadRect f14))
        (k0_pay84 (M14.view.readAt (Elt F) (Rect.unit (s := S2x512x1) ![1, 0, 0] S1x512x1.size inb_S2x512x1_S1x512x1_1_0_0).toLoadRect f14)) k0_pay85⟩] := (rfl)

end

end Cert.Proof.Attn
end
-- ==== Proof.Val.Row.lean ====
/- One row of the softmax's backward pass over extended reals, as the kernel computes it. -/
module

public import Idealize.ShloMosaic.Lib.ValueIdx

@[expose] public section

noncomputable section

namespace Cert.Proof.Attn

open Idealize.ShloMosaic

/-- The row's maximum, the sink's logit `k` included. -/
def rowMax (sc : Fin 384 → EReal) (k : EReal) : EReal := max (Finset.univ.fold max ⊥ sc) k

/-- The row's normaliser. -/
def rowSum (sc : Fin 384 → EReal) (k : EReal) : EReal := (∑ s, Ideal.exp (sc s - rowMax sc k)) + Ideal.exp (k - rowMax sc k)

/-- The row's probabilities. -/
def rowP (sc : Fin 384 → EReal) (k : EReal) (s : Fin 384) : EReal := Ideal.exp (sc s - rowMax sc k) * Ideal.div 1 (rowSum sc k)

/-- The sink's probability. -/
def rowSink (sc : Fin 384 → EReal) (k : EReal) : EReal := Ideal.exp (k - rowMax sc k) * Ideal.div 1 (rowSum sc k)

/-- The row's inner product of probabilities and their gradients. -/
def rowDelta (sc : Fin 384 → EReal) (k : EReal) (dp : Fin 384 → EReal) : EReal := ∑ s, rowP sc k s * dp s

/-- The gradient of the row's logits. -/
def rowDs (sc : Fin 384 → EReal) (k : EReal) (dp : Fin 384 → EReal) (s : Fin 384) : EReal :=
  rowP sc k s * (dp s - rowDelta sc k dp)

/-- The gradient of the sink's logit in the row. -/
def rowDsink (sc : Fin 384 → EReal) (k : EReal) (dp : Fin 384 → EReal) : EReal := (0 - rowSink sc k) * rowDelta sc k dp

end Cert.Proof.Attn

end
-- ==== Proof.Val.Pay.lean ====
/- The kernel's payloads at extended reals, read at an index. -/
module

public import proofs.«01_k».proof.Proof.Gen.KernelIdeal.Skeleton
public import proofs.«01_k».proof.Proof.Val.Row
public import Idealize.ShloMosaic.Lib.Pointwise
public import Idealize.ShloMosaic.Lib.ValueIdx

@[expose] public section

set_option maxRecDepth 16384

noncomputable section

namespace Cert.Proof.Attn

open Idealize.ShloMosaic Cert.KernelIdeal Cert.KernelIdeal.Gen

/-- The mask's named constant is the least extended real. -/
theorem mask_bot : Named.named (F := Ideal) κ "mask" (φ := .f32) 0xF149F2CA#32 = (⊥ : EReal) := rfl

/-- The word of negative infinity is the least extended real. -/
theorem word_bot : Ideal.ofBits .f32 4286578688#32 = (⊥ : EReal) := by simp [Ideal.ofBits, Ideal.ieee]

theorem word_zero : Ideal.ofBits .f32 0#32 = (0 : EReal) := by simp [Ideal.ofBits, Ideal.ieee]

section Softmax

variable (v47 : IVec S1x384 1) (v61 v108 : FVec Ideal S512x384 .f32) (v107 : FVec Ideal S512x1 .f32)
  (v57 : FVec Ideal S512x128 .bf16) (v59 : FVec Ideal S384x128 .bf16) (w : Ideal .f32) (r : Fin 512)

/-- The masked logits of a row. -/
def rowSc (s : Fin 384) : EReal := Scalar.select (v47 (ix2 0 s)) (v108 (ix2 r s) * w + v61 (ix2 r s)) ⊥

/-- A product's row, the columns of the second operand read as rows. -/
def dot128 {φ : FTy} {n : Nat} (x : FVec Ideal S512x128 φ) (y : FVec Ideal ⟨2, ![n, 128]⟩ φ) (r : Fin 512) (s : Fin n) : EReal :=
  ∑ d : Fin 128, x (ix2 r d) * y (ix2 s d)

/-- The masked logits. -/
theorem pay22 (s : Fin 384) : k0_pay22 v47 v61 v108 w (ix2 r s) = rowSc v47 v61 v108 w r s := by
  pointwise [k0_pay22, mask_bot, rowSc]

/-- The row's maximum. -/
theorem pay23 : k0_pay23 v47 v61 v107 v108 w (ix2 r 0) = rowMax (rowSc v47 v61 v108 w r) (v107 (ix2 r 0)) := by
  pointwise [k0_pay23, rowMax, pay22]
  simp [word_bot]

/-- The exponentials. -/
theorem pay24 (s : Fin 384) : k0_pay24 v47 v61 v107 v108 w (ix2 r s)
    = Ideal.exp (rowSc v47 v61 v108 w r s - rowMax (rowSc v47 v61 v108 w r) (v107 (ix2 r 0))) := by
  pointwise [k0_pay24, pay22, pay23]

theorem pay25 : k0_pay25 v47 v61 v107 v108 w (ix2 r 0)
    = Ideal.exp (v107 (ix2 r 0) - rowMax (rowSc v47 v61 v108 w r) (v107 (ix2 r 0))) := by
  pointwise [k0_pay25, pay23]

theorem pay26 : k0_pay26 v47 v61 v107 v108 w (ix2 r 0) = Ideal.div 1 (rowSum (rowSc v47 v61 v108 w r) (v107 (ix2 r 0))) := by
  pointwise [k0_pay26, pay24, pay25, rowSum]

/-- The probabilities. -/
theorem pay27 (s : Fin 384) : k0_pay27 v47 v61 v107 v108 w (ix2 r s) = rowP (rowSc v47 v61 v108 w r) (v107 (ix2 r 0)) s := by
  pointwise [k0_pay27, pay24, pay26, rowP]

theorem pay28 (s : Fin 384) : k0_pay28 v57 v59 (ix2 r s) = dot128 v57 v59 r s := by
  pointwise [k0_pay28, dot128]

theorem pay29 : k0_pay29 v47 v57 v59 v61 v107 v108 w (ix2 r 0)
    = rowDelta (rowSc v47 v61 v108 w r) (v107 (ix2 r 0)) (dot128 v57 v59 r) := by
  pointwise [k0_pay29, pay27, pay28, rowDelta]

/-- The gradient of the logits. -/
theorem pay30 (s : Fin 384) : k0_pay30 v47 v57 v59 v61 v107 v108 w (ix2 r s)
    = rowDs (rowSc v47 v61 v108 w r) (v107 (ix2 r 0)) (dot128 v57 v59 r) s := by
  pointwise [k0_pay30, pay27, pay28, pay29, rowDs]

theorem pay31 (x : Vec Ideal S1x512x384 .f32) (s : Fin 384) : k0_pay31 v47 v57 v59 v61 v107 v108 w x (ix3 0 r s)
    = x (ix3 0 r s) + rowDs (rowSc v47 v61 v108 w r) (v107 (ix2 r 0)) (dot128 v57 v59 r) s := by
  pointwise [k0_pay31, pay30]

theorem pay32 (x : Vec Ideal S1x512x1 .f32) : k0_pay32 v47 v57 v59 v61 v107 v108 w x (ix2 r 0)
    = x (ix3 0 r 0) + rowDsink (rowSc v47 v61 v108 w r) (v107 (ix2 r 0)) (dot128 v57 v59 r) := by
  pointwise [k0_pay32, pay25, pay26, pay29, rowDsink, rowSink]

end Softmax

end Cert.Proof.Attn
end
-- ==== Proof.Val.Words.lean ====
/- Small integers held in 32-bit words, and a sum over blocks and offsets that meets a row three times. -/
module

public import Idealize.ShloMosaic.Lib.WordCmp
public import Idealize.ShloMosaic.Lib.ValueIdx
public import Idealize.ShloMosaic.PureOps.Ideal

@[expose] public section

noncomputable section

namespace Cert.Proof.Attn

open Idealize.ShloMosaic

/-- A small natural number is the integer its word denotes. -/
theorem toInt_nat (a : Nat) (h : a < 2 ^ 31) : (BitVec.ofNat 32 a).toInt = a := by
  rw [BitVec.toInt_eq_toNat_of_lt] <;> simp <;> omega

/-- Subtracting words that denote small integers subtracts the integers. -/
theorem toInt_subi (x y : BitVec 32) (hx : -2 ^ 28 ≤ x.toInt ∧ x.toInt < 2 ^ 28) (hy : -2 ^ 28 ≤ y.toInt ∧ y.toInt < 2 ^ 28) :
    (IntOp.subi x y).toInt = x.toInt - y.toInt := by
  unfold IntOp.subi
  rw [BitVec.toInt_sub]
  apply Int.bmod_eq_of_le <;> omega

/-- Adding words that denote small integers adds the integers. -/
theorem toInt_addi (x y : BitVec 32) (hx : -2 ^ 28 ≤ x.toInt ∧ x.toInt < 2 ^ 28) (hy : -2 ^ 28 ≤ y.toInt ∧ y.toInt < 2 ^ 28) :
    (IntOp.addi x y).toInt = x.toInt + y.toInt := by
  unfold IntOp.addi
  rw [BitVec.toInt_add]
  apply Int.bmod_eq_of_le <;> omega

/-- Multiplying a word that denotes a small integer by 128. -/
theorem toInt_muli128 (x : BitVec 32) (hx : -2 ^ 20 ≤ x.toInt ∧ x.toInt < 2 ^ 20) :
    (IntOp.muli x 128#32).toInt = x.toInt * 128 := by
  unfold IntOp.muli
  rw [BitVec.toInt_mul]
  have : (128#32).toInt = 128 := by decide
  rw [this]
  apply Int.bmod_eq_of_le <;> omega

/-- The absolute value of a word that denotes a small integer. -/
theorem toInt_absi (x : BitVec 32) (hx : -2 ^ 28 ≤ x.toInt ∧ x.toInt < 2 ^ 28) :
    (IntOp.absi x).toInt = |x.toInt| := by
  unfold IntOp.absi
  rw [BitVec.msb_eq_toInt]
  by_cases h : x.toInt < 0
  · simp only [h, decide_true, if_true]
    rw [BitVec.toInt_neg, abs_of_neg h]
    apply Int.bmod_eq_of_le <;> omega
  · simp only [h, decide_false, Bool.false_eq_true, if_false]
    rw [abs_of_nonneg (by omega)]

/-- The three places at which row `p` of block `b` is met by the spans of the blocks before, at and after it. -/
def three (F : Fin 64 → Fin 384 → EReal) (b : Fin 64) (p : Fin 128) : EReal :=
  (if h : 0 < b.val then F ⟨b.val - 1, by omega⟩ ⟨256 + p.val, by omega⟩ else 0) + F b ⟨128 + p.val, by omega⟩
    + (if h : b.val < 63 then F ⟨b.val + 1, by omega⟩ ⟨p.val, by omega⟩ else 0)

theorem sum_span (F : Fin 384 → EReal) (n : Fin 64) (b : Fin 64) (p : Fin 128) :
    (∑ s : Fin 384, if n.val * 128 + s.val = (b.val + 1) * 128 + p.val then F s else 0)
      = (if n.val + 1 = b.val then F ⟨256 + p.val, by omega⟩ else 0) + (if n = b then F ⟨128 + p.val, by omega⟩ else 0)
        + (if n.val = b.val + 1 then F ⟨p.val, by omega⟩ else 0) := by
  have key : ∀ t : Fin 384, n.val * 128 + t.val = (b.val + 1) * 128 + p.val →
      (∑ s : Fin 384, if n.val * 128 + s.val = (b.val + 1) * 128 + p.val then F s else 0) = F t := by
    intro t ht
    rw [Finset.sum_eq_single t]
    · rw [if_pos ht]
    · intro s _ hs
      rw [if_neg]
      intro h
      exact hs (Fin.ext (by omega))
    · intro h
      exact absurd (Finset.mem_univ t) h
  by_cases h1 : n.val + 1 = b.val
  · rw [key ⟨256 + p.val, by omega⟩ (by simp only; omega), if_pos h1, if_neg (fun h => by rw [h] at h1; omega), if_neg (by omega)]
    simp
  by_cases h2 : n = b
  · rw [key ⟨128 + p.val, by omega⟩ (by simp only; rw [h2]; omega), if_neg h1, if_pos h2, if_neg (by rw [h2]; omega)]
    simp
  by_cases h3 : n.val = b.val + 1
  · rw [key ⟨p.val, by omega⟩ (by simp only; omega), if_neg h1, if_neg h2, if_pos h3]
    simp
  · rw [if_neg h1, if_neg h2, if_neg h3]
    have h2' : n.val ≠ b.val := fun h => h2 (Fin.ext h)
    rw [Finset.sum_eq_zero]
    · simp
    · intro s _
      rw [if_neg (by omega)]

/-- A sum over all blocks and offsets that lie on one row is the sum of the three places. -/
theorem sum_three (F : Fin 64 → Fin 384 → EReal) (b : Fin 64) (p : Fin 128) :
    (∑ n : Fin 64, ∑ s : Fin 384, if n.val * 128 + s.val = (b.val + 1) * 128 + p.val then F n s else 0) = three F b p := by
  simp only [sum_span]
  rw [Finset.sum_add_distrib, Finset.sum_add_distrib]
  unfold three
  congr 1
  · congr 1
    · split
      · rename_i h
        rw [Finset.sum_eq_single ⟨b.val - 1, by omega⟩]
        · rw [if_pos (by simp only; omega)]
        · intro n _ hn
          rw [if_neg]
          intro h'
          exact hn (Fin.ext (by simp only; omega))
        · intro h'
          exact absurd (Finset.mem_univ _) h'
      · apply Finset.sum_eq_zero
        intro n _
        rw [if_neg (by omega)]
    · simp
  · split
    · rename_i h
      rw [Finset.sum_eq_single ⟨b.val + 1, by omega⟩]
      · rw [if_pos (by simp only)]
      · intro n _ hn
        rw [if_neg]
        intro h'
        exact hn (Fin.ext (by simp only; omega))
      · intro h'
        exact absurd (Finset.mem_univ _) h'
    · apply Finset.sum_eq_zero
      intro n _
      rw [if_neg (by omega)]

end Cert.Proof.Attn
end
-- ==== Proof.Val.Pay2.lean ====
/- What a point computes from the blocks it reads, at extended reals, read at an index. -/
module

public import proofs.«01_k».proof.Proof.Val.Run
public import proofs.«01_k».proof.Proof.Val.Pay
public import proofs.«01_k».proof.Proof.Val.Words

@[expose] public section

set_option maxRecDepth 16384

noncomputable section

namespace Cert.Proof.Attn

open Idealize.ShloMosaic Cert.KernelIdeal Cert.KernelIdeal.Gen

/-- Equal coordinates make equal indices. -/
theorem ix2_eq {m n : ℕ} {a a' : Fin m} {b b' : Fin n} (h : a.val = a'.val) (h' : b.val = b'.val) : ix2 a b = ix2 a' b' := by
  rw [Fin.ext h, Fin.ext h']

/-- Row `g * 128 + p` of the four heads stacked. -/
abbrev rw4 (g : Fin 4) (p : Fin 128) : Fin 512 := ⟨g.val * 128 + p.val, by omega⟩

theorem pay13_at (b0 b1 : Vec Ideal S128x512 .bf16) (g : Fin 4) (p d : Fin 128) :
    k0_pay13 b0 b1 (ix2 (rw4 g p) d) = b0 (ix2 p ⟨g.val * 128 + d.val, by omega⟩) := by
  match g with
  | 0 =>
    pointwise [k0_pay13, k0_pay10]
    try split_ifs
    all_goals first | omega | (refine congrArg _ (ix2_eq ?_ ?_) <;> (try dsimp only) <;> omega)
  | 1 =>
    pointwise [k0_pay13, k0_pay10]
    try split_ifs
    all_goals first | omega | (refine congrArg _ (ix2_eq ?_ ?_) <;> (try dsimp only) <;> omega)
  | 2 =>
    pointwise [k0_pay13, k0_pay10]
    try split_ifs
    all_goals first | omega | (refine congrArg _ (ix2_eq ?_ ?_) <;> (try dsimp only) <;> omega)
  | 3 =>
    pointwise [k0_pay13, k0_pay10]
    try split_ifs
    all_goals first | omega | (refine congrArg _ (ix2_eq ?_ ?_) <;> (try dsimp only) <;> omega)

theorem pay14_at (b5 : Vec Ideal S128x1024 .bf16) (g : Fin 4) (p d : Fin 128) :
    k0_pay14 b5 (ix2 (rw4 g p) d) = b5 (ix2 p ⟨g.val * 128 + d.val, by omega⟩) := by
  match g with
  | 0 =>
    pointwise [k0_pay14]
    try split_ifs
    all_goals first | omega | (refine congrArg _ (ix2_eq ?_ ?_) <;> (try dsimp only) <;> omega)
  | 1 =>
    pointwise [k0_pay14]
    try split_ifs
    all_goals first | omega | (refine congrArg _ (ix2_eq ?_ ?_) <;> (try dsimp only) <;> omega)
  | 2 =>
    pointwise [k0_pay14]
    try split_ifs
    all_goals first | omega | (refine congrArg _ (ix2_eq ?_ ?_) <;> (try dsimp only) <;> omega)
  | 3 =>
    pointwise [k0_pay14]
    try split_ifs
    all_goals first | omega | (refine congrArg _ (ix2_eq ?_ ?_) <;> (try dsimp only) <;> omega)

theorem pay51_at (b0 b1 : Vec Ideal S128x512 .bf16) (g : Fin 4) (p d : Fin 128) :
    k0_pay51 (k0_pay10 b0 b1) (ix2 (rw4 g p) d) = b1 (ix2 p ⟨g.val * 128 + d.val, by omega⟩) := by
  match g with
  | 0 =>
    pointwise [k0_pay51, k0_pay10]
    try split_ifs
    all_goals first | omega | (refine congrArg _ (ix2_eq ?_ ?_) <;> (try dsimp only) <;> omega)
  | 1 =>
    pointwise [k0_pay51, k0_pay10]
    try split_ifs
    all_goals first | omega | (refine congrArg _ (ix2_eq ?_ ?_) <;> (try dsimp only) <;> omega)
  | 2 =>
    pointwise [k0_pay51, k0_pay10]
    try split_ifs
    all_goals first | omega | (refine congrArg _ (ix2_eq ?_ ?_) <;> (try dsimp only) <;> omega)
  | 3 =>
    pointwise [k0_pay51, k0_pay10]
    try split_ifs
    all_goals first | omega | (refine congrArg _ (ix2_eq ?_ ?_) <;> (try dsimp only) <;> omega)

theorem pay52_at (b5 : Vec Ideal S128x1024 .bf16) (g : Fin 4) (p d : Fin 128) :
    k0_pay52 b5 (ix2 (rw4 g p) d) = b5 (ix2 p ⟨512 + (g.val * 128 + d.val), by omega⟩) := by
  match g with
  | 0 =>
    pointwise [k0_pay52]
    try split_ifs
    all_goals first | omega | (refine congrArg _ (ix2_eq ?_ ?_) <;> (try dsimp only) <;> omega)
  | 1 =>
    pointwise [k0_pay52]
    try split_ifs
    all_goals first | omega | (refine congrArg _ (ix2_eq ?_ ?_) <;> (try dsimp only) <;> omega)
  | 2 =>
    pointwise [k0_pay52]
    try split_ifs
    all_goals first | omega | (refine congrArg _ (ix2_eq ?_ ?_) <;> (try dsimp only) <;> omega)
  | 3 =>
    pointwise [k0_pay52]
    try split_ifs
    all_goals first | omega | (refine congrArg _ (ix2_eq ?_ ?_) <;> (try dsimp only) <;> omega)

/-- The three blocks of key and value rows, one after the other. -/
def kvAt (b2 b3 b4 : Vec Ideal S128x512 .bf16) (s : Fin 384) (c : Fin 512) : EReal :=
  if h : s.val < 128 then b2 (ix2 ⟨s.val, h⟩ c) else if h : s.val < 256 then b3 (ix2 ⟨s.val - 128, by omega⟩ c)
  else b4 (ix2 ⟨s.val - 256, by omega⟩ c)

theorem pay11_at (b2 b3 b4 : Vec Ideal S128x512 .bf16) (s : Fin 384) (c : Fin 512) :
    k0_pay11 b2 b3 b4 (ix2 s c) = kvAt b2 b3 b4 s c := by
  pointwise [k0_pay11, kvAt]
  by_cases h1 : s.val < 128
  · rw [dif_pos h1, dif_pos h1]
  · rw [dif_neg h1, dif_neg h1]
    by_cases h2 : s.val < 256
    · rw [dif_pos (show s.val - 128 < 128 by omega), dif_pos h2]
    · rw [dif_neg (show ¬ s.val - 128 < 128 by omega), dif_neg h2]
      exact congrArg _ (ix2_eq (by dsimp only; omega) rfl)

theorem pay15_at (b2 b3 b4 : Vec Ideal S128x512 .bf16) (s : Fin 384) (d : Fin 128) :
    k0_pay15 b2 b3 b4 (ix2 s d) = kvAt b2 b3 b4 s ⟨d.val, by omega⟩ := by
  pointwise [k0_pay15, pay11_at]

theorem pay16_at (b2 b3 b4 : Vec Ideal S128x512 .bf16) (s : Fin 384) (d : Fin 128) :
    k0_pay16 b2 b3 b4 (ix2 s d) = kvAt b2 b3 b4 s ⟨256 + d.val, by omega⟩ := by
  pointwise [k0_pay16, pay11_at]

theorem pay53_at (b2 b3 b4 : Vec Ideal S128x512 .bf16) (s : Fin 384) (d : Fin 128) :
    k0_pay53 (k0_pay11 b2 b3 b4) (ix2 s d) = kvAt b2 b3 b4 s ⟨128 + d.val, by omega⟩ := by
  pointwise [k0_pay53, pay11_at]

theorem pay54_at (b2 b3 b4 : Vec Ideal S128x512 .bf16) (s : Fin 384) (d : Fin 128) :
    k0_pay54 (k0_pay11 b2 b3 b4) (ix2 s d) = kvAt b2 b3 b4 s ⟨384 + d.val, by omega⟩ := by
  pointwise [k0_pay54, pay11_at]

theorem pay17_at (x : Vec Ideal S1x512x384 .f32) (r : Fin 512) (s : Fin 384) : k0_pay17 x (ix2 r s) = x (ix3 0 r s) := by
  pointwise [k0_pay17]

theorem pay55_at (x : Vec Ideal S1x512x384 .f32) (r : Fin 512) (s : Fin 384) : k0_pay55 x (ix2 r s) = x (ix3 0 r s) := by
  pointwise [k0_pay55]

theorem pay21_at (q : FVec Ideal S512x128 .bf16) (k : FVec Ideal S384x128 .bf16) (r : Fin 512) (s : Fin 384) :
    k0_pay21 q k (ix2 r s) = dot128 q k r s := by
  pointwise [k0_pay21, dot128]

/-- The scale's literal. -/
def scl : EReal := Ideal.ofBits .f32 0x3DB504F3#32

theorem pay35_at (k : FVec Ideal S384x128 .bf16) (x : FVec Ideal S512x384 .f32) (r : Fin 512) (d : Fin 128) :
    k0_pay35 k x (ix2 r d) = (∑ s : Fin 384, x (ix2 r s) * k (ix2 s d)) * scl := by
  pointwise [k0_pay35, k0_pay34, scl]

theorem pay40_at (q : FVec Ideal S512x128 .bf16) (x : FVec Ideal S512x384 .f32) (s : Fin 384) (d : Fin 128) :
    k0_pay40 q x (ix2 s d) = (∑ r : Fin 512, x (ix2 r s) * q (ix2 r d)) * scl := by
  pointwise [k0_pay40, k0_pay34, scl]

theorem pay41_at (o : FVec Ideal S512x128 .bf16) (x : FVec Ideal S512x384 .f32) (s : Fin 384) (d : Fin 128) :
    k0_pay41 o x (ix2 s d) = ∑ r : Fin 512, x (ix2 r s) * o (ix2 r d) := by
  pointwise [k0_pay41]

theorem pay71_at (o : FVec Ideal S512x128 .bf16) (k v : FVec Ideal S384x128 .bf16) (x : FVec Ideal S512x384 .f32) (r : Fin 512) (d : Fin 128) :
    k0_pay71 o k v x (ix2 r d) = (∑ s : Fin 384, k0_pay67 o v x (ix2 r s) * k (ix2 s d)) * scl := by
  pointwise [k0_pay71, k0_pay70, scl]

theorem pay76_at (q o : FVec Ideal S512x128 .bf16) (v : FVec Ideal S384x128 .bf16) (x : FVec Ideal S512x384 .f32) (s : Fin 384) (d : Fin 128) :
    k0_pay76 q (k0_pay70 o v x) (ix2 s d) = (∑ r : Fin 512, k0_pay67 o v x (ix2 r s) * q (ix2 r d)) * scl := by
  pointwise [k0_pay76, k0_pay70, scl]

theorem pay77_at (o : FVec Ideal S512x128 .bf16) (x : FVec Ideal S512x384 .f32) (s : Fin 384) (d : Fin 128) :
    k0_pay77 o x (ix2 s d) = ∑ r : Fin 512, x (ix2 r s) * o (ix2 r d) := by
  pointwise [k0_pay77]

section Head1

variable (v47 : IVec S1x384 1) (q : FVec Ideal S512x128 .bf16) (k : FVec Ideal S384x128 .bf16) (bi : FVec Ideal S512x384 .f32)
  (w : IVec S512x1 32) (z : FVec Ideal S512x1 .f32) (c : BitVec 32) (s4 s5 s6 s7 : Ideal .f32) (r : Fin 512)
  (o : FVec Ideal S512x128 .bf16) (v : FVec Ideal S384x128 .bf16)

/-- The second head's masked logits. -/
def rowSc1 (s : Fin 384) : EReal := Scalar.select (v47 (ix2 0 s)) (dot128 q k r s * scl + bi (ix2 r s)) ⊥

theorem pay59_at (s : Fin 384) : k0_pay59 v47 q k bi (ix2 r s) = rowSc1 v47 q k bi r s := by
  pointwise [k0_pay59, rowSc1, mask_bot, dot128, scl]

theorem pay60_at : k0_pay60 v47 q k bi w z c s4 s5 s6 s7 (ix2 r 0) = rowMax (rowSc1 v47 q k bi r) (k0_pay58 w z c s4 s5 s6 s7 (ix2 r 0)) := by
  pointwise [k0_pay60, pay59_at, rowMax]
  simp [word_bot]

theorem pay61_at (s : Fin 384) : k0_pay61 v47 q k bi w z c s4 s5 s6 s7 (ix2 r s)
    = Ideal.exp (rowSc1 v47 q k bi r s - rowMax (rowSc1 v47 q k bi r) (k0_pay58 w z c s4 s5 s6 s7 (ix2 r 0))) := by
  pointwise [k0_pay61, pay59_at, pay60_at]

theorem pay62_at : k0_pay62 v47 q k bi w z c s4 s5 s6 s7 (ix2 r 0)
    = Ideal.exp (k0_pay58 w z c s4 s5 s6 s7 (ix2 r 0) - rowMax (rowSc1 v47 q k bi r) (k0_pay58 w z c s4 s5 s6 s7 (ix2 r 0))) := by
  pointwise [k0_pay62, pay60_at]

theorem pay63_at : k0_pay63 v47 q k bi w z c s4 s5 s6 s7 (ix2 r 0)
    = Ideal.div 1 (rowSum (rowSc1 v47 q k bi r) (k0_pay58 w z c s4 s5 s6 s7 (ix2 r 0))) := by
  pointwise [k0_pay63, pay61_at, pay62_at, rowSum]

theorem pay64_at (s : Fin 384) : k0_pay64 v47 q k bi w z c s4 s5 s6 s7 (ix2 r s)
    = rowP (rowSc1 v47 q k bi r) (k0_pay58 w z c s4 s5 s6 s7 (ix2 r 0)) s := by
  pointwise [k0_pay64, pay61_at, pay63_at, rowP]

theorem pay66_at : k0_pay66 o v (k0_pay64 v47 q k bi w z c s4 s5 s6 s7) (ix2 r 0)
    = rowDelta (rowSc1 v47 q k bi r) (k0_pay58 w z c s4 s5 s6 s7 (ix2 r 0)) (dot128 o v r) := by
  pointwise [k0_pay66, k0_pay65, pay64_at, rowDelta, dot128]

theorem pay67_at (s : Fin 384) : k0_pay67 o v (k0_pay64 v47 q k bi w z c s4 s5 s6 s7) (ix2 r s)
    = rowDs (rowSc1 v47 q k bi r) (k0_pay58 w z c s4 s5 s6 s7 (ix2 r 0)) (dot128 o v r) s := by
  pointwise [k0_pay67, k0_pay65, pay64_at, pay66_at, rowDs, dot128]

theorem pay68_at (x : Vec Ideal S1x512x384 .f32) (s : Fin 384) : k0_pay68 o v (k0_pay64 v47 q k bi w z c s4 s5 s6 s7) x (ix3 0 r s)
    = x (ix3 0 r s) + rowDs (rowSc1 v47 q k bi r) (k0_pay58 w z c s4 s5 s6 s7 (ix2 r 0)) (dot128 o v r) s := by
  pointwise [k0_pay68, pay67_at]

theorem pay69_at (x : Vec Ideal S1x512x1 .f32) :
    k0_pay69 o v (k0_pay62 v47 q k bi w z c s4 s5 s6 s7) (k0_pay63 v47 q k bi w z c s4 s5 s6 s7) (k0_pay64 v47 q k bi w z c s4 s5 s6 s7) x (ix3 0 r 0)
    = x (ix3 0 r 0) + rowDsink (rowSc1 v47 q k bi r) (k0_pay58 w z c s4 s5 s6 s7 (ix2 r 0)) (dot128 o v r) := by
  pointwise [k0_pay69, pay66_at, pay62_at, pay63_at, rowDsink, rowSink]

end Head1

/-- The head's number in a row's word. -/
theorem pay56_at : ∀ r : Fin 512, k0_pay56 (ix2 r 0) = BitVec.ofNat 32 (r.val / 128) := by decide +kernel

theorem pay58_at (s4 s5 s6 s7 : Ideal .f32) (g : Fin 4) (p : Fin 128) :
    k0_pay58 k0_pay56 k0_pay57 0#32 s4 s5 s6 s7 (ix2 (rw4 g p) 0) = ![s4, s5, s6, s7] g := by
  have h := pay56_at (rw4 g p)
  have e : (rw4 g p).val / 128 = g.val := by show (g.val * 128 + p.val) / 128 = g.val; omega
  rw [e] at h
  generalize k0_pay56 = W at h
  pointwise [k0_pay58, k0_pay57]
  rw [h]
  match g with
  | 0 => rfl
  | 1 => rfl
  | 2 => rfl
  | 3 => rfl

theorem pay20_eq (s0 s1 s2 s3 : Ideal .f32) :
    k0_pay20 (F := Ideal) (iota .tc S512x1 32 [0] iota_S512x1_d0_w32) 128#32 k0_pay18 k0_pay19 0#32 s0 s1 s2 s3
      = k0_pay58 (F := Ideal) k0_pay56 k0_pay57 0#32 s0 s1 s2 s3 := rfl

/-- The columns of a point that lie in the sequence. -/
theorem pay12_at (n : ℕ) (hn : n < 65) (s : Fin 384) :
    k0_pay12 (BitVec.ofNat 32 n) (ix2 0 s) = 1#1 ↔ (128 ≤ n * 128 + s.val ∧ n * 128 + s.val < 8320) := by
  pointwise [k0_pay12]
  show IntOp.andi (IntOp.cmpi .sge (IntOp.addi (IntOp.muli (IntOp.subi (BitVec.ofNat 32 n) 1#32) 128#32) (BitVec.ofNat 32 s.val)) 0#32)
    (IntOp.cmpi .slt (IntOp.addi (IntOp.muli (IntOp.subi (BitVec.ofNat 32 n) 1#32) 128#32) (BitVec.ofNat 32 s.val)) 8192#32) = 1#1 ↔ _
  have c1 : (1#32).toInt = 1 := by decide
  have c0 : (0#32).toInt = 0 := by decide
  have c8192 : (8192#32).toInt = 8192 := by decide
  have hs := toInt_nat s.val (by omega)
  have hk := toInt_nat n (by omega)
  have e1 : (IntOp.subi (BitVec.ofNat 32 n) 1#32).toInt = n - 1 := by
    rw [toInt_subi _ _ (by omega) (by omega), hk, c1]
  have e2 : (IntOp.muli (IntOp.subi (BitVec.ofNat 32 n) 1#32) 128#32).toInt = (n - 1 : ℤ) * 128 := by
    rw [toInt_muli128 _ (by omega), e1]
  have e3 : (IntOp.addi (IntOp.muli (IntOp.subi (BitVec.ofNat 32 n) 1#32) 128#32) (BitVec.ofNat 32 s.val)).toInt = (n - 1 : ℤ) * 128 + s.val := by
    rw [toInt_addi _ _ (by omega) (by omega), e2, hs]
  rw [WordCmp.cmpi_sge_eq, WordCmp.cmpi_slt_eq, WordCmp.andi_ofBool, ← Bool.decide_and, WordCmp.ofBool_decide_eq_one_iff, e3, c0, c8192]
  omega

end Cert.Proof.Attn
end
-- ==== Proof.Val.Pay3.lean ====
/- A point's gradients at extended reals, over both key heads at once, read at an index. -/
module

public import proofs.«01_k».proof.Proof.Val.Pay2

@[expose] public section

set_option maxRecDepth 16384

noncomputable section

namespace Cert.Proof.Attn

open Idealize.ShloMosaic Cert.KernelIdeal Cert.KernelIdeal.Gen

/-- A sum over the stacked rows is one over heads and positions. -/
theorem sum_rows (f : Fin 512 → EReal) : ∑ r : Fin 512, f r = ∑ g : Fin 4, ∑ p : Fin 128, f (rw4 g p) := by
  rw [← Fintype.sum_prod_type' (fun g p => f (rw4 g p))]
  refine (Fintype.sum_equiv (finProdFinEquiv (m := 4) (n := 128)) _ _ fun x => ?_).symm
  refine congrArg f (Fin.ext ?_)
  show x.1.val * 128 + x.2.val = x.2.val + 128 * x.1.val
  omega

namespace Ins
variable (I : Ins Ideal)

/-- Query, gradient of the output, key, value, bias, sink logit. -/
def kQ (kh : Fin 2) (g : Fin 4) (p d : Fin 128) : EReal :=
  if kh = 0 then I.b0 (ix2 p ⟨g.val * 128 + d.val, by omega⟩) else I.b1 (ix2 p ⟨g.val * 128 + d.val, by omega⟩)
def kO (kh : Fin 2) (g : Fin 4) (p d : Fin 128) : EReal := I.b5 (ix2 p ⟨kh.val * 512 + (g.val * 128 + d.val), by omega⟩)
def kK (kh : Fin 2) (s : Fin 384) (d : Fin 128) : EReal := kvAt I.b2 I.b3 I.b4 s ⟨kh.val * 128 + d.val, by omega⟩
def kV (kh : Fin 2) (s : Fin 384) (d : Fin 128) : EReal := kvAt I.b2 I.b3 I.b4 s ⟨256 + (kh.val * 128 + d.val), by omega⟩
def kB (kh : Fin 2) (g : Fin 4) (p : Fin 128) (s : Fin 384) : EReal :=
  if kh = 0 then I.b6 (ix3 0 (rw4 g p) s) else I.b7 (ix3 0 (rw4 g p) s)
def kSn (kh : Fin 2) (g : Fin 4) : EReal := if kh = 0 then ![I.s0, I.s1, I.s2, I.s3] g else ![I.s4, I.s5, I.s6, I.s7] g

/-- The masked logits, the gradients of the probabilities, the probabilities, the gradients of the logits. -/
def kSc (kh : Fin 2) (g : Fin 4) (p : Fin 128) (s : Fin 384) : EReal :=
  Scalar.select (I.mask (ix2 0 s)) ((∑ d : Fin 128, I.kQ kh g p d * I.kK kh s d) * scl + I.kB kh g p s) ⊥
def kDp (kh : Fin 2) (g : Fin 4) (p : Fin 128) (s : Fin 384) : EReal := ∑ d : Fin 128, I.kO kh g p d * I.kV kh s d
def kP (kh : Fin 2) (g : Fin 4) (p : Fin 128) (s : Fin 384) : EReal := rowP (I.kSc kh g p) (I.kSn kh g) s
def kDs (kh : Fin 2) (g : Fin 4) (p : Fin 128) (s : Fin 384) : EReal := rowDs (I.kSc kh g p) (I.kSn kh g) (I.kDp kh g p) s
def kDsn (kh : Fin 2) (g : Fin 4) (p : Fin 128) : EReal := rowDsink (I.kSc kh g p) (I.kSn kh g) (I.kDp kh g p)

/-- The gradients of the queries, the keys and the values. -/
def kDq (kh : Fin 2) (g : Fin 4) (p d : Fin 128) : EReal := (∑ s : Fin 384, I.kDs kh g p s * I.kK kh s d) * scl
def kDk (kh : Fin 2) (s : Fin 384) (d : Fin 128) : EReal := (∑ g : Fin 4, ∑ p : Fin 128, I.kDs kh g p s * I.kQ kh g p d) * scl
def kDv (kh : Fin 2) (s : Fin 384) (d : Fin 128) : EReal := ∑ g : Fin 4, ∑ p : Fin 128, I.kP kh g p s * I.kO kh g p d

theorem q0_at (g : Fin 4) (p d : Fin 128) : I.q0 (ix2 (rw4 g p) d) = I.kQ 0 g p d := by
  unfold q0 kQ; rw [pay13_at, if_pos rfl]
theorem q1_at (g : Fin 4) (p d : Fin 128) : I.q1 (ix2 (rw4 g p) d) = I.kQ 1 g p d := by
  unfold q1 kQ; rw [pay51_at, if_neg (by decide)]
theorem o0_at (g : Fin 4) (p d : Fin 128) : I.o0 (ix2 (rw4 g p) d) = I.kO 0 g p d := by
  unfold o0 kO; rw [pay14_at]; exact congrArg _ (ix2_eq rfl (by simp))
theorem o1_at (g : Fin 4) (p d : Fin 128) : I.o1 (ix2 (rw4 g p) d) = I.kO 1 g p d := by
  unfold o1 kO; rw [pay52_at]; rfl
theorem k0_at (s : Fin 384) (d : Fin 128) : I.k0 (ix2 s d) = I.kK 0 s d := by
  unfold k0 kK; rw [pay15_at]; exact congrArg _ (Fin.ext (by simp))
theorem k1_at (s : Fin 384) (d : Fin 128) : I.k1 (ix2 s d) = I.kK 1 s d := by
  unfold k1 kK; rw [pay53_at]; exact congrArg _ (Fin.ext (by simp))
theorem v0_at (s : Fin 384) (d : Fin 128) : I.v0 (ix2 s d) = I.kV 0 s d := by
  unfold v0 kV; rw [pay16_at]; exact congrArg _ (Fin.ext (by simp))
theorem v1_at (s : Fin 384) (d : Fin 128) : I.v1 (ix2 s d) = I.kV 1 s d := by
  unfold v1 kV; rw [pay54_at]; exact congrArg _ (Fin.ext (by simp; omega))
theorem bias0_at (g : Fin 4) (p : Fin 128) (s : Fin 384) : I.bias0 (ix2 (rw4 g p) s) = I.kB 0 g p s := by
  unfold bias0 kB; rw [pay17_at, if_pos rfl]
theorem bias1_at (g : Fin 4) (p : Fin 128) (s : Fin 384) : I.bias1 (ix2 (rw4 g p) s) = I.kB 1 g p s := by
  unfold bias1 kB; rw [pay55_at, if_neg (by decide)]
theorem snk0_at (g : Fin 4) (p : Fin 128) : I.snk0 (ix2 (rw4 g p) 0) = I.kSn 0 g := by
  unfold snk0 kSn; rw [pay20_eq, pay58_at, if_pos rfl]
theorem snk1_at (g : Fin 4) (p : Fin 128) : k0_pay58 k0_pay56 k0_pay57 0#32 I.s4 I.s5 I.s6 I.s7 (ix2 (rw4 g p) 0) = I.kSn 1 g := by
  unfold kSn; rw [pay58_at, if_neg (by decide)]

theorem sc0_row (g : Fin 4) (p : Fin 128) : rowSc I.mask I.bias0 I.sc0 c0 (rw4 g p) = I.kSc 0 g p := by
  funext s
  unfold rowSc kSc sc0
  rw [pay21_at, bias0_at]
  unfold dot128
  simp only [q0_at, k0_at]
  rfl
theorem sc1_row (g : Fin 4) (p : Fin 128) : rowSc1 I.mask I.q1 I.k1 I.bias1 (rw4 g p) = I.kSc 1 g p := by
  funext s
  unfold rowSc1 kSc
  rw [bias1_at]
  unfold dot128
  simp only [q1_at, k1_at]
theorem dp0_row (g : Fin 4) (p : Fin 128) : dot128 I.o0 I.v0 (rw4 g p) = I.kDp 0 g p := by
  funext s
  unfold dot128 kDp
  simp only [o0_at, v0_at]
theorem dp1_row (g : Fin 4) (p : Fin 128) : dot128 I.o1 I.v1 (rw4 g p) = I.kDp 1 g p := by
  funext s
  unfold dot128 kDp
  simp only [o1_at, v1_at]

theorem p0_at (g : Fin 4) (p : Fin 128) (s : Fin 384) : I.p0 (ix2 (rw4 g p) s) = I.kP 0 g p s := by
  unfold p0 kP; rw [pay27, sc0_row, snk0_at]
theorem p1_at (g : Fin 4) (p : Fin 128) (s : Fin 384) : I.p1 (ix2 (rw4 g p) s) = I.kP 1 g p s := by
  unfold p1 kP; rw [pay64_at, sc1_row, snk1_at]
theorem ds0_at (g : Fin 4) (p : Fin 128) (s : Fin 384) : I.ds0 (ix2 (rw4 g p) s) = I.kDs 0 g p s := by
  unfold ds0 kDs; rw [pay30, sc0_row, snk0_at, dp0_row]
theorem ds1_at (g : Fin 4) (p : Fin 128) (s : Fin 384) : k0_pay67 I.o1 I.v1 I.p1 (ix2 (rw4 g p) s) = I.kDs 1 g p s := by
  unfold p1 kDs; rw [pay67_at, sc1_row, snk1_at, dp1_row]
theorem dbias0_at (x : Vec Ideal S1x512x384 .f32) (g : Fin 4) (p : Fin 128) (s : Fin 384) :
    k0_pay31 I.mask I.o0 I.v0 I.bias0 I.snk0 I.sc0 c0 x (ix3 0 (rw4 g p) s) = x (ix3 0 (rw4 g p) s) + I.kDs 0 g p s := by
  unfold kDs; rw [pay31, sc0_row, snk0_at, dp0_row]
theorem dbias1_at (x : Vec Ideal S1x512x384 .f32) (g : Fin 4) (p : Fin 128) (s : Fin 384) :
    k0_pay68 I.o1 I.v1 I.p1 x (ix3 0 (rw4 g p) s) = x (ix3 0 (rw4 g p) s) + I.kDs 1 g p s := by
  unfold kDs p1; rw [pay68_at, sc1_row, snk1_at, dp1_row]
theorem dsink0_at (x : Vec Ideal S1x512x1 .f32) (g : Fin 4) (p : Fin 128) :
    k0_pay33 (k0_pay32 I.mask I.o0 I.v0 I.bias0 I.snk0 I.sc0 c0 x) (ix3 0 (rw4 g p) 0) = x (ix3 0 (rw4 g p) 0) + I.kDsn 0 g p := by
  have e : ∀ y : FVec Ideal S512x1 .f32, k0_pay33 y (ix3 0 (rw4 g p) 0) = y (ix2 (rw4 g p) 0) := fun y => by pointwise [k0_pay33]
  unfold kDsn; rw [e, pay32, sc0_row, snk0_at, dp0_row]
theorem dsink1_at (x : Vec Ideal S1x512x1 .f32) (g : Fin 4) (p : Fin 128) :
    k0_pay69 I.o1 I.v1 I.e1 I.z1 I.p1 x (ix3 0 (rw4 g p) 0) = x (ix3 0 (rw4 g p) 0) + I.kDsn 1 g p := by
  unfold kDsn e1 z1 p1; rw [pay69_at, sc1_row, snk1_at, dp1_row]

theorem dq0_at (g : Fin 4) (p d : Fin 128) : k0_pay35 I.k0 I.ds0 (ix2 (rw4 g p) d) = I.kDq 0 g p d := by
  unfold kDq; rw [pay35_at]; simp only [ds0_at, k0_at]
theorem dq1_at (g : Fin 4) (p d : Fin 128) : k0_pay71 I.o1 I.k1 I.v1 I.p1 (ix2 (rw4 g p) d) = I.kDq 1 g p d := by
  unfold kDq; rw [pay71_at]; simp only [ds1_at, k1_at]
theorem dk0_at (s : Fin 384) (d : Fin 128) : I.dk0 (ix2 s d) = I.kDk 0 s d := by
  unfold dk0 kDk; rw [pay40_at, sum_rows]; simp only [ds0_at, q0_at]
theorem dk1_at (s : Fin 384) (d : Fin 128) : I.dk1 (ix2 s d) = I.kDk 1 s d := by
  unfold dk1 kDk; rw [pay76_at, sum_rows]; simp only [ds1_at, q1_at]
theorem dv0_at (s : Fin 384) (d : Fin 128) : I.dv0 (ix2 s d) = I.kDv 0 s d := by
  unfold dv0 kDv; rw [pay41_at, sum_rows]; simp only [p0_at, o0_at]
theorem dv1_at (s : Fin 384) (d : Fin 128) : I.dv1 (ix2 s d) = I.kDv 1 s d := by
  unfold dv1 kDv; rw [pay77_at, sum_rows]; simp only [p1_at, o1_at]

end Ins

theorem part_at (j : Fin 3) (D : FVec Ideal S384x128 .f32) (p d : Fin 128) : part j D (ix2 p d) = D (ix2 ⟨j.val * 128 + p.val, by omega⟩ d) := by
  match j with
  | 0 => pointwise [part]
  | 1 => pointwise [part]
  | 2 => pointwise [part]

end Cert.Proof.Attn
end
-- ==== Proof.Val.Acc.lean ====
/- What the kernel's lists of writes leave, read at an index. -/
module

public import proofs.«01_k».proof.Proof.Val.Pay3
public import Idealize.ShloMosaic.Lib.WritesUnit

@[expose] public section

set_option maxRecDepth 16384

noncomputable section

namespace Cert.Proof.Attn

open Idealize.ShloMosaic Idealize.ShloMosaic.View Cert.KernelIdeal Cert.KernelIdeal.Gen

abbrev AccView := View sig .tc .vmem S3x128x512 .f32

/-- Inside an addition's rectangle the scratch reads what it held plus the addend. -/
theorem acc_in (v : AccView) (g f : v.ty.Contents (Elt Ideal)) (off : Fin 3 → ℕ) (inb) (D : FVec Ideal S128x128 .f32) (L)
    (a : Fin 3) (b : ℕ) (heq : off = ![a.val, 0, b]) (p : Fin 128) (c : Fin 512) (x : Fin 128) (hc : c.val = b + x.val) :
    v.read (Elt Ideal) (v.writes (Elt Ideal) g (accW v f off inb D L)) (ix3 a p c)
      = ((v.read (Elt Ideal) (v.writes (Elt Ideal) f L) (ix3 a p c) : EReal) + (D (ix2 p x) : EReal) : EReal) := by
  unfold accW
  rw [read_writes_cons_unit_of_mem v g inb _ L (ix3 a p c) (ix3 0 p x) heq (by
    intro k
    match k with
    | 0 => rfl
    | 1 => exact (Nat.zero_add _).symm
    | 2 => exact hc)]
  have e : (v.readAt (Elt Ideal) (Rect.unit (s := S3x128x512) off S1x128x128.size inb).toLoadRect (v.writes (Elt Ideal) f L)) (ix3 0 p x)
      = v.read (Elt Ideal) (v.writes (Elt Ideal) f L) (ix3 a p c) := by
    subst heq
    rw [View.readAt_apply]
    refine congrArg (v.read (Elt Ideal) (v.writes (Elt Ideal) f L)) (funext fun k => Fin.ext ?_)
    match k with
    | 0 => show a.val + 1 * 0 = a.val; omega
    | 1 => show 0 + 1 * p.val = p.val; omega
    | 2 => show b + 1 * x.val = c.val; omega
  rw [← e]
  generalize (v.readAt (Elt Ideal) (Rect.unit (s := S3x128x512) off S1x128x128.size inb).toLoadRect (v.writes (Elt Ideal) f L)) = R
  change FVec Ideal S1x128x128 .f32 at R
  have key : ∀ R : FVec Ideal S1x128x128 .f32, shapeCast S1x128x128 (addf (shapeCast S128x128 R shapeCasts_S1x128x128_S128x128) D)
      shapeCasts_S128x128_S1x128x128 (ix3 0 p x) = ((R (ix3 0 p x) : EReal) + (D (ix2 p x) : EReal) : EReal) := fun R => by pointwise
  exact key R

/-- Outside it the scratch reads what it held. -/
theorem acc_out (v : AccView) (g f : v.ty.Contents (Elt Ideal)) (off : Fin 3 → ℕ) (inb) (D : FVec Ideal S128x128 .f32) (L)
    (a' b : ℕ) (heq : off = ![a', 0, b]) (a : Fin 3) (p : Fin 128) (c : Fin 512) (h : a.val ≠ a' ∨ c.val < b ∨ b + 128 ≤ c.val) :
    v.read (Elt Ideal) (v.writes (Elt Ideal) g (accW v f off inb D L)) (ix3 a p c)
      = v.read (Elt Ideal) (v.writes (Elt Ideal) g L) (ix3 a p c) := by
  unfold accW
  rcases h with h | h
  · exact read_writes_cons_unit_of_not_mem v g inb _ L (ix3 a p c) heq 0 (by
      show a.val < a' ∨ a' + 1 ≤ a.val
      omega)
  · exact read_writes_cons_unit_of_not_mem v g inb _ L (ix3 a p c) heq 2 (by
      show c.val < b ∨ b + 128 ≤ c.val
      exact h)

/-- A point's gradients of the keys and values, by the scratch's columns. -/
def Ins.kD (I : Ins Ideal) (s : Fin 384) (c : Fin 512) : EReal :=
  if h : c.val < 128 then I.kDk 0 s ⟨c.val, h⟩
  else if h : c.val < 256 then I.kDk 1 s ⟨c.val - 128, by omega⟩
  else if h : c.val < 384 then I.kDv 0 s ⟨c.val - 256, by omega⟩
  else I.kDv 1 s ⟨c.val - 384, by omega⟩

/-- The scratch after a point's twelve additions. -/
theorem L13_at (I : Ins Ideal) (v : AccView) (g f : v.ty.Contents (Elt Ideal)) (L) (j : Fin 3) (a : Fin 3)
    (ha : a.val = ((I.i 0).val + 2 + j.val) % 3) (p : Fin 128) (c : Fin 512) :
    v.read (Elt Ideal) (v.writes (Elt Ideal) g (I.L13 v f L)) (ix3 a p c)
      = ((v.read (Elt Ideal) (v.writes (Elt Ideal) f L) (ix3 a p c) : EReal) + I.kD ⟨j.val * 128 + p.val, by omega⟩ c : EReal) := by
  have o52 : k0_off5 I.i 2#32 = ![((I.i 0).val + 2 + 2) % 3, 0, 384] := off5_eq I.i 2
  have o42 : k0_off4 I.i 2#32 = ![((I.i 0).val + 2 + 2) % 3, 0, 128] := off4_eq I.i 2
  have o51 : k0_off5 I.i 1#32 = ![((I.i 0).val + 2 + 1) % 3, 0, 384] := off5_eq I.i 1
  have o41 : k0_off4 I.i 1#32 = ![((I.i 0).val + 2 + 1) % 3, 0, 128] := off4_eq I.i 1
  have o50 : k0_off5 I.i 0#32 = ![((I.i 0).val + 2 + 0) % 3, 0, 384] := off5_eq I.i 0
  have o40 : k0_off4 I.i 0#32 = ![((I.i 0).val + 2 + 0) % 3, 0, 128] := off4_eq I.i 0
  have o32 : k0_off3 I.i 2#32 = ![((I.i 0).val + 2 + 2) % 3, 0, 256] := off3_eq I.i 2
  have o22 : k0_off2 I.i 2#32 = ![((I.i 0).val + 2 + 2) % 3, 0, 0] := off2_eq I.i 2
  have o31 : k0_off3 I.i 1#32 = ![((I.i 0).val + 2 + 1) % 3, 0, 256] := off3_eq I.i 1
  have o21 : k0_off2 I.i 1#32 = ![((I.i 0).val + 2 + 1) % 3, 0, 0] := off2_eq I.i 1
  have o30 : k0_off3 I.i 0#32 = ![((I.i 0).val + 2 + 0) % 3, 0, 256] := off3_eq I.i 0
  have o20 : k0_off2 I.i 0#32 = ![((I.i 0).val + 2 + 0) % 3, 0, 0] := off2_eq I.i 0
  unfold Ins.L13 Ins.kD
  by_cases h0 : c.val < 128
  · rw [dif_pos h0]
    match j, ha with
    | 0, ha =>
      have ha' : a.val = ((I.i 0).val + 2 + 0) % 3 := ha
      rw [acc_out v g f _ _ _ _ _ _ o52 a p c (by omega)]
      rw [acc_out v g f _ _ _ _ _ _ o42 a p c (by omega)]
      rw [acc_out v g f _ _ _ _ _ _ o51 a p c (by omega)]
      rw [acc_out v g f _ _ _ _ _ _ o41 a p c (by omega)]
      rw [acc_out v g f _ _ _ _ _ _ o50 a p c (by omega)]
      rw [acc_out v g f _ _ _ _ _ _ o40 a p c (by omega)]
      rw [acc_out v g f _ _ _ _ _ _ o32 a p c (by omega)]
      rw [acc_out v g f _ _ _ _ _ _ o22 a p c (by omega)]
      rw [acc_out v g f _ _ _ _ _ _ o31 a p c (by omega)]
      rw [acc_out v g f _ _ _ _ _ _ o21 a p c (by omega)]
      rw [acc_out v g f _ _ _ _ _ _ o30 a p c (by omega)]
      rw [acc_in v g f _ _ _ _ a 0 (o20.trans (by rw [ha'])) p c ⟨c.val - 0, by omega⟩ (by dsimp only; omega)]
      rw [part_at, Ins.dk0_at]
      rfl
    | 1, ha =>
      have ha' : a.val = ((I.i 0).val + 2 + 1) % 3 := ha
      rw [acc_out v g f _ _ _ _ _ _ o52 a p c (by omega)]
      rw [acc_out v g f _ _ _ _ _ _ o42 a p c (by omega)]
      rw [acc_out v g f _ _ _ _ _ _ o51 a p c (by omega)]
      rw [acc_out v g f _ _ _ _ _ _ o41 a p c (by omega)]
      rw [acc_out v g f _ _ _ _ _ _ o50 a p c (by omega)]
      rw [acc_out v g f _ _ _ _ _ _ o40 a p c (by omega)]
      rw [acc_out v g f _ _ _ _ _ _ o32 a p c (by omega)]
      rw [acc_out v g f _ _ _ _ _ _ o22 a p c (by omega)]
      rw [acc_out v g f _ _ _ _ _ _ o31 a p c (by omega)]
      rw [acc_in v g f _ _ _ _ a 0 (o21.trans (by rw [ha'])) p c ⟨c.val - 0, by omega⟩ (by dsimp only; omega)]
      rw [acc_out v f f _ _ _ _ _ _ o30 a p c (by omega)]
      rw [acc_out v f f _ _ _ _ _ _ o20 a p c (by omega)]
      rw [part_at, Ins.dk0_at]
      rfl
    | 2, ha =>
      have ha' : a.val = ((I.i 0).val + 2 + 2) % 3 := ha
      rw [acc_out v g f _ _ _ _ _ _ o52 a p c (by omega)]
      rw [acc_out v g f _ _ _ _ _ _ o42 a p c (by omega)]
      rw [acc_out v g f _ _ _ _ _ _ o51 a p c (by omega)]
      rw [acc_out v g f _ _ _ _ _ _ o41 a p c (by omega)]
      rw [acc_out v g f _ _ _ _ _ _ o50 a p c (by omega)]
      rw [acc_out v g f _ _ _ _ _ _ o40 a p c (by omega)]
      rw [acc_out v g f _ _ _ _ _ _ o32 a p c (by omega)]
      rw [acc_in v g f _ _ _ _ a 0 (o22.trans (by rw [ha'])) p c ⟨c.val - 0, by omega⟩ (by dsimp only; omega)]
      rw [acc_out v f f _ _ _ _ _ _ o31 a p c (by omega)]
      rw [acc_out v f f _ _ _ _ _ _ o21 a p c (by omega)]
      rw [acc_out v f f _ _ _ _ _ _ o30 a p c (by omega)]
      rw [acc_out v f f _ _ _ _ _ _ o20 a p c (by omega)]
      rw [part_at, Ins.dk0_at]
      rfl
  rw [dif_neg h0]
  by_cases h1 : c.val < 256
  · rw [dif_pos h1]
    match j, ha with
    | 0, ha =>
      have ha' : a.val = ((I.i 0).val + 2 + 0) % 3 := ha
      rw [acc_out v g f _ _ _ _ _ _ o52 a p c (by omega)]
      rw [acc_out v g f _ _ _ _ _ _ o42 a p c (by omega)]
      rw [acc_out v g f _ _ _ _ _ _ o51 a p c (by omega)]
      rw [acc_out v g f _ _ _ _ _ _ o41 a p c (by omega)]
      rw [acc_out v g f _ _ _ _ _ _ o50 a p c (by omega)]
      rw [acc_in v g f _ _ _ _ a 128 (o40.trans (by rw [ha'])) p c ⟨c.val - 128, by omega⟩ (by dsimp only; omega)]
      rw [acc_out v f f _ _ _ _ _ _ o32 a p c (by omega)]
      rw [acc_out v f f _ _ _ _ _ _ o22 a p c (by omega)]
      rw [acc_out v f f _ _ _ _ _ _ o31 a p c (by omega)]
      rw [acc_out v f f _ _ _ _ _ _ o21 a p c (by omega)]
      rw [acc_out v f f _ _ _ _ _ _ o30 a p c (by omega)]
      rw [acc_out v f f _ _ _ _ _ _ o20 a p c (by omega)]
      rw [part_at, Ins.dk1_at]
    | 1, ha =>
      have ha' : a.val = ((I.i 0).val + 2 + 1) % 3 := ha
      rw [acc_out v g f _ _ _ _ _ _ o52 a p c (by omega)]
      rw [acc_out v g f _ _ _ _ _ _ o42 a p c (by omega)]
      rw [acc_out v g f _ _ _ _ _ _ o51 a p c (by omega)]
      rw [acc_in v g f _ _ _ _ a 128 (o41.trans (by rw [ha'])) p c ⟨c.val - 128, by omega⟩ (by dsimp only; omega)]
      rw [acc_out v f f _ _ _ _ _ _ o50 a p c (by omega)]
      rw [acc_out v f f _ _ _ _ _ _ o40 a p c (by omega)]
      rw [acc_out v f f _ _ _ _ _ _ o32 a p c (by omega)]
      rw [acc_out v f f _ _ _ _ _ _ o22 a p c (by omega)]
      rw [acc_out v f f _ _ _ _ _ _ o31 a p c (by omega)]
      rw [acc_out v f f _ _ _ _ _ _ o21 a p c (by omega)]
      rw [acc_out v f f _ _ _ _ _ _ o30 a p c (by omega)]
      rw [acc_out v f f _ _ _ _ _ _ o20 a p c (by omega)]
      rw [part_at, Ins.dk1_at]
    | 2, ha =>
      have ha' : a.val = ((I.i 0).val + 2 + 2) % 3 := ha
      rw [acc_out v g f _ _ _ _ _ _ o52 a p c (by omega)]
      rw [acc_in v g f _ _ _ _ a 128 (o42.trans (by rw [ha'])) p c ⟨c.val - 128, by omega⟩ (by dsimp only; omega)]
      rw [acc_out v f f _ _ _ _ _ _ o51 a p c (by omega)]
      rw [acc_out v f f _ _ _ _ _ _ o41 a p c (by omega)]
      rw [acc_out v f f _ _ _ _ _ _ o50 a p c (by omega)]
      rw [acc_out v f f _ _ _ _ _ _ o40 a p c (by omega)]
      rw [acc_out v f f _ _ _ _ _ _ o32 a p c (by omega)]
      rw [acc_out v f f _ _ _ _ _ _ o22 a p c (by omega)]
      rw [acc_out v f f _ _ _ _ _ _ o31 a p c (by omega)]
      rw [acc_out v f f _ _ _ _ _ _ o21 a p c (by omega)]
      rw [acc_out v f f _ _ _ _ _ _ o30 a p c (by omega)]
      rw [acc_out v f f _ _ _ _ _ _ o20 a p c (by omega)]
      rw [part_at, Ins.dk1_at]
  rw [dif_neg h1]
  by_cases h2 : c.val < 384
  · rw [dif_pos h2]
    match j, ha with
    | 0, ha =>
      have ha' : a.val = ((I.i 0).val + 2 + 0) % 3 := ha
      rw [acc_out v g f _ _ _ _ _ _ o52 a p c (by omega)]
      rw [acc_out v g f _ _ _ _ _ _ o42 a p c (by omega)]
      rw [acc_out v g f _ _ _ _ _ _ o51 a p c (by omega)]
      rw [acc_out v g f _ _ _ _ _ _ o41 a p c (by omega)]
      rw [acc_out v g f _ _ _ _ _ _ o50 a p c (by omega)]
      rw [acc_out v g f _ _ _ _ _ _ o40 a p c (by omega)]
      rw [acc_out v g f _ _ _ _ _ _ o32 a p c (by omega)]
      rw [acc_out v g f _ _ _ _ _ _ o22 a p c (by omega)]
      rw [acc_out v g f _ _ _ _ _ _ o31 a p c (by omega)]
      rw [acc_out v g f _ _ _ _ _ _ o21 a p c (by omega)]
      rw [acc_in v g f _ _ _ _ a 256 (o30.trans (by rw [ha'])) p c ⟨c.val - 256, by omega⟩ (by dsimp only; omega)]
      rw [acc_out v f f _ _ _ _ _ _ o20 a p c (by omega)]
      rw [part_at, Ins.dv0_at]
    | 1, ha =>
      have ha' : a.val = ((I.i 0).val + 2 + 1) % 3 := ha
      rw [acc_out v g f _ _ _ _ _ _ o52 a p c (by omega)]
      rw [acc_out v g f _ _ _ _ _ _ o42 a p c (by omega)]
      rw [acc_out v g f _ _ _ _ _ _ o51 a p c (by omega)]
      rw [acc_out v g f _ _ _ _ _ _ o41 a p c (by omega)]
      rw [acc_out v g f _ _ _ _ _ _ o50 a p c (by omega)]
      rw [acc_out v g f _ _ _ _ _ _ o40 a p c (by omega)]
      rw [acc_out v g f _ _ _ _ _ _ o32 a p c (by omega)]
      rw [acc_out v g f _ _ _ _ _ _ o22 a p c (by omega)]
      rw [acc_in v g f _ _ _ _ a 256 (o31.trans (by rw [ha'])) p c ⟨c.val - 256, by omega⟩ (by dsimp only; omega)]
      rw [acc_out v f f _ _ _ _ _ _ o21 a p c (by omega)]
      rw [acc_out v f f _ _ _ _ _ _ o30 a p c (by omega)]
      rw [acc_out v f f _ _ _ _ _ _ o20 a p c (by omega)]
      rw [part_at, Ins.dv0_at]
    | 2, ha =>
      have ha' : a.val = ((I.i 0).val + 2 + 2) % 3 := ha
      rw [acc_out v g f _ _ _ _ _ _ o52 a p c (by omega)]
      rw [acc_out v g f _ _ _ _ _ _ o42 a p c (by omega)]
      rw [acc_out v g f _ _ _ _ _ _ o51 a p c (by omega)]
      rw [acc_out v g f _ _ _ _ _ _ o41 a p c (by omega)]
      rw [acc_out v g f _ _ _ _ _ _ o50 a p c (by omega)]
      rw [acc_out v g f _ _ _ _ _ _ o40 a p c (by omega)]
      rw [acc_in v g f _ _ _ _ a 256 (o32.trans (by rw [ha'])) p c ⟨c.val - 256, by omega⟩ (by dsimp only; omega)]
      rw [acc_out v f f _ _ _ _ _ _ o22 a p c (by omega)]
      rw [acc_out v f f _ _ _ _ _ _ o31 a p c (by omega)]
      rw [acc_out v f f _ _ _ _ _ _ o21 a p c (by omega)]
      rw [acc_out v f f _ _ _ _ _ _ o30 a p c (by omega)]
      rw [acc_out v f f _ _ _ _ _ _ o20 a p c (by omega)]
      rw [part_at, Ins.dv0_at]
  rw [dif_neg h2]
  match j, ha with
  | 0, ha =>
    have ha' : a.val = ((I.i 0).val + 2 + 0) % 3 := ha
    rw [acc_out v g f _ _ _ _ _ _ o52 a p c (by omega)]
    rw [acc_out v g f _ _ _ _ _ _ o42 a p c (by omega)]
    rw [acc_out v g f _ _ _ _ _ _ o51 a p c (by omega)]
    rw [acc_out v g f _ _ _ _ _ _ o41 a p c (by omega)]
    rw [acc_in v g f _ _ _ _ a 384 (o50.trans (by rw [ha'])) p c ⟨c.val - 384, by omega⟩ (by dsimp only; omega)]
    rw [acc_out v f f _ _ _ _ _ _ o40 a p c (by omega)]
    rw [acc_out v f f _ _ _ _ _ _ o32 a p c (by omega)]
    rw [acc_out v f f _ _ _ _ _ _ o22 a p c (by omega)]
    rw [acc_out v f f _ _ _ _ _ _ o31 a p c (by omega)]
    rw [acc_out v f f _ _ _ _ _ _ o21 a p c (by omega)]
    rw [acc_out v f f _ _ _ _ _ _ o30 a p c (by omega)]
    rw [acc_out v f f _ _ _ _ _ _ o20 a p c (by omega)]
    rw [part_at, Ins.dv1_at]
  | 1, ha =>
    have ha' : a.val = ((I.i 0).val + 2 + 1) % 3 := ha
    rw [acc_out v g f _ _ _ _ _ _ o52 a p c (by omega)]
    rw [acc_out v g f _ _ _ _ _ _ o42 a p c (by omega)]
    rw [acc_in v g f _ _ _ _ a 384 (o51.trans (by rw [ha'])) p c ⟨c.val - 384, by omega⟩ (by dsimp only; omega)]
    rw [acc_out v f f _ _ _ _ _ _ o41 a p c (by omega)]
    rw [acc_out v f f _ _ _ _ _ _ o50 a p c (by omega)]
    rw [acc_out v f f _ _ _ _ _ _ o40 a p c (by omega)]
    rw [acc_out v f f _ _ _ _ _ _ o32 a p c (by omega)]
    rw [acc_out v f f _ _ _ _ _ _ o22 a p c (by omega)]
    rw [acc_out v f f _ _ _ _ _ _ o31 a p c (by omega)]
    rw [acc_out v f f _ _ _ _ _ _ o21 a p c (by omega)]
    rw [acc_out v f f _ _ _ _ _ _ o30 a p c (by omega)]
    rw [acc_out v f f _ _ _ _ _ _ o20 a p c (by omega)]
    rw [part_at, Ins.dv1_at]
  | 2, ha =>
    have ha' : a.val = ((I.i 0).val + 2 + 2) % 3 := ha
    rw [acc_in v g f _ _ _ _ a 384 (o52.trans (by rw [ha'])) p c ⟨c.val - 384, by omega⟩ (by dsimp only; omega)]
    rw [acc_out v f f _ _ _ _ _ _ o42 a p c (by omega)]
    rw [acc_out v f f _ _ _ _ _ _ o51 a p c (by omega)]
    rw [acc_out v f f _ _ _ _ _ _ o41 a p c (by omega)]
    rw [acc_out v f f _ _ _ _ _ _ o50 a p c (by omega)]
    rw [acc_out v f f _ _ _ _ _ _ o40 a p c (by omega)]
    rw [acc_out v f f _ _ _ _ _ _ o32 a p c (by omega)]
    rw [acc_out v f f _ _ _ _ _ _ o22 a p c (by omega)]
    rw [acc_out v f f _ _ _ _ _ _ o31 a p c (by omega)]
    rw [acc_out v f f _ _ _ _ _ _ o21 a p c (by omega)]
    rw [acc_out v f f _ _ _ _ _ _ o30 a p c (by omega)]
    rw [acc_out v f f _ _ _ _ _ _ o20 a p c (by omega)]
    rw [part_at, Ins.dv1_at]

theorem pay75_at (x : FVec Ideal S512x128 .f32) (p d : Fin 128) : k0_pay75 x (ix2 p d) = x (ix2 (rw4 3 p) d) := by
  pointwise [k0_pay75]
  exact congrArg x (ix2_eq (by show _ = _ * 128 + p.val; simp) rfl)
theorem pay74_at (o1 : FVec Ideal S512x128 .bf16) (k1 v1 : FVec Ideal S384x128 .bf16) (p1 : FVec Ideal S512x384 .f32) (p d : Fin 128) : k0_pay74 o1 k1 v1 p1 (ix2 p d) = k0_pay71 o1 k1 v1 p1 (ix2 (rw4 2 p) d) := by
  unfold k0_pay74
  generalize k0_pay71 o1 k1 v1 p1 = x
  pointwise
  exact congrArg x (ix2_eq (by show _ = _ * 128 + p.val; simp) rfl)
theorem pay73_at (o1 : FVec Ideal S512x128 .bf16) (k1 v1 : FVec Ideal S384x128 .bf16) (p1 : FVec Ideal S512x384 .f32) (p d : Fin 128) : k0_pay73 o1 k1 v1 p1 (ix2 p d) = k0_pay71 o1 k1 v1 p1 (ix2 (rw4 1 p) d) := by
  unfold k0_pay73
  generalize k0_pay71 o1 k1 v1 p1 = x
  pointwise
  exact congrArg x (ix2_eq (by show _ = _ * 128 + p.val; simp) rfl)
theorem pay72_at (o1 : FVec Ideal S512x128 .bf16) (k1 v1 : FVec Ideal S384x128 .bf16) (p1 : FVec Ideal S512x384 .f32) (p d : Fin 128) : k0_pay72 o1 k1 v1 p1 (ix2 p d) = k0_pay71 o1 k1 v1 p1 (ix2 (rw4 0 p) d) := by
  unfold k0_pay72
  generalize k0_pay71 o1 k1 v1 p1 = x
  pointwise
  exact congrArg x (ix2_eq (by show _ = _ * 128 + p.val; simp) rfl)
theorem pay39_at (k0 : FVec Ideal S384x128 .bf16) (ds : FVec Ideal S512x384 .f32) (p d : Fin 128) : k0_pay39 k0 ds (ix2 p d) = k0_pay35 k0 ds (ix2 (rw4 3 p) d) := by
  unfold k0_pay39
  generalize k0_pay35 k0 ds = x
  pointwise
  exact congrArg x (ix2_eq (by show _ = _ * 128 + p.val; simp) rfl)
theorem pay38_at (k0 : FVec Ideal S384x128 .bf16) (ds : FVec Ideal S512x384 .f32) (p d : Fin 128) : k0_pay38 k0 ds (ix2 p d) = k0_pay35 k0 ds (ix2 (rw4 2 p) d) := by
  unfold k0_pay38
  generalize k0_pay35 k0 ds = x
  pointwise
  exact congrArg x (ix2_eq (by show _ = _ * 128 + p.val; simp) rfl)
theorem pay37_at (k0 : FVec Ideal S384x128 .bf16) (ds : FVec Ideal S512x384 .f32) (p d : Fin 128) : k0_pay37 k0 ds (ix2 p d) = k0_pay35 k0 ds (ix2 (rw4 1 p) d) := by
  unfold k0_pay37
  generalize k0_pay35 k0 ds = x
  pointwise
  exact congrArg x (ix2_eq (by show _ = _ * 128 + p.val; simp) rfl)
theorem pay36_at (k0 : FVec Ideal S384x128 .bf16) (ds : FVec Ideal S512x384 .f32) (p d : Fin 128) : k0_pay36 k0 ds (ix2 p d) = k0_pay35 k0 ds (ix2 (rw4 0 p) d) := by
  unfold k0_pay36
  generalize k0_pay35 k0 ds = x
  pointwise
  exact congrArg x (ix2_eq (by show _ = _ * 128 + p.val; simp) rfl)

/-- A row of the stacked eight heads' query gradients. -/
theorem L9_at (I : Ins Ideal) (v : View sig .tc .vmem S128x1024 .bf16) (g : v.ty.Contents (Elt Ideal)) (kh : Fin 2) (h : Fin 4) (p d : Fin 128) :
    v.read (Elt Ideal) (v.writes (Elt Ideal) g I.L9) (ix2 p ⟨kh.val * 512 + h.val * 128 + d.val, by omega⟩) = I.kDq kh h p d := by
  unfold Ins.L9
  match kh, h with
  | 1, 3 =>
    refine (read_writes_cons_unit_of_mem v g _ _ _ _ (ix2 p d) rfl (by intro k; match k with | 0 => exact (Nat.zero_add _).symm | 1 => show 1 * 512 + 3 * 128 + d.val = 896 + d.val; omega)).trans ?_
    rw [← Ins.dq1_at]; exact pay75_at _ p d
  | 1, 2 =>
    refine (read_writes_cons_unit_of_not_mem v g _ _ _ _ rfl 1 (by left; show 1 * 512 + 2 * 128 + d.val < 896; omega)).trans ?_
    refine (read_writes_cons_unit_of_mem v g _ _ _ _ (ix2 p d) rfl (by intro k; match k with | 0 => exact (Nat.zero_add _).symm | 1 => show 1 * 512 + 2 * 128 + d.val = 768 + d.val; omega)).trans ?_
    rw [← Ins.dq1_at]; exact pay74_at _ _ _ _ p d
  | 1, 1 =>
    refine (read_writes_cons_unit_of_not_mem v g _ _ _ _ rfl 1 (by left; show 1 * 512 + 1 * 128 + d.val < 896; omega)).trans ?_
    refine (read_writes_cons_unit_of_not_mem v g _ _ _ _ rfl 1 (by left; show 1 * 512 + 1 * 128 + d.val < 768; omega)).trans ?_
    refine (read_writes_cons_unit_of_mem v g _ _ _ _ (ix2 p d) rfl (by intro k; match k with | 0 => exact (Nat.zero_add _).symm | 1 => show 1 * 512 + 1 * 128 + d.val = 640 + d.val; omega)).trans ?_
    rw [← Ins.dq1_at]; exact pay73_at _ _ _ _ p d
  | 1, 0 =>
    refine (read_writes_cons_unit_of_not_mem v g _ _ _ _ rfl 1 (by left; show 1 * 512 + 0 * 128 + d.val < 896; omega)).trans ?_
    refine (read_writes_cons_unit_of_not_mem v g _ _ _ _ rfl 1 (by left; show 1 * 512 + 0 * 128 + d.val < 768; omega)).trans ?_
    refine (read_writes_cons_unit_of_not_mem v g _ _ _ _ rfl 1 (by left; show 1 * 512 + 0 * 128 + d.val < 640; omega)).trans ?_
    refine (read_writes_cons_unit_of_mem v g _ _ _ _ (ix2 p d) rfl (by intro k; match k with | 0 => exact (Nat.zero_add _).symm | 1 => show 1 * 512 + 0 * 128 + d.val = 512 + d.val; omega)).trans ?_
    rw [← Ins.dq1_at]; exact pay72_at _ _ _ _ p d
  | 0, 3 =>
    refine (read_writes_cons_unit_of_not_mem v g _ _ _ _ rfl 1 (by left; show 0 * 512 + 3 * 128 + d.val < 896; omega)).trans ?_
    refine (read_writes_cons_unit_of_not_mem v g _ _ _ _ rfl 1 (by left; show 0 * 512 + 3 * 128 + d.val < 768; omega)).trans ?_
    refine (read_writes_cons_unit_of_not_mem v g _ _ _ _ rfl 1 (by left; show 0 * 512 + 3 * 128 + d.val < 640; omega)).trans ?_
    refine (read_writes_cons_unit_of_not_mem v g _ _ _ _ rfl 1 (by left; show 0 * 512 + 3 * 128 + d.val < 512; omega)).trans ?_
    refine (read_writes_cons_unit_of_mem v g _ _ _ _ (ix2 p d) rfl (by intro k; match k with | 0 => exact (Nat.zero_add _).symm | 1 => show 0 * 512 + 3 * 128 + d.val = 384 + d.val; omega)).trans ?_
    rw [← Ins.dq0_at]; exact pay39_at _ _ p d
  | 0, 2 =>
    refine (read_writes_cons_unit_of_not_mem v g _ _ _ _ rfl 1 (by left; show 0 * 512 + 2 * 128 + d.val < 896; omega)).trans ?_
    refine (read_writes_cons_unit_of_not_mem v g _ _ _ _ rfl 1 (by left; show 0 * 512 + 2 * 128 + d.val < 768; omega)).trans ?_
    refine (read_writes_cons_unit_of_not_mem v g _ _ _ _ rfl 1 (by left; show 0 * 512 + 2 * 128 + d.val < 640; omega)).trans ?_
    refine (read_writes_cons_unit_of_not_mem v g _ _ _ _ rfl 1 (by left; show 0 * 512 + 2 * 128 + d.val < 512; omega)).trans ?_
    refine (read_writes_cons_unit_of_not_mem v g _ _ _ _ rfl 1 (by left; show 0 * 512 + 2 * 128 + d.val < 384; omega)).trans ?_
    refine (read_writes_cons_unit_of_mem v g _ _ _ _ (ix2 p d) rfl (by intro k; match k with | 0 => exact (Nat.zero_add _).symm | 1 => show 0 * 512 + 2 * 128 + d.val = 256 + d.val; omega)).trans ?_
    rw [← Ins.dq0_at]; exact pay38_at _ _ p d
  | 0, 1 =>
    refine (read_writes_cons_unit_of_not_mem v g _ _ _ _ rfl 1 (by left; show 0 * 512 + 1 * 128 + d.val < 896; omega)).trans ?_
    refine (read_writes_cons_unit_of_not_mem v g _ _ _ _ rfl 1 (by left; show 0 * 512 + 1 * 128 + d.val < 768; omega)).trans ?_
    refine (read_writes_cons_unit_of_not_mem v g _ _ _ _ rfl 1 (by left; show 0 * 512 + 1 * 128 + d.val < 640; omega)).trans ?_
    refine (read_writes_cons_unit_of_not_mem v g _ _ _ _ rfl 1 (by left; show 0 * 512 + 1 * 128 + d.val < 512; omega)).trans ?_
    refine (read_writes_cons_unit_of_not_mem v g _ _ _ _ rfl 1 (by left; show 0 * 512 + 1 * 128 + d.val < 384; omega)).trans ?_
    refine (read_writes_cons_unit_of_not_mem v g _ _ _ _ rfl 1 (by left; show 0 * 512 + 1 * 128 + d.val < 256; omega)).trans ?_
    refine (read_writes_cons_unit_of_mem v g _ _ _ _ (ix2 p d) rfl (by intro k; match k with | 0 => exact (Nat.zero_add _).symm | 1 => show 0 * 512 + 1 * 128 + d.val = 128 + d.val; omega)).trans ?_
    rw [← Ins.dq0_at]; exact pay37_at _ _ p d
  | 0, 0 =>
    refine (read_writes_cons_unit_of_not_mem v g _ _ _ _ rfl 1 (by left; show 0 * 512 + 0 * 128 + d.val < 896; omega)).trans ?_
    refine (read_writes_cons_unit_of_not_mem v g _ _ _ _ rfl 1 (by left; show 0 * 512 + 0 * 128 + d.val < 768; omega)).trans ?_
    refine (read_writes_cons_unit_of_not_mem v g _ _ _ _ rfl 1 (by left; show 0 * 512 + 0 * 128 + d.val < 640; omega)).trans ?_
    refine (read_writes_cons_unit_of_not_mem v g _ _ _ _ rfl 1 (by left; show 0 * 512 + 0 * 128 + d.val < 512; omega)).trans ?_
    refine (read_writes_cons_unit_of_not_mem v g _ _ _ _ rfl 1 (by left; show 0 * 512 + 0 * 128 + d.val < 384; omega)).trans ?_
    refine (read_writes_cons_unit_of_not_mem v g _ _ _ _ rfl 1 (by left; show 0 * 512 + 0 * 128 + d.val < 256; omega)).trans ?_
    refine (read_writes_cons_unit_of_not_mem v g _ _ _ _ rfl 1 (by left; show 0 * 512 + 0 * 128 + d.val < 128; omega)).trans ?_
    refine (read_writes_cons_unit_of_mem v g _ _ _ _ (ix2 p d) rfl (by intro k; match k with | 0 => exact (Nat.zero_add _).symm | 1 => show 0 * 512 + 0 * 128 + d.val = 0 + d.val; omega)).trans ?_
    rw [← Ins.dq0_at]; exact pay36_at _ _ p d

/-- The bias gradient's two halves. -/
theorem L11_at (I : Ins Ideal) (v : View sig .tc .vmem S2x512x384 .f32) (g : v.ty.Contents (Elt Ideal)) (x0 x1 : Vec Ideal S1x512x384 .f32) (T)
    (kh : Fin 2) (h : Fin 4) (p : Fin 128) (s : Fin 384) :
    v.read (Elt Ideal) (v.writes (Elt Ideal) g (I.L11 x0 x1 ++ T)) (ix3 kh (rw4 h p) s)
      = (((if kh = 0 then x0 (ix3 0 (rw4 h p) s) else x1 (ix3 0 (rw4 h p) s)) : EReal) + I.kDs kh h p s : EReal) := by
  unfold Ins.L11
  rw [List.cons_append, List.cons_append, List.nil_append]
  match kh with
  | 0 =>
    refine (read_writes_cons_unit_of_not_mem v g _ _ _ _ rfl 0 (by left; show 0 < 1; omega)).trans ?_
    refine (read_writes_cons_unit_of_mem v g _ _ _ _ (ix3 0 (rw4 h p) s) rfl (by intro k; match k with | 0 => rfl | 1 => exact (Nat.zero_add _).symm | 2 => exact (Nat.zero_add _).symm)).trans ?_
    rw [if_pos rfl]
    exact I.dbias0_at x0 h p s
  | 1 =>
    refine (read_writes_cons_unit_of_mem v g _ _ _ _ (ix3 0 (rw4 h p) s) rfl (by intro k; match k with | 0 => rfl | 1 => exact (Nat.zero_add _).symm | 2 => exact (Nat.zero_add _).symm)).trans ?_
    rw [if_neg (by decide)]
    exact I.dbias1_at x1 h p s

/-- The sink column's two halves. -/
theorem L14_at (I : Ins Ideal) (v : View sig .tc .vmem S2x512x1 .f32) (g : v.ty.Contents (Elt Ideal)) (x0 x1 : Vec Ideal S1x512x1 .f32) (T)
    (kh : Fin 2) (h : Fin 4) (p : Fin 128) :
    v.read (Elt Ideal) (v.writes (Elt Ideal) g (I.L14 x0 x1 ++ T)) (ix3 kh (rw4 h p) 0)
      = (((if kh = 0 then x0 (ix3 0 (rw4 h p) 0) else x1 (ix3 0 (rw4 h p) 0)) : EReal) + I.kDsn kh h p : EReal) := by
  unfold Ins.L14
  rw [List.cons_append, List.cons_append, List.nil_append]
  match kh with
  | 0 =>
    refine (read_writes_cons_unit_of_not_mem v g _ _ _ _ rfl 0 (by left; show 0 < 1; omega)).trans ?_
    refine (read_writes_cons_unit_of_mem v g _ _ _ _ (ix3 0 (rw4 h p) 0) rfl (by intro k; match k with | 0 => rfl | 1 => exact (Nat.zero_add _).symm | 2 => rfl)).trans ?_
    rw [if_pos rfl]
    exact I.dsink0_at x0 h p
  | 1 =>
    refine (read_writes_cons_unit_of_mem v g _ _ _ _ (ix3 0 (rw4 h p) 0) rfl (by intro k; match k with | 0 => rfl | 1 => exact (Nat.zero_add _).symm | 2 => rfl)).trans ?_
    rw [if_neg (by decide)]
    exact I.dsink1_at x1 h p

end Cert.Proof.Attn
end
-- ==== Proof.Val.Step.lean ====
/- What a grid point leaves at extended reals, read at an index, from the blocks and the state it finds. -/
module

public import proofs.«01_k».proof.Proof.Val.Acc
public import proofs.«01_k».proof.Proof.Data
public import Idealize.ShloMosaic.Lib.WholeRead

@[expose] public section

set_option maxRecDepth 16384

noncomputable section

namespace Cert.Proof.Attn

open Cert.KernelIdeal Cert.KernelIdeal.Gen
open Idealize.ShloMosaic Idealize.ShloMosaic.View

/-! ## The sink gradient's row of lanes -/

theorem lane_eq : ∀ (l : Fin 128) (k : Fin 8), IntOp.cmpi CmpIPredicate.eq (BitVec.ofNat 32 l.val) (BitVec.ofNat 32 k.val) = 1#1 ↔ l.val = k.val := by
  decide +kernel

theorem lane_sel (l : Fin 128) (k : Fin 8) (a b : EReal) :
    Scalar.select (IntOp.cmpi CmpIPredicate.eq (BitVec.ofNat 32 l.val) (BitVec.ofNat 32 k.val)) a b = if l.val = k.val then a else b := by
  unfold Scalar.select
  exact if_congr (lane_eq l k) rfl rfl

/-- The sum of a head's sink column. -/
def cell (v : Vec Ideal S1x512x1 .f32) (g : Fin 4) : EReal := ∑ p : Fin 128, v (ix3 0 (rw4 g p) 0)

theorem cell_0 (v : Vec Ideal S1x512x1 .f32) : (∑ x : Fin 128, ∑ _ : Fin 1, v (ix3 0 ⟨x.val, by omega⟩ 0) : EReal) = cell v 0 := by
  unfold cell
  refine Finset.sum_congr rfl fun p _ => ?_
  rw [Finset.sum_const, Finset.card_univ, Fintype.card_fin, one_smul]
  exact congrArg v (congrArg (fun r => ix3 0 r 0) (Fin.ext (by show p.val = 0 * 128 + p.val; omega)))
theorem cell_k (v : Vec Ideal S1x512x1 .f32) (g : Fin 4) (o : ℕ) (ho : o = g.val * 128) (h : ∀ x : Fin 128, o + x.val < 512) :
    (∑ x : Fin 128, ∑ _ : Fin 1, v (ix3 0 ⟨o + x.val, h x⟩ 0) : EReal) = cell v g := by
  unfold cell
  refine Finset.sum_congr rfl fun p _ => ?_
  rw [Finset.sum_const, Finset.card_univ, Fintype.card_fin, one_smul]
  exact congrArg v (congrArg (fun r => ix3 0 r 0) (Fin.ext (by show o + p.val = g.val * 128 + p.val; omega)))

theorem pay83_at (v : Vec Ideal S1x512x1 .f32) (l : Fin 128) : k0_pay83 v (ix2 0 l)
    = (if l.val = 3 then cell v 3 else if l.val = 2 then cell v 2 else if l.val = 1 then cell v 1 else if l.val = 0 then cell v 0 else 0 : EReal) := by
  pointwise [k0_pay83]
  rw [cell_k v 3 384 rfl, cell_k v 2 256 rfl, cell_k v 1 128 rfl, cell_0]
  exact (lane_sel l 3 _ _).trans (if_congr Iff.rfl rfl ((lane_sel l 2 _ _).trans (if_congr Iff.rfl rfl
    ((lane_sel l 1 _ _).trans (if_congr Iff.rfl rfl (lane_sel l 0 _ _))))))

theorem pay9_at (w : FVec Ideal S1x128 .f32) (v : Vec Ideal S1x512x1 .f32) (l : Fin 128) :
    k0_pay9 (iota .tc S1x128 32 [1] iota_S1x128_d1_w32) w (k0_pay84 v) k0_pay85 (ix2 0 l)
    = (if l.val = 7 then cell v 3 else if l.val = 6 then cell v 2 else if l.val = 5 then cell v 1 else if l.val = 4 then cell v 0 else w (ix2 0 l) : EReal) := by
  pointwise [k0_pay9, k0_pay84, k0_pay85]
  rw [cell_k v 3 384 rfl, cell_k v 2 256 rfl, cell_k v 1 128 rfl, cell_0]
  exact (lane_sel l 7 _ _).trans (if_congr Iff.rfl rfl ((lane_sel l 6 _ _).trans (if_congr Iff.rfl rfl
    ((lane_sel l 5 _ _).trans (if_congr Iff.rfl rfl (lane_sel l 4 _ _))))))

/-- The sink gradient's lanes: a head's sum at its lane, zero after the eighth. -/
theorem dsink_at (v : Fin 2 → Vec Ideal S1x512x1 .f32) (l : Fin 128) :
    k0_pay9 (iota .tc S1x128 32 [1] iota_S1x128_d1_w32) (k0_pay83 (v 0)) (k0_pay84 (v 1)) k0_pay85 (ix2 0 l)
    = (if h : l.val < 8 then cell (v ⟨l.val / 4, by omega⟩) ⟨l.val % 4, by omega⟩ else 0 : EReal) := by
  rw [pay9_at, pay83_at]
  by_cases h : l.val < 8
  · rw [dif_pos h]
    have hc : ∀ k : Fin 8, l.val = k.val → (if l.val = 7 then cell (v 1) 3 else if l.val = 6 then cell (v 1) 2 else if l.val = 5 then cell (v 1) 1 else if l.val = 4 then cell (v 1) 0 else if l.val = 3 then cell (v 0) 3 else if l.val = 2 then cell (v 0) 2 else if l.val = 1 then cell (v 0) 1 else if l.val = 0 then cell (v 0) 0 else 0)
        = cell (v ⟨l.val / 4, by omega⟩) ⟨l.val % 4, by omega⟩ := by
      intro k hk
      match k, hk with
      | 0, hk => obtain rfl : l = 0 := Fin.ext hk; rfl
      | 1, hk => obtain rfl : l = 1 := Fin.ext hk; rfl
      | 2, hk => obtain rfl : l = 2 := Fin.ext hk; rfl
      | 3, hk => obtain rfl : l = 3 := Fin.ext hk; rfl
      | 4, hk => obtain rfl : l = 4 := Fin.ext hk; rfl
      | 5, hk => obtain rfl : l = 5 := Fin.ext hk; rfl
      | 6, hk => obtain rfl : l = 6 := Fin.ext hk; rfl
      | 7, hk => obtain rfl : l = 7 := Fin.ext hk; rfl
    exact hc ⟨l.val, h⟩ rfl
  · rw [dif_neg h]
    iterate 8 rw [if_neg (by omega)]

/-! ## A point's blocks -/

/-- The blocks as a point's inputs. -/
def insX (i : grid0.Coords) (X1 X2 X3 X4 X5 : Vec Ideal S128x512 .bf16) (X6 : Vec Ideal S128x1024 .bf16) (X7 : Vec Ideal S2x512x384 .f32) (X8 : Vec Ideal S1x8 .f32) : Ins Ideal where
  i := i
  b0 := fun x => X1 ((Rect.unit (s := S128x512) ![0, 0] S128x512.size inb_S128x512_S128x512_0_0).toLoadRect.idx x)
  b1 := fun x => X2 ((Rect.unit (s := S128x512) ![0, 0] S128x512.size inb_S128x512_S128x512_0_0).toLoadRect.idx x)
  b2 := fun x => X3 ((Rect.unit (s := S128x512) ![0, 0] S128x512.size inb_S128x512_S128x512_0_0).toLoadRect.idx x)
  b3 := fun x => X4 ((Rect.unit (s := S128x512) ![0, 0] S128x512.size inb_S128x512_S128x512_0_0).toLoadRect.idx x)
  b4 := fun x => X5 ((Rect.unit (s := S128x512) ![0, 0] S128x512.size inb_S128x512_S128x512_0_0).toLoadRect.idx x)
  b5 := fun x => X6 ((Rect.unit (s := S128x1024) ![0, 0] S128x1024.size inb_S128x1024_S128x1024_0_0).toLoadRect.idx x)
  b6 := fun x => X7 ((Rect.unit (s := S2x512x384) ![0, 0, 0] S1x512x384.size inb_S2x512x384_S1x512x384_0_0_0).toLoadRect.idx x)
  b7 := fun x => X7 ((Rect.unit (s := S2x512x384) ![1, 0, 0] S1x512x384.size inb_S2x512x384_S1x512x384_1_0_0).toLoadRect.idx x)
  s0 := X8 (ix2 0 0)
  s1 := X8 (ix2 0 1)
  s2 := X8 (ix2 0 2)
  s3 := X8 (ix2 0 3)
  s4 := X8 (ix2 0 4)
  s5 := X8 (ix2 0 5)
  s6 := X8 (ix2 0 6)
  s7 := X8 (ix2 0 7)

theorem rd_sink (M : Memref sig .tc .smem S1x8 .f32) (h : M.IsWhole) (X : Vec Ideal S1x8 .f32) (k : Fin 8) (inb) (pf) :
    M.view.readAt (Elt Ideal) (Rect.unit (s := S1x8) ![0, k.val] S1x1.size inb).toLoadRect (h.unread X) (Shape.Idx.first pf) = X (ix2 0 k) := by
  rw [h.readAt_unread]
  refine congrArg X (funext fun a => Fin.ext ?_)
  match a with
  | 0 => rfl
  | 1 => show k.val + 1 * 0 = k.val; omega

/-- The whole blocks' contents, read through the body's memrefs, are the blocks. -/
theorem insOf_unread (c : Dev nD) (i : grid0.Coords)
    (M1 : Memref sig .tc .vmem S128x512 .bf16) (h1 : M1.IsWhole) (M2 : Memref sig .tc .vmem S128x512 .bf16) (h2 : M2.IsWhole)
    (M3 : Memref sig .tc .vmem S128x512 .bf16) (h3 : M3.IsWhole) (M4 : Memref sig .tc .vmem S128x512 .bf16) (h4 : M4.IsWhole)
    (M5 : Memref sig .tc .vmem S128x512 .bf16) (h5 : M5.IsWhole) (M6 : Memref sig .tc .vmem S128x1024 .bf16) (h6 : M6.IsWhole)
    (M7 : Memref sig .tc .vmem S2x512x384 .f32) (h7 : M7.IsWhole) (M8 : Memref sig .tc .smem S1x8 .f32) (h8 : M8.IsWhole)
    (X1 X2 X3 X4 X5 : Vec Ideal S128x512 .bf16) (X6 : Vec Ideal S128x1024 .bf16) (X7 : Vec Ideal S2x512x384 .f32) (X8 : Vec Ideal S1x8 .f32) :
    insOf (F := Ideal) c i M1 M2 M3 M4 M5 M6 M7 M8 (h1.unread X1) (h2.unread X2) (h3.unread X3) (h4.unread X4) (h5.unread X5) (h6.unread X6) (h7.unread X7) (h8.unread X8)
      = insX i X1 X2 X3 X4 X5 X6 X7 X8 := by
  unfold insOf insX
  congr 1
  · exact funext fun x => h1.readAt_unread X1 _ x
  · exact funext fun x => h2.readAt_unread X2 _ x
  · exact funext fun x => h3.readAt_unread X3 _ x
  · exact funext fun x => h4.readAt_unread X4 _ x
  · exact funext fun x => h5.readAt_unread X5 _ x
  · exact funext fun x => h6.readAt_unread X6 _ x
  · exact funext fun x => h7.readAt_unread X7 _ x
  · exact funext fun x => h7.readAt_unread X7 _ x
  · exact rd_sink M8 h8 X8 0 _ _
  · exact rd_sink M8 h8 X8 1 _ _
  · exact rd_sink M8 h8 X8 2 _ _
  · exact rd_sink M8 h8 X8 3 _ _
  · exact rd_sink M8 h8 X8 4 _ _
  · exact rd_sink M8 h8 X8 5 _ _
  · exact rd_sink M8 h8 X8 6 _ _
  · exact rd_sink M8 h8 X8 7 _ _

variable (m : (ℓ : Loc nD τ sig) → Buf (Elt Ideal) ℓ)

/-- Point `t`'s inputs. -/
def insAt (c : Dev nD) (t : Fin cfg0.N) : Ins Ideal :=
  insX (grid0.coords t) (iblk m c 0 t) (iblk m c 1 t) (iblk m c 2 t) (iblk m c 3 t) (iblk m c 4 t) (iblk m c 5 t) (iblk m c 6 t) (iblk m c 7 t)

theorem insAt_i (c : Dev nD) (t : Fin cfg0.N) : ((insAt m c t).i 0).val = t.val := coord_eq t

theorem slot_read {S : Shape} {sp : Space} (M : Memref sig .tc sp S .f32) (h : M.IsWhole) (X : S.Idx → Elt Ideal .f32) (B : LoadRect S) (x : B.shape.Idx) (y : S.Idx) (e : B.idx x = y) :
    M.view.readAt (Elt Ideal) B (h.unread X) x = X y := by
  rw [h.readAt_unread, e]

/-! ## The first point -/

theorem first_dq (c : Dev nD) (t : Fin cfg0.N) (h0 : t.val = 0) (s : St Ideal) (kh : Fin 2) (g : Fin 4) (p d : Fin 128) :
    (stepOut m c t s).1 (ix2 p ⟨kh.val * 512 + g.val * 128 + d.val, by omega⟩) = (insAt m c t).kDq kh g p d := by
  unfold stepOut
  rw [dif_pos h0]
  dsimp only [rd8]
  unfold runF
  rw [fst_9, insOf_unread]
  exact L9_at (insAt m c t) _ _ kh g p d

theorem mid_dq (c : Dev nD) (t : Fin cfg0.N) (h0 : t.val ≠ 0) (h1 : t.val < 64) (s : St Ideal) (kh : Fin 2) (g : Fin 4) (p d : Fin 128) :
    (stepOut m c t s).1 (ix2 p ⟨kh.val * 512 + g.val * 128 + d.val, by omega⟩) = (insAt m c t).kDq kh g p d := by
  unfold stepOut
  rw [dif_neg h0, dif_pos h1]
  dsimp only [rd8]
  unfold runM
  rw [mid_9, insOf_unread]
  exact L9_at (insAt m c t) _ _ kh g p d

/-- A block of one piece that covers it reads the piece. -/
theorem whole_at {S : Shape} {sp : Space} {e : EltTy} (v : View sig .tc sp S e) (g : v.ty.Contents (Elt Ideal)) (off : Fin S.rank → ℕ) (inb) (w)
    (y : S.Idx) (x : (Rect.unit off S.size inb).shape.Idx) (h : ∀ a, off a = 0) (hx : ∀ a, (y a).val = (x a).val) :
    v.read (Elt Ideal) (v.writes (Elt Ideal) g [⟨Rect.unit (s := S) off S.size inb, w⟩]) y = w x :=
  read_writes_cons_unit_of_mem v g inb w [] y x rfl fun a => by rw [h, hx, Nat.zero_add]

theorem L11_at' (I : Ins Ideal) (v : View sig .tc .vmem S2x512x384 .f32) (g : v.ty.Contents (Elt Ideal)) (x0 x1 : Vec Ideal S1x512x384 .f32)
    (kh : Fin 2) (h : Fin 4) (p : Fin 128) (s : Fin 384) :
    v.read (Elt Ideal) (v.writes (Elt Ideal) g (I.L11 x0 x1)) (ix3 kh (rw4 h p) s)
      = (((if kh = 0 then x0 (ix3 0 (rw4 h p) s) else x1 (ix3 0 (rw4 h p) s)) : EReal) + I.kDs kh h p s : EReal) := by
  have e := L11_at I v g x0 x1 [] kh h p s
  rwa [List.append_nil] at e

theorem L14_at' (I : Ins Ideal) (v : View sig .tc .vmem S2x512x1 .f32) (g : v.ty.Contents (Elt Ideal)) (x0 x1 : Vec Ideal S1x512x1 .f32)
    (kh : Fin 2) (h : Fin 4) (p : Fin 128) :
    v.read (Elt Ideal) (v.writes (Elt Ideal) g (I.L14 x0 x1)) (ix3 kh (rw4 h p) 0)
      = (((if kh = 0 then x0 (ix3 0 (rw4 h p) 0) else x1 (ix3 0 (rw4 h p) 0)) : EReal) + I.kDsn kh h p : EReal) := by
  have e := L14_at I v g x0 x1 [] kh h p
  rwa [List.append_nil] at e

theorem whole_dkv (v : View sig .tc .vmem S128x512 .bf16) (g : v.ty.Contents (Elt Ideal)) (w : Vec Ideal S128x512 .bf16) (p : Fin 128) (x : Fin 512) :
    v.read (Elt Ideal) (v.writes (Elt Ideal) g [⟨Rect.unit (s := S128x512) ![0, 0] S128x512.size inb_S128x512_S128x512_0_0, w⟩]) (ix2 p x) = w (ix2 p x) :=
  whole_at v g _ inb_S128x512_S128x512_0_0 w (ix2 p x) (ix2 p x) (by intro k; match k with | 0 => rfl | 1 => rfl) (fun _ => rfl)

theorem whole_dsink (v : View sig .tc .vmem S1x128 .f32) (g : v.ty.Contents (Elt Ideal)) (w : Vec Ideal S1x128 .f32) (l : Fin 128) :
    v.read (Elt Ideal) (v.writes (Elt Ideal) g [⟨Rect.unit (s := S1x128) ![0, 0] S1x128.size inb_S1x128_S1x128_0_0, w⟩]) (ix2 0 l) = w (ix2 0 l) :=
  whole_at v g _ inb_S1x128_S1x128_0_0 w (ix2 0 l) (ix2 0 l) (by intro k; match k with | 0 => rfl | 1 => rfl) (fun _ => rfl)

theorem whole_acc (v : AccView) (g : v.ty.Contents (Elt Ideal)) (w : Vec Ideal S3x128x512 .f32) (a : Fin 3) (p : Fin 128) (x : Fin 512) :
    v.read (Elt Ideal) (v.writes (Elt Ideal) g [⟨Rect.unit (s := S3x128x512) ![0, 0, 0] S3x128x512.size inb_S3x128x512_S3x128x512_0_0_0, w⟩]) (ix3 a p x) = w (ix3 a p x) :=
  whole_at v g _ inb_S3x128x512_S3x128x512_0_0_0 w (ix3 a p x) (ix3 a p x) (by intro k; match k with | 0 => rfl | 1 => rfl | 2 => rfl) (fun _ => rfl)

theorem first_dbias (c : Dev nD) (t : Fin cfg0.N) (h0 : t.val = 0) (s : St Ideal) (kh : Fin 2) (g : Fin 4) (p : Fin 128) (j : Fin 384) :
    (stepOut m c t s).2.2.2.1 (ix3 kh (rw4 g p) j) = ((0 : EReal) + (insAt m c t).kDs kh g p j : EReal) := by
  unfold stepOut
  rw [dif_pos h0]
  dsimp only [rd10]
  unfold runF
  rw [fst_11, insOf_unread]
  refine (L11_at (insAt m c t) _ _ _ _ _ kh g p j).trans (congrArg (· + (insAt m c t).kDs kh g p j) ?_)
  match kh with
  | 0 =>
    rw [if_pos rfl, readAt_apply]
    exact (whole_at _ _ _ _ _ _ (ix3 0 (rw4 g p) j) (by intro a; match a with | 0 => rfl | 1 => rfl | 2 => rfl)
      (by intro a; match a with | 0 => rfl | 1 => show 0 + 1 * (rw4 g p).val = (rw4 g p).val; omega | 2 => show 0 + 1 * j.val = j.val; omega)).trans (by pointwise [k0_pay3])
  | 1 =>
    rw [if_neg (by decide), readAt_apply]
    unfold Ins.L11a
    rw [List.cons_append, List.nil_append]
    refine (read_writes_cons_unit_of_not_mem _ _ _ _ _ _ rfl 0 (by right; show 0 + 1 ≤ 1 + 1 * 0; omega)).trans ?_
    exact (whole_at _ _ _ _ _ _ (ix3 1 (rw4 g p) j) (by intro a; match a with | 0 => rfl | 1 => rfl | 2 => rfl)
      (by intro a; match a with | 0 => rfl | 1 => show 0 + 1 * (rw4 g p).val = (rw4 g p).val; omega | 2 => show 0 + 1 * j.val = j.val; omega)).trans (by pointwise [k0_pay3])

theorem mid_dbias (c : Dev nD) (t : Fin cfg0.N) (h0 : t.val ≠ 0) (h1 : t.val < 64) (s : St Ideal) (kh : Fin 2) (g : Fin 4) (p : Fin 128) (j : Fin 384) :
    (stepOut m c t s).2.2.2.1 (ix3 kh (rw4 g p) j) = ((s.1 (ix3 kh (rw4 g p) j) : EReal) + (insAt m c t).kDs kh g p j : EReal) := by
  unfold stepOut
  rw [dif_neg h0, dif_pos h1]
  dsimp only [rd10]
  unfold runM
  rw [mid_11, insOf_unread]
  refine (L11_at' (insAt m c t) _ _ _ _ kh g p j).trans (congrArg (· + (insAt m c t).kDs kh g p j) ?_)
  match kh with
  | 0 =>
    rw [if_pos rfl]
    exact slot_read _ (hs10 t) s.1 _ _ _ (funext fun a => Fin.ext (by match a with | 0 => rfl | 1 => show 0 + 1 * (rw4 g p).val = (rw4 g p).val; omega | 2 => show 0 + 1 * j.val = j.val; omega))
  | 1 =>
    rw [if_neg (by decide)]
    exact slot_read _ (hs10 t) s.1 _ _ _ (funext fun a => Fin.ext (by match a with | 0 => rfl | 1 => show 0 + 1 * (rw4 g p).val = (rw4 g p).val; omega | 2 => show 0 + 1 * j.val = j.val; omega))

theorem first_sink (c : Dev nD) (t : Fin cfg0.N) (h0 : t.val = 0) (s : St Ideal) (kh : Fin 2) (g : Fin 4) (p : Fin 128) :
    (stepOut m c t s).2.2.2.2.2 (ix3 kh (rw4 g p) 0) = ((0 : EReal) + (insAt m c t).kDsn kh g p : EReal) := by
  unfold stepOut
  rw [dif_pos h0]
  dsimp only [rd14]
  unfold runF
  rw [fst_14, insOf_unread]
  refine (L14_at (insAt m c t) _ _ _ _ _ kh g p).trans (congrArg (· + (insAt m c t).kDsn kh g p) ?_)
  match kh with
  | 0 =>
    rw [if_pos rfl, readAt_apply]
    exact (whole_at _ _ _ _ _ _ (ix3 0 (rw4 g p) 0) (by intro a; match a with | 0 => rfl | 1 => rfl | 2 => rfl)
      (by intro a; match a with | 0 => rfl | 1 => show 0 + 1 * (rw4 g p).val = (rw4 g p).val; omega | 2 => rfl)).trans (by pointwise [k0_pay2])
  | 1 =>
    rw [if_neg (by decide), readAt_apply]
    unfold Ins.L14a
    rw [List.cons_append, List.nil_append]
    refine (read_writes_cons_unit_of_not_mem _ _ _ _ _ _ rfl 0 (by right; show 0 + 1 ≤ 1 + 1 * 0; omega)).trans ?_
    exact (whole_at _ _ _ _ _ _ (ix3 1 (rw4 g p) 0) (by intro a; match a with | 0 => rfl | 1 => rfl | 2 => rfl)
      (by intro a; match a with | 0 => rfl | 1 => show 0 + 1 * (rw4 g p).val = (rw4 g p).val; omega | 2 => rfl)).trans (by pointwise [k0_pay2])

theorem mid_sink (c : Dev nD) (t : Fin cfg0.N) (h0 : t.val ≠ 0) (h1 : t.val < 64) (s : St Ideal) (kh : Fin 2) (g : Fin 4) (p : Fin 128) :
    (stepOut m c t s).2.2.2.2.2 (ix3 kh (rw4 g p) 0) = ((s.2.2 (ix3 kh (rw4 g p) 0) : EReal) + (insAt m c t).kDsn kh g p : EReal) := by
  unfold stepOut
  rw [dif_neg h0, dif_pos h1]
  dsimp only [rd14]
  unfold runM
  rw [mid_14, insOf_unread]
  refine (L14_at' (insAt m c t) _ _ _ _ kh g p).trans (congrArg (· + (insAt m c t).kDsn kh g p) ?_)
  match kh with
  | 0 =>
    rw [if_pos rfl]
    exact slot_read sc14 (Memref.isWhole_whole cc0_scratch1) s.2.2 _ _ _ (funext fun a => Fin.ext (by match a with | 0 => rfl | 1 => show 0 + 1 * (rw4 g p).val = (rw4 g p).val; omega | 2 => rfl))
  | 1 =>
    rw [if_neg (by decide)]
    exact slot_read sc14 (Memref.isWhole_whole cc0_scratch1) s.2.2 _ _ _ (funext fun a => Fin.ext (by match a with | 0 => rfl | 1 => show 0 + 1 * (rw4 g p).val = (rw4 g p).val; omega | 2 => rfl))

/-! ## The key and value gradients' slots -/

theorem first_acc (c : Dev nD) (t : Fin cfg0.N) (h0 : t.val = 0) (s : St Ideal) (j a : Fin 3) (ha : a.val = (t.val + 2 + j.val) % 3) (p : Fin 128) (x : Fin 512) :
    (stepOut m c t s).2.2.2.2.1 (ix3 a p x) = ((0 : EReal) + (insAt m c t).kD ⟨j.val * 128 + p.val, by omega⟩ x : EReal) := by
  unfold stepOut
  rw [dif_pos h0]
  dsimp only [rd13]
  unfold runF
  rw [fst_13, insOf_unread]
  refine (L13_at (insAt m c t) _ _ _ _ j a (by rw [insAt_i]; exact ha) p x).trans (congrArg (· + (insAt m c t).kD ⟨j.val * 128 + p.val, by omega⟩ x) ?_)
  exact (whole_acc _ _ _ a p x).trans (by pointwise [k0_pay1])

/-- The slots a middle point finds, the one it clears cleared. -/
theorem mid_base (c : Dev nD) (t : Fin cfg0.N) (X : Vec Ideal S3x128x512 .f32) (a : Fin 3) (p : Fin 128) (x : Fin 512) :
    sc13.view.read (Elt Ideal) (sc13.view.writes (Elt Ideal) ((Memref.isWhole_whole cc0_scratch0).unread X)
        [⟨Rect.unit (s := S3x128x512) (k0_off1 (grid0.coords t)) S1x128x512.size (inb1 (grid0.coords t)), k0_pay5 (F := Ideal)⟩]) (ix3 a p x)
      = (if a.val = (t.val + 1) % 3 then 0 else X (ix3 a p x) : EReal) := by
  have e := off1_eq (grid0.coords t)
  rw [coord_eq] at e
  by_cases h : a.val = (t.val + 1) % 3
  · rw [if_pos h]
    refine (read_writes_cons_unit_of_mem _ _ _ _ _ _ (ix3 0 p x) e ?_).trans (by pointwise [k0_pay5])
    intro k
    match k with
    | 0 => exact h
    | 1 => exact (Nat.zero_add _).symm
    | 2 => exact (Nat.zero_add _).symm
  · rw [if_neg h]
    refine (read_writes_cons_unit_of_not_mem _ _ _ _ _ _ e 0 (by show a.val < (t.val + 1) % 3 ∨ (t.val + 1) % 3 + 1 ≤ a.val; omega)).trans ?_
    exact congrFun ((Memref.isWhole_whole cc0_scratch0).read_unread X) _

theorem mid_acc (c : Dev nD) (t : Fin cfg0.N) (h0 : t.val ≠ 0) (h1 : t.val < 64) (s : St Ideal) (j a : Fin 3) (ha : a.val = (t.val + 2 + j.val) % 3) (p : Fin 128) (x : Fin 512) :
    (stepOut m c t s).2.2.2.2.1 (ix3 a p x) = ((if j.val = 2 then 0 else s.2.1 (ix3 a p x) : EReal) + (insAt m c t).kD ⟨j.val * 128 + p.val, by omega⟩ x : EReal) := by
  unfold stepOut
  rw [dif_neg h0, dif_pos h1]
  dsimp only [rd13]
  unfold runM
  rw [mid_13, insOf_unread]
  refine (L13_at (insAt m c t) _ _ _ _ j a (by rw [insAt_i]; exact ha) p x).trans (congrArg (· + (insAt m c t).kD ⟨j.val * 128 + p.val, by omega⟩ x) ?_)
  exact (mid_base c t s.2.1 a p x).trans (if_congr (by omega) rfl rfl)

/-- The block handed out reads the slot. -/
theorem pay8_at (v : Vec Ideal S1x128x512 .f32) (p : Fin 128) (x : Fin 512) : k0_pay8 v (ix2 p x) = v (ix3 0 p x) := by
  pointwise [k0_pay8]

theorem mid_dkv (c : Dev nD) (t : Fin cfg0.N) (h0 : t.val ≠ 0) (h1 : t.val < 64) (s : St Ideal) (a : Fin 3) (ha : a.val = (t.val + 2) % 3) (p : Fin 128) (x : Fin 512) :
    (stepOut m c t s).2.1 (ix2 p x) = ((s.2.1 (ix3 a p x) : EReal) + (insAt m c t).kD ⟨0 * 128 + p.val, by omega⟩ x : EReal) := by
  unfold stepOut
  rw [dif_neg h0, dif_pos h1]
  dsimp only [rd9]
  unfold runM
  rw [mid_10, insOf_unread]
  refine (whole_dkv _ _ _ p x).trans ?_
  refine (pay8_at _ p x).trans ?_
  have ho := off6_eq (grid0.coords t)
  rw [coord_eq] at ho
  unfold readCov
  rw [readAt_apply]
  have hi : (Rect.unit (s := S3x128x512) (k0_off6 (grid0.coords t)) S1x128x512.size (inb6 (grid0.coords t))).toLoadRect.idx (ix3 0 p x) = ix3 a p x := by
    refine funext fun k => Fin.ext ?_
    show k0_off6 (grid0.coords t) k + 1 * (ix3 (0 : Fin 1) p x k).val = (ix3 a p x k).val
    rw [ho]
    match k with
    | 0 => show (t.val + 2) % 3 + 1 * 0 = a.val; omega
    | 1 => show 0 + 1 * p.val = p.val; omega
    | 2 => show 0 + 1 * x.val = x.val; omega
  rw [hi]
  refine (L13_at (insAt m c t) _ _ _ _ 0 a (by rw [insAt_i]; exact ha) p x).trans (congrArg (· + (insAt m c t).kD ⟨0 * 128 + p.val, by omega⟩ x) ?_)
  exact (mid_base c t s.2.1 a p x).trans (if_neg (by omega))

/-! ## The last point -/

theorem last_dkv (c : Dev nD) (t : Fin cfg0.N) (h1 : t.val = 64) (s : St Ideal) (p : Fin 128) (x : Fin 512) :
    (stepOut m c t s).2.1 (ix2 p x) = s.2.1 (ix3 0 p x) := by
  unfold stepOut
  rw [dif_neg (by omega), dif_neg (by omega)]
  dsimp only [rd9]
  unfold runL
  rw [lst_10]
  refine (whole_dkv _ _ _ p x).trans ?_
  refine (pay8_at _ p x).trans ?_
  have ho := off6_eq (grid0.coords t)
  rw [coord_eq] at ho
  refine slot_read sc13 (Memref.isWhole_whole cc0_scratch0) s.2.1 _ _ _ ?_
  refine funext fun k => Fin.ext ?_
  show k0_off6 (grid0.coords t) k + 1 * (ix3 (0 : Fin 1) p x k).val = (ix3 (0 : Fin 3) p x k).val
  rw [ho]
  match k with
  | 0 => show (t.val + 2) % 3 + 1 * 0 = 0; omega
  | 1 => show 0 + 1 * p.val = p.val; omega
  | 2 => show 0 + 1 * x.val = x.val; omega

theorem last_dsink (c : Dev nD) (t : Fin cfg0.N) (h1 : t.val = 64) (s : St Ideal) (l : Fin 128) :
    (stepOut m c t s).2.2.1 (ix2 0 l)
      = (if h : l.val < 8 then ∑ p : Fin 128, s.2.2 (ix3 ⟨l.val / 4, by omega⟩ (rw4 ⟨l.val % 4, by omega⟩ p) 0) else 0 : EReal) := by
  unfold stepOut
  rw [dif_neg (by omega), dif_neg (by omega)]
  dsimp only [rd11]
  unfold runL
  rw [lst_12]
  refine (whole_dsink _ _ _ l).trans ?_
  refine (dsink_at ![sc14.view.readAt (Elt Ideal) (Rect.unit (s := S2x512x1) ![0, 0, 0] S1x512x1.size inb_S2x512x1_S1x512x1_0_0_0).toLoadRect ((Memref.isWhole_whole cc0_scratch1).unread s.2.2),
    sc14.view.readAt (Elt Ideal) (Rect.unit (s := S2x512x1) ![1, 0, 0] S1x512x1.size inb_S2x512x1_S1x512x1_1_0_0).toLoadRect ((Memref.isWhole_whole cc0_scratch1).unread s.2.2)] l).trans ?_
  by_cases h : l.val < 8
  · rw [dif_pos h, dif_pos h]
    generalize hk : (⟨l.val / 4, by omega⟩ : Fin 2) = kh
    generalize (⟨l.val % 4, by omega⟩ : Fin 4) = g
    unfold cell
    refine Finset.sum_congr rfl fun p _ => ?_
    match kh with
    | 0 => exact slot_read sc14 (Memref.isWhole_whole cc0_scratch1) s.2.2 _ _ _ (funext fun a => Fin.ext (by match a with | 0 => rfl | 1 => show 0 + 1 * (rw4 g p).val = (rw4 g p).val; omega | 2 => rfl))
    | 1 => exact slot_read sc14 (Memref.isWhole_whole cc0_scratch1) s.2.2 _ _ _ (funext fun a => Fin.ext (by match a with | 0 => rfl | 1 => show 0 + 1 * (rw4 g p).val = (rw4 g p).val; omega | 2 => rfl))
  · rw [dif_neg h, dif_neg h]

end Cert.Proof.Attn
end
-- ==== Proof.Val.Ref1.lean ====
/- The reference's terms read at an index. -/
module

public import proofs.«01_k».proof.Proof.Gen.ReferenceIdeal.Run
public import Idealize.ShloMosaic.Lib.Pointwise
public import Idealize.ShloMosaic.Lib.ValueIdx

@[expose] public section

set_option maxRecDepth 16384

noncomputable section

namespace Cert.Proof.Attn

open Idealize.ShloMosaic Cert.ReferenceIdeal Cert.ReferenceIdeal.Gen Cert.ReferenceIdeal.Value

/-- The pattern of the least extended real. -/
theorem ofBits_bot : Ideal.ofBits .f32 4286578688#32 = (⊥ : EReal) := by
  simp [Ideal.ofBits, Ideal.ieee]

variable (V0 : Valuation τ sig (Elt Ideal))

/-- The projections, the biases' table, the sinks and the output's gradient as extended reals. -/
def xProj (i : Fin 8192) (j : Fin 4608) : EReal := V0 (Proc.devRef .tc main_arg0) (ix2 i j)
def xDo (i : Fin 8192) (j : Fin 1024) : EReal := V0 (Proc.devRef .tc main_arg3) (ix2 i j)
def xSink (j : Fin 8) : EReal := V0 (Proc.devRef .tc main_arg2) (ix2 0 j)

def rK (n : Fin 64) (s : Fin 384) (kh : Fin 2) (d : Fin 128) : EReal := res_main_v70 V0 (ix4 n s kh d)
def rV (n : Fin 64) (s : Fin 384) (kh : Fin 2) (d : Fin 128) : EReal := res_main_v77 V0 (ix4 n s kh d)
def rL (n : Fin 64) (kh : Fin 2) (g : Fin 4) (q : Fin 128) (s : Fin 385) : EReal := res_main_v114 V0 (ix5 n kh g q s)
def rM (n : Fin 64) (kh : Fin 2) (g : Fin 4) (q : Fin 128) : EReal := res_main_v115 V0 (ix4 n kh g q)
def rE (n : Fin 64) (kh : Fin 2) (g : Fin 4) (q : Fin 128) (s : Fin 385) : EReal := res_main_v135 V0 (ix5 n kh g q s)
def rZ (n : Fin 64) (kh : Fin 2) (g : Fin 4) (q : Fin 128) : EReal := res_main_v137 V0 (ix5 n kh g q 0)
def rP (n : Fin 64) (kh : Fin 2) (g : Fin 4) (q : Fin 128) (s : Fin 384) : EReal := res_main_v143 V0 (ix5 n kh g q s)
def rCt (n : Fin 64) (kh : Fin 2) (g : Fin 4) (q : Fin 128) (s : Fin 385) : EReal := res_main_v153 V0 (ix5 n kh g q s)
def rDl (n : Fin 64) (kh : Fin 2) (g : Fin 4) (q : Fin 128) (s : Fin 385) : EReal := res_main_v165 V0 (ix5 n kh g q s)
def rDs (n : Fin 64) (kh : Fin 2) (g : Fin 4) (q : Fin 128) (s : Fin 384) : EReal := res_main_v171 V0 (ix5 n kh g q s)

/-- The maximum over a row of logits, read at an index. -/
theorem reduce_max (L : FVec Ideal S64x2x4x128x385 .f32) (n : Fin 64) (kh : Fin 2) (g : Fin 4) (q : Fin 128) :
    Host.reduce FloatOps.maximumf L (constant S_ .f32 0xFF800000#32) reducesTo_S64x2x4x128x385_S64x2x4x128_d4 h_S_ (ix4 n kh g q)
      = Finset.univ.fold max ⊥ fun s : Fin 385 => L (ix5 n kh g q s) := by
  pointwise [ofBits_bot]

theorem r115 (n : Fin 64) (kh : Fin 2) (g : Fin 4) (q : Fin 128) :
    rM V0 n kh g q = Finset.univ.fold max ⊥ fun s : Fin 385 => rL V0 n kh g q s := by
  unfold rM rL res_main_v115
  exact reduce_max (res_main_v114 V0) n kh g q

/-- The exponential of a row less its maximum, read at an index. -/
theorem exp_sub_max (L : FVec Ideal S64x2x4x128x385 .f32) (M : FVec Ideal S64x2x4x128 .f32)
    (n : Fin 64) (kh : Fin 2) (g : Fin 4) (q : Fin 128) (s : Fin 385) :
    Host.exp (subf L (broadcastInDim S64x2x4x128x385 ![0, 1, 2, 3, 4] bcast_S64x2x4x128x1_S64x2x4x128x385_0_1_2_3_4 (broadcastInDim S64x2x4x128x1 ![0, 1, 2, 3] bcast_S64x2x4x128_S64x2x4x128x1_0_1_2_3 (maximumf (broadcastInDim S64x2x4x128 ![] bcast_S_S64x2x4x128 (constant S_ .f32 0xFF800000#32)) M)))) (ix5 n kh g q s)
      = Ideal.exp (L (ix5 n kh g q s) - max ⊥ (M (ix4 n kh g q))) := by
  rw [← ofBits_bot]
  pointwise

theorem r135 (n : Fin 64) (kh : Fin 2) (g : Fin 4) (q : Fin 128) (s : Fin 385) :
    rE V0 n kh g q s = Ideal.exp (rL V0 n kh g q s - max ⊥ (rM V0 n kh g q)) := by
  exact exp_sub_max _ _ n kh g q s

theorem r137 (n : Fin 64) (kh : Fin 2) (g : Fin 4) (q : Fin 128) :
    rZ V0 n kh g q = ∑ s : Fin 385, rE V0 n kh g q s := by
  pointwise [rZ, rE, res_main_v137]

theorem r143 (n : Fin 64) (kh : Fin 2) (g : Fin 4) (q : Fin 128) (s : Fin 384) :
    rP V0 n kh g q s = Ideal.div (rE V0 n kh g q ⟨s.val, by omega⟩) (rZ V0 n kh g q) := by
  pointwise [rP, rE, rZ, res_main_v143]

theorem r153 (n : Fin 64) (kh : Fin 2) (g : Fin 4) (q : Fin 128) (s : Fin 385) :
    rCt V0 n kh g q s = if h : s.val < 384 then
       ∑ d : Fin 128, xDo V0 ⟨n.val * 128 + q.val, by omega⟩ ⟨kh.val * 512 + g.val * 128 + d.val, by omega⟩ * rV V0 n ⟨s.val, h⟩ kh d else 0 := by
  pointwise [rCt, rV, xDo, res_main_v153, res_main_v149]

theorem r165 (n : Fin 64) (kh : Fin 2) (g : Fin 4) (q : Fin 128) (s : Fin 385) :
    rDl V0 n kh g q s = (Ideal.div (rCt V0 n kh g q s) (rZ V0 n kh g q)
      + -(∑ s, rCt V0 n kh g q s * (Ideal.div 1 (rZ V0 n kh g q * rZ V0 n kh g q)) * rE V0 n kh g q s)) * rE V0 n kh g q s := by
  pointwise [rDl, rCt, rZ, rE, res_main_v165]
  simp

theorem r171 (n : Fin 64) (kh : Fin 2) (g : Fin 4) (q : Fin 128) (s : Fin 384) :
    rDs V0 n kh g q s = Scalar.select (res_main_v111_1 V0 (ix5 n kh g q s)) (rDl V0 n kh g q ⟨s.val, by omega⟩) 0 := by
  pointwise [rDs, rDl, res_main_v171]

end Cert.Proof.Attn
end
-- ==== Proof.Val.Ref2.lean ====
/- The reference's index arithmetic: its masks, its gathered keys and values, its scattered gradients. -/
module

public import proofs.«01_k».proof.Proof.Val.Ref1
public import proofs.«01_k».proof.Proof.Val.Words
public import Idealize.ShloMosaic.Lib.Routing.OpsPair

@[expose] public section

set_option maxRecDepth 16384

noncomputable section

namespace Cert.Proof.Attn

open Idealize.ShloMosaic Cert.ReferenceIdeal Cert.ReferenceIdeal.Gen Cert.ReferenceIdeal.Value

variable (V0 : Valuation τ sig (Elt Ideal))

theorem r63 (n : Fin 64) (s : Fin 384) : res_main_v63 V0 (ix2 n s) = BitVec.ofNat 32 (n.val * 128 + s.val) := by
  pointwise [res_main_v63]
  rw [WordCmp.muli_ofNat, WordCmp.addi_ofNat]

theorem r69 (n : Fin 64) (s : Fin 384) : res_main_v69 V0 (ix3 n s 0) = BitVec.ofNat 32 (n.val * 128 + s.val) := by
  pointwise [res_main_v69]
  rw [r63, WordCmp.select_of_eq_zero]
  rw [WordCmp.cmpi_slt_eq, toInt_nat _ (by omega)]
  have : (0#32).toInt = 0 := by decide
  rw [this, decide_eq_false (by omega)]
  rfl

theorem r76 (n : Fin 64) (s : Fin 384) : res_main_v76 V0 (ix3 n s 0) = BitVec.ofNat 32 (n.val * 128 + s.val) := r69 V0 n s

/-- Where a key column of a block's span is valid. -/
def valid (n : Fin 64) (q : Fin 128) (s : Fin 384) : Prop :=
  (q.val ≤ s.val ∧ s.val ≤ q.val + 256) ∧ 128 ≤ n.val * 128 + s.val ∧ n.val * 128 + s.val < 8320

theorem r111 (n : Fin 64) (kh : Fin 2) (g : Fin 4) (q : Fin 128) (s : Fin 384) :
    res_main_v111_1 V0 (ix5 n kh g q s) = 1#1 ↔ valid n q s := by
  pointwise [res_main_v111_1, res_main_v92, r63]
  have c128 : (128#32).toInt = 128 := by decide
  have c0 : (0#32).toInt = 0 := by decide
  have c8192 : (8192#32).toInt = 8192 := by decide
  have hs := toInt_nat s.val (by omega)
  have hq := toInt_nat q.val (by omega)
  have hk := toInt_nat (n.val * 128 + s.val) (by omega)
  have e1 : (IntOp.subi (BitVec.ofNat 32 s.val) 128#32).toInt = s.val - 128 := by
    rw [toInt_subi _ _ (by omega) (by omega), hs, c128]
  have e2 : (IntOp.subi (IntOp.subi (BitVec.ofNat 32 s.val) 128#32) (BitVec.ofNat 32 q.val)).toInt = s.val - 128 - q.val := by
    rw [toInt_subi _ _ (by omega) (by omega), e1, hq]
  have e3 := toInt_absi (IntOp.subi (IntOp.subi (BitVec.ofNat 32 s.val) 128#32) (BitVec.ofNat 32 q.val)) (by omega)
  have e4 : (IntOp.subi (BitVec.ofNat 32 (n.val * 128 + s.val)) 128#32).toInt = n.val * 128 + s.val - 128 := by
    rw [toInt_subi _ _ (by omega) (by omega), hk, c128]; push_cast; rfl
  rw [WordCmp.cmpi_sle_eq, WordCmp.cmpi_sge_eq, WordCmp.cmpi_slt_eq, WordCmp.andi_ofBool, WordCmp.andi_ofBool,
    ← Bool.decide_and, ← Bool.decide_and, WordCmp.ofBool_decide_eq_one_iff, e3, e2, e4, c128, c0, c8192]
  unfold valid
  rw [abs_le]
  omega

/-- A gather of whole rows, read at an index. -/
theorem gather_rows (X : S8448x2x128.Idx → EReal) (idx : IVec S64x384x1 32) (n : Fin 64) (s : Fin 384) (kh : Fin 2) (d : Fin 128)
    (h : idx (ix3 n s 0) = BitVec.ofNat 32 (n.val * 128 + s.val)) :
    Host.gather gather_S8448x2x128_S64x384x1_S64x384x2x128_23_0_n_n_0_2_12128 X idx (ix4 n s kh d)
      = X (ix3 ⟨n.val * 128 + s.val, by omega⟩ kh d) := by
  unfold Host.gather
  congr 1
  funext a
  refine Fin.ext ?_
  show gather_S8448x2x128_S64x384x1_S64x384x2x128_23_0_n_n_0_2_12128.start (ix4 n s kh d) idx a
      + gather_S8448x2x128_S64x384x1_S64x384x2x128_23_0_n_n_0_2_12128.batchCoord (ix4 n s kh d) a
      + gather_S8448x2x128_S64x384x1_S64x384x2x128_23_0_n_n_0_2_12128.offCoord (ix4 n s kh d) a = _
  rw [GatherDims.batchCoord_eq_zero _ _ _ List.not_mem_nil]
  have e0 : gather_S8448x2x128_S64x384x1_S64x384x2x128_23_0_n_n_0_2_12128.start (ix4 n s kh d) idx 0 = n.val * 128 + s.val := by
    unfold GatherDims.start
    rw [dif_pos (show _ ∈ gather_S8448x2x128_S64x384x1_S64x384x2x128_23_0_n_n_0_2_12128.startIndexMap from List.mem_singleton.mpr rfl)]
    have hsi : gather_S8448x2x128_S64x384x1_S64x384x2x128_23_0_n_n_0_2_12128.siIdx (ix4 n s kh d)
        ⟨List.idxOf (0 : Fin 3) gather_S8448x2x128_S64x384x1_S64x384x2x128_23_0_n_n_0_2_12128.startIndexMap,
          List.idxOf_lt_length_iff.2 (List.mem_singleton.mpr rfl)⟩ = ix3 n s 0 := by
      funext b; refine Fin.ext ?_
      match b with
      | ⟨0, _⟩ => rfl
      | ⟨1, _⟩ => rfl
      | ⟨2, _⟩ => rfl
    have h' := congrArg (fun j => min (idx j).toInt.toNat 8447) hsi
    simp only [h, toInt_nat (n.val * 128 + s.val) (by omega)] at h'
    have h'' : min ((n.val * 128 + s.val : Nat) : Int).toNat 8447 = n.val * 128 + s.val := by omega
    exact h'.trans h''
  match a with
  | ⟨0, _⟩ =>
    rw [GatherDims.offCoord_eq_zero _ _ _ (fun h => ((GatherDims.mem_sKept _ _).mp h).1 (List.mem_singleton.mpr rfl))]
    exact e0
  | ⟨1, _⟩ => exact (Nat.zero_add _).trans rfl
  | ⟨2, _⟩ => exact (Nat.zero_add _).trans rfl

/-- The zero-padded keys' and values' rows. -/
def padRow (n : Fin 64) (s : Fin 384) (c : Fin 4608) : EReal :=
  if h : 128 ≤ n.val * 128 + s.val ∧ n.val * 128 + s.val < 8320 then xProj V0 ⟨n.val * 128 + s.val - 128, by omega⟩ c else 0

theorem r70 (n : Fin 64) (s : Fin 384) (kh : Fin 2) (d : Fin 128) :
    rK V0 n s kh d = padRow V0 n s ⟨1024 + (kh.val * 128 + d.val), by omega⟩ := by
  unfold rK res_main_v70
  rw [gather_rows _ _ n s kh d (r69 V0 n s)]
  pointwise [padRow, xProj, res_main_v46, res_main_v0]
  split
  · rw [dif_neg (by omega)]
  · split
    · rw [dif_pos (by omega)]
    · rw [dif_neg (by omega)]

theorem r77 (n : Fin 64) (s : Fin 384) (kh : Fin 2) (d : Fin 128) :
    rV V0 n s kh d = padRow V0 n s ⟨1280 + (kh.val * 128 + d.val), by omega⟩ := by
  unfold rV res_main_v77
  rw [gather_rows _ _ n s kh d (r76 V0 n s)]
  pointwise [padRow, xProj, res_main_v46, res_main_v0]
  split
  · rw [dif_neg (by omega)]
  · split
    · rw [dif_pos (by omega)]
    · rw [dif_neg (by omega)]

/-- Where a scattered row lands. -/
theorem scatter_lands (idx : IVec S64x384x1 32) (i : Fin 8448) (kh kh' : Fin 2) (d d' : Fin 128) (n : Fin 64) (s : Fin 384)
    (h : idx (ix3 n s 0) = BitVec.ofNat 32 (n.val * 128 + s.val)) :
    scatter_S8448x2x128_S64x384x1_S64x384x2x128_23_0_0_2.resultIdx? (ix4 n s kh' d') idx = some (ix3 i kh d)
      ↔ n.val * 128 + s.val = i.val ∧ kh' = kh ∧ d' = d := by
  rw [Routing.resultIdx?_eq_some]
  have e0 : scatter_S8448x2x128_S64x384x1_S64x384x2x128_23_0_0_2.start (ix4 n s kh' d') idx 0 = (n.val * 128 + s.val : Nat) := by
    unfold ScatterDims.start
    rw [dif_pos (show _ ∈ scatter_S8448x2x128_S64x384x1_S64x384x2x128_23_0_0_2.scatterDimsToOperandDims from List.mem_singleton.mpr rfl)]
    have hsi : scatter_S8448x2x128_S64x384x1_S64x384x2x128_23_0_0_2.siIdx (ix4 n s kh' d')
        ⟨List.idxOf (0 : Fin 3) scatter_S8448x2x128_S64x384x1_S64x384x2x128_23_0_0_2.scatterDimsToOperandDims,
          List.idxOf_lt_length_iff.2 (List.mem_singleton.mpr rfl)⟩ = ix3 n s 0 := by
      funext b; refine Fin.ext ?_
      match b with
      | ⟨0, _⟩ => rfl
      | ⟨1, _⟩ => rfl
      | ⟨2, _⟩ => rfl
    have h' := congrArg (fun j => (idx j).toInt) hsi
    simp only [h, toInt_nat (n.val * 128 + s.val) (by omega)] at h'
    exact h'
  have w0 : scatter_S8448x2x128_S64x384x1_S64x384x2x128_23_0_0_2.window (ix4 n s kh' d') 0 = 0 := rfl
  have e1 : scatter_S8448x2x128_S64x384x1_S64x384x2x128_23_0_0_2.start (ix4 n s kh' d') idx 1 = 0 := rfl
  have w1 : scatter_S8448x2x128_S64x384x1_S64x384x2x128_23_0_0_2.window (ix4 n s kh' d') 1 = kh'.val := rfl
  have e2 : scatter_S8448x2x128_S64x384x1_S64x384x2x128_23_0_0_2.start (ix4 n s kh' d') idx 2 = 0 := rfl
  have w2 : scatter_S8448x2x128_S64x384x1_S64x384x2x128_23_0_0_2.window (ix4 n s kh' d') 2 = d'.val := rfl
  constructor
  · intro H
    have H0 := H 0
    have H1 := H 1
    have H2 := H 2
    rw [e0, w0] at H0
    rw [e1, w1] at H1
    rw [e2, w2] at H2
    change _ = ((i.val : Nat) : Int) at H0
    change _ = ((kh.val : Nat) : Int) at H1
    change _ = ((d.val : Nat) : Int) at H2
    exact ⟨by omega, Fin.ext (by omega), Fin.ext (by omega)⟩
  · rintro ⟨hi, rfl, rfl⟩ a
    match a with
    | ⟨0, _⟩ =>
      show scatter_S8448x2x128_S64x384x1_S64x384x2x128_23_0_0_2.start (ix4 n s kh' d') idx 0 + (scatter_S8448x2x128_S64x384x1_S64x384x2x128_23_0_0_2.window (ix4 n s kh' d') 0 : Int) = (i.val : Int)
      rw [e0, w0]; omega
    | ⟨1, _⟩ =>
      show scatter_S8448x2x128_S64x384x1_S64x384x2x128_23_0_0_2.start (ix4 n s kh' d') idx 1 + (scatter_S8448x2x128_S64x384x1_S64x384x2x128_23_0_0_2.window (ix4 n s kh' d') 1 : Int) = (kh'.val : Int)
      rw [e1, w1]; omega
    | ⟨2, _⟩ =>
      show scatter_S8448x2x128_S64x384x1_S64x384x2x128_23_0_0_2.start (ix4 n s kh' d') idx 2 + (scatter_S8448x2x128_S64x384x1_S64x384x2x128_23_0_0_2.window (ix4 n s kh' d') 2 : Int) = (d'.val : Int)
      rw [e2, w2]; omega

/-- A scatter of whole rows read at an index of the padded array: the sum of what the three spans bring. -/
theorem scatter_rows (idx : IVec S64x384x1 32) (U : FVec Ideal S64x384x2x128 .f32) (b : Fin 64) (p : Fin 128) (kh : Fin 2) (d : Fin 128)
    (h : ∀ (n : Fin 64) (s : Fin 384), idx (ix3 n s 0) = BitVec.ofNat 32 (n.val * 128 + s.val)) :
    Host.scatterAdd scatter_S8448x2x128_S64x384x1_S64x384x2x128_23_0_0_2
      (broadcastInDim S8448x2x128 ![] bcast_S_S8448x2x128 (constant (F := Ideal) S_ .f32 0x00000000#32)) idx U
      (ix3 ⟨(b.val + 1) * 128 + p.val, by omega⟩ kh d) = three (fun n s => U (ix4 n s kh d)) b p := by
  rw [← sum_three]
  change (broadcastInDim S8448x2x128 ![] bcast_S_S8448x2x128 (constant (F := Ideal) S_ .f32 0x00000000#32)) _ + (_ : EReal) = _
  have z : (broadcastInDim S8448x2x128 ![] bcast_S_S8448x2x128 (constant (F := Ideal) S_ .f32 0x00000000#32))
      (ix3 ⟨(b.val + 1) * 128 + p.val, by omega⟩ kh d) = (0 : EReal) := by pointwise
  rw [z, zero_add, ← Fintype.sum_prod_type' (f := fun (n : Fin 64) (s : Fin 384) =>
    if n.val * 128 + s.val = (b.val + 1) * 128 + p.val then (U (ix4 n s kh d) : EReal) else 0), ← Finset.sum_filter]
  refine Finset.sum_bij' (fun j _ => ((j 0 : Fin 64), (j 1 : Fin 384))) (fun x _ => ix4 x.1 x.2 kh d) ?_ ?_ ?_ ?_ ?_
  · intro j hj
    have hj' := (Finset.mem_filter.1 hj).2
    rw [ValueIdx.eq_ix4 j] at hj'
    exact Finset.mem_filter.2 ⟨Finset.mem_univ _, ((scatter_lands idx _ kh _ d _ _ _ (h _ _)).1 hj').1⟩
  · intro x hx
    exact Finset.mem_filter.2 ⟨Finset.mem_univ _, (scatter_lands idx _ kh _ d _ _ _ (h _ _)).2 ⟨(Finset.mem_filter.1 hx).2, rfl, rfl⟩⟩
  · intro j hj
    have hj' := (Finset.mem_filter.1 hj).2
    rw [ValueIdx.eq_ix4 j] at hj'
    obtain ⟨_, h2, h3⟩ := (scatter_lands idx _ kh _ d _ _ _ (h _ _)).1 hj'
    conv_rhs => rw [ValueIdx.eq_ix4 j, h2, h3]
    rfl
  · intro x _
    rfl
  · intro j hj
    have hj' := (Finset.mem_filter.1 hj).2
    rw [ValueIdx.eq_ix4 j] at hj'
    obtain ⟨_, h2, h3⟩ := (scatter_lands idx _ kh _ d _ _ _ (h _ _)).1 hj'
    conv_lhs => rw [ValueIdx.eq_ix4 j, h2, h3]
    rfl

end Cert.Proof.Attn
end
-- ==== Proof.Val.Ref3.lean ====
/- The reference's logits and its four results, read at an index. -/
module

public import proofs.«01_k».proof.Proof.Val.Ref2

@[expose] public section

set_option maxRecDepth 16384

noncomputable section

namespace Cert.Proof.Attn

open Idealize.ShloMosaic Cert.ReferenceIdeal Cert.ReferenceIdeal.Gen Cert.ReferenceIdeal.Value

variable (V0 : Valuation τ sig (Elt Ideal))

/-- The relative bias of a head, a query row and a key column of a block's span. -/
def xBias (q : Fin 128) (s : Fin 384) (h : Fin 8) : EReal :=
  Host.gather gather_S32x8_S128x384x1_S128x384x8_2_0_n_n_0_2_18 (V0 (Proc.devRef .tc main_arg1))
    (broadcastInDim S128x384x1 ![0, 1] bcast_S128x384_S128x384x1_0_1
      (select (cmpi CmpIPredicate.slt (res_main_v36 V0) (broadcastInDim S128x384 ![] bcast_S_S128x384 (constantI S_ 32 0#32)))
        (addi (res_main_v36 V0) (broadcastInDim S128x384 ![] bcast_S_S128x384 (constantI S_ 32 32#32)))
        (res_main_v36 V0)))
    (ix3 q s h)

/-- A valid column's logit is its scaled score plus its bias. -/
theorem r114_valid (n : Fin 64) (kh : Fin 2) (g : Fin 4) (q : Fin 128) (s : Fin 384) (h : valid n q s) :
    rL V0 n kh g q ⟨s.val, by omega⟩
      = (∑ d : Fin 128, rK V0 n s kh d * xProj V0 ⟨n.val * 128 + q.val, by omega⟩ ⟨kh.val * 512 + g.val * 128 + d.val, by omega⟩)
          * Ideal.ofBits .f32 0x3DB504F3#32 + xBias V0 q s ⟨kh.val * 4 + g.val, by omega⟩ := by
  have h' := (r111 V0 n kh g q s).2 h
  unfold rL
  pointwise [res_main_v114, res_main_v45, res_main_v0]
  exact WordCmp.select_of_eq_one h' _ _

/-- A column that is not valid has the least logit. -/
theorem r114_invalid (n : Fin 64) (kh : Fin 2) (g : Fin 4) (q : Fin 128) (s : Fin 384) (h : ¬ valid n q s) :
    rL V0 n kh g q ⟨s.val, by omega⟩ = ⊥ := by
  have h' : res_main_v111_1 V0 (ix5 n kh g q s) = 0#1 := by
    rcases BitVec.eq_zero_or_eq_one (res_main_v111_1 V0 (ix5 n kh g q s)) with h0 | h1
    · exact h0
    · exact absurd ((r111 V0 n kh g q s).1 h1) h
  unfold rL
  pointwise [res_main_v114, res_main_v45, res_main_v0]
  exact (WordCmp.select_of_eq_zero h' _ _).trans ofBits_bot

/-- The last column is the sink's. -/
theorem r114_sink (n : Fin 64) (kh : Fin 2) (g : Fin 4) (q : Fin 128) :
    rL V0 n kh g q ⟨384, by omega⟩ = xSink V0 ⟨kh.val * 4 + g.val, by omega⟩ := by
  unfold rL
  pointwise [res_main_v114, res_main_v45, res_main_v0, xSink]

/-- The gradient of the queries. -/
def resDq : S8192x1024.Idx → EReal :=
  truncf .bf16 (shapeCast S8192x1024 (transpose S64x128x2x4x128 [0, 2, 1, 3, 4] (Host.dotGeneral (F := Ideal) (φ₁ := .f32) (φ₂ := .f32) dot_S64x2x384x128x4_S64x384x2x128_S64x2x128x4x128_2_1_34_3_01_02 none (res_main_v178 V0) (res_main_v70 V0)) transposes_S64x2x128x4x128_S64x128x2x4x128_0_2_1_3_4) shapeCasts_S64x128x2x4x128_S8192x1024) bitsLt_bf16_f32

theorem res_dq (n : Fin 64) (q : Fin 128) (kh : Fin 2) (g : Fin 4) (d : Fin 128) :
    resDq V0 (ix2 ⟨n.val * 128 + q.val, by omega⟩ ⟨kh.val * 512 + g.val * 128 + d.val, by omega⟩)
      = ∑ s : Fin 384, rDs V0 n kh g q s * Ideal.ofBits .f32 0x3DB504F3#32 * rK V0 n s kh d := by
  pointwise [resDq, rDs, rK, res_main_v178]

/-- What a block's span brings to the gradient of the keys. -/
def rDk (kh : Fin 2) (d : Fin 128) (n : Fin 64) (s : Fin 384) : EReal :=
  ∑ q : Fin 128, ∑ g : Fin 4, rDs V0 n kh g q s * Ideal.ofBits .f32 0x3DB504F3#32
    * xProj V0 ⟨n.val * 128 + q.val, by omega⟩ ⟨kh.val * 512 + g.val * 128 + d.val, by omega⟩

/-- What a block's span brings to the gradient of the values. -/
def rDv (kh : Fin 2) (d : Fin 128) (n : Fin 64) (s : Fin 384) : EReal :=
  ∑ g : Fin 4, ∑ q : Fin 128, xDo V0 ⟨n.val * 128 + q.val, by omega⟩ ⟨kh.val * 512 + g.val * 128 + d.val, by omega⟩ * rP V0 n kh g q s

theorem r186 (b : Fin 64) (p : Fin 128) (kh : Fin 2) (d : Fin 128) :
    (res_main_v186 V0 (ix3 ⟨(b.val + 1) * 128 + p.val, by omega⟩ kh d)) = three (rDk V0 kh d) b p := by
  unfold res_main_v186
  refine (scatter_rows _ _ b p kh d (r69 V0)).trans ?_
  congr 1
  funext n s
  pointwise [rDk, rDs, xProj, res_main_v178, res_main_v45, res_main_v0]

theorem r184 (b : Fin 64) (p : Fin 128) (kh : Fin 2) (d : Fin 128) :
    (res_main_v184 V0 (ix3 ⟨(b.val + 1) * 128 + p.val, by omega⟩ kh d)) = three (rDv V0 kh d) b p := by
  unfold res_main_v184
  refine (scatter_rows _ _ b p kh d (r76 V0)).trans ?_
  congr 1
  funext n s
  pointwise [rDv, rP, xDo, res_main_v149]

/-- The gradients of the keys and of the values, beside each other. -/
def resDkv : S8192x512.Idx → EReal :=
  truncf (F := Ideal) .bf16 (concatenate S8192x512 1 [⟨S8192x256, (shapeCast _ (extractStridedSlice S8192x2x128 ![128, 0, 0] (res_main_v186 V0) slices_S8448x2x128_S8192x2x128_128_0_0) shapeCasts_S8192x2x128_S8192x256)⟩, ⟨S8192x256, (shapeCast _ (extractStridedSlice S8192x2x128 ![128, 0, 0] (res_main_v184 V0) slices_S8448x2x128_S8192x2x128_128_0_0) shapeCasts_S8192x2x128_S8192x256)⟩] concatenates_S8192x256_S8192x256_S8192x512_d1) bitsLt_bf16_f32

theorem res_dk (b : Fin 64) (p : Fin 128) (kh : Fin 2) (d : Fin 128) :
    resDkv V0 (ix2 ⟨b.val * 128 + p.val, by omega⟩ ⟨kh.val * 128 + d.val, by omega⟩) = three (rDk V0 kh d) b p := by
  rw [← r186]
  have e : (⟨128 + (b.val * 128 + p.val), by omega⟩ : Fin 8448) = ⟨(b.val + 1) * 128 + p.val, by omega⟩ := Fin.ext (by simp only; omega)
  rw [← e]
  pointwise [resDkv]
  exact dif_pos (by omega)

theorem res_dv (b : Fin 64) (p : Fin 128) (kh : Fin 2) (d : Fin 128) :
    resDkv V0 (ix2 ⟨b.val * 128 + p.val, by omega⟩ ⟨256 + (kh.val * 128 + d.val), by omega⟩) = three (rDv V0 kh d) b p := by
  rw [← r184]
  have e : (⟨128 + (b.val * 128 + p.val), by omega⟩ : Fin 8448) = ⟨(b.val + 1) * 128 + p.val, by omega⟩ := Fin.ext (by simp only; omega)
  rw [← e]
  pointwise [resDkv]

/-- The gradient of the biases. -/
def resDbias : S2x512x384.Idx → EReal :=
  shapeCast S2x512x384 (shapeCast S8x128x384 (Host.reduceAdd (shapeCast S1x2x4x128x384 (Host.reduceAdd (F := Ideal) (φ := .f32) (res_main_v171 V0) (constant S_ .f32 0x00000000#32) reducesTo_S64x2x4x128x384_S2x4x128x384_d0 h_S_) shapeCasts_S2x4x128x384_S1x2x4x128x384) (constant S_ .f32 0x00000000#32) reducesTo_S1x2x4x128x384_S2x4x128x384_d0 h_S_) shapeCasts_S2x4x128x384_S8x128x384) shapeCasts_S8x128x384_S2x512x384

theorem res_dbias (kh : Fin 2) (g : Fin 4) (q : Fin 128) (s : Fin 384) :
    resDbias V0 (ix3 kh ⟨g.val * 128 + q.val, by omega⟩ s) = ∑ n : Fin 64, rDs V0 n kh g q s := by
  pointwise [resDbias, rDs]
  exact Fin.sum_univ_one _

/-- A sum over the blocks and their query rows, the last axis being a single column. -/
theorem reduce_sink (x : FVec Ideal S64x2x4x128x1 .f32) (kh : Fin 2) (g : Fin 4) :
    Ideal.hostReduceAdd reducesTo_S64x2x4x128x1_S2x4_d0_3_4 x 0 (ix2 kh g) = (∑ n : Fin 64, ∑ q : Fin 128, x (ix5 n kh g q 0) : EReal) := by
  unfold Ideal.hostReduceAdd
  have hd : ∀ i : S64x2x4x128x1.Idx, reducesTo_S64x2x4x128x1_S2x4_d0_3_4.drop i = ix2 (i 1) (i 2) := by
    intro i
    funext a
    match a with
    | ⟨0, _⟩ => rfl
    | ⟨1, _⟩ => rfl
  rw [zero_add, ← Fintype.sum_prod_type' (f := fun (n : Fin 64) (q : Fin 128) => (x (ix5 n kh g q 0) : EReal))]
  refine Finset.sum_bij' (fun j _ => ((j 0 : Fin 64), (j 3 : Fin 128))) (fun y _ => ix5 y.1 kh g y.2 0) ?_ ?_ ?_ ?_ ?_
  · intro j _
    exact Finset.mem_univ _
  · intro y _
    exact Finset.mem_filter.2 ⟨Finset.mem_univ _, (hd _).trans rfl⟩
  · intro j hj
    have hj' := (hd j).symm.trans (Finset.mem_filter.1 hj).2
    have h1 : j 1 = kh := congrFun hj' 0
    have h2 : j 2 = g := congrFun hj' 1
    have h4 : j 4 = (0 : Fin 1) := Subsingleton.elim (α := Fin 1) _ _
    conv_rhs => rw [ValueIdx.eq_ix5 j, h1, h2, h4]
    rfl
  · intro y _
    rfl
  · intro j hj
    have hj' := (hd j).symm.trans (Finset.mem_filter.1 hj).2
    have h1 : j 1 = kh := congrFun hj' 0
    have h2 : j 2 = g := congrFun hj' 1
    have h4 : j 4 = (0 : Fin 1) := Subsingleton.elim (α := Fin 1) _ _
    conv_lhs => rw [ValueIdx.eq_ix5 j, h1, h2, h4]
    rfl

/-- The gradient of the sinks, beside zeros. -/
def resDsink : S1x128.Idx → EReal :=
  pad S1x128 ![0, 0] ![0, 120] ![0, 0] (shapeCast S1x8 (broadcastInDim S2x4x1x1 ![0, 1] bcast_S2x4_S2x4x1x1_0_1 (Host.reduceAdd (F := Ideal) (φ := .f32) (extractStridedSlice S64x2x4x128x1 ![0, 0, 0, 0, 384] (res_main_v165 V0) slices_S64x2x4x128x385_S64x2x4x128x1_0_0_0_0_384) (constant S_ .f32 0x00000000#32) reducesTo_S64x2x4x128x1_S2x4_d0_3_4 h_S_)) shapeCasts_S2x4x1x1_S1x8) (sitofp (F := Ideal) .f32 (constantI S_ 32 0#32)) pads_S1x8_S1x128_000_01200 h_S_

theorem res_dsink (l : Fin 128) :
    resDsink V0 (ix2 0 l)
      = if h : l.val < 8 then ∑ n : Fin 64, ∑ q : Fin 128, rDl V0 n ⟨l.val / 4, by omega⟩ ⟨l.val % 4, by omega⟩ q ⟨384, by omega⟩ else 0 := by
  pointwise [resDsink, rDl]
  split
  · rw [reduce_sink]
    pointwise
  · show ((((0#32 : BitVec 32).toInt : ℝ)) : EReal) = 0
    simp

end Cert.Proof.Attn
end
-- ==== Proof.Val.Host.lean ====
/- The kernel's banded bias, computed before the launch, read at an index: the reference's relative bias inside the band. -/
module

public import proofs.«01_k».proof.Proof.Gen.KernelIdeal.Frame
public import proofs.«01_k».proof.Proof.Val.Pay2
public import proofs.«01_k».proof.Proof.Val.Ref3
public import Idealize.ShloMosaic.Lib.StableHlo.ReadAt

@[expose] public section

set_option maxRecDepth 16384

noncomputable section

namespace Cert.Proof.Attn

open Idealize.ShloMosaic Idealize.ShloMosaic.TcCoe Cert.KernelIdeal Cert.KernelIdeal.Gen

/-- The reference's index array into the table of biases. -/
def refIdx (V0 : Valuation Cert.ReferenceIdeal.τ Cert.ReferenceIdeal.sig (Elt Ideal)) : IVec S128x384x1 32 :=
  broadcastInDim Cert.ReferenceIdeal.S128x384x1 ![0, 1] Cert.ReferenceIdeal.Gen.bcast_S128x384_S128x384x1_0_1
      (select (cmpi CmpIPredicate.slt (Cert.ReferenceIdeal.Value.res_main_v36 V0) (broadcastInDim Cert.ReferenceIdeal.S128x384 ![] Cert.ReferenceIdeal.Gen.bcast_S_S128x384 (constantI Cert.ReferenceIdeal.S_ 32 0#32)))
        (addi (Cert.ReferenceIdeal.Value.res_main_v36 V0) (broadcastInDim Cert.ReferenceIdeal.S128x384 ![] Cert.ReferenceIdeal.Gen.bcast_S_S128x384 (constantI Cert.ReferenceIdeal.S_ 32 32#32)))
        (Cert.ReferenceIdeal.Value.res_main_v36 V0))

/-- The band as words: a column is at most 128 away from the row. -/
theorem band_iff (p : Fin 128) (s : Fin 384) :
    IntOp.cmpi CmpIPredicate.sle (IntOp.absi (IntOp.subi (IntOp.subi (BitVec.ofNat 32 s.val) 128#32) (BitVec.ofNat 32 p.val))) 128#32 = 1#1
      ↔ (p.val ≤ s.val ∧ s.val ≤ p.val + 256) := by
  have c128 : (128#32).toInt = 128 := by decide
  have hs := toInt_nat s.val (by omega)
  have hp := toInt_nat p.val (by omega)
  have e1 : (IntOp.subi (BitVec.ofNat 32 s.val) 128#32).toInt = (s.val : ℤ) - 128 := by
    rw [toInt_subi _ _ (by omega) (by omega), hs, c128]
  have e2 : (IntOp.subi (IntOp.subi (BitVec.ofNat 32 s.val) 128#32) (BitVec.ofNat 32 p.val)).toInt = (s.val : ℤ) - 128 - p.val := by
    rw [toInt_subi _ _ (by omega) (by omega), e1, hp]
  have e3 : (IntOp.absi (IntOp.subi (IntOp.subi (BitVec.ofNat 32 s.val) 128#32) (BitVec.ofNat 32 p.val))).toInt = |(s.val : ℤ) - 128 - p.val| := by
    rw [toInt_absi _ (by omega), e2]
  rw [WordCmp.cmpi_sle_eq, WordCmp.ofBool_decide_eq_one_iff, e3, c128, abs_le]
  omega

variable (m : (ℓ : Loc nD τ sig) → Buf (Elt Ideal) ℓ)

set_option maxHeartbeats 1600000 in
/-- The banded bias: inside the band the reference's, outside it the least value. -/
theorem bias_at (c : Dev nD) (V0 : Valuation Cert.ReferenceIdeal.τ Cert.ReferenceIdeal.sig (Elt Ideal))
    (h1 : V0 (Proc.devRef .tc Cert.ReferenceIdeal.main_arg1) = m (c, Proc.devRef .tc main_arg1))
    (kh : Fin 2) (g : Fin 4) (p : Fin 128) (s : Fin 384) :
    V m c main_v45 (ix3 kh (rw4 g p) s) = (if p.val ≤ s.val ∧ s.val ≤ p.val + 256 then xBias V0 p s ⟨kh.val * 4 + g.val, by omega⟩ else ⊥ : EReal) := by
  unfold V
  simp only [List.flatten_cons, List.flatten_nil, List.append_nil, List.cons_append, List.nil_append, hostOps0, hostOps0_1, hostOps0_2, hostOps0_3, hostOps0_4, hostOps0_5, hostOps0_6]
  after_reads_simp
  all_goals try simp -implicitDefEqProofs only [StableHlo.TRef.toBuf, StableHlo.TRef.ofBuf, cast_cast, cast_eq]
  generalize hI : broadcastInDim S128x384x1 _ _ _ = I
  have hR : I = refIdx V0 := by
    rw [← hI]
    unfold refIdx Cert.ReferenceIdeal.Value.res_main_v36 Cert.ReferenceIdeal.Value.res_main_v16 Cert.ReferenceIdeal.Value.res_main_v12
    rfl
  clear hI
  subst hR
  clean_types
  pointwise
  have ep : (rw4 g p).val % 128 = p.val := by show (g.val * 128 + p.val) % 128 = p.val; omega
  have eg : (rw4 g p).val / 128 = g.val := by show (g.val * 128 + p.val) / 128 = g.val; omega
  simp only [ep, eg]
  unfold Scalar.select
  refine if_congr (band_iff p s) ?_ ?_
  · unfold xBias
    rw [h1]
    rfl
  · exact ofBits_bot

end Cert.Proof.Attn
end
-- ==== Proof.Val.Blocks.lean ====
/- The blocks a grid point reads, at an index, as the arguments' elements. -/
module

public import proofs.«01_k».proof.Proof.Val.Step
public import proofs.«01_k».proof.Proof.Val.Host
public import Idealize.ShloMosaic.Lib.Pipeline.ValueKit

@[expose] public section

set_option maxRecDepth 16384

noncomputable section

namespace Cert.Proof.Attn

open Idealize.ShloMosaic Idealize.ShloMosaic.TcCoe Cert.KernelIdeal Cert.KernelIdeal.Gen

/-- Every input window's block index at a point. -/
theorem idx_in : ∀ t : Fin cfg0.N, win0_0.index t = ![min t.val 63, 0] ∧ win0_1.index t = ![min t.val 63, 1]
    ∧ win0_2.index t = ![min t.val 63 - 1, 2] ∧ win0_3.index t = ![min t.val 63, 2] ∧ win0_4.index t = ![min (min t.val 63 + 1) 63, 2]
    ∧ win0_5.index t = ![min t.val 63, 0] ∧ win0_6.index t = ![0, 0, 0] ∧ win0_7.index t = ![0, 0] :=
  (by decide +kernel : ∀ t : Fin grid0.N, _)

variable (m : (ℓ : Loc nD τ sig) → Buf (Elt Ideal) ℓ) (c : Dev nD)
  (V0 : Valuation Cert.ReferenceIdeal.τ Cert.ReferenceIdeal.sig (Elt Ideal))

/-- The reference's arguments are the kernel's. -/
structure Same : Prop where
  a0 : V0 (Proc.devRef .tc Cert.ReferenceIdeal.main_arg0) = m (c, Proc.devRef .tc main_arg0)
  a1 : V0 (Proc.devRef .tc Cert.ReferenceIdeal.main_arg1) = m (c, Proc.devRef .tc main_arg1)
  a2 : V0 (Proc.devRef .tc Cert.ReferenceIdeal.main_arg2) = m (c, Proc.devRef .tc main_arg2)
  a3 : V0 (Proc.devRef .tc Cert.ReferenceIdeal.main_arg3) = m (c, Proc.devRef .tc main_arg3)

variable {m c V0} (h : Same m c V0) (t : Fin cfg0.N) (n : Fin 64) (ht : t.val = n.val)

theorem Same.proj (h : Same m c V0) (i : Fin 8192) (j : Fin 4608) : m (c, Proc.devRef .tc main_arg0) (ix2 i j) = xProj V0 i j := by
  unfold xProj; rw [h.a0]
theorem Same.dout (h : Same m c V0) (i : Fin 8192) (j : Fin 1024) : m (c, Proc.devRef .tc main_arg3) (ix2 i j) = xDo V0 i j := by
  unfold xDo; rw [h.a3]
theorem Same.sink (h : Same m c V0) (j : Fin 8) : m (c, Proc.devRef .tc main_arg2) (ix2 0 j) = xSink V0 j := by
  unfold xSink; rw [h.a2]

include h ht

theorem blk0 (p : Fin 128) (x : Fin 512) : iblk m c 0 t (ix2 p x) = xProj V0 ⟨n.val * 128 + p.val, by omega⟩ ⟨x.val, by omega⟩ := by
  rw [← h.proj]
  have e : min t.val 63 = n.val := by omega
  blk_ext! [iblk, V, idx_in t, e]

theorem blk1 (p : Fin 128) (x : Fin 512) : iblk m c 1 t (ix2 p x) = xProj V0 ⟨n.val * 128 + p.val, by omega⟩ ⟨512 + x.val, by omega⟩ := by
  rw [← h.proj]
  have e : min t.val 63 = n.val := by omega
  blk_ext! [iblk, V, idx_in t, e]

theorem blk2 (p : Fin 128) (x : Fin 512) (h0 : 0 < n.val) : iblk m c 2 t (ix2 p x) = xProj V0 ⟨n.val * 128 + p.val - 128, by omega⟩ ⟨1024 + x.val, by omega⟩ := by
  rw [← h.proj]
  have e : min t.val 63 = n.val := by omega
  blk_ext! [iblk, V, idx_in t, e]

theorem blk3 (p : Fin 128) (x : Fin 512) : iblk m c 3 t (ix2 p x) = xProj V0 ⟨n.val * 128 + p.val, by omega⟩ ⟨1024 + x.val, by omega⟩ := by
  rw [← h.proj]
  have e : min t.val 63 = n.val := by omega
  blk_ext! [iblk, V, idx_in t, e]

theorem blk4 (p : Fin 128) (x : Fin 512) (h1 : n.val < 63) : iblk m c 4 t (ix2 p x) = xProj V0 ⟨n.val * 128 + p.val + 128, by omega⟩ ⟨1024 + x.val, by omega⟩ := by
  rw [← h.proj]
  have e : min t.val 63 = n.val := by omega
  have e2 : min (n.val + 1) 63 = n.val + 1 := by omega
  blk_ext! [iblk, V, idx_in t, e, e2]

theorem blk5 (p : Fin 128) (x : Fin 1024) : iblk m c 5 t (ix2 p x) = xDo V0 ⟨n.val * 128 + p.val, by omega⟩ x := by
  rw [← h.dout]
  have e : min t.val 63 = n.val := by omega
  blk_ext! [iblk, V, idx_in t, e]

omit ht in
theorem blk6 (kh : Fin 2) (g : Fin 4) (p : Fin 128) (s : Fin 384) : iblk m c 6 t (ix3 kh (rw4 g p) s)
    = (if p.val ≤ s.val ∧ s.val ≤ p.val + 256 then xBias V0 p s ⟨kh.val * 4 + g.val, by omega⟩ else ⊥ : EReal) := by
  rw [← bias_at m c V0 h.a1 kh g p s]
  blk_simp [iblk]
  refine congrArg (V m c main_v45) ?_
  blk_ext [idx_in t]

omit ht in
theorem blk7 (j : Fin 8) : iblk m c 7 t (ix2 0 j) = xSink V0 j := by
  rw [← h.sink]
  blk_ext! [iblk, V, idx_in t]

end Cert.Proof.Attn
end
-- ==== Proof.Val.Soft.lean ====
/- One row of the softmax's backward pass: the kernel's form of it and the reference's agree where the logits are finite or
   the least extended real. -/
module

public import proofs.«01_k».proof.Proof.Val.Row
public import Idealize.ShloMosaic.PureOps.Ideal

@[expose] public section

noncomputable section

namespace Cert.Proof.Attn

open Idealize.ShloMosaic

/-- A sum of reals is a real. -/
theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A nonnegative real distributes over a sum of extended reals. -/
theorem mul_sum_real {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, EReal.left_distrib_of_nonneg_of_ne_top (by exact_mod_cast hc) (EReal.coe_ne_top c), ih]

theorem sum_mul_real {ι : Type} (t : Finset ι) (c : ℝ) (hc : 0 ≤ c) (f : ι → EReal) :
    (∑ i ∈ t, f i) * (c : EReal) = ∑ i ∈ t, f i * (c : EReal) := by
  rw [mul_comm, mul_sum_real t c hc]
  exact Finset.sum_congr rfl fun i _ => mul_comm _ _

theorem mul_neg' (x y : EReal) : x * -y = -(x * y) := by
  rw [mul_comm, EReal.neg_mul, mul_comm]

/-- The row's logits: each real, or the least extended real; the sink's is real. -/
structure Fin1 (sc : Fin 384 → EReal) (k : EReal) : Prop where
  sc : ∀ s, sc s = ⊥ ∨ ∃ r : ℝ, sc s = r
  k : ∃ r : ℝ, k = r

/-- The real numbers behind a row: its exponentials, the sink's, and one over their sum. -/
theorem row_real {sc : Fin 384 → EReal} {k : EReal} (h : Fin1 sc k) :
    ∃ (e : Fin 384 → ℝ) (ek z : ℝ), 0 < z ∧ (∀ s, Ideal.exp (sc s - rowMax sc k) = e s) ∧ (∀ s, sc s = ⊥ → e s = 0)
      ∧ Ideal.exp (k - rowMax sc k) = ek ∧ rowSum sc k = ((1 / z : ℝ) : EReal) := by
  obtain ⟨rk, hk⟩ := h.k
  have htop : rowMax sc k ≠ ⊤ := by
    unfold rowMax
    have hf : Finset.univ.fold max ⊥ sc < ⊤ := by
      rw [Finset.fold_max_lt]
      refine ⟨bot_lt_top, fun s _ => ?_⟩
      rcases h.sc s with hs | ⟨r, hs⟩
      · rw [hs]; exact bot_lt_top
      · rw [hs]; exact EReal.coe_lt_top r
    exact ne_of_lt (max_lt hf (by rw [hk]; exact EReal.coe_lt_top rk))
  have hbot : rowMax sc k ≠ ⊥ := by
    unfold rowMax
    refine ne_of_gt (lt_of_lt_of_le ?_ (le_max_right _ _))
    rw [hk]; exact EReal.bot_lt_coe rk
  obtain ⟨M, hM⟩ : ∃ M : ℝ, rowMax sc k = M := ⟨(rowMax sc k).toReal, (EReal.coe_toReal htop hbot).symm⟩
  have he : ∀ s, ∃ r : ℝ, 0 ≤ r ∧ Ideal.exp (sc s - rowMax sc k) = r ∧ (sc s = ⊥ → r = 0) := by
    intro s
    rcases h.sc s with hs | ⟨r, hs⟩
    · refine ⟨0, le_refl _, ?_, fun _ => rfl⟩
      rw [hs, hM]
      simp
    · refine ⟨Real.exp (r - M), (Real.exp_pos _).le, ?_, fun h' => absurd (hs.symm.trans h') (EReal.coe_ne_bot r)⟩
      rw [hs, hM, ← EReal.coe_sub]
      rfl
  choose e he0 he1 he2 using he
  have hek : Ideal.exp (k - rowMax sc k) = (Real.exp (rk - M) : ℝ) := by
    rw [hM, hk, ← EReal.coe_sub]
    rfl
  have hZ : rowSum sc k = ((∑ s, e s + Real.exp (rk - M) : ℝ) : EReal) := by
    unfold rowSum
    rw [hek, EReal.coe_add, ← coe_sum]
    congr 1
    exact Finset.sum_congr rfl fun s _ => he1 s
  have hpos : 0 < ∑ s, e s + Real.exp (rk - M) :=
    add_pos_of_nonneg_of_pos (Finset.sum_nonneg fun s _ => he0 s) (Real.exp_pos _)
  refine ⟨e, Real.exp (rk - M), 1 / (∑ s, e s + Real.exp (rk - M)), by positivity, he1, he2, hek, ?_⟩
  rw [hZ, one_div_one_div]

/-- The reference's row over the logits and the sink's: its exponentials. -/
def refE (sc : Fin 384 → EReal) (k : EReal) (L : Fin 385 → EReal) (s : Fin 385) : EReal :=
  Ideal.exp (L s - max ⊥ (Finset.univ.fold max ⊥ L))

/-- The reference's logits are the kernel's and, last, the sink's. -/
structure IsRow (sc : Fin 384 → EReal) (k : EReal) (L : Fin 385 → EReal) : Prop where
  sc : ∀ s : Fin 384, L ⟨s.val, by omega⟩ = sc s
  k : L ⟨384, by omega⟩ = k

/-- A fold of maxima over the columns, the last one taken out. -/
theorem fold_last (L : Fin 385 → EReal) :
    Finset.univ.fold max ⊥ L = max (Finset.univ.fold max ⊥ fun s : Fin 384 => L ⟨s.val, by omega⟩) (L ⟨384, by omega⟩) := by
  have hsup : ∀ {n : Nat} (f : Fin n → EReal), Finset.univ.fold max ⊥ f = ⨆ s, f s := by
    intro n f
    rw [← Finset.sup_univ_eq_iSup]
    rfl
  rw [hsup, hsup]
  apply le_antisymm
  · refine iSup_le fun s => ?_
    by_cases hs : s.val < 384
    · exact le_trans (le_iSup (fun s : Fin 384 => L ⟨s.val, by omega⟩) ⟨s.val, hs⟩) (le_max_left _ _)
    · have : s = ⟨384, by omega⟩ := Fin.ext (by simp only; omega)
      rw [this]
      exact le_max_right _ _
  · refine max_le (iSup_le fun s => le_iSup L _) (le_iSup L _)

theorem row_max {sc : Fin 384 → EReal} {k : EReal} {L : Fin 385 → EReal} (h : IsRow sc k L) :
    max ⊥ (Finset.univ.fold max ⊥ L) = rowMax sc k := by
  rw [max_eq_right bot_le, fold_last, h.k]
  unfold rowMax
  congr 2
  funext s
  exact h.sc s

/-- A sum over the columns, the last one taken out. -/
theorem sum_last (f : Fin 385 → EReal) : ∑ s, f s = (∑ s : Fin 384, f ⟨s.val, by omega⟩) + f ⟨384, by omega⟩ :=
  Fin.sum_univ_castSucc f

/-- THE ROW: with `E` the reference's exponentials, `Z` their sum and `ct` the gradient of the probabilities (nought at the
    sink), the reference's probabilities and gradients of the logits are the kernel's. -/
theorem row_eq {sc : Fin 384 → EReal} {k : EReal} {L : Fin 385 → EReal} (h : Fin1 sc k) (hL : IsRow sc k L)
    (dp : Fin 384 → EReal) (E ct : Fin 385 → EReal) (Z : EReal)
    (hE : ∀ s, E s = Ideal.exp (L s - max ⊥ (Finset.univ.fold max ⊥ L))) (hZ : Z = ∑ s, E s)
    (hct : ∀ s : Fin 384, sc s ≠ ⊥ → ct ⟨s.val, by omega⟩ = dp s) (hct' : ct ⟨384, by omega⟩ = 0) :
    (∀ s : Fin 384, Ideal.div (E ⟨s.val, by omega⟩) Z = rowP sc k s)
    ∧ (∀ s : Fin 384, sc s ≠ ⊥ → (Ideal.div (ct ⟨s.val, by omega⟩) Z + -(∑ s, ct s * (Ideal.div 1 (Z * Z)) * E s)) * E ⟨s.val, by omega⟩ = rowDs sc k dp s)
    ∧ (∀ s : Fin 384, sc s = ⊥ → rowDs sc k dp s = 0)
    ∧ (∀ s : Fin 384, sc s = ⊥ → rowP sc k s = 0)
    ∧ (Ideal.div (ct ⟨384, by omega⟩) Z + -(∑ s, ct s * (Ideal.div 1 (Z * Z)) * E s)) * E ⟨384, by omega⟩ = rowDsink sc k dp := by
  obtain ⟨e, ek, z, hz, he, he0, hek, hsum⟩ := row_real h
  have hE1 : ∀ s : Fin 384, E ⟨s.val, by omega⟩ = e s := by
    intro s
    rw [hE, row_max hL, hL.sc, he]
  have hE2 : E ⟨384, by omega⟩ = ek := by
    rw [hE, row_max hL, hL.k, hek]
  have hZ1 : Z = ((1 / z : ℝ) : EReal) := by
    rw [hZ, ← hsum, sum_last, hE2]
    unfold rowSum
    rw [hek]
    congr 1
    exact Finset.sum_congr rfl fun s _ => (hE1 s).trans (he s).symm
  have hz0 : (1 / z : ℝ) ≠ 0 := by positivity
  have hP : ∀ s, rowP sc k s = (e s : EReal) * (z : EReal) := by
    intro s
    unfold rowP
    rw [he, hsum, Ideal.div_coe hz0, one_div_one_div, one_mul]
  have hdiv : ∀ x, Ideal.div x Z = x * (z : EReal) := by
    intro x
    rw [hZ1, Ideal.div_coe hz0, one_div_one_div]
  have hzz : Ideal.div 1 (Z * Z) = (z : EReal) * (z : EReal) := by
    rw [hZ1, ← EReal.coe_mul, Ideal.div_coe (mul_ne_zero hz0 hz0), one_mul, ← EReal.coe_mul]
    congr 1
    field_simp
  have hbot0 : ∀ s, sc s = ⊥ → rowP sc k s = 0 := by
    intro s hs
    rw [hP, he0 s hs]
    simp
  have ht : (∑ s, ct s * (Ideal.div 1 (Z * Z)) * E s) = (z : EReal) * rowDelta sc k dp := by
    rw [sum_last, hct', zero_mul, zero_mul, add_zero]
    unfold rowDelta
    rw [mul_sum_real _ z hz.le]
    refine Finset.sum_congr rfl fun s _ => ?_
    rw [hzz, hE1, hP]
    by_cases hs : sc s = ⊥
    · rw [he0 s hs]
      simp
    · rw [hct s hs]
      ac_rfl
  refine ⟨fun s => by rw [hdiv, hE1, hP], fun s hs => ?_, fun s hs => ?_, hbot0, ?_⟩
  · rw [ht, hdiv, hct s hs, hE1]
    unfold rowDs
    rw [hP, sub_eq_add_neg, ← mul_neg', mul_comm (dp s), ← EReal.left_distrib_of_nonneg_of_ne_top (by exact_mod_cast hz.le) (EReal.coe_ne_top z)]
    ac_rfl
  · unfold rowDs
    rw [hbot0 s hs, zero_mul]
  · rw [ht, hdiv, hct', zero_mul, zero_add, hE2]
    unfold rowDsink rowSink
    rw [hek, hsum, Ideal.div_coe hz0, one_div_one_div, one_mul, zero_sub, neg_mul, neg_mul]
    congr 1
    ac_rfl

end Cert.Proof.Attn

end
-- ==== Proof.Val.Match.lean ====
/- A grid point's gradients are the reference's at the point's block. -/
module

public import proofs.«01_k».proof.Proof.Val.Blocks
public import proofs.«01_k».proof.Proof.Val.Soft

@[expose] public section

set_option maxRecDepth 16384

noncomputable section

namespace Cert.Proof.Attn

open Idealize.ShloMosaic Idealize.ShloMosaic.TcCoe Cert.KernelIdeal Cert.KernelIdeal.Gen

/-- The scale of the scores is a real number, not negative. -/
theorem scl_real : ∃ r : ℝ, 0 ≤ r ∧ scl = r := by
  refine ⟨11863283 * (2 : ℝ) ^ (-27 : ℤ), by positivity, ?_⟩
  unfold scl
  simp [Ideal.ofBits, Ideal.ieee, -EReal.coe_mul]
  try norm_num

/-- A bit that is not one is zero. -/
theorem ne_one {b : BitVec 1} (hb : ¬ b = 1#1) : b = 0#1 := (BitVec.eq_zero_or_eq_one b).resolve_right hb

/-! ## The blocks by their fields -/

section fields
variable (i : grid0.Coords) (X1 X2 X3 X4 X5 : Vec Ideal S128x512 .bf16) (X6 : Vec Ideal S128x1024 .bf16) (X7 : Vec Ideal S2x512x384 .f32) (X8 : Vec Ideal S1x8 .f32)

theorem unit_id2 {a b : ℕ} (inb) (p : Fin a) (x : Fin b) :
    (Rect.unit (s := (⟨2, ![a, b]⟩ : Shape)) ![0, 0] ![a, b] inb).toLoadRect.idx (ix2 p x) = ix2 p x := by
  funext k
  refine Fin.ext ?_
  match k with
  | 0 => show 0 + 1 * p.val = p.val; omega
  | 1 => show 0 + 1 * x.val = x.val; omega

theorem insX_b0 (p : Fin 128) (x : Fin 512) : (insX i X1 X2 X3 X4 X5 X6 X7 X8).b0 (ix2 p x) = X1 (ix2 p x) := congrArg X1 (unit_id2 _ p x)
theorem insX_b1 (p : Fin 128) (x : Fin 512) : (insX i X1 X2 X3 X4 X5 X6 X7 X8).b1 (ix2 p x) = X2 (ix2 p x) := congrArg X2 (unit_id2 _ p x)
theorem insX_b2 (p : Fin 128) (x : Fin 512) : (insX i X1 X2 X3 X4 X5 X6 X7 X8).b2 (ix2 p x) = X3 (ix2 p x) := congrArg X3 (unit_id2 _ p x)
theorem insX_b3 (p : Fin 128) (x : Fin 512) : (insX i X1 X2 X3 X4 X5 X6 X7 X8).b3 (ix2 p x) = X4 (ix2 p x) := congrArg X4 (unit_id2 _ p x)
theorem insX_b4 (p : Fin 128) (x : Fin 512) : (insX i X1 X2 X3 X4 X5 X6 X7 X8).b4 (ix2 p x) = X5 (ix2 p x) := congrArg X5 (unit_id2 _ p x)
theorem insX_b5 (p : Fin 128) (x : Fin 1024) : (insX i X1 X2 X3 X4 X5 X6 X7 X8).b5 (ix2 p x) = X6 (ix2 p x) := congrArg X6 (unit_id2 _ p x)
theorem insX_b6 (r : Fin 512) (s : Fin 384) : (insX i X1 X2 X3 X4 X5 X6 X7 X8).b6 (ix3 0 r s) = X7 (ix3 0 r s) := by
  refine congrArg X7 (funext fun k => Fin.ext ?_)
  match k with
  | 0 => rfl
  | 1 => show 0 + 1 * r.val = r.val; omega
  | 2 => show 0 + 1 * s.val = s.val; omega
theorem insX_b7 (r : Fin 512) (s : Fin 384) : (insX i X1 X2 X3 X4 X5 X6 X7 X8).b7 (ix3 0 r s) = X7 (ix3 1 r s) := by
  refine congrArg X7 (funext fun k => Fin.ext ?_)
  match k with
  | 0 => rfl
  | 1 => show 0 + 1 * r.val = r.val; omega
  | 2 => show 0 + 1 * s.val = s.val; omega

theorem insX_kSn (kh : Fin 2) (g : Fin 4) : (insX i X1 X2 X3 X4 X5 X6 X7 X8).kSn kh g = X8 (ix2 0 ⟨kh.val * 4 + g.val, by omega⟩) :=
  match kh, g with
  | 0, 0 => (rfl)
  | 0, 1 => (rfl)
  | 0, 2 => (rfl)
  | 0, 3 => (rfl)
  | 1, 0 => (rfl)
  | 1, 1 => (rfl)
  | 1, 2 => (rfl)
  | 1, 3 => (rfl)

end fields

/-! ## Real arguments -/

/-- Every argument is an array of real numbers. -/
structure Reals (V0 : Valuation Cert.ReferenceIdeal.τ Cert.ReferenceIdeal.sig (Elt Ideal)) : Prop where
  p : ∀ i j, ∃ r : ℝ, xProj V0 i j = r
  b : ∀ q s h, ∃ r : ℝ, xBias V0 q s h = r
  s : ∀ j, ∃ r : ℝ, xSink V0 j = r

/-- What a block's span brings to the gradient of the keys and values, by column. -/
def rD (V0 : Valuation Cert.ReferenceIdeal.τ Cert.ReferenceIdeal.sig (Elt Ideal)) (x : Fin 512) (n : Fin 64) (s : Fin 384) : EReal :=
  if h : x.val < 128 then rDk V0 0 ⟨x.val, h⟩ n s
  else if h : x.val < 256 then rDk V0 1 ⟨x.val - 128, by omega⟩ n s
  else if h : x.val < 384 then rDv V0 0 ⟨x.val - 256, by omega⟩ n s
  else rDv V0 1 ⟨x.val - 384, by omega⟩ n s

variable {m : (ℓ : Loc nD τ sig) → Buf (Elt Ideal) ℓ} {c : Dev nD}
  {V0 : Valuation Cert.ReferenceIdeal.τ Cert.ReferenceIdeal.sig (Elt Ideal)}
  (h : Same m c V0) (t : Fin cfg0.N) (n : Fin 64) (ht : t.val = n.val)

include h ht

/-! ## The point's operands -/

theorem m_kQ (kh : Fin 2) (g : Fin 4) (p d : Fin 128) : (insAt m c t).kQ kh g p d
    = xProj V0 ⟨n.val * 128 + p.val, by omega⟩ ⟨kh.val * 512 + g.val * 128 + d.val, by omega⟩ := by
  unfold Ins.kQ insAt
  rw [insX_b0, insX_b1, blk0 h t n ht, blk1 h t n ht]
  match kh with
  | 0 =>
    rw [if_pos rfl]
    exact congrArg (xProj V0 _) (Fin.ext (by show g.val * 128 + d.val = 0 * 512 + g.val * 128 + d.val; omega))
  | 1 =>
    rw [if_neg (by decide)]
    exact congrArg (xProj V0 _) (Fin.ext (by show 512 + (g.val * 128 + d.val) = 1 * 512 + g.val * 128 + d.val; omega))

theorem m_kO (kh : Fin 2) (g : Fin 4) (p d : Fin 128) : (insAt m c t).kO kh g p d
    = xDo V0 ⟨n.val * 128 + p.val, by omega⟩ ⟨kh.val * 512 + g.val * 128 + d.val, by omega⟩ := by
  unfold Ins.kO insAt
  rw [insX_b5, blk5 h t n ht]
  exact congrArg (xDo V0 _) (Fin.ext (by show kh.val * 512 + (g.val * 128 + d.val) = kh.val * 512 + g.val * 128 + d.val; omega))

theorem m_kv (s : Fin 384) (x : Fin 512) (hs : 128 ≤ n.val * 128 + s.val ∧ n.val * 128 + s.val < 8320) :
    kvAt (insAt m c t).b2 (insAt m c t).b3 (insAt m c t).b4 s x = padRow V0 n s ⟨1024 + x.val, by omega⟩ := by
  unfold kvAt insAt padRow
  rw [dif_pos hs]
  by_cases h1 : s.val < 128
  · rw [dif_pos h1, insX_b2, blk2 h t n ht _ _ (by omega)]
  · rw [dif_neg h1]
    by_cases h2 : s.val < 256
    · rw [dif_pos h2, insX_b3, blk3 h t n ht]
      exact congrFun (congrArg (xProj V0) (Fin.ext (by show n.val * 128 + (s.val - 128) = n.val * 128 + s.val - 128; omega))) _
    · rw [dif_neg h2, insX_b4, blk4 h t n ht _ _ (by omega)]
      exact congrFun (congrArg (xProj V0) (Fin.ext (by show n.val * 128 + (s.val - 256) + 128 = n.val * 128 + s.val - 128; omega))) _

theorem m_kK (kh : Fin 2) (s : Fin 384) (d : Fin 128) (hs : 128 ≤ n.val * 128 + s.val ∧ n.val * 128 + s.val < 8320) :
    (insAt m c t).kK kh s d = rK V0 n s kh d := by
  unfold Ins.kK
  rw [m_kv h t n ht s _ hs, r70]

theorem m_kV (kh : Fin 2) (s : Fin 384) (d : Fin 128) (hs : 128 ≤ n.val * 128 + s.val ∧ n.val * 128 + s.val < 8320) :
    (insAt m c t).kV kh s d = rV V0 n s kh d := by
  unfold Ins.kV
  rw [m_kv h t n ht s _ hs, r77]
  exact congrArg (padRow V0 n s) (Fin.ext (by show 1024 + (256 + (kh.val * 128 + d.val)) = 1280 + (kh.val * 128 + d.val); omega))

omit ht in
theorem m_kB (kh : Fin 2) (g : Fin 4) (p : Fin 128) (s : Fin 384) : (insAt m c t).kB kh g p s
    = (if p.val ≤ s.val ∧ s.val ≤ p.val + 256 then xBias V0 p s ⟨kh.val * 4 + g.val, by omega⟩ else ⊥ : EReal) := by
  unfold Ins.kB insAt
  rw [insX_b6, insX_b7, blk6 h t n, blk6 h t n]
  match kh with
  | 0 => rw [if_pos rfl]
  | 1 => rw [if_neg (by decide)]

omit ht in
theorem m_kSn (kh : Fin 2) (g : Fin 4) : (insAt m c t).kSn kh g = xSink V0 ⟨kh.val * 4 + g.val, by omega⟩ := by
  unfold insAt
  rw [insX_kSn, blk7 h t]

omit h in
theorem m_mask (s : Fin 384) : (insAt m c t).mask (ix2 0 s) = 1#1 ↔ (128 ≤ n.val * 128 + s.val ∧ n.val * 128 + s.val < 8320) := by
  unfold Ins.mask
  rw [insAt_i, ht]
  exact pay12_at n.val (by omega) s

/-! ## The logits -/

theorem m_sc_valid (kh : Fin 2) (g : Fin 4) (p : Fin 128) (s : Fin 384) (hv : valid n p s) :
    (insAt m c t).kSc kh g p s = rL V0 n kh g p ⟨s.val, by omega⟩ := by
  unfold Ins.kSc
  have hm := (m_mask (m := m) (c := c) t n ht s).2 hv.2
  rw [WordCmp.select_of_eq_one hm, r114_valid V0 n kh g p s hv, m_kB h t n, if_pos hv.1]
  refine congrArg (· * scl + _) (Finset.sum_congr rfl fun d _ => ?_)
  rw [m_kQ h t n ht, m_kK h t n ht kh s d hv.2, mul_comm]

theorem m_sc_invalid (hb : ∀ x : EReal, x + ⊥ = ⊥) (kh : Fin 2) (g : Fin 4) (p : Fin 128) (s : Fin 384) (hv : ¬ valid n p s) :
    (insAt m c t).kSc kh g p s = ⊥ := by
  unfold Ins.kSc
  by_cases hs : 128 ≤ n.val * 128 + s.val ∧ n.val * 128 + s.val < 8320
  · refine (WordCmp.select_of_eq_one ((m_mask t n ht s).2 hs) _ _).trans ?_
    rw [m_kB h t n, if_neg (fun hb => hv ⟨hb, hs⟩)]
    exact hb _
  · exact WordCmp.select_of_eq_zero (ne_one (fun hm => hs ((m_mask t n ht s).1 hm))) _ _

/-- The sum of products of reals is real. -/
theorem real_valid (hR : Reals V0) (kh : Fin 2) (g : Fin 4) (p : Fin 128) (s : Fin 384) (hv : valid n p s) :
    ∃ r : ℝ, rL V0 n kh g p ⟨s.val, by omega⟩ = r := by
  rw [r114_valid V0 n kh g p s hv]
  have hk : ∀ d, ∃ r : ℝ, rK V0 n s kh d * xProj V0 ⟨n.val * 128 + p.val, by omega⟩ ⟨kh.val * 512 + g.val * 128 + d.val, by omega⟩ = r := by
    intro d
    rw [r70]
    unfold padRow
    have hs : 128 ≤ n.val * 128 + s.val ∧ n.val * 128 + s.val < 8320 := hv.2
    rw [dif_pos hs]
    obtain ⟨a, ha⟩ := hR.p ⟨n.val * 128 + s.val - 128, by omega⟩ ⟨1024 + (kh.val * 128 + d.val), by omega⟩
    obtain ⟨b, hb⟩ := hR.p ⟨n.val * 128 + p.val, by omega⟩ ⟨kh.val * 512 + g.val * 128 + d.val, by omega⟩
    exact ⟨a * b, by rw [ha, hb, EReal.coe_mul]⟩
  choose f hf using hk
  obtain ⟨r, _, hr⟩ := scl_real
  obtain ⟨b, hb⟩ := hR.b p s ⟨kh.val * 4 + g.val, by omega⟩
  refine ⟨(∑ d, f d) * r + b, ?_⟩
  rw [hb, Finset.sum_congr rfl fun d _ => hf d, EReal.coe_add, EReal.coe_mul, coe_sum, ← hr]
  rfl

theorem m_row (kh : Fin 2) (g : Fin 4) (p : Fin 128) : IsRow ((insAt m c t).kSc kh g p) ((insAt m c t).kSn kh g) (rL V0 n kh g p) where
  sc := by
    intro s
    by_cases hv : valid n p s
    · exact (m_sc_valid h t n ht kh g p s hv).symm
    · rw [m_sc_invalid h t n ht EReal.add_bot kh g p s hv, r114_invalid V0 n kh g p s hv]
  k := by rw [r114_sink, m_kSn h t n]

theorem m_fin (hR : Reals V0) (kh : Fin 2) (g : Fin 4) (p : Fin 128) : Fin1 ((insAt m c t).kSc kh g p) ((insAt m c t).kSn kh g) where
  sc := by
    intro s
    by_cases hv : valid n p s
    · right
      rw [m_sc_valid h t n ht kh g p s hv]
      exact real_valid h t n ht hR kh g p s hv
    · exact Or.inl (m_sc_invalid h t n ht EReal.add_bot kh g p s hv)
  k := by rw [m_kSn h t n]; exact hR.s _

/-! ## The rows -/

theorem valid_of_ne (kh : Fin 2) (g : Fin 4) (p : Fin 128) (s : Fin 384) (hs : (insAt m c t).kSc kh g p s ≠ ⊥) : valid n p s := by
  by_contra hv
  exact hs (m_sc_invalid h t n ht EReal.add_bot kh g p s hv)

theorem ne_of_valid (hR : Reals V0) (kh : Fin 2) (g : Fin 4) (p : Fin 128) (s : Fin 384) (hv : valid n p s) : (insAt m c t).kSc kh g p s ≠ ⊥ := by
  rw [m_sc_valid h t n ht kh g p s hv]
  obtain ⟨r, hr⟩ := real_valid h t n ht hR kh g p s hv
  rw [hr]
  exact EReal.coe_ne_bot r

theorem m_ct (kh : Fin 2) (g : Fin 4) (p : Fin 128) (s : Fin 384) (hv : valid n p s) :
    rCt V0 n kh g p ⟨s.val, by omega⟩ = (insAt m c t).kDp kh g p s := by
  rw [r153, dif_pos s.isLt]
  unfold Ins.kDp
  refine Finset.sum_congr rfl fun d _ => ?_
  rw [m_kO h t n ht, m_kV h t n ht kh s d hv.2]

theorem m_all (hR : Reals V0) (kh : Fin 2) (g : Fin 4) (p : Fin 128) :
    (∀ s : Fin 384, Ideal.div (rE V0 n kh g p ⟨s.val, by omega⟩) (rZ V0 n kh g p) = rowP ((insAt m c t).kSc kh g p) ((insAt m c t).kSn kh g) s)
    ∧ (∀ s : Fin 384, (insAt m c t).kSc kh g p s ≠ ⊥ → (Ideal.div (rCt V0 n kh g p ⟨s.val, by omega⟩) (rZ V0 n kh g p)
        + -(∑ s, rCt V0 n kh g p s * (Ideal.div 1 (rZ V0 n kh g p * rZ V0 n kh g p)) * rE V0 n kh g p s)) * rE V0 n kh g p ⟨s.val, by omega⟩
        = rowDs ((insAt m c t).kSc kh g p) ((insAt m c t).kSn kh g) ((insAt m c t).kDp kh g p) s)
    ∧ (∀ s : Fin 384, (insAt m c t).kSc kh g p s = ⊥ → rowDs ((insAt m c t).kSc kh g p) ((insAt m c t).kSn kh g) ((insAt m c t).kDp kh g p) s = 0)
    ∧ (∀ s : Fin 384, (insAt m c t).kSc kh g p s = ⊥ → rowP ((insAt m c t).kSc kh g p) ((insAt m c t).kSn kh g) s = 0)
    ∧ (Ideal.div (rCt V0 n kh g p ⟨384, by omega⟩) (rZ V0 n kh g p)
        + -(∑ s, rCt V0 n kh g p s * (Ideal.div 1 (rZ V0 n kh g p * rZ V0 n kh g p)) * rE V0 n kh g p s)) * rE V0 n kh g p ⟨384, by omega⟩
        = rowDsink ((insAt m c t).kSc kh g p) ((insAt m c t).kSn kh g) ((insAt m c t).kDp kh g p) :=
  row_eq (m_fin h t n ht hR kh g p) (m_row h t n ht kh g p) ((insAt m c t).kDp kh g p) (rE V0 n kh g p) (rCt V0 n kh g p) (rZ V0 n kh g p)
    (fun s => by rw [r135, r115]) (r137 V0 n kh g p)
    (fun s hs => m_ct h t n ht kh g p s (valid_of_ne h t n ht kh g p s hs))
    (by rw [r153, dif_neg (by decide)])

theorem m_kP (hR : Reals V0) (kh : Fin 2) (g : Fin 4) (p : Fin 128) (s : Fin 384) : (insAt m c t).kP kh g p s = rP V0 n kh g p s := by
  rw [r143]
  exact ((m_all h t n ht hR kh g p).1 s).symm

theorem kDs_invalid (hR : Reals V0) (kh : Fin 2) (g : Fin 4) (p : Fin 128) (s : Fin 384) (hv : ¬ valid n p s) : (insAt m c t).kDs kh g p s = 0 :=
  (m_all h t n ht hR kh g p).2.2.1 s (m_sc_invalid h t n ht EReal.add_bot kh g p s hv)

theorem m_kDs (hR : Reals V0) (kh : Fin 2) (g : Fin 4) (p : Fin 128) (s : Fin 384) : (insAt m c t).kDs kh g p s = rDs V0 n kh g p s := by
  rw [r171]
  by_cases hv : valid n p s
  · rw [WordCmp.select_of_eq_one ((r111 V0 n kh g p s).2 hv), r165]
    exact ((m_all h t n ht hR kh g p).2.1 s (ne_of_valid h t n ht hR kh g p s hv)).symm
  · rw [WordCmp.select_of_eq_zero (ne_one (fun hm => hv ((r111 V0 n kh g p s).1 hm)))]
    exact kDs_invalid h t n ht hR kh g p s hv

theorem m_kDsn (hR : Reals V0) (kh : Fin 2) (g : Fin 4) (p : Fin 128) : (insAt m c t).kDsn kh g p = rDl V0 n kh g p ⟨384, by omega⟩ := by
  rw [r165]
  exact ((m_all h t n ht hR kh g p).2.2.2.2).symm

/-! ## The gradients -/

theorem m_kDq (hR : Reals V0) (kh : Fin 2) (g : Fin 4) (p d : Fin 128) : (insAt m c t).kDq kh g p d
    = ∑ s : Fin 384, rDs V0 n kh g p s * Ideal.ofBits .f32 0x3DB504F3#32 * rK V0 n s kh d := by
  obtain ⟨r, hr0, hr⟩ := scl_real
  unfold Ins.kDq
  rw [hr, sum_mul_real _ r hr0, ← hr]
  refine Finset.sum_congr rfl fun s _ => ?_
  by_cases hv : valid n p s
  · rw [m_kDs h t n ht hR, m_kK h t n ht kh s d hv.2, mul_right_comm]
    rfl
  · rw [← m_kDs h t n ht hR, kDs_invalid h t n ht hR kh g p s hv]
    simp only [zero_mul]

theorem m_kDk (hR : Reals V0) (kh : Fin 2) (s : Fin 384) (d : Fin 128) : (insAt m c t).kDk kh s d = rDk V0 kh d n s := by
  obtain ⟨r, hr0, hr⟩ := scl_real
  unfold Ins.kDk rDk
  rw [Finset.sum_comm, hr, sum_mul_real _ r hr0]
  refine Finset.sum_congr rfl fun p _ => ?_
  rw [sum_mul_real _ r hr0, ← hr]
  refine Finset.sum_congr rfl fun g _ => ?_
  rw [m_kDs h t n ht hR, m_kQ h t n ht, mul_right_comm]
  rfl

theorem m_kDv (hR : Reals V0) (kh : Fin 2) (s : Fin 384) (d : Fin 128) : (insAt m c t).kDv kh s d = rDv V0 kh d n s := by
  unfold Ins.kDv rDv
  refine Finset.sum_congr rfl fun g _ => Finset.sum_congr rfl fun p _ => ?_
  rw [m_kP h t n ht hR, m_kO h t n ht, mul_comm]

theorem m_kD (hR : Reals V0) (s : Fin 384) (x : Fin 512) : (insAt m c t).kD s x = rD V0 x n s := by
  unfold Ins.kD rD
  simp only [m_kDk h t n ht hR, m_kDv h t n ht hR]

end Cert.Proof.Attn
end
-- ==== Proof.Val.State.lean ====
/- The state carried over the grid points, read at an index: the results' final blocks. -/
module

public import proofs.«01_k».proof.Proof.Val.Match

@[expose] public section

set_option maxRecDepth 16384

noncomputable section

namespace Cert.Proof.Attn

open Idealize.ShloMosaic Idealize.ShloMosaic.TcCoe Cert.KernelIdeal Cert.KernelIdeal.Gen

/-- A run that starts at a term and adds one term a step is the sum. -/
theorem sum_run (f : ℕ → EReal) (D : Fin 64 → EReal) (h0 : f 1 = 0 + D 0) (hs : ∀ k (hk : k < 64), k ≠ 0 → f (k + 1) = f k + D ⟨k, hk⟩) :
    f 64 = ∑ n, D n := by
  have key : ∀ k (hk : k < 64), f (k + 1) = ∑ n : Fin (k + 1), D ⟨n.val, by omega⟩ := by
    intro k
    induction k with
    | zero => intro _; rw [h0, zero_add]; exact (Fin.sum_univ_one (fun n : Fin 1 => D ⟨n.val, by omega⟩)).symm
    | succ k ih =>
      intro hk
      rw [hs (k + 1) hk (by omega), ih (by omega), Fin.sum_univ_castSucc (n := k + 1)]
      rfl
  exact key 63 (by omega)

/-- The grid point of a number. -/
def gpt (k : ℕ) (hk : k < 65) : Fin cfg0.N := ⟨k, by have hN : cfg0.N = 65 := N_0; omega⟩

variable {m : (ℓ : Loc nD τ sig) → Buf (Elt Ideal) ℓ} {c : Dev nD}
  {V0 : Valuation Cert.ReferenceIdeal.τ Cert.ReferenceIdeal.sig (Elt Ideal)}
  (h : Same m c V0) (hR : Reals V0)

theorem stAt_pt (k : ℕ) (hk : k < 65) : stAt m c (k + 1) = (stepOut m c (gpt k hk) (stAt m c k)).2.2.2 := stAt_succ m c (gpt k hk)

include h hR

theorem out_dq (t : Fin cfg0.N) (n : Fin 64) (ht : t.val = n.val) (kh : Fin 2) (g : Fin 4) (p d : Fin 128) :
    (outAt m c t).1 (ix2 p ⟨kh.val * 512 + g.val * 128 + d.val, by omega⟩)
      = resDq V0 (ix2 ⟨n.val * 128 + p.val, by omega⟩ ⟨kh.val * 512 + g.val * 128 + d.val, by omega⟩) := by
  rw [res_dq, outAt, ← m_kDq h t n ht hR]
  by_cases h0 : t.val = 0
  · exact first_dq m c t h0 _ kh g p d
  · exact mid_dq m c t h0 (by omega) _ kh g p d

theorem dq_pt (t : Fin cfg0.N) (p : Fin 128) (x : Fin 1024) :
    dqAt m c t (ix2 p x) = resDq V0 (ix2 ⟨min t.val 63 * 128 + p.val, by omega⟩ x) := by
  have hN : cfg0.N = 65 := N_0
  have ht := t.isLt
  obtain ⟨kh, g, d, hx⟩ : ∃ (kh : Fin 2) (g : Fin 4) (d : Fin 128), x = ⟨kh.val * 512 + g.val * 128 + d.val, by omega⟩ :=
    ⟨⟨x.val / 512, by omega⟩, ⟨x.val % 512 / 128, by omega⟩, ⟨x.val % 128, by omega⟩, Fin.ext (by show x.val = x.val / 512 * 512 + x.val % 512 / 128 * 128 + x.val % 128; omega)⟩
  subst hx
  unfold dqAt
  by_cases h1 : t.val = 64
  · rw [if_pos h1]
    exact out_dq h hR _ ⟨min t.val 63, by omega⟩ (by show t.val - 1 = min t.val 63; omega) kh g p d
  · rw [if_neg h1]
    exact out_dq h hR t ⟨min t.val 63, by omega⟩ (by show t.val = min t.val 63; omega) kh g p d

theorem dbias_pt (kh : Fin 2) (g : Fin 4) (p : Fin 128) (j : Fin 384) :
    (stAt m c 64).1 (ix3 kh (rw4 g p) j) = ∑ n : Fin 64, rDs V0 n kh g p j := by
  refine sum_run (fun k => (stAt m c k).1 (ix3 kh (rw4 g p) j)) (fun n => rDs V0 n kh g p j) ?_ ?_
  · show (stAt m c (0 + 1)).1 (ix3 kh (rw4 g p) j) = _
    rw [stAt_pt 0 (by omega), ← m_kDs h (gpt 0 (by omega)) 0 rfl hR]
    exact first_dbias m c (gpt 0 (by omega)) rfl _ kh g p j
  · intro k hk k0
    show (stAt m c (k + 1)).1 (ix3 kh (rw4 g p) j) = _
    rw [stAt_pt k (by omega), ← m_kDs h (gpt k (by omega)) ⟨k, hk⟩ rfl hR]
    exact mid_dbias m c (gpt k (by omega)) k0 hk _ kh g p j

theorem sink_pt (kh : Fin 2) (g : Fin 4) (p : Fin 128) :
    (stAt m c 64).2.2 (ix3 kh (rw4 g p) 0) = ∑ n : Fin 64, rDl V0 n kh g p ⟨384, by omega⟩ := by
  refine sum_run (fun k => (stAt m c k).2.2 (ix3 kh (rw4 g p) 0)) (fun n => rDl V0 n kh g p ⟨384, by omega⟩) ?_ ?_
  · show (stAt m c (0 + 1)).2.2 (ix3 kh (rw4 g p) 0) = _
    rw [stAt_pt 0 (by omega), ← m_kDsn h (gpt 0 (by omega)) 0 rfl hR]
    exact first_sink m c (gpt 0 (by omega)) rfl _ kh g p
  · intro k hk k0
    show (stAt m c (k + 1)).2.2 (ix3 kh (rw4 g p) 0) = _
    rw [stAt_pt k (by omega), ← m_kDsn h (gpt k (by omega)) ⟨k, hk⟩ rfl hR]
    exact mid_sink m c (gpt k (by omega)) k0 hk _ kh g p

theorem dsink_pt (l : Fin 128) : (outAt m c (gpt 64 (by omega))).2.2.1 (ix2 0 l) = resDsink V0 (ix2 0 l) := by
  rw [res_dsink, outAt]
  refine (last_dsink m c (gpt 64 (by omega)) rfl _ l).trans ?_
  by_cases hl : l.val < 8
  · rw [dif_pos hl, dif_pos hl, Finset.sum_comm]
    refine Finset.sum_congr rfl fun p _ => ?_
    exact sink_pt h hR _ _ p
  · rw [dif_neg hl, dif_neg hl]

/-- Where a block's rows stand before the block that follows it: what the block before it brought. -/
theorem acc_prev (b : ℕ) (hb : b < 64) (b0 : b ≠ 0) (a : Fin 3) (ha : a.val = b % 3) (p : Fin 128) (x : Fin 512) :
    (stAt m c b).2.1 (ix3 a p x) = rD V0 x ⟨b - 1, by omega⟩ ⟨256 + p.val, by omega⟩ := by
  obtain ⟨k, rfl⟩ : ∃ k, b = k + 1 := ⟨b - 1, by omega⟩
  show _ = rD V0 x ⟨k, by omega⟩ ⟨256 + p.val, by omega⟩
  rw [stAt_pt k (by omega), ← m_kD h (gpt k (by omega)) ⟨k, by omega⟩ rfl hR]
  by_cases k0 : k = 0
  · exact (first_acc m c (gpt k (by omega)) k0 _ 2 a (by show a.val = (k + 2 + 2) % 3; omega) p x).trans (zero_add _)
  · refine (mid_acc m c (gpt k (by omega)) k0 (by show k < 64; omega) _ 2 a (by show a.val = (k + 2 + 2) % 3; omega) p x).trans ?_
    rw [if_pos (show (2 : Fin 3).val = 2 from rfl)]
    exact zero_add _

/-- The same after the block itself. -/
theorem acc_cur (b : ℕ) (hb : b < 64) (a : Fin 3) (ha : a.val = b % 3) (p : Fin 128) (x : Fin 512) :
    (stAt m c (b + 1)).2.1 (ix3 a p x) = (if h : 0 < b then rD V0 x ⟨b - 1, by omega⟩ ⟨256 + p.val, by omega⟩ else 0)
      + rD V0 x ⟨b, hb⟩ ⟨128 + p.val, by omega⟩ := by
  rw [stAt_pt b (by omega), ← m_kD h (gpt b (by omega)) ⟨b, hb⟩ rfl hR]
  by_cases b0 : b = 0
  · rw [dif_neg (by omega)]
    refine (first_acc m c (gpt b (by omega)) b0 _ 1 a (by show a.val = (b + 2 + 1) % 3; omega) p x).trans ?_
    rfl
  · rw [dif_pos (by omega)]
    refine (mid_acc m c (gpt b (by omega)) b0 hb _ 1 a (by show a.val = (b + 2 + 1) % 3; omega) p x).trans ?_
    rw [if_neg (by decide), acc_prev h hR b hb b0 a ha]
    rfl

theorem dkv_pt (b : Fin 64) (p : Fin 128) (x : Fin 512) :
    (outAt m c (gpt (b.val + 1) (by omega))).2.1 (ix2 p x) = three (rD V0 x) b p := by
  unfold three
  rw [outAt]
  by_cases h1 : b.val = 63
  · rw [dif_neg (by omega : ¬ b.val < 63), add_zero]
    refine (last_dkv m c (gpt (b.val + 1) (by omega)) (by show b.val + 1 = 64; omega) _ p x).trans ?_
    exact acc_cur h hR b.val b.isLt 0 (by show 0 = b.val % 3; omega) p x
  · rw [dif_pos (by omega : b.val < 63)]
    refine (mid_dkv m c (gpt (b.val + 1) (by omega)) (by show b.val + 1 ≠ 0; omega) (by show b.val + 1 < 64; omega) _ ⟨b.val % 3, by omega⟩
      (by show b.val % 3 = (b.val + 1 + 2) % 3; omega) p x).trans ?_
    rw [m_kD h (gpt (b.val + 1) (by omega)) ⟨b.val + 1, by omega⟩ rfl hR]
    refine congrArg₂ (· + ·) (acc_cur h hR b.val b.isLt ⟨b.val % 3, by omega⟩ rfl p x) ?_
    exact congrArg (rD V0 x _) (Fin.ext (by show 0 * 128 + p.val = p.val; omega))

end Cert.Proof.Attn
end
-- ==== Proof.Val.Final.lean ====
/- The four results' arrays after the run are the reference's. -/
module

public import proofs.«01_k».proof.Proof.Val.State

@[expose] public section

set_option maxRecDepth 16384

noncomputable section

namespace Cert.Proof.Attn

open Idealize.ShloMosaic Idealize.ShloMosaic.TcCoe Cert.KernelIdeal Cert.KernelIdeal.Gen

/-- Every output window's block index at a point. -/
theorem idx_out : ∀ t : Fin cfg0.N, win0_8.index t = ![min t.val 63, 0] ∧ win0_9.index t = ![min (t.val - 1) 63, 0]
    ∧ win0_10.index t = ![0, 0, 0] ∧ win0_11.index t = ![0, 0] :=
  (by decide +kernel : ∀ t : Fin grid0.N, _)

theorem flush9 : ∀ t : Fin cfg0.N, t.val = 0 → (cfg0.win 9).flush t = false := by decide +kernel

variable {m : (ℓ : Loc nD τ sig) → Buf (Elt Ideal) ℓ} {c : Dev nD}
  {V0 : Valuation Cert.ReferenceIdeal.τ Cert.ReferenceIdeal.sig (Elt Ideal)}
  (h : Same m c V0) (hR : Reals V0)

include h hR

theorem final_dq : (dats m 0 c).arrAt 8 cfg0.N = resDq V0 := by
  refine (dats m 0 c).arrAt_eq_of_covers 8 _ (by decide +kernel) fun t hf y => ?_
  blk_simp
  rw [after0_8]
  obtain ⟨p, x, rfl⟩ : ∃ (p : Fin 128) (x : Fin 1024), y = ix2 p x := ⟨y 0, y 1, by funext a; match a with | 0 => rfl | 1 => rfl⟩
  rw [dq_pt h hR]
  blk_ext [idx_out t]

/-- What all blocks bring to the gradient of the keys and values, by column. -/
theorem res_dkv (b : Fin 64) (p : Fin 128) (x : Fin 512) : resDkv V0 (ix2 ⟨b.val * 128 + p.val, by omega⟩ x) = three (rD V0 x) b p := by
  by_cases h1 : x.val < 128
  · have e : rD V0 x = rDk V0 0 ⟨x.val, h1⟩ := by funext n s; unfold rD; rw [dif_pos h1]
    rw [e, ← res_dk]
    exact congrArg (resDkv V0) (congrArg (ix2 _) (Fin.ext (by show x.val = 0 * 128 + x.val; omega)))
  by_cases h2 : x.val < 256
  · have e : rD V0 x = rDk V0 1 ⟨x.val - 128, by omega⟩ := by funext n s; unfold rD; rw [dif_neg h1, dif_pos h2]
    rw [e, ← res_dk]
    exact congrArg (resDkv V0) (congrArg (ix2 _) (Fin.ext (by show x.val = 1 * 128 + (x.val - 128); omega)))
  by_cases h3 : x.val < 384
  · have e : rD V0 x = rDv V0 0 ⟨x.val - 256, by omega⟩ := by funext n s; unfold rD; rw [dif_neg h1, dif_neg h2, dif_pos h3]
    rw [e, ← res_dv]
    exact congrArg (resDkv V0) (congrArg (ix2 _) (Fin.ext (by show x.val = 256 + (0 * 128 + (x.val - 256)); omega)))
  · have e : rD V0 x = rDv V0 1 ⟨x.val - 384, by omega⟩ := by funext n s; unfold rD; rw [dif_neg h1, dif_neg h2, dif_neg h3]
    rw [e, ← res_dv]
    exact congrArg (resDkv V0) (congrArg (ix2 _) (Fin.ext (by show x.val = 256 + (1 * 128 + (x.val - 384)); omega)))

theorem final_dkv : (dats m 0 c).arrAt 9 cfg0.N = resDkv V0 := by
  refine (dats m 0 c).arrAt_eq_of_covers 9 _ (by decide +kernel) fun t hf y => ?_
  have hN : cfg0.N = 65 := N_0
  have ht : t.val < 65 := Nat.lt_of_lt_of_eq t.isLt hN
  have h0 : t.val ≠ 0 := fun h0 => by rw [flush9 t h0] at hf; exact absurd hf (by decide)
  blk_simp
  rw [after0_9]
  obtain ⟨p, x, rfl⟩ : ∃ (p : Fin 128) (x : Fin 512), y = ix2 p x := ⟨y 0, y 1, by funext a; match a with | 0 => rfl | 1 => rfl⟩
  obtain ⟨b, hb⟩ : ∃ b : Fin 64, t = gpt (b.val + 1) (by omega) := ⟨⟨t.val - 1, by omega⟩, Fin.ext (by show t.val = t.val - 1 + 1; omega)⟩
  have e : min (t.val - 1) 63 = b.val := by rw [hb]; show min (b.val + 1 - 1) 63 = b.val; omega
  have key : (outAt m c t).2.1 (ix2 p x) = resDkv V0 (ix2 ⟨b.val * 128 + p.val, by omega⟩ x) := by
    rw [res_dkv h hR, hb]
    exact dkv_pt h hR b p x
  refine key.trans ?_
  blk_ext [idx_out t, e]

theorem final_dbias : (dats m 0 c).arrAt 10 cfg0.N = resDbias V0 := by
  refine (dats m 0 c).arrAt_eq_of_covers 10 _ (by decide +kernel) fun t hf y => ?_
  have h0 : t.val = 64 := by rw [flush10 t] at hf; exact of_decide_eq_true hf
  blk_simp
  rw [after0_10, stAt_last m c t h0, h0]
  obtain ⟨kh, g, p, j, rfl⟩ : ∃ (kh : Fin 2) (g : Fin 4) (p : Fin 128) (j : Fin 384), y = ix3 kh (rw4 g p) j :=
    ⟨y 0, ⟨(y 1).val / 128, by have := (y 1).isLt; change (y 1).val < 512 at this; omega⟩, ⟨(y 1).val % 128, by omega⟩, y 2, by
      funext a
      match a with
      | 0 => rfl
      | 1 => exact Fin.ext (by show (y 1).val = (y 1).val / 128 * 128 + (y 1).val % 128; omega)
      | 2 => rfl⟩
  rw [dbias_pt h hR, ← res_dbias]
  blk_ext [idx_out t]

theorem final_dsink : (dats m 0 c).arrAt 11 cfg0.N = resDsink V0 := by
  refine (dats m 0 c).arrAt_eq_of_covers 11 _ (by decide +kernel) fun t hf y => ?_
  have h0 : t.val = 64 := by rw [flush11 t] at hf; exact of_decide_eq_true hf
  obtain ⟨l, rfl⟩ : ∃ l : Fin 128, y = ix2 0 l := ⟨y 1, by
    funext a
    match a with
    | 0 => exact Fin.ext (by have := (y 0).isLt; change (y 0).val < 1 at this; show (y 0).val = 0; omega)
    | 1 => rfl⟩
  have et : t = gpt 64 (by omega) := Fin.ext h0
  blk_simp
  rw [after0_11]
  have key : (outAt m c t).2.2.1 (ix2 0 l) = resDsink V0 (ix2 0 l) := by
    rw [et]
    exact dsink_pt h hR l
  refine key.trans ?_
  blk_ext [idx_out t]

end Cert.Proof.Attn
end
-- ==== Proof.Val.Algebraic.lean ====
/- The value claim: at extended reals the kernel's results are the reference's. -/
module

public import proofs.«01_k».proof.Proof.Val.Final
public import proofs.«01_k».proof.Proof.Frames

@[expose] public section

set_option maxRecDepth 16384

noncomputable section

namespace Cert.Proof.Attn

open Idealize.ShloMosaic Idealize.ShloMosaic.TcCoe Idealize.SL.Sem

/-- An extended real whose absolute value is below the greatest is a real number. -/
theorem real_of_lt (x : EReal) (hx : FloatOps.cmpf (F := Ideal) (φ := .f32) .olt (FloatOps.absf (F := Ideal) (φ := .f32) x) (Ideal.ofBits .f32 0x7F800000#32) = 1#1) :
    ∃ r : ℝ, x = r := by
  have ht : Ideal.ofBits .f32 0x7F800000#32 = (⊤ : EReal) := by simp [Ideal.ofBits, Ideal.ieee]
  rw [ht] at hx
  induction x using EReal.rec with
  | coe r => exact ⟨r, rfl⟩
  | bot => exfalso; revert hx; simp [FloatOps.cmpf, FloatOps.absf, Ideal.cmp]
  | top => exfalso; revert hx; simp [FloatOps.cmpf, FloatOps.absf, Ideal.cmp]

variable (m : (ℓ : Loc Cert.KernelIdeal.nD Cert.KernelIdeal.τ Cert.KernelIdeal.sig) → Buf (Elt Ideal) ℓ)

/-- Under the precondition the arguments are arrays of reals. -/
theorem reals_of_pre (c : Dev Cert.KernelIdeal.nD) (V0 : Valuation Cert.ReferenceIdeal.τ Cert.ReferenceIdeal.sig (Elt Ideal)) (h : Same m c V0)
    (hpre : Cert.Pre_KernelIdeal_finite_operands (hPre_finite_operands := pre_facts) m) : Reals V0 := by
  obtain ⟨h0, h1, h2⟩ := hpre c
  refine ⟨fun i j => ?_, fun q s k => ?_, fun j => ?_⟩
  · have e := congrFun h0 (ix2 i j)
    unfold xProj
    rw [h.a0]
    exact real_of_lt _ e
  · unfold xBias Host.gather
    rw [h.a1]
    exact real_of_lt _ (congrFun h1 _)
  · have e := congrFun h2 (ix2 0 j)
    unfold xSink
    rw [h.a2]
    exact real_of_lt _ e

set_option maxHeartbeats 2000000 in
/-- The kernel's run at extended reals: its results are the reference's values of its arguments. -/
theorem kernel_run (g : Dev Cert.KernelIdeal.nD → PrngReg)
    (V0 : Dev Cert.KernelIdeal.nD → Valuation Cert.ReferenceIdeal.τ Cert.ReferenceIdeal.sig (Elt Ideal)) (hS : ∀ c, Same m c (V0 c)) (hR : ∀ c, Reals (V0 c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = resDq (V0 c)
          ∧ r.2.mem ((c.tc : Thread Cert.KernelIdeal.nD Cert.KernelIdeal.τ).loc Cert.KernelIdeal.main_v46_1) = resDkv (V0 c)
          ∧ r.2.mem ((c.tc : Thread Cert.KernelIdeal.nD Cert.KernelIdeal.τ).loc Cert.KernelIdeal.main_v46_2) = resDbias (V0 c)
          ∧ r.2.mem ((c.tc : Thread Cert.KernelIdeal.nD Cert.KernelIdeal.τ).loc Cert.KernelIdeal.main_v46_3) = resDsink (V0 c)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run Cert.KernelIdeal.defs _ _).mono (fun r h c => ?_) (run_main (F := Ideal) m g)
  have hF := h.1
  refine ⟨?_, ?_, ?_, ?_, ?_, ?_, ?_, ?_⟩
  · refine ((hF c).1 8).trans ?_
    exact final_dq (hS c) (hR c)
  · refine ((hF c).1 9).trans ?_
    exact final_dkv (hS c) (hR c)
  · refine ((hF c).1 10).trans ?_
    exact final_dbias (hS c) (hR c)
  · refine ((hF c).1 11).trans ?_
    exact final_dsink (hS c) (hR c)
  · exact ((hF c).1 4).trans (((dats m 0 c).arrAt_in 4 rfl _).trans (Cert.KernelIdeal.Gen.V_main_arg0 m c))
  · exact ((hF c).2 Cert.KernelIdeal.main_arg1 (Pipeline.mem_restRefs_of Cert.KernelIdeal.main_arg1 (by decide) (by decide))).trans (Cert.KernelIdeal.Gen.V_main_arg1 m c)
  · exact ((hF c).1 7).trans (((dats m 0 c).arrAt_in 7 rfl _).trans (Cert.KernelIdeal.Gen.V_main_arg2 m c))
  · exact ((hF c).1 5).trans (((dats m 0 c).arrAt_in 5 rfl _).trans (Cert.KernelIdeal.Gen.V_main_arg3 m c))

set_option maxHeartbeats 2000000 in
/-- The kernel's four results are the reference's at extended reals, the arguments being finite. -/
theorem algebraic : Cert.algebraic_KernelIdeal_ReferenceIdeal_pre_finite_operands (hKernelIdeal := Cert.KernelIdeal.Gen.facts)
    (hReferenceIdeal := Cert.ReferenceIdeal.Gen.facts) (hPre_finite_operands := pre_facts) := by
  intro m g m' g' hpre hargs
  have hS : ∀ c, Same m c (StableHlo.launchContents m' c) := fun c =>
    ⟨(hargs c).1, (hargs c).2.1, (hargs c).2.2.1, (hargs c).2.2.2⟩
  have hR := fun c => reals_of_pre m c _ (hS c) hpre
  refine ⟨fun c => resDq (StableHlo.launchContents m' c), fun c => resDkv (StableHlo.launchContents m' c),
    fun c => resDbias (StableHlo.launchContents m' c), fun c => resDsink (StableHlo.launchContents m' c), ?_, ?_⟩
  · exact kernel_run m g _ hS hR
  · refine (θ_run Cert.ReferenceIdeal.defs _ _).mono (fun r h c => ?_) (Cert.ReferenceIdeal.Value.run (F := Ideal) m' g')
    exact h c

end Cert.Proof.Attn
end
-- ==== Proof.Mul.Common.lean ====
/- A product of two arrays summed in blocks of rows: facts that the weight gradients share. -/
module

public import Idealize.ShloMosaic.Lib.Pipeline.ValueKit

@[expose] public section

noncomputable section

namespace Cert.Proof.Mul

open Idealize.ShloMosaic Finset

/-- An array's entry at two naturals, taken modulo its extents. -/
def rd {a b : ℕ} [NeZero a] [NeZero b] (X : (⟨2, ![a, b]⟩ : Shape).Idx → EReal) (i j : ℕ) : EReal :=
  X (ix2 (Fin.ofNat a i) (Fin.ofNat b j))

/-- Inside the extents it is the entry itself. -/
theorem rd_val {a b : ℕ} [NeZero a] [NeZero b] (X : (⟨2, ![a, b]⟩ : Shape).Idx → EReal) (i : Fin a) (j : Fin b) :
    rd X i.val j.val = X (ix2 i j) := by
  unfold rd
  congr 2 <;> exact Fin.ext (Nat.mod_eq_of_lt (Fin.isLt _))

theorem rd_eq {a b : ℕ} [NeZero a] [NeZero b] (X : (⟨2, ![a, b]⟩ : Shape).Idx → EReal) {i j : ℕ} (hi : i < a) (hj : j < b) :
    rd X i j = X (ix2 ⟨i, hi⟩ ⟨j, hj⟩) :=
  rd_val X ⟨i, hi⟩ ⟨j, hj⟩

/-- Blocks of rows that add up to the 8192 rows are the 8192 rows. -/
theorem sum_blocks {n r : ℕ} (h : n * r = 8192) (g : ℕ → EReal) :
    ∑ k ∈ range n, ∑ l : Fin r, g (k * r + l.val) = ∑ k : Fin 8192, g k.val := by
  rw [Fin.sum_univ_eq_sum_range g 8192, ← h]
  have e : ∀ k, ∑ l : Fin r, g (k * r + l.val) = ∑ l ∈ range r, g (k * r + l) := fun k =>
    Fin.sum_univ_eq_sum_range (fun l => g (k * r + l)) r
  simp only [e]
  exact sum_range_range_mul_add n r g

/-- The product of two arrays over their 8192 rows, at an entry. -/
def res {a b : ℕ} (A : (⟨2, ![8192, a]⟩ : Shape).Idx → EReal) (B : (⟨2, ![8192, b]⟩ : Shape).Idx → EReal) :
    (⟨2, ![a, b]⟩ : Shape).Idx → EReal := fun j => ∑ k : Fin 8192, A (ix2 k (j 0)) * B (ix2 k (j 1))

/-- The part of it that the `k`th block of `r` rows adds at columns `x` and `y`. -/
def part {a b : ℕ} [NeZero a] [NeZero b] (r : ℕ) (A : (⟨2, ![8192, a]⟩ : Shape).Idx → EReal)
    (B : (⟨2, ![8192, b]⟩ : Shape).Idx → EReal) (k x y : ℕ) : EReal :=
  ∑ l : Fin r, rd A (k * r + l.val) x * rd B (k * r + l.val) y

/-- The parts add up to the product. -/
theorem sum_part {a b n r : ℕ} [NeZero a] [NeZero b] (h : n * r = 8192) (A : (⟨2, ![8192, a]⟩ : Shape).Idx → EReal)
    (B : (⟨2, ![8192, b]⟩ : Shape).Idx → EReal) {x y : ℕ} (hx : x < a) (hy : y < b) :
    ∑ k ∈ range n, part r A B k x y = res A B (ix2 ⟨x, hx⟩ ⟨y, hy⟩) := by
  refine (sum_blocks h fun k => rd A k x * rd B k y).trans (sum_congr rfl fun k _ => ?_)
  rw [rd_eq (i := k.val) (j := x) _ k.isLt hx, rd_eq (i := k.val) (j := y) _ k.isLt hy]
  rfl

/-- A block's part read off the two blocks that a point loads. -/
theorem part_eq {a b r : ℕ} [NeZero a] [NeZero b] (A : (⟨2, ![8192, a]⟩ : Shape).Idx → EReal)
    (B : (⟨2, ![8192, b]⟩ : Shape).Idx → EReal) {k x y : ℕ} (hk : k * r + r ≤ 8192) (hx : x < a) (hy : y < b) :
    part r A B k x y = ∑ l : Fin r, A (ix2 ⟨k * r + l.val, by have := l.isLt; omega⟩ ⟨x, hx⟩)
      * B (ix2 ⟨k * r + l.val, by have := l.isLt; omega⟩ ⟨y, hy⟩) := by
  refine sum_congr rfl fun l _ => ?_
  have hl := l.isLt
  rw [rd_eq (i := k * r + l.val) _ (by omega) hx, rd_eq (i := k * r + l.val) _ (by omega) hy]

/-- A scratch of `u` by `v` that `n` points in a row add their parts to, the first from zero, holds the product after the last. -/
theorem run_eq {a b n r u v N : ℕ} [NeZero a] [NeZero b] (hn : 0 < n) (hr : n * r = 8192)
    (A : (⟨2, ![8192, a]⟩ : Shape).Idx → EReal) (B : (⟨2, ![8192, b]⟩ : Shape).Idx → EReal) (I J : ℕ → ℕ)
    (s : (i : ℕ) → i < N → (⟨2, ![u, v]⟩ : Shape).Idx → EReal)
    (h0 : ∀ t : Fin N, t.val % n = 0 → ∀ j, s t.val t.isLt j
      = 0 + part r A B (t.val % n) (I (t.val / n) * u + (j 0).val) (J (t.val / n) * v + (j 1).val))
    (h1 : ∀ t : Fin N, ¬t.val % n = 0 → ∀ j, s t.val t.isLt j = s (t.val - 1) (Nat.lt_of_le_of_lt (Nat.sub_le _ _) t.isLt) j
      + part r A B (t.val % n) (I (t.val / n) * u + (j 0).val) (J (t.val / n) * v + (j 1).val))
    (t : Fin N) (h7 : t.val % n = n - 1) (p : Fin u) (q : Fin v) (hx : I (t.val / n) * u + p.val < a)
    (hy : J (t.val / n) * v + q.val < b) :
    s t.val t.isLt (ix2 p q)
      = res A B (ix2 ⟨I (t.val / n) * u + p.val, hx⟩ ⟨J (t.val / n) * v + q.val, hy⟩) := by
  have hs := Pipeline.eq_sum_of_reset_step_apply_of_mod s n (fun _ => (0 : EReal))
    (fun i j => part r A B (i % n) (I (i / n) * u + (j 0).val) (J (i / n) * v + (j 1).val)) h0 h1 t h7 (ix2 p q)
  refine hs.trans ?_
  rw [zero_add, Nat.sub_add_cancel hn]
  refine Eq.trans (sum_congr rfl fun k hk => ?_) (sum_part hr A B hx hy)
  have hk' := mem_range.mp hk
  show part r A B ((n * (t.val / n) + k) % n) (I ((n * (t.val / n) + k) / n) * u + p.val) (J ((n * (t.val / n) + k) / n) * v + q.val) = _
  rw [show (n * (t.val / n) + k) % n = k by rw [Nat.mul_add_mod]; exact Nat.mod_eq_of_lt hk',
    show (n * (t.val / n) + k) / n = t.val / n by rw [Nat.mul_add_div hn, Nat.div_eq_of_lt hk', add_zero]]

end Cert.Proof.Mul

end
-- ==== Proof.Mul.Merge.lean ====
/- The gradient of the merge gates' weight: eight blocks of rows summed in a scratch are one product over all rows. -/
module

public import proofs.«01_k».proof.Defs
public import proofs.«01_k».proof.Proof.Mul.Common
public import Idealize.ShloMosaic.Lib.Pipeline.ReadBack
public import proofs.«01_k».proof.Proof.Gen.Kernel2.Frame
public import proofs.«01_k».proof.Proof.Gen.Kernel2Ideal.Frame
public import proofs.«01_k».proof.Proof.Gen.Reference2Ideal.Run

@[expose] public section

set_option maxRecDepth 16384

noncomputable section

namespace Cert.Proof.Merge

open Idealize.ShloMosaic Idealize.ShloMosaic.TcCoe Idealize.SL.Sem Cert.Kernel2Ideal Cert.Kernel2Ideal.Gen
open Cert.Proof.Mul Finset

/-- The windows' block indices at a point: the row block moves fastest, then the column block, then the row of blocks. -/
theorem idx : ∀ t : Fin cfg0.N, win0_0.index t = ![t.val % 8, t.val / 8 / 4] ∧ win0_1.index t = ![t.val % 8, t.val / 8 % 4]
    ∧ win0_2.index t = ![t.val / 8 / 4, t.val / 8 % 4] :=
  (by decide +kernel : ∀ t : Fin grid0.N, _)

variable (m : (ℓ : Loc nD τ sig) → Buf (Elt Ideal) ℓ) (c : Dev nD)

/-- The two operands. -/
abbrev X : (⟨2, ![8192, 2048]⟩ : Shape).Idx → EReal := m ((c : Thread nD τ).loc main_arg0)
abbrev Y : (⟨2, ![8192, 4096]⟩ : Shape).Idx → EReal := m ((c : Thread nD τ).loc main_arg1)

/-- What point `n` adds at an entry of its block. -/
abbrev term (n : ℕ) (j : S1024x1024.Idx) : EReal :=
  part 1024 (X m c) (Y m c) (n % 8) (n / 8 / 4 * 1024 + (j 0).val) (n / 8 % 4 * 1024 + (j 1).val)

/-- A point's payload at an entry: what the scratch held, and the point's part of the product. -/
theorem pay2 (t : Fin cfg0.N) (v : Vec Ideal S1024x1024 .f32) (j : S1024x1024.Idx) :
    k0_pay2 v (iblk m c 0 t) (iblk m c 1 t) j = v j + term m c t.val j := by
  have hN : cfg0.N = 64 := N_0
  have ht := Nat.lt_of_lt_of_eq t.isLt hN
  have hp : (j 0).val < 1024 := (j 0).isLt
  have hq : (j 1).val < 1024 := (j 1).isLt
  pointwise [k0_pay2]
  rw [term, part_eq _ _ (by omega) (by omega) (by omega)]
  refine congrArg (_ + ·) (Finset.sum_congr rfl fun l _ => ?_)
  congr 1 <;> blk_ext [iblk, V, idx t]

/-- The first point of a block's run starts the scratch from zero. -/
theorem scr_A (t : Fin cfg0.N) (h0 : t.val % 8 = 0) (j : S1024x1024.Idx) :
    (outsAt0 m c t.val t.isLt).2 j = 0 + term m c t.val j := by
  rw [outsAt0_A m c t h0 (by omega)]
  frame_out
  rw [pay2]
  pointwise [k0_pay1]

/-- Every further point adds its part. -/
theorem scr_BC (t : Fin cfg0.N) (h0 : ¬t.val % 8 = 0) (j : S1024x1024.Idx) :
    (outsAt0 m c t.val t.isLt).2 j = (outsAt0 m c (t.val - 1) (Nat.lt_of_le_of_lt (Nat.sub_le _ _) t.isLt)).2 j + term m c t.val j := by
  by_cases h1 : t.val % 8 = 7
  · rw [outsAt0_C m c t h0 h1]
    frame_out
    simp only [read_unread_whole]
    rw [pay2]
  · rw [outsAt0_B m c t h0 h1]
    frame_out
    simp only [read_unread_whole]
    rw [pay2]

/-- The last point of a block's run leaves the block of the product. -/
theorem out_C (t : Fin cfg0.N) (h1 : t.val % 8 = 7) (p q : Fin 1024) :
    (outsAt0 m c t.val t.isLt).1 (ix2 p q)
      = res (X m c) (Y m c) (ix2 ⟨t.val / 8 / 4 * 1024 + p.val, by have := Nat.lt_of_lt_of_eq t.isLt N_0; have := p.isLt; omega⟩
          ⟨t.val / 8 % 4 * 1024 + q.val, by have := q.isLt; omega⟩) := by
  have e : (outsAt0 m c t.val t.isLt).1 (ix2 p q) = (outsAt0 m c t.val t.isLt).2 (ix2 p q) := by
    rw [outsAt0_C m c t (by omega) h1]
    frame_out
    simp only [read_unread_whole]
    pointwise [k0_pay3]
  rw [e]
  exact run_eq (n := 8) (r := 1024) (by decide) (by decide) (X m c) (Y m c) (· / 4) (· % 4) (fun n h => (outsAt0 m c n h).2) (scr_A m c) (scr_BC m c) t h1 p q _ _

/-- The kernel's result array is the product over all rows. -/
theorem final : (dats m 0 c).arrAt 2 cfg0.N = res (X m c) (Y m c) := by
  refine (dats m 0 c).arrAt_eq_of_covers 2 _ (by decide +kernel) fun t hf y => ?_
  have h1 : t.val % 8 = 7 := (flush0_2 t).mp hf
  blk_simp
  rw [after0_2]
  obtain ⟨p, q, rfl⟩ : ∃ (p q : Fin 1024), y = ix2 p q := ⟨y 0, y 1, by funext a; match a with | 0 => rfl | 1 => rfl⟩
  rw [out_C m c t h1]
  blk_ext [idx t]

/-- The printed kernel runs, its arguments unchanged and every counter back at zero. -/
theorem frame_kernel : Cert.quiescent_Kernel2 (hKernel2 := Cert.Kernel2.Gen.facts) := fun m g _ =>
  Cert.Kernel2.Gen.frame (F := Bits) m g

/-- The same of its idealization. -/
theorem frame_ideal : Cert.quiescent_Kernel2Ideal (hKernel2Ideal := Cert.Kernel2Ideal.Gen.facts) := fun m g _ =>
  Cert.Kernel2Ideal.Gen.frame (F := Ideal) m g

/-- The same of the reference, which has no counters. -/
theorem frame_reference : Cert.quiescent_Reference2Ideal (hReference2Ideal := Cert.Reference2Ideal.Gen.facts) := fun m g _ =>
  (θ_run Cert.Reference2Ideal.defs _ _).mono (fun r h => ⟨fun c => (h c).2,
    Idealize.ShloMosaic.sem_eq_zero_of_no_sems (by decide) r.2⟩) (Cert.Reference2Ideal.Value.run (F := Ideal) m g)

/-- At extended reals the kernel's result is the derivative of the gates' product with respect to the weight. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => res (X m c) (Y m c), ?_, ?_⟩
  · refine (θ_run Cert.Kernel2Ideal.defs _ _).mono (fun r h c => ⟨((h c).1 2).trans (final m c), ?_, ?_⟩)
      (run_main (F := Ideal) m g)
    · exact ((h c).1 0).trans ((dats m 0 c).arrAt_in 0 rfl _)
    · exact ((h c).1 1).trans ((dats m 0 c).arrAt_in 1 rfl _)
  · refine (θ_run Cert.Reference2Ideal.defs _ _).mono (fun r h c => ⟨(h c).1.trans ?_, (h c).2⟩)
      (Cert.Reference2Ideal.Value.run (F := Ideal) m' g')
    rw [(hargs c).1, (hargs c).2]
    funext j
    pointwise
    exact Finset.sum_congr rfl fun k _ => mul_comm _ _

end Cert.Proof.Merge

end
-- ==== Proof.Mul.Out.lean ====
/- The gradient of the output weight: eight blocks of rows summed in a scratch are one product over all rows. -/
module

public import proofs.«01_k».proof.Defs
public import proofs.«01_k».proof.Proof.Mul.Common
public import Idealize.ShloMosaic.Lib.Pipeline.ReadBack
public import proofs.«01_k».proof.Proof.Gen.Kernel3.Frame
public import proofs.«01_k».proof.Proof.Gen.Kernel3Ideal.Frame
public import proofs.«01_k».proof.Proof.Gen.Reference3Ideal.Run

@[expose] public section

set_option maxRecDepth 16384

noncomputable section

namespace Cert.Proof.Out

open Idealize.ShloMosaic Idealize.ShloMosaic.TcCoe Idealize.SL.Sem Cert.Kernel3Ideal Cert.Kernel3Ideal.Gen
open Cert.Proof.Mul Finset

/-- The windows' block indices at a point: the row block moves fastest, then the column block, then the row of blocks. -/
theorem idx : ∀ t : Fin cfg0.N, win0_0.index t = ![t.val % 8, t.val / 8 / 2] ∧ win0_1.index t = ![t.val % 8, t.val / 8 % 2]
    ∧ win0_2.index t = ![t.val / 8 / 2, t.val / 8 % 2] :=
  (by decide +kernel : ∀ t : Fin grid0.N, _)

variable (m : (ℓ : Loc nD τ sig) → Buf (Elt Ideal) ℓ) (c : Dev nD)

/-- The two operands. -/
abbrev X : (⟨2, ![8192, 2048]⟩ : Shape).Idx → EReal := m ((c : Thread nD τ).loc main_arg0)
abbrev Y : (⟨2, ![8192, 2048]⟩ : Shape).Idx → EReal := m ((c : Thread nD τ).loc main_arg1)

/-- What point `n` adds at an entry of its block. -/
abbrev term (n : ℕ) (j : S1024x1024.Idx) : EReal :=
  part 1024 (X m c) (Y m c) (n % 8) (n / 8 / 2 * 1024 + (j 0).val) (n / 8 % 2 * 1024 + (j 1).val)

/-- A point's payload at an entry: what the scratch held, and the point's part of the product. -/
theorem pay2 (t : Fin cfg0.N) (v : Vec Ideal S1024x1024 .f32) (j : S1024x1024.Idx) :
    k0_pay2 v (iblk m c 0 t) (iblk m c 1 t) j = v j + term m c t.val j := by
  have hN : cfg0.N = 32 := N_0
  have ht := Nat.lt_of_lt_of_eq t.isLt hN
  have hp : (j 0).val < 1024 := (j 0).isLt
  have hq : (j 1).val < 1024 := (j 1).isLt
  pointwise [k0_pay2]
  rw [term, part_eq _ _ (by omega) (by omega) (by omega)]
  refine congrArg (_ + ·) (Finset.sum_congr rfl fun l _ => ?_)
  congr 1 <;> blk_ext [iblk, V, idx t]

/-- The first point of a block's run starts the scratch from zero. -/
theorem scr_A (t : Fin cfg0.N) (h0 : t.val % 8 = 0) (j : S1024x1024.Idx) :
    (outsAt0 m c t.val t.isLt).2 j = 0 + term m c t.val j := by
  rw [outsAt0_A m c t h0 (by omega)]
  frame_out
  rw [pay2]
  pointwise [k0_pay1]

/-- Every further point adds its part. -/
theorem scr_BC (t : Fin cfg0.N) (h0 : ¬t.val % 8 = 0) (j : S1024x1024.Idx) :
    (outsAt0 m c t.val t.isLt).2 j = (outsAt0 m c (t.val - 1) (Nat.lt_of_le_of_lt (Nat.sub_le _ _) t.isLt)).2 j + term m c t.val j := by
  by_cases h1 : t.val % 8 = 7
  · rw [outsAt0_C m c t h0 h1]
    frame_out
    simp only [read_unread_whole]
    rw [pay2]
  · rw [outsAt0_B m c t h0 h1]
    frame_out
    simp only [read_unread_whole]
    rw [pay2]

/-- The last point of a block's run leaves the block of the product. -/
theorem out_C (t : Fin cfg0.N) (h1 : t.val % 8 = 7) (p q : Fin 1024) :
    (outsAt0 m c t.val t.isLt).1 (ix2 p q)
      = res (X m c) (Y m c) (ix2 ⟨t.val / 8 / 2 * 1024 + p.val, by have := Nat.lt_of_lt_of_eq t.isLt N_0; have := p.isLt; omega⟩
          ⟨t.val / 8 % 2 * 1024 + q.val, by have := q.isLt; omega⟩) := by
  have e : (outsAt0 m c t.val t.isLt).1 (ix2 p q) = (outsAt0 m c t.val t.isLt).2 (ix2 p q) := by
    rw [outsAt0_C m c t (by omega) h1]
    frame_out
    simp only [read_unread_whole]
    pointwise [k0_pay3]
  rw [e]
  exact run_eq (n := 8) (r := 1024) (by decide) (by decide) (X m c) (Y m c) (· / 2) (· % 2) (fun n h => (outsAt0 m c n h).2) (scr_A m c) (scr_BC m c) t h1 p q _ _

/-- The kernel's result array is the product over all rows. -/
theorem final : (dats m 0 c).arrAt 2 cfg0.N = res (X m c) (Y m c) := by
  refine (dats m 0 c).arrAt_eq_of_covers 2 _ (by decide +kernel) fun t hf y => ?_
  have h1 : t.val % 8 = 7 := (flush0_2 t).mp hf
  blk_simp
  rw [after0_2]
  obtain ⟨p, q, rfl⟩ : ∃ (p q : Fin 1024), y = ix2 p q := ⟨y 0, y 1, by funext a; match a with | 0 => rfl | 1 => rfl⟩
  rw [out_C m c t h1]
  blk_ext [idx t]

/-- The printed kernel runs, its arguments unchanged and every counter back at zero. -/
theorem frame_kernel : Cert.quiescent_Kernel3 (hKernel3 := Cert.Kernel3.Gen.facts) := fun m g _ =>
  Cert.Kernel3.Gen.frame (F := Bits) m g

/-- The same of its idealization. -/
theorem frame_ideal : Cert.quiescent_Kernel3Ideal (hKernel3Ideal := Cert.Kernel3Ideal.Gen.facts) := fun m g _ =>
  Cert.Kernel3Ideal.Gen.frame (F := Ideal) m g

/-- The same of the reference, which has no counters. -/
theorem frame_reference : Cert.quiescent_Reference3Ideal (hReference3Ideal := Cert.Reference3Ideal.Gen.facts) := fun m g _ =>
  (θ_run Cert.Reference3Ideal.defs _ _).mono (fun r h => ⟨fun c => (h c).2,
    Idealize.ShloMosaic.sem_eq_zero_of_no_sems (by decide) r.2⟩) (Cert.Reference3Ideal.Value.run (F := Ideal) m g)

/-- At extended reals the kernel's result is the derivative of the output product with respect to the weight. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => res (X m c) (Y m c), ?_, ?_⟩
  · refine (θ_run Cert.Kernel3Ideal.defs _ _).mono (fun r h c => ⟨((h c).1 2).trans (final m c), ?_, ?_⟩)
      (run_main (F := Ideal) m g)
    · exact ((h c).1 0).trans ((dats m 0 c).arrAt_in 0 rfl _)
    · exact ((h c).1 1).trans ((dats m 0 c).arrAt_in 1 rfl _)
  · refine (θ_run Cert.Reference3Ideal.defs _ _).mono (fun r h c => ⟨(h c).1.trans ?_, (h c).2⟩)
      (Cert.Reference3Ideal.Value.run (F := Ideal) m' g')
    rw [(hargs c).1, (hargs c).2]
    funext j
    pointwise
    exact Finset.sum_congr rfl fun k _ => mul_comm _ _

end Cert.Proof.Out

end
-- ==== Proof.Mul.Branch.lean ====
/- The gradient of the pooling and attention branches' weights: eight blocks of rows summed in a scratch are one product over all rows. -/
module

public import proofs.«01_k».proof.Defs
public import proofs.«01_k».proof.Proof.Mul.Common
public import Idealize.ShloMosaic.Lib.Pipeline.ReadBack
public import proofs.«01_k».proof.Proof.Gen.Kernel4.Frame
public import proofs.«01_k».proof.Proof.Gen.Kernel4Ideal.Frame
public import proofs.«01_k».proof.Proof.Gen.Reference4Ideal.Run

@[expose] public section

set_option maxRecDepth 16384

noncomputable section

namespace Cert.Proof.Branch

open Idealize.ShloMosaic Idealize.ShloMosaic.TcCoe Idealize.SL.Sem Cert.Kernel4Ideal Cert.Kernel4Ideal.Gen
open Cert.Proof.Mul Finset

/-- The windows' block indices at a point: the row block moves fastest, then the column block, then the row of blocks. -/
theorem idx : ∀ t : Fin cfg0.N, win0_0.index t = ![t.val % 8, 0] ∧ win0_1.index t = ![t.val % 8, t.val / 8 % 2]
    ∧ win0_2.index t = ![0, t.val / 8 % 2] :=
  (by decide +kernel : ∀ t : Fin grid0.N, _)

variable (m : (ℓ : Loc nD τ sig) → Buf (Elt Ideal) ℓ) (c : Dev nD)

/-- The two operands. -/
abbrev X : (⟨2, ![8192, 1024]⟩ : Shape).Idx → EReal := m ((c : Thread nD τ).loc main_arg0)
abbrev Y : (⟨2, ![8192, 2048]⟩ : Shape).Idx → EReal := m ((c : Thread nD τ).loc main_arg1)

/-- What point `n` adds at an entry of its block. -/
abbrev term (n : ℕ) (j : S1024x1024.Idx) : EReal :=
  part 1024 (X m c) (Y m c) (n % 8) (0 * 1024 + (j 0).val) (n / 8 % 2 * 1024 + (j 1).val)

/-- A point's payload at an entry: what the scratch held, and the point's part of the product. -/
theorem pay2 (t : Fin cfg0.N) (v : Vec Ideal S1024x1024 .f32) (j : S1024x1024.Idx) :
    k0_pay2 v (iblk m c 0 t) (iblk m c 1 t) j = v j + term m c t.val j := by
  have hN : cfg0.N = 16 := N_0
  have ht := Nat.lt_of_lt_of_eq t.isLt hN
  have hp : (j 0).val < 1024 := (j 0).isLt
  have hq : (j 1).val < 1024 := (j 1).isLt
  pointwise [k0_pay2]
  rw [term, part_eq _ _ (by omega) (by omega) (by omega)]
  refine congrArg (_ + ·) (Finset.sum_congr rfl fun l _ => ?_)
  congr 1 <;> blk_ext [iblk, V, idx t]

/-- The first point of a block's run starts the scratch from zero. -/
theorem scr_A (t : Fin cfg0.N) (h0 : t.val % 8 = 0) (j : S1024x1024.Idx) :
    (outsAt0 m c t.val t.isLt).2 j = 0 + term m c t.val j := by
  rw [outsAt0_A m c t h0 (by omega)]
  frame_out
  rw [pay2]
  pointwise [k0_pay1]

/-- Every further point adds its part. -/
theorem scr_BC (t : Fin cfg0.N) (h0 : ¬t.val % 8 = 0) (j : S1024x1024.Idx) :
    (outsAt0 m c t.val t.isLt).2 j = (outsAt0 m c (t.val - 1) (Nat.lt_of_le_of_lt (Nat.sub_le _ _) t.isLt)).2 j + term m c t.val j := by
  by_cases h1 : t.val % 8 = 7
  · rw [outsAt0_C m c t h0 h1]
    frame_out
    simp only [read_unread_whole]
    rw [pay2]
  · rw [outsAt0_B m c t h0 h1]
    frame_out
    simp only [read_unread_whole]
    rw [pay2]

/-- The last point of a block's run leaves the block of the product. -/
theorem out_C (t : Fin cfg0.N) (h1 : t.val % 8 = 7) (p q : Fin 1024) :
    (outsAt0 m c t.val t.isLt).1 (ix2 p q)
      = res (X m c) (Y m c) (ix2 ⟨0 * 1024 + p.val, by have := Nat.lt_of_lt_of_eq t.isLt N_0; have := p.isLt; omega⟩
          ⟨t.val / 8 % 2 * 1024 + q.val, by have := q.isLt; omega⟩) := by
  have e : (outsAt0 m c t.val t.isLt).1 (ix2 p q) = (outsAt0 m c t.val t.isLt).2 (ix2 p q) := by
    rw [outsAt0_C m c t (by omega) h1]
    frame_out
    simp only [read_unread_whole]
    pointwise [k0_pay3]
  rw [e]
  exact run_eq (n := 8) (r := 1024) (by decide) (by decide) (X m c) (Y m c) (fun _ => 0) (· % 2) (fun n h => (outsAt0 m c n h).2) (scr_A m c) (scr_BC m c) t h1 p q _ _

/-- The kernel's result array is the product over all rows. -/
theorem final : (dats m 0 c).arrAt 2 cfg0.N = res (X m c) (Y m c) := by
  refine (dats m 0 c).arrAt_eq_of_covers 2 _ (by decide +kernel) fun t hf y => ?_
  have h1 : t.val % 8 = 7 := (flush0_2 t).mp hf
  blk_simp
  rw [after0_2]
  obtain ⟨p, q, rfl⟩ : ∃ (p q : Fin 1024), y = ix2 p q := ⟨y 0, y 1, by funext a; match a with | 0 => rfl | 1 => rfl⟩
  rw [out_C m c t h1]
  blk_ext [idx t]

/-- The printed kernel runs, its arguments unchanged and every counter back at zero. -/
theorem frame_kernel : Cert.quiescent_Kernel4 (hKernel4 := Cert.Kernel4.Gen.facts) := fun m g _ =>
  Cert.Kernel4.Gen.frame (F := Bits) m g

/-- The same of its idealization. -/
theorem frame_ideal : Cert.quiescent_Kernel4Ideal (hKernel4Ideal := Cert.Kernel4Ideal.Gen.facts) := fun m g _ =>
  Cert.Kernel4Ideal.Gen.frame (F := Ideal) m g

/-- The same of the reference, which has no counters. -/
theorem frame_reference : Cert.quiescent_Reference4Ideal (hReference4Ideal := Cert.Reference4Ideal.Gen.facts) := fun m g _ =>
  (θ_run Cert.Reference4Ideal.defs _ _).mono (fun r h => ⟨fun c => (h c).2,
    Idealize.ShloMosaic.sem_eq_zero_of_no_sems (by decide) r.2⟩) (Cert.Reference4Ideal.Value.run (F := Ideal) m g)

/-- At extended reals the kernel's result is the derivative of a branch's product with respect to the weight. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => res (X m c) (Y m c), ?_, ?_⟩
  · refine (θ_run Cert.Kernel4Ideal.defs _ _).mono (fun r h c => ⟨((h c).1 2).trans (final m c), ?_, ?_⟩)
      (run_main (F := Ideal) m g)
    · exact ((h c).1 0).trans ((dats m 0 c).arrAt_in 0 rfl _)
    · exact ((h c).1 1).trans ((dats m 0 c).arrAt_in 1 rfl _)
  · refine (θ_run Cert.Reference4Ideal.defs _ _).mono (fun r h c => ⟨(h c).1.trans ?_, (h c).2⟩)
      (Cert.Reference4Ideal.Value.run (F := Ideal) m' g')
    rw [(hargs c).1, (hargs c).2]
    funext j
    pointwise
    exact Finset.sum_congr rfl fun k _ => mul_comm _ _

end Cert.Proof.Branch

end
-- ==== Proof.Norm.Common.lean ====
/- The gradient of a row's root-mean-square norm: the form with the normalised row and the form of the chain rule agree. -/
module

public import proofs.«01_k».proof.Proof.Val.Soft
public import Idealize.ShloMosaic.Lib.Pipeline.ValueKit

@[expose] public section

noncomputable section

namespace Cert.Proof.Norm

open Idealize.ShloMosaic Finset

/-- A number is finite when it is a real. -/
def Fin1 (x : EReal) : Prop := ∃ r : ℝ, x = r

theorem Fin1.mul {x y : EReal} (hx : Fin1 x) (hy : Fin1 y) : Fin1 (x * y) := by
  obtain ⟨a, rfl⟩ := hx
  obtain ⟨b, rfl⟩ := hy
  exact ⟨a * b, (EReal.coe_mul a b).symm⟩

theorem Fin1.add {x y : EReal} (hx : Fin1 x) (hy : Fin1 y) : Fin1 (x + y) := by
  obtain ⟨a, rfl⟩ := hx
  obtain ⟨b, rfl⟩ := hy
  exact ⟨a + b, (EReal.coe_add a b).symm⟩

theorem Fin1.sub {x y : EReal} (hx : Fin1 x) (hy : Fin1 y) : Fin1 (x - y) := by
  obtain ⟨a, rfl⟩ := hx
  obtain ⟨b, rfl⟩ := hy
  exact ⟨a - b, (EReal.coe_sub a b).symm⟩

theorem Fin1.sum {ι : Type} {t : Finset ι} {f : ι → EReal} (h : ∀ i, Fin1 (f i)) : Fin1 (∑ i ∈ t, f i) := by
  choose r hr using h
  simp only [hr]
  exact ⟨_, Attn.coe_sum t r⟩

theorem fin1_zero : Fin1 0 := ⟨0, rfl⟩
theorem fin1_one : Fin1 1 := ⟨1, rfl⟩

/-- A real factor goes into a sum of reals. -/
theorem sum_mul_fin {ι : Type} (t : Finset ι) {f : ι → EReal} {g : EReal} (h : ∀ i, Fin1 (f i)) (hg : Fin1 g) :
    (∑ i ∈ t, f i) * g = ∑ i ∈ t, f i * g := by
  choose r hr using h
  obtain ⟨s, rfl⟩ := hg
  simp only [hr, Attn.coe_sum, ← EReal.coe_mul, Finset.sum_mul]

/-- The row's length, the norm's small summand and the factor of the derivative of an inverse root, as the programs write them. -/
theorem len_eq : Ideal.ofBits .f32 1157627904#32 = ((2048 : ℝ) : EReal) := by
  simp [Ideal.ofBits, Ideal.ieee, -EReal.coe_mul]
  norm_num

theorem eps_pos : ∃ e : ℝ, 0 < e ∧ Ideal.ofBits .f32 897988541#32 = (e : EReal) := by
  refine ⟨_, ?_, by simp [Ideal.ofBits, Ideal.ieee, -EReal.coe_mul]; rfl⟩
  norm_num

theorem half_eq : Ideal.ofBits .f32 3204448256#32 = ((-1 / 2 : ℝ) : EReal) := by
  simp [Ideal.ofBits, Ideal.ieee, -EReal.coe_mul]
  norm_num

/-- Division by the row's length. -/
theorem div_len (x : EReal) : Ideal.div x (Ideal.ofBits .f32 1157627904#32) = x * ((2048 : ℝ)⁻¹ : ℝ) := by
  rw [len_eq]
  unfold Ideal.div
  rw [if_neg (by norm_num), EReal.coe_inv]

/-- The mean square of a row with the small summand, and its inverse root. -/
def msq (x : Fin 2048 → EReal) : EReal :=
  Ideal.div (∑ k, x k * x k) (Ideal.ofBits .f32 1157627904#32) + Ideal.ofBits .f32 897988541#32

def rinv (x : Fin 2048 → EReal) : EReal := Ideal.rsqrt (msq x)

/-- A square is nonnegative. -/
theorem sq_nonneg' (x : EReal) : 0 ≤ x * x := by
  induction x using EReal.rec with
  | coe r => rw [← EReal.coe_mul]; exact_mod_cast mul_self_nonneg r
  | bot => simp
  | top => simp

/-- Either the row is of reals and the mean square a positive real, or the mean square is infinite. -/
theorem msq_cases (x : Fin 2048 → EReal) :
    (∃ y : Fin 2048 → ℝ, (∀ k, x k = y k) ∧ ∃ M : ℝ, 0 < M ∧ msq x = M) ∨ msq x = ⊤ := by
  obtain ⟨e, he, hE⟩ := eps_pos
  by_cases h : ∀ k, Fin1 (x k)
  · choose y hy using h
    refine Or.inl ⟨y, hy, (∑ k, y k * y k) * 2048⁻¹ + e, ?_, ?_⟩
    · have : 0 ≤ ∑ k, y k * y k := Finset.sum_nonneg fun k _ => mul_self_nonneg _
      positivity
    · unfold msq
      rw [div_len, hE]
      simp only [hy, ← EReal.coe_mul, Attn.coe_sum, ← EReal.coe_add]
  · obtain ⟨k, hk⟩ := not_forall.mp h
    right
    have hs : x k * x k = ⊤ := by
      revert hk
      generalize x k = z
      intro hk
      induction z using EReal.rec with
      | coe r => exact absurd ⟨r, rfl⟩ hk
      | bot => simp
      | top => simp
    have ht : ∑ j, x j * x j = ⊤ :=
      top_le_iff.mp (hs ▸ Finset.single_le_sum (f := fun j => x j * x j) (fun j _ => sq_nonneg' (x j)) (mem_univ k))
    unfold msq
    rw [ht, div_len, hE, EReal.top_mul_coe_of_pos (by norm_num), EReal.top_add_coe]

theorem rinv_top {x : Fin 2048 → EReal} (h : msq x = ⊤) : rinv x = 0 := by
  unfold rinv
  rw [h]
  rfl

theorem rinv_real {x : Fin 2048 → EReal} {M : ℝ} (hM : 0 < M) (h : msq x = M) : rinv x = ((√M)⁻¹ : ℝ) := by
  unfold rinv
  rw [h]
  show (if M < 0 then ⊥ else if M = 0 then ⊤ else (((√M)⁻¹ : ℝ) : EReal)) = _
  rw [if_neg (by linarith), if_neg (by linarith)]

/-- A normalised entry is a real whatever the row holds. -/
theorem hat_fin (x : Fin 2048 → EReal) (k : Fin 2048) : Fin1 (x k * rinv x) := by
  rcases msq_cases x with ⟨y, hy, M, hM, h⟩ | h
  · rw [rinv_real hM h, hy]
    exact ⟨_, (EReal.coe_mul _ _).symm⟩
  · rw [rinv_top h, mul_zero]
    exact fin1_zero

/-- A positive real factor goes into any sum. -/
theorem sum_mul_pos {ι : Type} (t : Finset ι) (f : ι → EReal) {r : ℝ} (hr : 0 < r) : (∑ i ∈ t, f i) * r = ∑ i ∈ t, f i * r := by
  classical
  induction t using Finset.induction_on with
  | empty => simp
  | insert i t hi ih =>
    rw [Finset.sum_insert hi, Finset.sum_insert hi, ← ih]
    exact EReal.right_distrib_of_nonneg_of_ne_top (by exact_mod_cast hr.le) (EReal.coe_ne_top r) _ _

/-- A real multiple and the same again are the double's multiple. -/
theorem mul_twice (S : EReal) (a : ℝ) : S * (a : EReal) + S * (a : EReal) = S * ((2 * a : ℝ) : EReal) := by
  induction S using EReal.rec with
  | coe s =>
    simp only [← EReal.coe_mul, ← EReal.coe_add]
    congr 1
    ring
  | bot =>
    rcases lt_trichotomy a 0 with h | rfl | h
    · rw [EReal.bot_mul_coe_of_neg h, EReal.bot_mul_coe_of_neg (by linarith)]; rfl
    · simp
    · rw [EReal.bot_mul_coe_of_pos h, EReal.bot_mul_coe_of_pos (by linarith)]; rfl
  | top =>
    rcases lt_trichotomy a 0 with h | rfl | h
    · rw [EReal.top_mul_coe_of_neg h, EReal.top_mul_coe_of_neg (by linarith)]; rfl
    · simp
    · rw [EReal.top_mul_coe_of_pos h, EReal.top_mul_coe_of_pos (by linarith)]; rfl

/-- A row's gradient: the form with the normalised row on the left, the chain rule's on the right. -/
theorem norm_grad (x D : Fin 2048 → EReal) (k : Fin 2048) :
    rinv x * (D k - x k * rinv x * Ideal.div (∑ j, D j * (x j * rinv x)) (Ideal.ofBits .f32 1157627904#32))
      = D k * rinv x + x k * Ideal.div ((∑ j, x j * D j) * (Ideal.ofBits .f32 3204448256#32 * Ideal.div (rinv x) (msq x)))
            (Ideal.ofBits .f32 1157627904#32)
        + Ideal.div ((∑ j, x j * D j) * (Ideal.ofBits .f32 3204448256#32 * Ideal.div (rinv x) (msq x)))
            (Ideal.ofBits .f32 1157627904#32) * x k := by
  rcases msq_cases x with ⟨y, hy, M, hM, h⟩ | h
  · have hdiv : Ideal.div (rinv x) (msq x) = ((√M)⁻¹ * M⁻¹ : ℝ) := by
      rw [rinv_real hM h, h]
      unfold Ideal.div
      rw [if_neg (by exact_mod_cast hM.ne'), ← EReal.coe_inv, ← EReal.coe_mul]
    have hp : 0 < (√M)⁻¹ := inv_pos.mpr (Real.sqrt_pos.mpr hM)
    have hr : M⁻¹ = (√M)⁻¹ * (√M)⁻¹ := by
      rw [← mul_inv, Real.mul_self_sqrt hM.le]
    rw [hdiv, rinv_real hM h, div_len, div_len, half_eq, hr]
    revert hp
    generalize (√M)⁻¹ = r
    intro hp
    have hs : ∑ j, D j * (x j * (r : EReal)) = (∑ j, x j * D j) * r := by
      rw [sum_mul_pos _ _ hp]
      exact Finset.sum_congr rfl fun j _ => by rw [← mul_assoc, mul_comm (D j)]
    rw [hs, hy]
    generalize ∑ j, x j * D j = S
    have e1 : (r : EReal) * (y k * r * (S * r * ((2048 : ℝ)⁻¹ : ℝ))) = S * ((r * y k * r * r * 2048⁻¹ : ℝ) : EReal) := by
      simp only [EReal.coe_mul]
      ac_rfl
    have e2 : S * (((-1 / 2 : ℝ) : EReal) * ((r * (r * r) : ℝ) : EReal)) * ((2048 : ℝ)⁻¹ : ℝ) * y k
        = S * ((-1 / 2 * (r * y k * r * r * 2048⁻¹) : ℝ) : EReal) := by
      rw [mul_assoc, mul_assoc]
      simp only [← EReal.coe_mul]
      congr 2
      ring
    rw [mul_comm (y k : EReal) (S * _ * _), e2, add_assoc, mul_twice, sub_eq_add_neg,
      EReal.left_distrib_of_nonneg_of_ne_top (by exact_mod_cast hp.le) (EReal.coe_ne_top r), mul_comm (r : EReal) (D k)]
    congr 1
    rw [mul_neg, e1, ← mul_neg, ← EReal.coe_neg]
    congr 2
    ring
  · have h0 : Ideal.div (rinv x) (msq x) = 0 := by
      rw [rinv_top h, h]
      unfold Ideal.div
      simp
    rw [h0, rinv_top h]
    simp [div_len]

/-- An accumulator over 32 points, each adding the terms of its 256 rows, ends with the sum over all rows. -/
theorem run_sum (g : Fin 8192 → EReal) (s : (n : ℕ) → n < 32 → EReal)
    (h0 : s 0 (by omega) = ∑ l : Fin 256, g ⟨0 * 256 + l.val, by have := l.isLt; omega⟩)
    (hS : ∀ n (h : n < 32), n ≠ 0 → s n h = s (n - 1) (by omega) + ∑ l : Fin 256, g ⟨n * 256 + l.val, by have := l.isLt; omega⟩) :
    s 31 (by omega) = ∑ k, g k := by
  let G : ℕ → EReal := fun i => if h : i < 8192 then g ⟨i, h⟩ else 0
  have hG : ∀ n (h : n < 32), ∑ l : Fin 256, g ⟨n * 256 + l.val, by have := l.isLt; omega⟩ = ∑ l ∈ range 256, G (n * 256 + l) := by
    intro n h
    rw [← Fin.sum_univ_eq_sum_range (fun l => G (n * 256 + l)) 256]
    refine sum_congr rfl fun l _ => ?_
    have hl : n * 256 + l.val < 8192 := by have := l.isLt; omega
    simp only [G, dif_pos hl]
  have H : ∀ n (h : n < 32), s n h = ∑ k ∈ range (n + 1), ∑ l ∈ range 256, G (k * 256 + l) := by
    intro n
    induction n with
    | zero => intro h; rw [h0, hG 0 h, sum_range_one]
    | succ n ih =>
      intro h
      rw [hS (n + 1) h (by omega), hG (n + 1) h, sum_range_succ (fun k => ∑ l ∈ range 256, G (k * 256 + l)) (n + 1)]
      exact congrArg (fun z => z + ∑ l ∈ range 256, G ((n + 1) * 256 + l)) (ih (by omega))
  rw [H 31 (by omega), sum_range_range_mul_add 32 256 G, ← Fin.sum_univ_eq_sum_range G 8192]
  exact sum_congr rfl fun k _ => by simp only [G, dif_pos k.isLt]

end Cert.Proof.Norm

end
-- ==== Proof.Norm.Pre.lean ====
/- The norm before the layer, backward: the kernel's four results are the chain rule's. -/
module

public import proofs.«01_k».proof.Defs
public import proofs.«01_k».proof.Proof.Norm.Common
public import proofs.«01_k».proof.Proof.Val.Algebraic
public import Idealize.ShloMosaic.Lib.Pipeline.ReadBack
public import proofs.«01_k».proof.Proof.Gen.Kernel5.Frame
public import proofs.«01_k».proof.Proof.Gen.Kernel5Ideal.Frame
public import proofs.«01_k».proof.Proof.Gen.Reference5Ideal.Run

@[expose] public section

set_option maxRecDepth 16384

noncomputable section

namespace Cert.Proof.PreNorm

open Idealize.ShloMosaic Idealize.ShloMosaic.TcCoe Idealize.SL.Sem Cert.Kernel5Ideal Cert.Kernel5Ideal.Gen
open Cert.Proof.Norm Finset

/-- The windows' block indices at a point: row blocks move with it, the vectors stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![0, 0] :=
  (by decide +kernel : ∀ t : Fin grid0.N, _)

variable (m : (ℓ : Loc nD τ sig) → Buf (Elt Ideal) ℓ) (c : Dev nD)

/-- The arguments: the hidden's cotangent, the layer's input, the residual's cotangent, the modulation and the norm's gain. -/
abbrev Dh : (⟨2, ![8192, 2048]⟩ : Shape).Idx → EReal := m ((c : Thread nD τ).loc main_arg0)
abbrev X : (⟨2, ![8192, 2048]⟩ : Shape).Idx → EReal := m ((c : Thread nD τ).loc main_arg1)
abbrev Do : (⟨2, ![8192, 2048]⟩ : Shape).Idx → EReal := m ((c : Thread nD τ).loc main_arg2)
abbrev Mo : (⟨2, ![1, 6144]⟩ : Shape).Idx → EReal := m ((c : Thread nD τ).loc main_arg3)
abbrev Pg : (⟨2, ![1, 2048]⟩ : Shape).Idx → EReal := m ((c : Thread nD τ).loc main_arg4)

/-- One plus the modulation's scale. -/
abbrev sc (k : Fin 2048) : EReal := 1 + Mo m c (ix2 0 ⟨2048 + k.val, by have := k.isLt; omega⟩)

/-- A row of the input and the cotangent of its normalised form. -/
abbrev row (s : Fin 8192) : Fin 2048 → EReal := fun k => X m c (ix2 s k)
abbrev cot (s : Fin 8192) : Fin 2048 → EReal := fun k => Dh m c (ix2 s k) * (sc m c k * Pg m c (ix2 0 k))

/-- The kernel's four results. -/
def oGx : (⟨2, ![8192, 2048]⟩ : Shape).Idx → EReal := fun j =>
  Do m c j + rinv (row m c (j 0)) * (cot m c (j 0) (j 1) - row m c (j 0) (j 1) * rinv (row m c (j 0))
    * Ideal.div (∑ k, cot m c (j 0) k * (row m c (j 0) k * rinv (row m c (j 0)))) (Ideal.ofBits .f32 1157627904#32))
def oSh : (⟨2, ![1, 2048]⟩ : Shape).Idx → EReal := fun j => ∑ s : Fin 8192, Dh m c (ix2 s (j 1))
def oSc : (⟨2, ![1, 2048]⟩ : Shape).Idx → EReal := fun j =>
  ∑ s : Fin 8192, Dh m c (ix2 s (j 1)) * (row m c s (j 1) * rinv (row m c s)) * Pg m c (ix2 0 (j 1))
def oPg : (⟨2, ![1, 2048]⟩ : Shape).Idx → EReal := fun j =>
  ∑ s : Fin 8192, Dh m c (ix2 s (j 1)) * (row m c s (j 1) * rinv (row m c s)) * sc m c (j 1)

/-- The row of the arrays that a block's row is. -/
abbrev at' (t : Fin cfg0.N) (p : Fin 256) : Fin 8192 :=
  ⟨t.val * 256 + p.val, by have := Nat.lt_of_lt_of_eq t.isLt N_0; have := p.isLt; omega⟩

/-- A block's entries of the arguments. -/
theorem blk (t : Fin cfg0.N) (p : Fin 256) (q : Fin 2048) :
    iblk m c 0 t (ix2 p q) = Dh m c (ix2 (at' t p) q) ∧ iblk m c 1 t (ix2 p q) = X m c (ix2 (at' t p) q)
      ∧ iblk m c 2 t (ix2 p q) = Do m c (ix2 (at' t p) q) ∧ iblk m c 4 t (ix2 0 q) = Pg m c (ix2 0 q)
      ∧ iblk m c 3 t (ix2 0 ⟨2048 + q.val, by have := q.isLt; omega⟩) = Mo m c (ix2 0 ⟨2048 + q.val, by have := q.isLt; omega⟩) := by
  refine ⟨?_, ?_, ?_, ?_, ?_⟩ <;> blk_ext [iblk, V, idx t]

/-- A block of the input's gradient. -/
theorem gx (t : Fin cfg0.N) (p : Fin 256) (q : Fin 2048) : (outsAt0 m c t.val t.isLt).1 (ix2 p q) = oGx m c (ix2 (at' t p) q) := by
  by_cases h0 : t.val % 32 = 0
  · rw [outsAt0_A m c t h0]
    frame_out
    pointwise [k0_pay2, k0_pay6, k0_pay7, k0_pay8]
    simp only [(blk m c t _ _).1, (blk m c t _ _).2.1, (blk m c t p _).2.2.1, (blk m c t p _).2.2.2.1, (blk m c t p _).2.2.2.2]
    rfl
  · rw [outsAt0_B m c t h0]
    frame_out
    pointwise [k0_pay2, k0_pay6, k0_pay7, k0_pay8]
    simp only [(blk m c t _ _).1, (blk m c t _ _).2.1, (blk m c t p _).2.2.1, (blk m c t p _).2.2.2.1, (blk m c t p _).2.2.2.2]
    rfl

/-- What a block of rows adds to the three vectors. -/
abbrev tSh (t : Fin cfg0.N) (q : Fin 2048) : EReal := ∑ p : Fin 256, Dh m c (ix2 (at' t p) q)
abbrev tHat (t : Fin cfg0.N) (q : Fin 2048) : EReal :=
  ∑ p : Fin 256, Dh m c (ix2 (at' t p) q) * (row m c (at' t p) q * rinv (row m c (at' t p)))

/-- The first point leaves its own block's terms. -/
theorem acc_A (t : Fin cfg0.N) (h0 : t.val % 32 = 0) (q : Fin 2048) :
    (outsAt0 m c t.val t.isLt).2.1 (ix2 0 q) = tSh m c t q
      ∧ (outsAt0 m c t.val t.isLt).2.2.1 (ix2 0 q) = tHat m c t q * Pg m c (ix2 0 q)
      ∧ (outsAt0 m c t.val t.isLt).2.2.2 (ix2 0 q) = tHat m c t q * sc m c q := by
  rw [outsAt0_A m c t h0]
  refine ⟨?_, ?_, ?_⟩
  · frame_out
    pointwise [k0_pay9, k0_pay3]
    simp only [(blk m c t _ _).1]
  · frame_out
    pointwise [k0_pay4, k0_pay6, k0_pay7, k0_pay10]
    simp only [(blk m c t _ _).1, (blk m c t _ _).2.1, (blk m c t 0 _).2.2.2.1]
    rfl
  · frame_out
    pointwise [k0_pay1, k0_pay5, k0_pay6, k0_pay7, k0_pay8]
    simp only [(blk m c t _ _).1, (blk m c t _ _).2.1, (blk m c t 0 _).2.2.2.2]
    rfl

/-- Every further point adds its block's terms. -/
theorem acc_B (t : Fin cfg0.N) (h0 : ¬t.val % 32 = 0) (q : Fin 2048) :
    (outsAt0 m c t.val t.isLt).2.1 (ix2 0 q)
        = (outsAt0 m c (t.val - 1) (Nat.lt_of_le_of_lt (Nat.sub_le _ _) t.isLt)).2.1 (ix2 0 q) + tSh m c t q
      ∧ (outsAt0 m c t.val t.isLt).2.2.1 (ix2 0 q)
        = (outsAt0 m c (t.val - 1) (Nat.lt_of_le_of_lt (Nat.sub_le _ _) t.isLt)).2.2.1 (ix2 0 q) + tHat m c t q * Pg m c (ix2 0 q)
      ∧ (outsAt0 m c t.val t.isLt).2.2.2 (ix2 0 q)
        = (outsAt0 m c (t.val - 1) (Nat.lt_of_le_of_lt (Nat.sub_le _ _) t.isLt)).2.2.2 (ix2 0 q) + tHat m c t q * sc m c q := by
  rw [outsAt0_B m c t h0]
  refine ⟨?_, ?_, ?_⟩
  · frame_out
    pointwise [k0_pay9, k0_pay3]
    simp only [(blk m c t _ _).1]
  · frame_out
    pointwise [k0_pay4, k0_pay6, k0_pay7, k0_pay10]
    simp only [(blk m c t _ _).1, (blk m c t _ _).2.1, (blk m c t 0 _).2.2.2.1]
    rfl
  · frame_out
    pointwise [k0_pay1, k0_pay5, k0_pay6, k0_pay7, k0_pay8]
    simp only [(blk m c t _ _).1, (blk m c t _ _).2.1, (blk m c t 0 _).2.2.2.2]
    rfl

/-- What the value claim needs of the arguments: the hidden's cotangent, the scale and the gain are finite. -/
structure Fins : Prop where
  dh : ∀ s k, Fin1 (Dh m c (ix2 s k))
  sc : ∀ k : Fin 2048, Fin1 (Mo m c (ix2 0 ⟨2048 + k.val, by have := k.isLt; omega⟩))
  pg : ∀ k, Fin1 (Pg m c (ix2 0 k))

variable {m c}

theorem Fins.hat (hF : Fins m c) (s : Fin 8192) (q : Fin 2048) : Fin1 (Dh m c (ix2 s q) * (row m c s q * rinv (row m c s))) :=
  (hF.dh s q).mul (hat_fin _ q)

theorem Fins.one_sc (hF : Fins m c) (q : Fin 2048) : Fin1 (PreNorm.sc m c q) := fin1_one.add (hF.sc q)

variable (m c)

/-- The three vectors' entries after a point. -/
def vSh (q : Fin 2048) (n : ℕ) (h : n < 32) : EReal := (outsAt0 m c n (h.trans_eq N_0.symm)).2.1 (ix2 0 q)
def vSc (q : Fin 2048) (n : ℕ) (h : n < 32) : EReal := (outsAt0 m c n (h.trans_eq N_0.symm)).2.2.1 (ix2 0 q)
def vPg (q : Fin 2048) (n : ℕ) (h : n < 32) : EReal := (outsAt0 m c n (h.trans_eq N_0.symm)).2.2.2 (ix2 0 q)

/-- After the last point the three vectors are the sums over all rows. -/
theorem last_sh (q : Fin 2048) : vSh m c q 31 (by omega) = oSh m c (ix2 0 q) :=
  run_sum (fun s => Dh m c (ix2 s q)) (vSh m c q) (acc_A m c ⟨0, Nat.lt_of_lt_of_eq (by omega) N_0.symm⟩ rfl q).1 fun n h hn =>
    (acc_B m c ⟨n, h.trans_eq N_0.symm⟩ (by simp only; omega) q).1

theorem last_sc (hF : Fins m c) (q : Fin 2048) : vSc m c q 31 (by omega) = oSc m c (ix2 0 q) :=
  run_sum (fun s => Dh m c (ix2 s q) * (row m c s q * rinv (row m c s)) * Pg m c (ix2 0 q)) (vSc m c q)
    ((acc_A m c ⟨0, Nat.lt_of_lt_of_eq (by omega) N_0.symm⟩ rfl q).2.1.trans (sum_mul_fin _ (fun p => hF.hat _ q) (hF.pg q))) fun n h hn =>
      (acc_B m c ⟨n, h.trans_eq N_0.symm⟩ (by simp only; omega) q).2.1.trans
        (congrArg (_ + ·) (sum_mul_fin _ (fun p => hF.hat _ q) (hF.pg q)))

theorem last_pg (hF : Fins m c) (q : Fin 2048) : vPg m c q 31 (by omega) = oPg m c (ix2 0 q) :=
  run_sum (fun s => Dh m c (ix2 s q) * (row m c s q * rinv (row m c s)) * sc m c q) (vPg m c q)
    ((acc_A m c ⟨0, Nat.lt_of_lt_of_eq (by omega) N_0.symm⟩ rfl q).2.2.trans (sum_mul_fin _ (fun p => hF.hat _ q) (hF.one_sc q))) fun n h hn =>
      (acc_B m c ⟨n, h.trans_eq N_0.symm⟩ (by simp only; omega) q).2.2.trans
        (congrArg (_ + ·) (sum_mul_fin _ (fun p => hF.hat _ q) (hF.one_sc q)))

theorem acc (hF : Fins m c) (t : Fin cfg0.N) (ht : t.val % 32 = 31) (q : Fin 2048) :
    (outsAt0 m c t.val t.isLt).2.1 (ix2 0 q) = oSh m c (ix2 0 q)
      ∧ (outsAt0 m c t.val t.isLt).2.2.1 (ix2 0 q) = oSc m c (ix2 0 q)
      ∧ (outsAt0 m c t.val t.isLt).2.2.2 (ix2 0 q) = oPg m c (ix2 0 q) := by
  have h32 := Nat.lt_of_lt_of_eq t.isLt N_0
  have h31 : t.val = 31 := by omega
  rw [← last_sh, ← last_sc m c hF, ← last_pg m c hF]
  have e : ∀ n (h : n < 32), n = 31 → vSh m c q n h = vSh m c q 31 (by omega) ∧ vSc m c q n h = vSc m c q 31 (by omega)
      ∧ vPg m c q n h = vPg m c q 31 (by omega) := by
    intro n h hn
    subst hn
    exact ⟨rfl, rfl, rfl⟩
  exact e t.val h32 h31

/-- The kernel's result arrays. -/
theorem final_gx : (dats m 0 c).arrAt 5 cfg0.N = oGx m c := by
  refine (dats m 0 c).arrAt_eq_of_covers 5 _ (by decide +kernel) fun t hf y => ?_
  blk_simp
  rw [after0_5]
  obtain ⟨p, q, rfl⟩ : ∃ (p : Fin 256) (q : Fin 2048), y = ix2 p q := ⟨y 0, y 1, by funext a; match a with | 0 => rfl | 1 => rfl⟩
  rw [gx m c t]
  blk_ext [idx t]

theorem final_sh (hF : Fins m c) : (dats m 0 c).arrAt 6 cfg0.N = oSh m c := by
  refine (dats m 0 c).arrAt_eq_of_covers 6 _ (by decide +kernel) fun t hf y => ?_
  have h1 : t.val % 32 = 31 := (flush0_6 t).mp hf
  blk_simp
  rw [after0_6]
  obtain ⟨q, rfl⟩ : ∃ (q : Fin 2048), y = ix2 0 q := ⟨y 1, by funext a; match a with | 0 => exact Subsingleton.elim (α := Fin 1) _ _ | 1 => rfl⟩
  rw [(acc m c hF t h1 q).1]
  blk_ext [idx t]

theorem final_sc (hF : Fins m c) : (dats m 0 c).arrAt 7 cfg0.N = oSc m c := by
  refine (dats m 0 c).arrAt_eq_of_covers 7 _ (by decide +kernel) fun t hf y => ?_
  have h1 : t.val % 32 = 31 := (flush0_7 t).mp hf
  blk_simp
  rw [after0_7]
  obtain ⟨q, rfl⟩ : ∃ (q : Fin 2048), y = ix2 0 q := ⟨y 1, by funext a; match a with | 0 => exact Subsingleton.elim (α := Fin 1) _ _ | 1 => rfl⟩
  rw [(acc m c hF t h1 q).2.1]
  blk_ext [idx t]

theorem final_pg (hF : Fins m c) : (dats m 0 c).arrAt 8 cfg0.N = oPg m c := by
  refine (dats m 0 c).arrAt_eq_of_covers 8 _ (by decide +kernel) fun t hf y => ?_
  have h1 : t.val % 32 = 31 := (flush0_8 t).mp hf
  blk_simp
  rw [after0_8]
  obtain ⟨q, rfl⟩ : ∃ (q : Fin 2048), y = ix2 0 q := ⟨y 1, by funext a; match a with | 0 => exact Subsingleton.elim (α := Fin 1) _ _ | 1 => rfl⟩
  rw [(acc m c hF t h1 q).2.2]
  blk_ext [idx t]

/-- The precondition's shape facts. -/
theorem pre_facts : Cert.Pre_finite_norm.Facts where
  slices_S1x6144_S1x2048_0_2048 := by decide
  bcast_S_S8192x2048 := by decide
  bcast_S_S1x2048 := by decide

/-- The precondition gives the finiteness the claim needs. -/
theorem fins_of_pre (hpre : Cert.Pre_Kernel5Ideal_finite_norm (hPre_finite_norm := pre_facts) m) : Fins m c := by
  obtain ⟨h0, h1, h2⟩ := hpre c
  exact ⟨fun s k => Attn.real_of_lt _ (congrFun h0 (ix2 s k)), fun k => by
    have e := Attn.real_of_lt _ (congrFun h1 (ix2 0 k))
    refine (congrArg Fin1 (congrArg _ ?_)).mp e
    blk_ext []
    rfl, fun k => Attn.real_of_lt _ (congrFun h2 (ix2 0 k))⟩

/-- The printed kernel runs, its arguments unchanged and every counter back at zero. -/
theorem frame_kernel : Cert.quiescent_Kernel5 (hKernel5 := Cert.Kernel5.Gen.facts) := fun m g _ =>
  Cert.Kernel5.Gen.frame (F := Bits) m g

/-- The same of its idealization, with the precondition or without. -/
theorem frame_ideal : Cert.quiescent_Kernel5Ideal (hKernel5Ideal := Cert.Kernel5Ideal.Gen.facts) := fun m g _ =>
  Cert.Kernel5Ideal.Gen.frame (F := Ideal) m g

theorem frame_ideal_pre : Cert.quiescent_Kernel5Ideal_pre_finite_norm (hKernel5Ideal := Cert.Kernel5Ideal.Gen.facts)
    (hPre_finite_norm := pre_facts) := fun m g _ => Cert.Kernel5Ideal.Gen.frame (F := Ideal) m g

/-- The same of the reference, which has no counters. -/
theorem frame_reference : Cert.quiescent_Reference5Ideal (hReference5Ideal := Cert.Reference5Ideal.Gen.facts) := fun m g _ =>
  (θ_run Cert.Reference5Ideal.defs _ _).mono (fun r h => ⟨fun c => (h c).2.2.2.2,
    Idealize.ShloMosaic.sem_eq_zero_of_no_sems (by decide) r.2⟩) (Cert.Reference5Ideal.Value.run (F := Ideal) m g)

theorem frame_reference_pre : Cert.quiescent_Reference5Ideal_pre_finite_norm (hReference5Ideal := Cert.Reference5Ideal.Gen.facts)
    (hPre_finite_norm := pre_facts) := fun m g _ => frame_reference m g trivial

set_option maxHeartbeats 4000000 in
/-- At extended reals the kernel's results are the derivatives of the modulated norm, the input's with the residual's
    cotangent added. -/
theorem algebraic : Cert.algebraic_Kernel5Ideal_Reference5Ideal_pre_finite_norm (hKernel5Ideal := Cert.Kernel5Ideal.Gen.facts)
    (hReference5Ideal := Cert.Reference5Ideal.Gen.facts) (hPre_finite_norm := pre_facts) := by
  intro m g m' g' hpre hargs
  refine ⟨fun c => oGx m c, fun c => oSh m c, fun c => oSc m c, fun c => oPg m c, ?_, ?_⟩
  · refine (θ_run Cert.Kernel5Ideal.defs _ _).mono (fun r h c => ?_) (run_main (F := Ideal) m g)
    have hF := fins_of_pre m c hpre
    refine ⟨((h c).1 5).trans (final_gx m c), ((h c).1 6).trans (final_sh m c hF), ((h c).1 7).trans (final_sc m c hF),
      ((h c).1 8).trans (final_pg m c hF), ?_, ?_, ?_, ?_, ?_⟩
    · exact ((h c).1 0).trans ((dats m 0 c).arrAt_in 0 rfl _)
    · exact ((h c).1 1).trans ((dats m 0 c).arrAt_in 1 rfl _)
    · exact ((h c).1 2).trans ((dats m 0 c).arrAt_in 2 rfl _)
    · exact ((h c).1 3).trans ((dats m 0 c).arrAt_in 3 rfl _)
    · exact ((h c).1 4).trans ((dats m 0 c).arrAt_in 4 rfl _)
  · refine (θ_run Cert.Reference5Ideal.defs _ _).mono (fun r h c => ?_) (Cert.Reference5Ideal.Value.run (F := Ideal) m' g')
    have hF := fins_of_pre m c hpre
    obtain ⟨a0, a1, a2, a3, a4⟩ := hargs c
    obtain ⟨h0, h1, h2, h3, h4⟩ := h c
    refine ⟨h0.trans ?_, h1.trans ?_, h2.trans ?_, h3.trans ?_, h4⟩
    all_goals clear h h0 h1 h2 h3 h4 hpre hargs
    · funext j
      obtain ⟨p, q, rfl⟩ : ∃ (p : Fin 8192) (q : Fin 2048), j = ix2 p q := ⟨j 0, j 1, by funext a; match a with | 0 => rfl | 1 => rfl⟩
      pointwise [Cert.Reference5Ideal.Value.res_main_v54]
      rw [a0, a1, a2, a3, a4]
      simp only [Fintype.sum_unique]
      have hc : ∀ k, Dh m c (ix2 p k) * sc m c k * Pg m c (ix2 0 k) = cot m c p k := fun k => mul_assoc _ _ _
      refine Eq.trans ?_ (congrArg (Do m c (ix2 p q) + ·) (norm_grad (row m c p) (cot m c p) q)).symm
      simp only [← hc]
      rfl
    · funext j
      pointwise
      rw [a0]
      rfl
    · funext j
      obtain ⟨q, rfl⟩ : ∃ (q : Fin 2048), j = ix2 0 q := ⟨j 1, by funext a; match a with | 0 => exact Subsingleton.elim (α := Fin 1) _ _ | 1 => rfl⟩
      pointwise
      rw [a0, a1, a4]
      refine Finset.sum_congr rfl fun s _ => ?_
      show row m c s q * rinv (row m c s) * Pg m c (ix2 0 q) * Dh m c (ix2 s q) = Dh m c (ix2 s q) * (row m c s q * rinv (row m c s)) * Pg m c (ix2 0 q)
      rw [mul_comm, mul_assoc (Dh m c (ix2 s q))]
    · funext j
      obtain ⟨q, rfl⟩ : ∃ (q : Fin 2048), j = ix2 0 q := ⟨j 1, by funext a; match a with | 0 => exact Subsingleton.elim (α := Fin 1) _ _ | 1 => rfl⟩
      pointwise
      rw [a0, a1, a3]
      simp only [Fintype.sum_unique]
      refine Finset.sum_congr rfl fun s _ => ?_
      show row m c s q * rinv (row m c s) * (Dh m c (ix2 s q) * sc m c q) = Dh m c (ix2 s q) * (row m c s q * rinv (row m c s)) * sc m c q
      rw [← mul_assoc, mul_comm (row m c s q * _)]

end Cert.Proof.PreNorm

end
-- ==== Proof.Gate.Ref.lean ====
/- The reference of the gates' and the merge's backward call, part by part, at an index. -/
module

public import proofs.«01_k».proof.Defs
public import proofs.«01_k».proof.Proof.Norm.Common
public import Idealize.ShloMosaic.Lib.Pipeline.ReadBack
public import Idealize.ShloMosaic.Lib.StableHlo.ReadAt
public import proofs.«01_k».proof.Proof.Gen.Reference7Ideal.Run

@[expose] public section

set_option maxRecDepth 16384

noncomputable section

namespace Cert.Proof.Gate

open Idealize.ShloMosaic Idealize.ShloMosaic.TcCoe Idealize.SL.Sem Cert.Reference7Ideal Cert.Reference7Ideal.Facts₀
open Cert.Proof.Norm Finset

/-- The columns of either half. -/
abbrev cA (q : Fin 2048) : Fin 4096 := ⟨q.val, by have := q.isLt; omega⟩
abbrev cP (q : Fin 2048) : Fin 4096 := ⟨2048 + q.val, by have := q.isLt; omega⟩

/-- The reference's gates. -/
def rGate (x : FVec Ideal S8192x4096 .f32) (b : FVec Ideal S1x4096 .f32) : FVec Ideal S8192x4096 .f32 :=
  Host.divf (broadcastInDim S8192x4096 ![] bcast_S_S8192x4096 (constant S_ .f32 0x3F800000#32))
    (addf (broadcastInDim S8192x4096 ![] bcast_S_S8192x4096 (constant S_ .f32 0x3F800000#32)) (Host.exp (Host.negf (addf x
      (broadcastInDim S8192x4096 ![0, 1] bcast_S1x4096_S8192x4096_0_1 (broadcastInDim S1x4096 ![1] bcast_S4096_S1x4096_1 (shapeCast _ b shapeCasts_S1x4096_S4096)))))))

/-- A gate is a sigmoid. -/
theorem rGate_at (x : FVec Ideal S8192x4096 .f32) (b : FVec Ideal S1x4096 .f32) (s : Fin 8192) (j : Fin 4096) :
    rGate x b (ix2 s j) = Ideal.div 1 (1 + Ideal.exp (-(x (ix2 s j) + b (ix2 0 j)))) := by
  pointwise [rGate]

/-- The reference's product. -/
def rDm (d : FVec Ideal S8192x2048 .bf16) (w : FVec Ideal S2048x2048 .bf16) : FVec Ideal S8192x2048 .f32 :=
  Host.dotGeneral dot_S8192x2048_S2048x2048_S8192x2048_1_1_0_0_n_n none (extf .f32 d bitsLt_bf16_f32) (extf .f32 w bitsLt_bf16_f32)

theorem rDm_at (d : FVec Ideal S8192x2048 .bf16) (w : FVec Ideal S2048x2048 .bf16) (s : Fin 8192) (q : Fin 2048) :
    rDm d w (ix2 s q) = ∑ k : Fin 2048, d (ix2 s k) * w (ix2 q k) := by
  pointwise [rDm]

/-- Two arrays side by side, read at either half. -/
theorem rCat_at (x y : FVec Ideal S8192x2048 .f32) (s : Fin 8192) (q : Fin 2048) :
    concatenate S8192x4096 1 [⟨S8192x2048, x⟩, ⟨S8192x2048, y⟩] concatenates_S8192x2048_S8192x2048_S8192x4096_d1 (ix2 s (cA q)) = x (ix2 s q)
    ∧ concatenate S8192x4096 1 [⟨S8192x2048, x⟩, ⟨S8192x2048, y⟩] concatenates_S8192x2048_S8192x2048_S8192x4096_d1 (ix2 s (cP q)) = y (ix2 s q) := by
  constructor
  · refine concatenate_pair_apply_left _ _ _ _ _ ?_ (ix2 s q) ?_
    · rfl
    · intro b
      match b with
      | 0 => rfl
      | 1 => rfl
  · refine concatenate_pair_apply_right _ _ _ _ _ ?_ ?_ (ix2 s q) ?_ ?_
    · rfl
    · rfl
    · intro b hb
      match b with
      | 0 => rfl
      | 1 => exact absurd rfl hb
    · exact Nat.add_comm _ _

/-- The gates' cotangent before the sigmoid, as the reference computes it. -/
def rGl (d : FVec Ideal S8192x2048 .bf16) (x : FVec Ideal S8192x4096 .f32) (b : FVec Ideal S1x4096 .f32) (za zp : FVec Ideal S8192x2048 .bf16)
    (w : FVec Ideal S2048x2048 .bf16) : FVec Ideal S8192x4096 .f32 :=
  mulf (concatenate S8192x4096 1 [⟨S8192x2048, mulf (rDm d w) (extf .f32 za bitsLt_bf16_f32)⟩, ⟨S8192x2048, mulf (rDm d w) (extf .f32 zp bitsLt_bf16_f32)⟩]
      concatenates_S8192x2048_S8192x2048_S8192x4096_d1)
    (mulf (rGate x b) (subf (broadcastInDim S8192x4096 ![] bcast_S_S8192x4096 (constant S_ .f32 0x3F800000#32)) (rGate x b)))

/-- At an entry of either half. -/
theorem rGl_at (d : FVec Ideal S8192x2048 .bf16) (x : FVec Ideal S8192x4096 .f32) (b : FVec Ideal S1x4096 .f32) (za zp : FVec Ideal S8192x2048 .bf16)
    (w : FVec Ideal S2048x2048 .bf16) (s : Fin 8192) (q : Fin 2048) :
    rGl d x b za zp w (ix2 s (cA q)) = rDm d w (ix2 s q) * za (ix2 s q) * (rGate x b (ix2 s (cA q)) * (1 - rGate x b (ix2 s (cA q))))
      ∧ rGl d x b za zp w (ix2 s (cP q)) = rDm d w (ix2 s q) * zp (ix2 s q) * (rGate x b (ix2 s (cP q)) * (1 - rGate x b (ix2 s (cP q)))) := by
  have one : ∀ y, broadcastInDim S8192x4096 ![] bcast_S_S8192x4096 (constant (F := Ideal) S_ .f32 0x3F800000#32) y = (1 : EReal) := fun y => by pointwise
  have at' : ∀ j, rGl d x b za zp w (ix2 s j)
      = concatenate S8192x4096 1 [⟨S8192x2048, mulf (rDm d w) (extf .f32 za bitsLt_bf16_f32)⟩, ⟨S8192x2048, mulf (rDm d w) (extf .f32 zp bitsLt_bf16_f32)⟩]
          concatenates_S8192x2048_S8192x2048_S8192x4096_d1 (ix2 s j) * (rGate x b (ix2 s j) * (1 - rGate x b (ix2 s j))) := fun j => by
    rw [← one (ix2 s j)]
    rfl
  refine ⟨?_, ?_⟩
  · rw [at', (rCat_at _ _ s q).1]
    rfl
  · rw [at', (rCat_at _ _ s q).2]
    rfl

/-- The branches' cotangents. -/
theorem rZa_at (x : FVec Ideal S8192x4096 .f32) (y : FVec Ideal S8192x2048 .f32) (s : Fin 8192) (q : Fin 2048) :
    truncf .bf16 (mulf (extractStridedSlice S8192x2048 ![0, 0] x slices_S8192x4096_S8192x2048_0_0) y) bitsLt_bf16_f32 (ix2 s q)
      = x (ix2 s (cA q)) * y (ix2 s q) := by
  pointwise

theorem rZp_at (x : FVec Ideal S8192x4096 .f32) (y : FVec Ideal S8192x2048 .f32) (s : Fin 8192) (q : Fin 2048) :
    truncf .bf16 (mulf (extractStridedSlice S8192x2048 ![0, 2048] x slices_S8192x4096_S8192x2048_0_2048) y) bitsLt_bf16_f32 (ix2 s q)
      = x (ix2 s (cP q)) * y (ix2 s q) := by
  pointwise

/-- The sum over rows, and then over the one row of the row that it leaves. -/
theorem rSum_at (x : FVec Ideal S8192x4096 .f32) (j : Fin 4096) :
    broadcastInDim S1x4096 ![1] bcast_S4096_S1x4096_1 (Host.reduceAdd (shapeCast S1x4096 (Host.reduceAdd x (constant S_ .f32 0x00000000#32) reducesTo_S8192x4096_S4096_d0 h_S_) shapeCasts_S4096_S1x4096) (constant S_ .f32 0x00000000#32) reducesTo_S1x4096_S4096_d0 h_S_) (ix2 0 j)
      = ∑ s : Fin 8192, x (ix2 s j) := by
  pointwise
  exact Fintype.sum_unique _

end Cert.Proof.Gate
end
-- ==== Proof.Gate.Out.lean ====
/- The gates, the merge and the output's product, backward: the kernel's four results are the chain rule's. -/
module

public import proofs.«01_k».proof.Defs
public import proofs.«01_k».proof.Proof.Norm.Common
public import Idealize.ShloMosaic.Lib.Pipeline.ReadBack
public import Idealize.ShloMosaic.Lib.StableHlo.ReadAt
public import proofs.«01_k».proof.Proof.Gen.Kernel7.Frame
public import proofs.«01_k».proof.Proof.Gen.Kernel7Ideal.Frame
public import proofs.«01_k».proof.Proof.Gate.Ref

@[expose] public section

set_option maxRecDepth 16384

noncomputable section

namespace Cert.Proof.Gate

open Idealize.ShloMosaic Idealize.ShloMosaic.TcCoe Idealize.SL.Sem Cert.Kernel7Ideal Cert.Kernel7Ideal.Gen
open Cert.Proof.Norm Finset

/-- The windows' block indices at a point: row blocks move with it, the weight and the bias's gradient stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] :=
  (by decide +kernel : ∀ t : Fin grid0.N, _)

variable (m : (ℓ : Loc nD τ sig) → Buf (Elt Ideal) ℓ) (c : Dev nD)

/-- The arguments: the product's cotangent, the gates' product and bias, the two branches and the output's weight. -/
abbrev Do : (⟨2, ![8192, 2048]⟩ : Shape).Idx → EReal := m ((c : Thread nD τ).loc main_arg0)
abbrev Hm : (⟨2, ![8192, 4096]⟩ : Shape).Idx → EReal := m ((c : Thread nD τ).loc main_arg1)
abbrev Bm : (⟨2, ![1, 4096]⟩ : Shape).Idx → EReal := m ((c : Thread nD τ).loc main_arg2)
abbrev Za : (⟨2, ![8192, 2048]⟩ : Shape).Idx → EReal := m ((c : Thread nD τ).loc main_arg3)
abbrev Zp : (⟨2, ![8192, 2048]⟩ : Shape).Idx → EReal := m ((c : Thread nD τ).loc main_arg4)
abbrev W : (⟨2, ![2048, 2048]⟩ : Shape).Idx → EReal := m ((c : Thread nD τ).loc main_arg5)

/-- The gate of a row at a column. -/
def gate (s : Fin 8192) (j : Fin 4096) : EReal :=
  Ideal.div 1 (1 + Ideal.exp (-(Hm m c (ix2 s j) + Bm m c (ix2 0 j))))

/-- The merged array's cotangent. -/
def dm (s : Fin 8192) (q : Fin 2048) : EReal := ∑ k, Do m c (ix2 s k) * W m c (ix2 q k)

/-- The cotangent of the gates at a column: the first half belongs to one branch, the second to the other. -/
def dz (s : Fin 8192) (j : Fin 4096) : EReal :=
  if h : j.val < 2048 then dm m c s ⟨j.val, h⟩ * Za m c (ix2 s ⟨j.val, h⟩)
  else dm m c s ⟨j.val - 2048, by have := j.isLt; omega⟩ * Zp m c (ix2 s ⟨j.val - 2048, by have := j.isLt; omega⟩)

theorem dz_A (s : Fin 8192) (q : Fin 2048) : dz m c s (cA q) = dm m c s q * Za m c (ix2 s q) := dif_pos q.isLt

theorem dz_P (s : Fin 8192) (q : Fin 2048) : dz m c s (cP q) = dm m c s q * Zp m c (ix2 s q) := by
  have e : ∀ h, (⟨2048 + q.val - 2048, h⟩ : Fin 2048) = q := fun h => Fin.ext (Nat.add_sub_cancel_left _ _)
  rw [dz, dif_neg (show ¬2048 + q.val < 2048 by omega)]
  simp only [e]

/-- The cotangent of the gates before the sigmoid. -/
def dgl (s : Fin 8192) (j : Fin 4096) : EReal := dz m c s j * gate m c s j * (1 - gate m c s j)

/-- A column is of one half or of the other. -/
theorem halves (j : Fin 4096) : (∃ q, j = cA q) ∨ ∃ q, j = cP q := by
  have := j.isLt
  by_cases h : j.val < 2048
  · exact .inl ⟨⟨j.val, h⟩, rfl⟩
  · exact .inr ⟨⟨j.val - 2048, by omega⟩, Fin.ext (show j.val = 2048 + (j.val - 2048) by omega)⟩

/-- The kernel's four results. -/
def oZa : (⟨2, ![8192, 2048]⟩ : Shape).Idx → EReal := fun j => dm m c (j 0) (j 1) * gate m c (j 0) (cA (j 1))
def oZp : (⟨2, ![8192, 2048]⟩ : Shape).Idx → EReal := fun j => dm m c (j 0) (j 1) * gate m c (j 0) (cP (j 1))
def oGl : (⟨2, ![8192, 4096]⟩ : Shape).Idx → EReal := fun j => dgl m c (j 0) (j 1)
def oBm : (⟨2, ![1, 4096]⟩ : Shape).Idx → EReal := fun j => ∑ s : Fin 8192, dgl m c s (j 1)

/-- The row of the arrays that a block's row is. -/
abbrev at' (t : Fin cfg0.N) (p : Fin 256) : Fin 8192 :=
  ⟨t.val * 256 + p.val, by have := Nat.lt_of_lt_of_eq t.isLt N_0; have := p.isLt; omega⟩

/-- The gates, computed before the launch. -/
theorem gate_at (s : Fin 8192) (j : Fin 4096) : V m c main_v8 (ix2 s j) = gate m c s j := by
  unfold V
  simp only [List.flatten_cons, List.flatten_nil, List.append_nil, List.cons_append, List.nil_append, hostOps0]
  after_reads_simp
  all_goals try simp -implicitDefEqProofs only [StableHlo.TRef.toBuf, StableHlo.TRef.ofBuf, cast_cast, cast_eq]
  pointwise
  rfl

/-- A block's entries of the arguments and of the gates. -/
theorem blk (t : Fin cfg0.N) (p : Fin 256) (q : Fin 2048) (j : Fin 4096) (k : Fin 2048) :
    iblk m c 0 t (ix2 p q) = Do m c (ix2 (at' t p) q) ∧ iblk m c 1 t (ix2 p j) = gate m c (at' t p) j
      ∧ iblk m c 2 t (ix2 p q) = Za m c (ix2 (at' t p) q) ∧ iblk m c 3 t (ix2 p q) = Zp m c (ix2 (at' t p) q)
      ∧ iblk m c 4 t (ix2 k q) = W m c (ix2 k q) := by
  refine ⟨?_, ?_, ?_, ?_, ?_⟩
  · blk_ext [iblk, V, idx t]
  · rw [← gate_at m c]
    blk_ext [iblk, idx t]
  · blk_ext [iblk, V, idx t]
  · blk_ext [iblk, V, idx t]
  · blk_ext [iblk, V, idx t]

/-- A point's payloads at an entry. -/
theorem pay_dm (t : Fin cfg0.N) (p : Fin 256) (q : Fin 2048) :
    k0_pay4 (iblk m c 0 t) (iblk m c 4 t) (ix2 p q) = dm m c (at' t p) q := by
  pointwise [k0_pay4]
  simp only [(blk m c t _ _ 0 0).1, (blk m c t 0 _ 0 _).2.2.2.2]
  rfl

theorem pay_ga (t : Fin cfg0.N) (p : Fin 256) (q : Fin 2048) :
    k0_pay6 (iblk m c 1 t) (ix2 p q) = gate m c (at' t p) (cA q) := by
  pointwise [k0_pay6, k0_pay5]
  exact (blk m c t _ 0 _ 0).2.1

theorem pay_gp (t : Fin cfg0.N) (p : Fin 256) (q : Fin 2048) :
    k0_pay7 (iblk m c 1 t) (ix2 p q) = gate m c (at' t p) (cP q) := by
  pointwise [k0_pay7, k0_pay5]
  exact (blk m c t _ 0 _ 0).2.1

theorem pay_dA (t : Fin cfg0.N) (p : Fin 256) (q : Fin 2048) :
    k0_pay10 (iblk m c 0 t) (iblk m c 4 t) (iblk m c 1 t) (iblk m c 2 t) (ix2 p q) = dgl m c (at' t p) (cA q) := by
  pointwise [k0_pay10]
  rw [pay_dm, pay_ga, (blk m c t p q 0 0).2.2.1, ← dz_A]
  rfl

theorem pay_dP (t : Fin cfg0.N) (p : Fin 256) (q : Fin 2048) :
    k0_pay11 (iblk m c 0 t) (iblk m c 4 t) (iblk m c 1 t) (iblk m c 3 t) (ix2 p q) = dgl m c (at' t p) (cP q) := by
  pointwise [k0_pay11]
  rw [pay_dm, pay_gp, (blk m c t p q 0 0).2.2.2.1, ← dz_P]
  rfl

/-- A block of the two branches' gradients. -/
theorem o_za (t : Fin cfg0.N) (p : Fin 256) (q : Fin 2048) :
    (outsAt0 m c t.val t.isLt).1 (ix2 p q) = dm m c (at' t p) q * gate m c (at' t p) (cA q) := by
  by_cases h0 : t.val % 32 = 0
  · rw [outsAt0_A m c t h0]
    frame_out
    pointwise [k0_pay8]
    rw [pay_dm, pay_ga]
  · rw [outsAt0_B m c t h0]
    frame_out
    pointwise [k0_pay8]
    rw [pay_dm, pay_ga]

theorem o_zp (t : Fin cfg0.N) (p : Fin 256) (q : Fin 2048) :
    (outsAt0 m c t.val t.isLt).2.1 (ix2 p q) = dm m c (at' t p) q * gate m c (at' t p) (cP q) := by
  by_cases h0 : t.val % 32 = 0
  · rw [outsAt0_A m c t h0]
    frame_out
    pointwise [k0_pay9]
    rw [pay_dm, pay_gp]
  · rw [outsAt0_B m c t h0]
    frame_out
    pointwise [k0_pay9]
    rw [pay_dm, pay_gp]

/-- Two stores of 2048 columns side by side, read back at an entry of either. -/
theorem cols {e : EltTy} {a : ℕ} (inb1 : ∀ i, (![0, 2048] : Fin 2 → ℕ) i + (![a, 2048] : Fin 2 → ℕ) i ≤ (⟨2, ![a, 4096]⟩ : Shape).size i)
    (inb0 : ∀ i, (![0, 0] : Fin 2 → ℕ) i + (![a, 2048] : Fin 2 → ℕ) i ≤ (⟨2, ![a, 4096]⟩ : Shape).size i)
    (w1 w0 : (⟨2, ![a, 2048]⟩ : Shape).Idx → Elt Ideal e) (L : List (View.Piece (Elt Ideal) (⟨2, ![a, 4096]⟩ : Shape) e)) (p : Fin a) (q : Fin 2048) :
    View.canon (⟨Rect.unit ![0, 2048] ![a, 2048] inb1, w1⟩ :: ⟨Rect.unit ![0, 0] ![a, 2048] inb0, w0⟩ :: L) (ix2 p (cP q)) = w1 (ix2 p q)
      ∧ View.canon (⟨Rect.unit ![0, 2048] ![a, 2048] inb1, w1⟩ :: ⟨Rect.unit ![0, 0] ![a, 2048] inb0, w0⟩ :: L) (ix2 p (cA q)) = w0 (ix2 p q) := by
  have e1 : ix2 p (cP q) = (Rect.unit (s := ⟨2, ![a, 4096]⟩) ![0, 2048] ![a, 2048] inb1).emb (ix2 p q) := funext fun i => by
    refine Fin.ext (Eq.trans ?_ (Rect.idx_unit_val _ _ inb1 (ix2 p q) i).symm)
    match i with
    | 0 => exact (Nat.zero_add _).symm
    | 1 => rfl
  have e0 : ix2 p (cA q) = (Rect.unit (s := ⟨2, ![a, 4096]⟩) ![0, 0] ![a, 2048] inb0).emb (ix2 p q) := funext fun i => by
    refine Fin.ext (Eq.trans ?_ (Rect.idx_unit_val _ _ inb0 (ix2 p q) i).symm)
    match i with
    | 0 => exact (Nat.zero_add _).symm
    | 1 => exact (Nat.zero_add _).symm
  refine ⟨?_, ?_⟩
  · rw [e1]
    exact View.canon_cons_emb _ _ _ _
  · refine (View.canon_cons_of_not_mem _ _ fun hm => ?_).trans ?_
    · obtain ⟨x, hx⟩ := LoadRect.exists_idx_of_mem _ hm
      have h := Rect.idx_unit_val (s := ⟨2, ![a, 4096]⟩) ![0, 2048] ![a, 2048] inb1 x 1
      rw [hx] at h
      have h' : q.val = 2048 + (x 1).val := h
      have := q.isLt
      omega
    · rw [e0]
      exact View.canon_cons_emb _ _ _ _

/-- A block of the gradient of the gates' product. -/
theorem o_gl (t : Fin cfg0.N) (p : Fin 256) (j : Fin 4096) :
    (outsAt0 m c t.val t.isLt).2.2.1 (ix2 p j) = dgl m c (at' t p) j := by
  have hA : ∀ q, k0_pay12 (iblk m c 0 t) (iblk m c 4 t) (iblk m c 1 t) (iblk m c 2 t) (ix2 p q) = dgl m c (at' t p) (cA q) := fun q => by
    pointwise [k0_pay12]
    exact pay_dA m c t p q
  have hP : ∀ q, k0_pay13 (iblk m c 0 t) (iblk m c 4 t) (iblk m c 1 t) (iblk m c 3 t) (ix2 p q) = dgl m c (at' t p) (cP q) := fun q => by
    pointwise [k0_pay13]
    exact pay_dP m c t p q
  by_cases h0 : t.val % 32 = 0
  · rw [outsAt0_A m c t h0]
    frame_out
    rcases halves j with ⟨q, rfl⟩ | ⟨q, rfl⟩
    · exact (cols _ _ _ _ [] p q).2.trans (hA q)
    · exact (cols _ _ _ _ [] p q).1.trans (hP q)
  · rw [outsAt0_B m c t h0]
    frame_out
    rcases halves j with ⟨q, rfl⟩ | ⟨q, rfl⟩
    · exact (cols _ _ _ _ [] p q).2.trans (hA q)
    · exact (cols _ _ _ _ [] p q).1.trans (hP q)

/-- The two additions to the bias's gradient at an entry. -/
theorem pay1_at (x : FVec Ideal S256x2048 .f32) (v : Vec Ideal S1x2048 .f32) (q : Fin 2048) :
    k0_pay1 x v (ix2 0 q) = v (ix2 0 q) + ∑ p : Fin 256, x (ix2 p q) := by
  pointwise [k0_pay1]

theorem pay2_at (x : FVec Ideal S256x2048 .f32) (v : Vec Ideal S1x2048 .f32) (q : Fin 2048) :
    k0_pay2 x v (ix2 0 q) = v (ix2 0 q) + ∑ p : Fin 256, x (ix2 p q) := by
  pointwise [k0_pay2]

/-- The zeros that the first point stores, read at either half. -/
theorem pay3_at (y : S1x4096.Idx) : k0_pay3 (F := Ideal) y = 0 := by
  pointwise [k0_pay3]

theorem zero_lo {κ : Kind} {sp : Space} (v : View sig κ sp S1x4096 .f32) (q : Fin 2048) :
    v.readCov (Val := Elt Ideal) [⟨Rect.unit ![0, 0] ![1, 4096] inb_S1x4096_S1x4096_0_0, k0_pay3 (F := Ideal)⟩]
      (Rect.unit (s := S1x4096) ![0, 0] ![1, 2048] inb_S1x4096_S1x2048_0_0).toLoadRect (ix2 (0 : Fin 1) q) = (0 : EReal) :=
  (congrFun (View.readCov_fill v inb_S1x4096_S1x4096_0_0 _ [] _ (by decide)) _).trans (pay3_at _)

theorem zero_hi {κ : Kind} {sp : Space} (v : View sig κ sp S1x4096 .f32) (w : S1x2048.Idx → Elt Ideal .f32) (q : Fin 2048) :
    v.readCov (Val := Elt Ideal) [⟨Rect.unit ![0, 0] ![1, 2048] inb_S1x4096_S1x2048_0_0, w⟩,
        ⟨Rect.unit ![0, 0] ![1, 4096] inb_S1x4096_S1x4096_0_0, k0_pay3 (F := Ideal)⟩]
      (Rect.unit (s := S1x4096) ![0, 2048] ![1, 2048] inb_S1x4096_S1x2048_0_2048).toLoadRect (ix2 (0 : Fin 1) q) = (0 : EReal) := by
  simp (discharger := decide) only [↓View.readCov_skip]
  exact (congrFun (View.readCov_fill v inb_S1x4096_S1x4096_0_0 _ [] _ (by decide)) _).trans (pay3_at _)

/-- The first point leaves its own block's terms of the bias's gradient. -/
theorem acc_A (t : Fin cfg0.N) (h0 : t.val % 32 = 0) (j : Fin 4096) :
    (outsAt0 m c t.val t.isLt).2.2.2 (ix2 0 j) = ∑ p : Fin 256, dgl m c (at' t p) j := by
  rw [outsAt0_A m c t h0]
  frame_out
  rcases halves j with ⟨q, rfl⟩ | ⟨q, rfl⟩
  · exact (cols _ _ _ _ _ 0 q).2.trans ((pay1_at _ _ q).trans
      ((congrArg₂ (· + ·) (zero_lo _ q) (sum_congr rfl fun p _ => pay_dA m c t p q)).trans (zero_add _)))
  · exact (cols _ _ _ _ _ 0 q).1.trans ((pay2_at _ _ q).trans
      ((congrArg₂ (· + ·) (zero_hi _ _ q) (sum_congr rfl fun p _ => pay_dP m c t p q)).trans (zero_add _)))

/-- Every further point adds its block's terms. -/
theorem acc_B (t : Fin cfg0.N) (h0 : ¬t.val % 32 = 0) (j : Fin 4096) :
    (outsAt0 m c t.val t.isLt).2.2.2 (ix2 0 j)
      = (outsAt0 m c (t.val - 1) (Nat.lt_of_le_of_lt (Nat.sub_le _ _) t.isLt)).2.2.2 (ix2 0 j) + ∑ p : Fin 256, dgl m c (at' t p) j := by
  rw [outsAt0_B m c t h0]
  frame_out
  rcases halves j with ⟨q, rfl⟩ | ⟨q, rfl⟩
  · refine (cols _ _ _ _ [] 0 q).2.trans ((pay1_at _ _ q).trans (congrArg₂ (· + ·) ?_ (sum_congr rfl fun p _ => pay_dA m c t p q)))
    refine View.ld_unit_apply_of _ _ _ _ _ (ix2 0 (cA q)) fun a => ?_
    match a with
    | 0 => rfl
    | 1 => exact (Nat.zero_add _).symm
  · refine (cols _ _ _ _ [] 0 q).1.trans ((pay2_at _ _ q).trans (congrArg₂ (· + ·) ?_ (sum_congr rfl fun p _ => pay_dP m c t p q)))
    refine View.ld_unit_apply_of _ _ _ _ _ (ix2 0 (cP q)) fun a => ?_
    match a with
    | 0 => rfl
    | 1 => rfl

/-- The bias's gradient at an entry after a point. -/
def vB (j : Fin 4096) (n : ℕ) (h : n < 32) : EReal := (outsAt0 m c n (h.trans_eq N_0.symm)).2.2.2 (ix2 0 j)

/-- After the last point it is the sum over all rows. -/
theorem last_b (j : Fin 4096) : vB m c j 31 (by omega) = oBm m c (ix2 0 j) :=
  run_sum (fun s => dgl m c s j) (vB m c j) (acc_A m c ⟨0, Nat.lt_of_lt_of_eq (by omega) N_0.symm⟩ rfl j) fun n h hn =>
    acc_B m c ⟨n, h.trans_eq N_0.symm⟩ (by simp only; omega) j

theorem acc (t : Fin cfg0.N) (ht : t.val % 32 = 31) (j : Fin 4096) :
    (outsAt0 m c t.val t.isLt).2.2.2 (ix2 0 j) = oBm m c (ix2 0 j) := by
  have h32 := Nat.lt_of_lt_of_eq t.isLt N_0
  have h31 : t.val = 31 := by omega
  rw [← last_b]
  have e : ∀ n (h : n < 32), n = 31 → vB m c j n h = vB m c j 31 (by omega) := by
    intro n h hn
    subst hn
    rfl
  exact e t.val h32 h31

/-- The kernel's result arrays. -/
theorem final_za : (dats m 0 c).arrAt 5 cfg0.N = oZa m c := by
  refine (dats m 0 c).arrAt_eq_of_covers 5 _ (by decide +kernel) fun t hf y => ?_
  blk_simp
  rw [after0_5]
  obtain ⟨p, q, rfl⟩ : ∃ (p : Fin 256) (q : Fin 2048), y = ix2 p q := ⟨y 0, y 1, by funext a; match a with | 0 => rfl | 1 => rfl⟩
  refine (o_za m c t p q).trans (Eq.trans (b := oZa m c (ix2 (at' t p) q)) rfl ?_)
  blk_ext [idx t]

theorem final_zp : (dats m 0 c).arrAt 6 cfg0.N = oZp m c := by
  refine (dats m 0 c).arrAt_eq_of_covers 6 _ (by decide +kernel) fun t hf y => ?_
  blk_simp
  rw [after0_6]
  obtain ⟨p, q, rfl⟩ : ∃ (p : Fin 256) (q : Fin 2048), y = ix2 p q := ⟨y 0, y 1, by funext a; match a with | 0 => rfl | 1 => rfl⟩
  refine (o_zp m c t p q).trans (Eq.trans (b := oZp m c (ix2 (at' t p) q)) rfl ?_)
  blk_ext [idx t]

theorem final_gl : (dats m 0 c).arrAt 7 cfg0.N = oGl m c := by
  refine (dats m 0 c).arrAt_eq_of_covers 7 _ (by decide +kernel) fun t hf y => ?_
  blk_simp
  rw [after0_7]
  obtain ⟨p, j, rfl⟩ : ∃ (p : Fin 256) (j : Fin 4096), y = ix2 p j := ⟨y 0, y 1, by funext a; match a with | 0 => rfl | 1 => rfl⟩
  refine (o_gl m c t p j).trans (Eq.trans (b := oGl m c (ix2 (at' t p) j)) rfl ?_)
  blk_ext [idx t]

theorem final_bm : (dats m 0 c).arrAt 8 cfg0.N = oBm m c := by
  refine (dats m 0 c).arrAt_eq_of_covers 8 _ (by decide +kernel) fun t hf y => ?_
  have h1 : t.val % 32 = 31 := (flush0_8 t).mp hf
  blk_simp
  rw [after0_8]
  obtain ⟨j, rfl⟩ : ∃ (j : Fin 4096), y = ix2 0 j := ⟨y 1, by funext a; match a with | 0 => exact Subsingleton.elim (α := Fin 1) _ _ | 1 => rfl⟩
  rw [acc m c t h1 j]
  blk_ext [idx t]

/-- The printed kernel runs, its arguments unchanged and every counter back at zero. -/
theorem frame_kernel : Cert.quiescent_Kernel7 (hKernel7 := Cert.Kernel7.Gen.facts) := fun m g _ =>
  Cert.Kernel7.Gen.frame (F := Bits) m g

/-- The same of its idealization. -/
theorem frame_ideal : Cert.quiescent_Kernel7Ideal (hKernel7Ideal := Cert.Kernel7Ideal.Gen.facts) := fun m g _ =>
  Cert.Kernel7Ideal.Gen.frame (F := Ideal) m g

/-- The same of the reference, which has no counters. -/
theorem frame_reference : Cert.quiescent_Reference7Ideal (hReference7Ideal := Cert.Reference7Ideal.Gen.facts) := fun m g _ =>
  (θ_run Cert.Reference7Ideal.defs _ _).mono (fun r h => ⟨fun c => (h c).2.2.2.2,
    Idealize.ShloMosaic.sem_eq_zero_of_no_sems (by decide) r.2⟩) (Cert.Reference7Ideal.Value.run (F := Ideal) m g)

set_option maxHeartbeats 4000000 in
/-- At extended reals the kernel's results are the derivatives of the gated merge and its product. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => oZa m c, fun c => oZp m c, fun c => oGl m c, fun c => oBm m c, ?_, ?_⟩
  · refine (θ_run Cert.Kernel7Ideal.defs _ _).mono (fun r h c => ?_) (run_main (F := Ideal) m g)
    refine ⟨((h c).1 5).trans (final_za m c), ((h c).1 6).trans (final_zp m c), ((h c).1 7).trans (final_gl m c),
      ((h c).1 8).trans (final_bm m c), ?_, ?_, ?_, ?_, ?_, ?_⟩
    · exact ((h c).1 0).trans (((dats m 0 c).arrAt_in 0 rfl _).trans (V_main_arg0 m c))
    · exact ((h c).2 main_arg1 (Pipeline.mem_restRefs_of main_arg1 (by decide) (by decide))).trans (V_main_arg1 m c)
    · exact ((h c).2 main_arg2 (Pipeline.mem_restRefs_of main_arg2 (by decide) (by decide))).trans (V_main_arg2 m c)
    · exact ((h c).1 2).trans (((dats m 0 c).arrAt_in 2 rfl _).trans (V_main_arg3 m c))
    · exact ((h c).1 3).trans (((dats m 0 c).arrAt_in 3 rfl _).trans (V_main_arg4 m c))
    · exact ((h c).1 4).trans (((dats m 0 c).arrAt_in 4 rfl _).trans (V_main_arg5 m c))
  · refine (θ_run Cert.Reference7Ideal.defs _ _).mono (fun r h c => ?_) (Cert.Reference7Ideal.Value.run (F := Ideal) m' g')
    obtain ⟨a0, a1, a2, a3, a4, a5⟩ := hargs c
    obtain ⟨h0, h1, h2, h3, h4⟩ := h c
    have hg : ∀ p j, rGate (m' ((c.tc : Thread Cert.Reference7Ideal.nD Cert.Reference7Ideal.τ).loc Cert.Reference7Ideal.main_arg1))
        (m' ((c.tc : Thread Cert.Reference7Ideal.nD Cert.Reference7Ideal.τ).loc Cert.Reference7Ideal.main_arg2)) (ix2 p j) = gate m c p j := fun p j => by
      rw [rGate_at, a1, a2]
      rfl
    have hd : ∀ p q, rDm (m' ((c.tc : Thread Cert.Reference7Ideal.nD Cert.Reference7Ideal.τ).loc Cert.Reference7Ideal.main_arg0))
        (m' ((c.tc : Thread Cert.Reference7Ideal.nD Cert.Reference7Ideal.τ).loc Cert.Reference7Ideal.main_arg5)) (ix2 p q) = dm m c p q := fun p q => by
      rw [rDm_at, a0, a5]
      rfl
    have hl : ∀ p j, rGl (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
        (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3))
        (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (ix2 p j)
          = dgl m c p j := fun p j => by
      rcases halves j with ⟨q, rfl⟩ | ⟨q, rfl⟩
      · rw [(rGl_at _ _ _ _ _ _ p q).1, hg, hd, a3, dgl, dz_A, mul_assoc (dm m c p q * _)]
      · rw [(rGl_at _ _ _ _ _ _ p q).2, hg, hd, a4, dgl, dz_P, mul_assoc (dm m c p q * _)]
    refine ⟨h0.trans ?_, h1.trans ?_, h2.trans ?_, h3.trans ?_, h4⟩
    · funext j
      obtain ⟨p, q, rfl⟩ : ∃ (p : Fin 8192) (q : Fin 2048), j = ix2 p q := ⟨j 0, j 1, by funext a; match a with | 0 => rfl | 1 => rfl⟩
      refine (rZa_at (rGate _ _) (rDm _ _) p q).trans ?_
      rw [hg, hd]
      exact mul_comm (gate m c p (cA q)) (dm m c p q)
    · funext j
      obtain ⟨p, q, rfl⟩ : ∃ (p : Fin 8192) (q : Fin 2048), j = ix2 p q := ⟨j 0, j 1, by funext a; match a with | 0 => rfl | 1 => rfl⟩
      refine (rZp_at (rGate _ _) (rDm _ _) p q).trans ?_
      rw [hg, hd]
      exact mul_comm (gate m c p (cP q)) (dm m c p q)
    · funext j
      obtain ⟨p, j, rfl⟩ : ∃ (p : Fin 8192) (q : Fin 4096), j = ix2 p q := ⟨j 0, j 1, by funext a; match a with | 0 => rfl | 1 => rfl⟩
      exact hl p j
    · funext j
      obtain ⟨j, rfl⟩ : ∃ (q : Fin 4096), j = ix2 0 q := ⟨j 1, by funext a; match a with | 0 => exact Subsingleton.elim (α := Fin 1) _ _ | 1 => rfl⟩
      refine (rSum_at (rGl _ _ _ _ _ _) j).trans ?_
      simp only [hl]
      rfl

end Cert.Proof.Gate

end
-- ==== Proof.Norm.Input.lean ====
/- The norm before the layer with the projections' products, backward: the kernel's four results are the chain rule's. -/
module

public import proofs.«01_k».proof.Defs
public import proofs.«01_k».proof.Proof.Norm.Common
public import proofs.«01_k».proof.Proof.Mul.Common
public import proofs.«01_k».proof.Proof.Val.Algebraic
public import Idealize.ShloMosaic.Lib.Pipeline.ReadBack
public import proofs.«01_k».proof.Proof.Gen.Kernel8.Frame
public import proofs.«01_k».proof.Proof.Gen.Kernel8Ideal.Frame
public import proofs.«01_k».proof.Proof.Gen.Reference8Ideal.Run

@[expose] public section

set_option maxRecDepth 16384

noncomputable section

namespace Cert.Proof.Input

open Idealize.ShloMosaic Idealize.ShloMosaic.TcCoe Idealize.SL.Sem Cert.Kernel8Ideal Cert.Kernel8Ideal.Gen
open Cert.Proof.Norm Cert.Proof.Mul Finset

/-- The windows' block indices at a point: 17 points share a row block, and the vectors stay. -/
theorem idx : ∀ t : Fin cfg0.N, win0_4.index t = ![t.val / 17, 0] ∧ win0_5.index t = ![t.val / 17, 0] ∧ win0_6.index t = ![0, 0]
    ∧ win0_7.index t = ![0, 0] ∧ win0_8.index t = ![t.val / 17, 0] ∧ win0_9.index t = ![0, 0] ∧ win0_10.index t = ![0, 0]
    ∧ win0_11.index t = ![0, 0] :=
  (by decide +kernel : ∀ t : Fin grid0.N, _)

/-- The first nine of the 17 points walk the columns of the projections' cotangent, the other eight those of the gates'. -/
theorem idx_lo : ∀ t : Fin cfg0.N, t.val % 17 ≤ 8 → win0_0.index t = ![t.val / 17, t.val % 17] ∧ win0_2.index t = ![0, t.val % 17] :=
  (by decide +kernel : ∀ t : Fin grid0.N, t.val % 17 ≤ 8 → _)

theorem idx_hi : ∀ t : Fin cfg0.N, 9 ≤ t.val % 17 → win0_1.index t = ![t.val / 17, t.val % 17 - 9] ∧ win0_3.index t = ![0, t.val % 17 - 9] :=
  (by decide +kernel : ∀ t : Fin grid0.N, 9 ≤ t.val % 17 → _)

variable (m : (ℓ : Loc nD τ sig) → Buf (Elt Ideal) ℓ) (c : Dev nD)

/-- The arguments: the projections' and the gates' cotangents, their two weights, the layer's input, the residual's cotangent,
    the modulation and the norm's gain. -/
abbrev DP : (⟨2, ![8192, 4608]⟩ : Shape).Idx → EReal := m ((c : Thread nD τ).loc main_arg0)
abbrev DG : (⟨2, ![8192, 4096]⟩ : Shape).Idx → EReal := m ((c : Thread nD τ).loc main_arg1)
abbrev WI : (⟨2, ![2048, 4608]⟩ : Shape).Idx → EReal := m ((c : Thread nD τ).loc main_arg2)
abbrev WM : (⟨2, ![2048, 4096]⟩ : Shape).Idx → EReal := m ((c : Thread nD τ).loc main_arg3)
abbrev X : (⟨2, ![8192, 2048]⟩ : Shape).Idx → EReal := m ((c : Thread nD τ).loc main_arg4)
abbrev Do : (⟨2, ![8192, 2048]⟩ : Shape).Idx → EReal := m ((c : Thread nD τ).loc main_arg5)
abbrev Mo : (⟨2, ![1, 6144]⟩ : Shape).Idx → EReal := m ((c : Thread nD τ).loc main_arg6)
abbrev Pg : (⟨2, ![1, 2048]⟩ : Shape).Idx → EReal := m ((c : Thread nD τ).loc main_arg7)

/-- The hidden's cotangent: what comes back through the two products. -/
def dh (s : Fin 8192) (q : Fin 2048) : EReal :=
  ∑ k : Fin 4608, DP m c (ix2 s k) * WI m c (ix2 q k) + ∑ k : Fin 4096, DG m c (ix2 s k) * WM m c (ix2 q k)

/-- One plus the modulation's scale. -/
abbrev sc (k : Fin 2048) : EReal := 1 + Mo m c (ix2 0 ⟨2048 + k.val, by have := k.isLt; omega⟩)

/-- A row of the input and the cotangent of its normalised form. -/
abbrev row (s : Fin 8192) : Fin 2048 → EReal := fun k => X m c (ix2 s k)
abbrev cot (s : Fin 8192) : Fin 2048 → EReal := fun k => dh m c s k * (sc m c k * Pg m c (ix2 0 k))

/-- The kernel's four results. -/
def oGx : (⟨2, ![8192, 2048]⟩ : Shape).Idx → EReal := fun j =>
  Do m c j + rinv (row m c (j 0)) * (cot m c (j 0) (j 1) - row m c (j 0) (j 1) * rinv (row m c (j 0))
    * Ideal.div (∑ k, cot m c (j 0) k * (row m c (j 0) k * rinv (row m c (j 0)))) (Ideal.ofBits .f32 1157627904#32))
def oSh : (⟨2, ![1, 2048]⟩ : Shape).Idx → EReal := fun j => ∑ s : Fin 8192, dh m c s (j 1)
def oSc : (⟨2, ![1, 2048]⟩ : Shape).Idx → EReal := fun j =>
  ∑ s : Fin 8192, dh m c s (j 1) * (row m c s (j 1) * rinv (row m c s)) * Pg m c (ix2 0 (j 1))
def oPg : (⟨2, ![1, 2048]⟩ : Shape).Idx → EReal := fun j =>
  ∑ s : Fin 8192, dh m c s (j 1) * (row m c s (j 1) * rinv (row m c s)) * sc m c (j 1)

/-- The row of the arrays that a block's row is. -/
abbrev at' (t : Fin cfg0.N) (p : Fin 512) : Fin 8192 :=
  ⟨t.val / 17 * 512 + p.val, by have := Nat.lt_of_lt_of_eq t.isLt N_0; have := p.isLt; omega⟩

/-- A block's entries of the arguments. -/
theorem blk (t : Fin cfg0.N) (p : Fin 512) (q : Fin 2048) :
    iblk m c 4 t (ix2 p q) = X m c (ix2 (at' t p) q) ∧ iblk m c 5 t (ix2 p q) = Do m c (ix2 (at' t p) q)
      ∧ iblk m c 7 t (ix2 0 q) = Pg m c (ix2 0 q)
      ∧ iblk m c 6 t (ix2 0 ⟨2048 + q.val, by have := q.isLt; omega⟩) = Mo m c (ix2 0 ⟨2048 + q.val, by have := q.isLt; omega⟩) := by
  refine ⟨?_, ?_, ?_, ?_⟩ <;> blk_ext [iblk, V, idx t]

/-- The two products side by side, one column of either at a time. -/
def both (s q k : ℕ) : EReal :=
  if k < 4608 then rd (DP m c) s k * rd (WI m c) q k else rd (DG m c) s (k - 4608) * rd (WM m c) q (k - 4608)

/-- What point `n` adds at an entry of its block. -/
abbrev term (n : ℕ) (j : S512x2048.Idx) : EReal :=
  ∑ l : Fin 512, both m c (n / 17 * 512 + (j 0).val) (j 1).val (n % 17 * 512 + l.val)

/-- A point's payload at an entry: what the scratch held, and the point's columns of the products. -/
theorem pay5 (t : Fin cfg0.N) (h : t.val % 17 ≤ 8) (v : Vec Ideal S512x2048 .f32) (j : S512x2048.Idx) :
    k0_pay5 v (iblk m c 0 t) (iblk m c 2 t) j = v j + term m c t.val j := by
  have ht := Nat.lt_of_lt_of_eq t.isLt N_0
  have hp : (j 0).val < 512 := (j 0).isLt
  have hq : (j 1).val < 2048 := (j 1).isLt
  pointwise [k0_pay5]
  refine congrArg (_ + ·) (Finset.sum_congr rfl fun l _ => ?_)
  have hl := l.isLt
  rw [both, if_pos (by omega), rd_eq (DP m c) (by omega) (by omega), rd_eq (WI m c) hq (by omega)]
  congr 1 <;> blk_ext [iblk, V, idx_lo t h]

theorem pay6 (t : Fin cfg0.N) (h : 9 ≤ t.val % 17) (v : Vec Ideal S512x2048 .f32) (j : S512x2048.Idx) :
    k0_pay6 v (iblk m c 1 t) (iblk m c 3 t) j = v j + term m c t.val j := by
  have ht := Nat.lt_of_lt_of_eq t.isLt N_0
  have hp : (j 0).val < 512 := (j 0).isLt
  have hq : (j 1).val < 2048 := (j 1).isLt
  pointwise [k0_pay6]
  refine congrArg (_ + ·) (Finset.sum_congr rfl fun l _ => ?_)
  have hl := l.isLt
  rw [both, if_neg (by omega), show t.val % 17 * 512 + l.val - 4608 = (t.val % 17 - 9) * 512 + l.val by omega,
    rd_eq (DG m c) (by omega) (by omega), rd_eq (WM m c) hq (by omega)]
  congr 1 <;> blk_ext [iblk, V, idx_hi t h]

/-- The first point of a block's run starts the scratch from zero. -/
theorem scr_zero (t : Fin cfg0.N) (h1 : t.val % 17 = 0) (j : S512x2048.Idx) :
    (outsAt0 m c t.val t.isLt).2.2.2.2 j = 0 + term m c t.val j := by
  by_cases h0 : t.val % 272 = 0
  · rw [outsAt0_A m c t h0 h1 (by omega) (by omega) (by omega)]
    frame_out
    rw [pay5 m c t (by omega)]
    pointwise [k0_pay4]
  · rw [outsAt0_E m c t h0 h1 (by omega) (by omega) (by omega)]
    frame_out
    rw [pay5 m c t (by omega)]
    pointwise [k0_pay4]

/-- Every further point adds its columns. -/
theorem scr_succ (t : Fin cfg0.N) (h1 : ¬t.val % 17 = 0) (j : S512x2048.Idx) :
    (outsAt0 m c t.val t.isLt).2.2.2.2 j
      = (outsAt0 m c (t.val - 1) (Nat.lt_of_le_of_lt (Nat.sub_le _ _) t.isLt)).2.2.2.2 j + term m c t.val j := by
  by_cases h2 : t.val % 17 ≤ 8
  · rw [outsAt0_B m c t (by omega) h1 h2 (by omega) (by omega)]
    frame_out
    simp only [read_unread_whole]
    rw [pay5 m c t h2]
  · by_cases h4 : t.val % 17 = 16
    · rw [outsAt0_D m c t (by omega) h1 h2 (by omega) h4]
      frame_out
      simp only [read_unread_whole]
      rw [pay6 m c t (by omega)]
    · rw [outsAt0_C m c t (by omega) h1 h2 (by omega) h4]
      frame_out
      simp only [read_unread_whole]
      rw [pay6 m c t (by omega)]

/-- Seventeen blocks of 512 columns are the columns of the two products. -/
theorem both_sum (s : Fin 8192) (q : Fin 2048) :
    ∑ k ∈ range 17, ∑ l : Fin 512, both m c s.val q.val (k * 512 + l.val) = dh m c s q := by
  have e : ∀ k, ∑ l : Fin 512, both m c s.val q.val (k * 512 + l.val) = ∑ l ∈ range 512, both m c s.val q.val (k * 512 + l) := fun k =>
    Fin.sum_univ_eq_sum_range (fun l => both m c s.val q.val (k * 512 + l)) 512
  simp only [e]
  rw [sum_range_range_mul_add 17 512, show 17 * 512 = 4608 + 4096 from rfl, sum_range_add, dh,
    ← Fin.sum_univ_eq_sum_range, ← Fin.sum_univ_eq_sum_range (fun k => both m c s.val q.val (4608 + k))]
  refine congrArg₂ (· + ·) (sum_congr rfl fun k _ => ?_) (sum_congr rfl fun k _ => ?_)
  · rw [both, if_pos k.isLt, rd_val, rd_val]
  · rw [both, if_neg (by omega), Nat.add_sub_cancel_left, rd_val, rd_val]

/-- After the last point of a block's run the scratch holds the block of the hidden's cotangent. -/
theorem scr_last (t : Fin cfg0.N) (h4 : t.val % 17 = 16) (p : Fin 512) (q : Fin 2048) :
    (outsAt0 m c t.val t.isLt).2.2.2.2 (ix2 p q) = dh m c (at' t p) q := by
  have hs := Pipeline.eq_sum_of_reset_step_apply_of_mod (fun n h => (outsAt0 m c n h).2.2.2.2) 17 (fun _ => (0 : EReal))
    (term m c) (scr_zero m c) (scr_succ m c) t h4 (ix2 p q)
  refine hs.trans ?_
  rw [zero_add, ← both_sum]
  refine sum_congr rfl fun k hk => ?_
  have hk' := mem_range.mp hk
  show ∑ l : Fin 512, both m c ((17 * (t.val / 17) + k) / 17 * 512 + p.val) q.val ((17 * (t.val / 17) + k) % 17 * 512 + l.val) = _
  rw [show (17 * (t.val / 17) + k) % 17 = k by omega, show (17 * (t.val / 17) + k) / 17 = t.val / 17 by omega]

/-- The same of the payload that the last point's later steps read. -/
theorem pay6_last (t : Fin cfg0.N) (h4 : t.val % 17 = 16) (p : Fin 512) (q : Fin 2048) :
    k0_pay6 (outsAt0 m c (t.val - 1) (Nat.lt_of_le_of_lt (Nat.sub_le _ _) t.isLt)).2.2.2.2 (iblk m c 1 t) (iblk m c 3 t) (ix2 p q)
      = dh m c (at' t p) q :=
  (pay6 m c t (by omega) _ _).trans ((scr_succ m c t (by omega) _).symm.trans (scr_last m c t h4 p q))

/-- A block of the input's gradient. -/
theorem gx (t : Fin cfg0.N) (h4 : t.val % 17 = 16) (p : Fin 512) (q : Fin 2048) :
    (outsAt0 m c t.val t.isLt).1 (ix2 p q) = oGx m c (ix2 (at' t p) q) := by
  rw [outsAt0_D m c t (by omega) (by omega) (by omega) (by omega) h4]
  frame_out
  simp only [read_unread_whole]
  pointwise [k0_pay8, k0_pay9, k0_pay10, k0_pay11]
  simp only [pay6_last m c t h4, (blk m c t _ _).1, (blk m c t p _).2.1, (blk m c t p _).2.2.1, (blk m c t p _).2.2.2]
  rfl

/-- What a block of rows adds to the three vectors. -/
abbrev tSh (t : Fin cfg0.N) (q : Fin 2048) : EReal := ∑ p : Fin 512, dh m c (at' t p) q
abbrev tHat (t : Fin cfg0.N) (q : Fin 2048) : EReal :=
  ∑ p : Fin 512, dh m c (at' t p) q * (row m c (at' t p) q * rinv (row m c (at' t p)))

/-- The first point leaves zeros. -/
theorem acc_zero (t : Fin cfg0.N) (h0 : t.val % 272 = 0) (q : Fin 2048) :
    (outsAt0 m c t.val t.isLt).2.1 (ix2 0 q) = 0 ∧ (outsAt0 m c t.val t.isLt).2.2.1 (ix2 0 q) = 0
      ∧ (outsAt0 m c t.val t.isLt).2.2.2.1 (ix2 0 q) = 0 := by
  rw [outsAt0_A m c t h0 (by omega) (by omega) (by omega) (by omega)]
  refine ⟨?_, ?_, ?_⟩
  · frame_out
    pointwise [k0_pay1]
  · frame_out
    pointwise [k0_pay2]
  · frame_out
    pointwise [k0_pay3]

/-- A point that does not end a block's run leaves the three vectors as they were. -/
theorem acc_keep (t : Fin cfg0.N) (h0 : ¬t.val % 272 = 0) (h4 : ¬t.val % 17 = 16) (q : Fin 2048) :
    (outsAt0 m c t.val t.isLt).2.1 (ix2 0 q)
        = (outsAt0 m c (t.val - 1) (Nat.lt_of_le_of_lt (Nat.sub_le _ _) t.isLt)).2.1 (ix2 0 q)
      ∧ (outsAt0 m c t.val t.isLt).2.2.1 (ix2 0 q)
        = (outsAt0 m c (t.val - 1) (Nat.lt_of_le_of_lt (Nat.sub_le _ _) t.isLt)).2.2.1 (ix2 0 q)
      ∧ (outsAt0 m c t.val t.isLt).2.2.2.1 (ix2 0 q)
        = (outsAt0 m c (t.val - 1) (Nat.lt_of_le_of_lt (Nat.sub_le _ _) t.isLt)).2.2.2.1 (ix2 0 q) := by
  by_cases h1 : t.val % 17 = 0
  · rw [outsAt0_E m c t h0 h1 (by omega) (by omega) h4]
    refine ⟨?_, ?_, ?_⟩ <;> frame_out <;> rfl
  · by_cases h2 : t.val % 17 ≤ 8
    · rw [outsAt0_B m c t h0 h1 h2 (by omega) h4]
      refine ⟨?_, ?_, ?_⟩ <;> frame_out <;> rfl
    · rw [outsAt0_C m c t h0 h1 h2 (by omega) h4]
      refine ⟨?_, ?_, ?_⟩ <;> frame_out <;> rfl

/-- The last point of a block's run adds the block's terms. -/
theorem acc_add (t : Fin cfg0.N) (h4 : t.val % 17 = 16) (q : Fin 2048) :
    (outsAt0 m c t.val t.isLt).2.1 (ix2 0 q)
        = (outsAt0 m c (t.val - 1) (Nat.lt_of_le_of_lt (Nat.sub_le _ _) t.isLt)).2.1 (ix2 0 q) + tSh m c t q
      ∧ (outsAt0 m c t.val t.isLt).2.2.1 (ix2 0 q)
        = (outsAt0 m c (t.val - 1) (Nat.lt_of_le_of_lt (Nat.sub_le _ _) t.isLt)).2.2.1 (ix2 0 q) + tHat m c t q * Pg m c (ix2 0 q)
      ∧ (outsAt0 m c t.val t.isLt).2.2.2.1 (ix2 0 q)
        = (outsAt0 m c (t.val - 1) (Nat.lt_of_le_of_lt (Nat.sub_le _ _) t.isLt)).2.2.2.1 (ix2 0 q) + tHat m c t q * sc m c q := by
  rw [outsAt0_D m c t (by omega) (by omega) (by omega) (by omega) h4]
  refine ⟨?_, ?_, ?_⟩
  · frame_out
    simp only [read_unread_whole]
    pointwise [k0_pay12]
    simp only [pay6_last m c t h4]
  · frame_out
    simp only [read_unread_whole]
    pointwise [k0_pay9, k0_pay10, k0_pay13]
    simp only [pay6_last m c t h4, (blk m c t _ _).1, (blk m c t 0 _).2.2.1]
    rfl
  · frame_out
    simp only [read_unread_whole]
    pointwise [k0_pay7, k0_pay9, k0_pay10, k0_pay11, k0_pay14, k0_pay15]
    simp only [pay6_last m c t h4, (blk m c t _ _).1, (blk m c t 0 _).2.2.2]
    rfl

/-- What the value claim needs of the arguments: the cotangents, the weights, the scale and the gain are finite. -/
structure Fins : Prop where
  dp : ∀ s k, Fin1 (DP m c (ix2 s k))
  dg : ∀ s k, Fin1 (DG m c (ix2 s k))
  wi : ∀ s k, Fin1 (WI m c (ix2 s k))
  wm : ∀ s k, Fin1 (WM m c (ix2 s k))
  sc : ∀ k : Fin 2048, Fin1 (Mo m c (ix2 0 ⟨2048 + k.val, by have := k.isLt; omega⟩))
  pg : ∀ k, Fin1 (Pg m c (ix2 0 k))

variable {m c}

theorem Fins.dh (hF : Fins m c) (s : Fin 8192) (q : Fin 2048) : Fin1 (Input.dh m c s q) :=
  (Fin1.sum fun k => (hF.dp s k).mul (hF.wi q k)).add (Fin1.sum fun k => (hF.dg s k).mul (hF.wm q k))

theorem Fins.hat (hF : Fins m c) (s : Fin 8192) (q : Fin 2048) : Fin1 (Input.dh m c s q * (row m c s q * rinv (row m c s))) :=
  (hF.dh s q).mul (hat_fin _ q)

theorem Fins.one_sc (hF : Fins m c) (q : Fin 2048) : Fin1 (Input.sc m c q) := fin1_one.add (hF.sc q)

variable (m c)

/-- The three vectors' entries after a point. -/
def vSh (q : Fin 2048) (n : ℕ) (h : n < 272) : EReal := (outsAt0 m c n (h.trans_eq N_0.symm)).2.1 (ix2 0 q)
def vSc (q : Fin 2048) (n : ℕ) (h : n < 272) : EReal := (outsAt0 m c n (h.trans_eq N_0.symm)).2.2.1 (ix2 0 q)
def vPg (q : Fin 2048) (n : ℕ) (h : n < 272) : EReal := (outsAt0 m c n (h.trans_eq N_0.symm)).2.2.2.1 (ix2 0 q)

/-- A value that starts from zero and that every seventeenth point adds a block of 512 rows to ends as the sum over all rows. -/
theorem run_rows (g : Fin 8192 → EReal) (s : (n : ℕ) → n < 272 → EReal) (h0 : s 0 (by omega) = 0)
    (hK : ∀ n (h : n < 272), n ≠ 0 → ¬n % 17 = 16 → s n h = s (n - 1) (by omega))
    (hS : ∀ n (h : n < 272), n % 17 = 16 → s n h = s (n - 1) (by omega)
      + ∑ l : Fin 512, g ⟨n / 17 * 512 + l.val, by have := l.isLt; omega⟩) : s 271 (by omega) = ∑ k, g k := by
  let G : ℕ → EReal := fun i => if h : i < 8192 then g ⟨i, h⟩ else 0
  have hG : ∀ i (h : i < 8192), G i = g ⟨i, h⟩ := fun i h => dif_pos h
  have e : ∀ n (h : n < 272), s n h = ∑ k ∈ range ((n + 1) / 17), ∑ l : Fin 512, G (k * 512 + l.val) := by
    intro n
    induction n with
    | zero => exact fun _ => h0
    | succ n ih =>
      intro h
      by_cases hn : (n + 1) % 17 = 16
      · rw [hS _ h hn, show (n + 1 + 1) / 17 = (n + 1) / 17 + 1 by omega, sum_range_succ]
        refine congrArg₂ (· + ·) (ih (by omega)) (sum_congr rfl fun l _ => (hG _ _).symm)
      · rw [hK _ h (by omega) hn, show (n + 1 + 1) / 17 = (n + 1) / 17 by omega]
        exact ih (by omega)
  rw [e 271 (by omega)]
  refine (sum_blocks (n := 16) (r := 512) (by decide) G).trans (sum_congr rfl fun k _ => hG _ _)

/-- After the last point the three vectors are the sums over all rows. -/
theorem last_sh (q : Fin 2048) : vSh m c q 271 (by omega) = oSh m c (ix2 0 q) :=
  run_rows (fun s => dh m c s q) (vSh m c q) (acc_zero m c ⟨0, Nat.lt_of_lt_of_eq (by omega) N_0.symm⟩ rfl q).1
    (fun n h hn h4 => (acc_keep m c ⟨n, h.trans_eq N_0.symm⟩ (by simp only; omega) h4 q).1)
    fun n h h4 => (acc_add m c ⟨n, h.trans_eq N_0.symm⟩ h4 q).1

theorem last_sc (hF : Fins m c) (q : Fin 2048) : vSc m c q 271 (by omega) = oSc m c (ix2 0 q) :=
  run_rows (fun s => dh m c s q * (row m c s q * rinv (row m c s)) * Pg m c (ix2 0 q)) (vSc m c q)
    (acc_zero m c ⟨0, Nat.lt_of_lt_of_eq (by omega) N_0.symm⟩ rfl q).2.1
    (fun n h hn h4 => (acc_keep m c ⟨n, h.trans_eq N_0.symm⟩ (by simp only; omega) h4 q).2.1)
    fun n h h4 => (acc_add m c ⟨n, h.trans_eq N_0.symm⟩ h4 q).2.1.trans
      (congrArg (_ + ·) (sum_mul_fin _ (fun p => hF.hat _ q) (hF.pg q)))

theorem last_pg (hF : Fins m c) (q : Fin 2048) : vPg m c q 271 (by omega) = oPg m c (ix2 0 q) :=
  run_rows (fun s => dh m c s q * (row m c s q * rinv (row m c s)) * sc m c q) (vPg m c q)
    (acc_zero m c ⟨0, Nat.lt_of_lt_of_eq (by omega) N_0.symm⟩ rfl q).2.2
    (fun n h hn h4 => (acc_keep m c ⟨n, h.trans_eq N_0.symm⟩ (by simp only; omega) h4 q).2.2)
    fun n h h4 => (acc_add m c ⟨n, h.trans_eq N_0.symm⟩ h4 q).2.2.trans
      (congrArg (_ + ·) (sum_mul_fin _ (fun p => hF.hat _ q) (hF.one_sc q)))

theorem acc (hF : Fins m c) (t : Fin cfg0.N) (ht : t.val % 272 = 271) (q : Fin 2048) :
    (outsAt0 m c t.val t.isLt).2.1 (ix2 0 q) = oSh m c (ix2 0 q)
      ∧ (outsAt0 m c t.val t.isLt).2.2.1 (ix2 0 q) = oSc m c (ix2 0 q)
      ∧ (outsAt0 m c t.val t.isLt).2.2.2.1 (ix2 0 q) = oPg m c (ix2 0 q) := by
  have h32 := Nat.lt_of_lt_of_eq t.isLt N_0
  have h31 : t.val = 271 := by omega
  rw [← last_sh, ← last_sc m c hF, ← last_pg m c hF]
  have e : ∀ n (h : n < 272), n = 271 → vSh m c q n h = vSh m c q 271 (by omega) ∧ vSc m c q n h = vSc m c q 271 (by omega)
      ∧ vPg m c q n h = vPg m c q 271 (by omega) := by
    intro n h hn
    subst hn
    exact ⟨rfl, rfl, rfl⟩
  exact e t.val h32 h31

/-- The kernel's result arrays. -/
theorem final_gx : (dats m 0 c).arrAt 8 cfg0.N = oGx m c := by
  refine (dats m 0 c).arrAt_eq_of_covers 8 _ (by decide +kernel) fun t hf y => ?_
  have h1 : t.val % 17 = 16 := (flush0_8 t).mp hf
  blk_simp
  rw [after0_8]
  obtain ⟨p, q, rfl⟩ : ∃ (p : Fin 512) (q : Fin 2048), y = ix2 p q := ⟨y 0, y 1, by funext a; match a with | 0 => rfl | 1 => rfl⟩
  rw [gx m c t h1]
  blk_ext [idx t]

theorem final_sh (hF : Fins m c) : (dats m 0 c).arrAt 9 cfg0.N = oSh m c := by
  refine (dats m 0 c).arrAt_eq_of_covers 9 _ (by decide +kernel) fun t hf y => ?_
  have h1 : t.val % 272 = 271 := (flush0_9 t).mp hf
  blk_simp
  rw [after0_9]
  obtain ⟨q, rfl⟩ : ∃ (q : Fin 2048), y = ix2 0 q := ⟨y 1, by funext a; match a with | 0 => exact Subsingleton.elim (α := Fin 1) _ _ | 1 => rfl⟩
  rw [(acc m c hF t h1 q).1]
  blk_ext [idx t]

theorem final_sc (hF : Fins m c) : (dats m 0 c).arrAt 10 cfg0.N = oSc m c := by
  refine (dats m 0 c).arrAt_eq_of_covers 10 _ (by decide +kernel) fun t hf y => ?_
  have h1 : t.val % 272 = 271 := (flush0_10 t).mp hf
  blk_simp
  rw [after0_10]
  obtain ⟨q, rfl⟩ : ∃ (q : Fin 2048), y = ix2 0 q := ⟨y 1, by funext a; match a with | 0 => exact Subsingleton.elim (α := Fin 1) _ _ | 1 => rfl⟩
  rw [(acc m c hF t h1 q).2.1]
  blk_ext [idx t]

theorem final_pg (hF : Fins m c) : (dats m 0 c).arrAt 11 cfg0.N = oPg m c := by
  refine (dats m 0 c).arrAt_eq_of_covers 11 _ (by decide +kernel) fun t hf y => ?_
  have h1 : t.val % 272 = 271 := (flush0_11 t).mp hf
  blk_simp
  rw [after0_11]
  obtain ⟨q, rfl⟩ : ∃ (q : Fin 2048), y = ix2 0 q := ⟨y 1, by funext a; match a with | 0 => exact Subsingleton.elim (α := Fin 1) _ _ | 1 => rfl⟩
  rw [(acc m c hF t h1 q).2.2]
  blk_ext [idx t]

/-- The precondition's shape facts. -/
theorem pre_facts : Cert.Pre_finite_input.Facts where
  slices_S1x6144_S1x2048_0_2048 := by decide
  bitsLt_bf16_f32 := by decide
  bcast_S_S8192x4608 := by decide
  bcast_S_S8192x4096 := by decide
  bcast_S_S2048x4608 := by decide
  bcast_S_S2048x4096 := by decide
  bcast_S_S1x2048 := by decide

/-- The precondition gives the finiteness the claim needs. -/
theorem fins_of_pre (hpre : Cert.Pre_Kernel8Ideal_finite_input (hPre_finite_input := pre_facts) m) : Fins m c := by
  obtain ⟨h0, h1, h2, h3, h4, h5⟩ := hpre c
  exact ⟨fun s k => Attn.real_of_lt _ (congrFun h0 (ix2 s k)), fun s k => Attn.real_of_lt _ (congrFun h1 (ix2 s k)),
    fun s k => Attn.real_of_lt _ (congrFun h2 (ix2 s k)), fun s k => Attn.real_of_lt _ (congrFun h3 (ix2 s k)), fun k => by
      have e := Attn.real_of_lt _ (congrFun h4 (ix2 0 k))
      refine (congrArg Fin1 (congrArg _ ?_)).mp e
      blk_ext []
      rfl, fun k => Attn.real_of_lt _ (congrFun h5 (ix2 0 k))⟩

/-- The printed kernel runs, its arguments unchanged and every counter back at zero. -/
theorem frame_kernel : Cert.quiescent_Kernel8 (hKernel8 := Cert.Kernel8.Gen.facts) := fun m g _ =>
  Cert.Kernel8.Gen.frame (F := Bits) m g

/-- The same of its idealization, with the precondition or without. -/
theorem frame_ideal : Cert.quiescent_Kernel8Ideal (hKernel8Ideal := Cert.Kernel8Ideal.Gen.facts) := fun m g _ =>
  Cert.Kernel8Ideal.Gen.frame (F := Ideal) m g

theorem frame_ideal_pre : Cert.quiescent_Kernel8Ideal_pre_finite_input (hKernel8Ideal := Cert.Kernel8Ideal.Gen.facts)
    (hPre_finite_input := pre_facts) := fun m g _ => Cert.Kernel8Ideal.Gen.frame (F := Ideal) m g

/-- The same of the reference, which has no counters. -/
theorem frame_reference : Cert.quiescent_Reference8Ideal (hReference8Ideal := Cert.Reference8Ideal.Gen.facts) := fun m g _ =>
  (θ_run Cert.Reference8Ideal.defs _ _).mono (fun r h => ⟨fun c => (h c).2.2.2.2,
    Idealize.ShloMosaic.sem_eq_zero_of_no_sems (by decide) r.2⟩) (Cert.Reference8Ideal.Value.run (F := Ideal) m g)

theorem frame_reference_pre : Cert.quiescent_Reference8Ideal_pre_finite_input (hReference8Ideal := Cert.Reference8Ideal.Gen.facts)
    (hPre_finite_input := pre_facts) := fun m g _ => frame_reference m g trivial

set_option maxHeartbeats 4000000 in
/-- At extended reals the kernel's results are the derivatives of the modulated norm, the input's with the residual's
    cotangent added. -/
theorem algebraic : Cert.algebraic_Kernel8Ideal_Reference8Ideal_pre_finite_input (hKernel8Ideal := Cert.Kernel8Ideal.Gen.facts)
    (hReference8Ideal := Cert.Reference8Ideal.Gen.facts) (hPre_finite_input := pre_facts) := by
  intro m g m' g' hpre hargs
  refine ⟨fun c => oGx m c, fun c => oSh m c, fun c => oSc m c, fun c => oPg m c, ?_, ?_⟩
  · refine (θ_run Cert.Kernel8Ideal.defs _ _).mono (fun r h c => ?_) (run_main (F := Ideal) m g)
    have hF := fins_of_pre m c hpre
    refine ⟨((h c).1 8).trans (final_gx m c), ((h c).1 9).trans (final_sh m c hF), ((h c).1 10).trans (final_sc m c hF),
      ((h c).1 11).trans (final_pg m c hF), ?_, ?_, ?_, ?_, ?_, ?_, ?_, ?_⟩
    · exact ((h c).1 0).trans ((dats m 0 c).arrAt_in 0 rfl _)
    · exact ((h c).1 1).trans ((dats m 0 c).arrAt_in 1 rfl _)
    · exact ((h c).1 2).trans ((dats m 0 c).arrAt_in 2 rfl _)
    · exact ((h c).1 3).trans ((dats m 0 c).arrAt_in 3 rfl _)
    · exact ((h c).1 4).trans ((dats m 0 c).arrAt_in 4 rfl _)
    · exact ((h c).1 5).trans ((dats m 0 c).arrAt_in 5 rfl _)
    · exact ((h c).1 6).trans ((dats m 0 c).arrAt_in 6 rfl _)
    · exact ((h c).1 7).trans ((dats m 0 c).arrAt_in 7 rfl _)
  · refine (θ_run Cert.Reference8Ideal.defs _ _).mono (fun r h c => ?_) (Cert.Reference8Ideal.Value.run (F := Ideal) m' g')
    have hF := fins_of_pre m c hpre
    obtain ⟨a0, a1, a2, a3, a4, a5, a6, a7⟩ := hargs c
    obtain ⟨h0, h1, h2, h3, h4⟩ := h c
    have hD : ∀ (s : Fin 8192) (q : Fin 2048), ∑ k : Fin 4096, DG m c (ix2 s k) * WM m c (ix2 q k)
        + ∑ k : Fin 4608, DP m c (ix2 s k) * WI m c (ix2 q k) = dh m c s q := fun s q => add_comm _ _
    refine ⟨h0.trans ?_, h1.trans ?_, h2.trans ?_, h3.trans ?_, h4⟩
    all_goals clear h h0 h1 h2 h3 h4 hpre hargs
    · funext j
      obtain ⟨p, q, rfl⟩ : ∃ (p : Fin 8192) (q : Fin 2048), j = ix2 p q := ⟨j 0, j 1, by funext a; match a with | 0 => rfl | 1 => rfl⟩
      pointwise [Cert.Reference8Ideal.Value.res_main_v62]
      rw [a0, a1, a2, a3, a4, a5, a6, a7]
      simp only [Fintype.sum_unique, hD]
      have hc : ∀ k, dh m c p k * sc m c k * Pg m c (ix2 0 k) = cot m c p k := fun k => mul_assoc _ _ _
      refine Eq.trans ?_ (congrArg (Do m c (ix2 p q) + ·) (norm_grad (row m c p) (cot m c p) q)).symm
      simp only [← hc]
      rfl
    · funext j
      obtain ⟨q, rfl⟩ : ∃ (q : Fin 2048), j = ix2 0 q := ⟨j 1, by funext a; match a with | 0 => exact Subsingleton.elim (α := Fin 1) _ _ | 1 => rfl⟩
      pointwise
      rw [a0, a1, a2, a3]
      exact Finset.sum_congr rfl fun s _ => hD s q
    · funext j
      obtain ⟨q, rfl⟩ : ∃ (q : Fin 2048), j = ix2 0 q := ⟨j 1, by funext a; match a with | 0 => exact Subsingleton.elim (α := Fin 1) _ _ | 1 => rfl⟩
      pointwise
      rw [a0, a1, a2, a3, a4, a7]
      refine Finset.sum_congr rfl fun s _ => ?_
      refine (congrArg (_ * ·) (hD s q)).trans ?_
      show row m c s q * rinv (row m c s) * Pg m c (ix2 0 q) * dh m c s q = dh m c s q * (row m c s q * rinv (row m c s)) * Pg m c (ix2 0 q)
      rw [mul_comm, mul_assoc (dh m c s q)]
    · funext j
      obtain ⟨q, rfl⟩ : ∃ (q : Fin 2048), j = ix2 0 q := ⟨j 1, by funext a; match a with | 0 => exact Subsingleton.elim (α := Fin 1) _ _ | 1 => rfl⟩
      pointwise
      rw [a0, a1, a2, a3, a4, a6]
      simp only [Fintype.sum_unique, hD]
      refine Finset.sum_congr rfl fun s _ => ?_
      show row m c s q * rinv (row m c s) * (dh m c s q * sc m c q) = dh m c s q * (row m c s q * rinv (row m c s)) * sc m c q
      rw [← mul_assoc, mul_comm (row m c s q * _)]

end Cert.Proof.Input

end
-- ==== Proof.Mul.In.lean ====
/- The gradient of the projections' weight: sixteen blocks of rows summed in a scratch are one product over all rows. -/
module

public import proofs.«01_k».proof.Defs
public import proofs.«01_k».proof.Proof.Mul.Common
public import Idealize.ShloMosaic.Lib.Pipeline.ReadBack
public import proofs.«01_k».proof.Proof.Gen.Kernel9.Frame
public import proofs.«01_k».proof.Proof.Gen.Kernel9Ideal.Frame
public import proofs.«01_k».proof.Proof.Gen.Reference9Ideal.Run

@[expose] public section

set_option maxRecDepth 16384

noncomputable section

namespace Cert.Proof.In

open Idealize.ShloMosaic Idealize.ShloMosaic.TcCoe Idealize.SL.Sem Cert.Kernel9Ideal Cert.Kernel9Ideal.Gen
open Cert.Proof.Mul Finset

/-- The windows' block indices at a point: the row block moves fastest, then the column block, then the row of blocks. -/
theorem idx : ∀ t : Fin cfg0.N, win0_0.index t = ![t.val % 16, t.val / 16 / 4] ∧ win0_1.index t = ![t.val % 16, t.val / 16 % 4]
    ∧ win0_2.index t = ![t.val / 16 / 4, t.val / 16 % 4] :=
  (by decide +kernel : ∀ t : Fin grid0.N, _)

variable (m : (ℓ : Loc nD τ sig) → Buf (Elt Ideal) ℓ) (c : Dev nD)

/-- The two operands. -/
abbrev X : (⟨2, ![8192, 2048]⟩ : Shape).Idx → EReal := m ((c : Thread nD τ).loc main_arg0)
abbrev Y : (⟨2, ![8192, 4608]⟩ : Shape).Idx → EReal := m ((c : Thread nD τ).loc main_arg1)

/-- What point `n` adds at an entry of its block. -/
abbrev term (n : ℕ) (j : S1024x1152.Idx) : EReal :=
  part 512 (X m c) (Y m c) (n % 16) (n / 16 / 4 * 1024 + (j 0).val) (n / 16 % 4 * 1152 + (j 1).val)

/-- A point's payload at an entry: what the scratch held, and the point's part of the product. -/
theorem pay2 (t : Fin cfg0.N) (v : Vec Ideal S1024x1152 .f32) (j : S1024x1152.Idx) :
    k0_pay2 v (iblk m c 0 t) (iblk m c 1 t) j = v j + term m c t.val j := by
  have hN : cfg0.N = 128 := N_0
  have ht := Nat.lt_of_lt_of_eq t.isLt hN
  have hp : (j 0).val < 1024 := (j 0).isLt
  have hq : (j 1).val < 1152 := (j 1).isLt
  pointwise [k0_pay2]
  rw [term, part_eq _ _ (by omega) (by omega) (by omega)]
  refine congrArg (_ + ·) (Finset.sum_congr rfl fun l _ => ?_)
  congr 1 <;> blk_ext [iblk, V, idx t]

/-- The first point of a block's run starts the scratch from zero. -/
theorem scr_A (t : Fin cfg0.N) (h0 : t.val % 16 = 0) (j : S1024x1152.Idx) :
    (outsAt0 m c t.val t.isLt).2 j = 0 + term m c t.val j := by
  rw [outsAt0_A m c t h0 (by omega)]
  frame_out
  rw [pay2]
  pointwise [k0_pay1]

/-- Every further point adds its part. -/
theorem scr_BC (t : Fin cfg0.N) (h0 : ¬t.val % 16 = 0) (j : S1024x1152.Idx) :
    (outsAt0 m c t.val t.isLt).2 j = (outsAt0 m c (t.val - 1) (Nat.lt_of_le_of_lt (Nat.sub_le _ _) t.isLt)).2 j + term m c t.val j := by
  by_cases h1 : t.val % 16 = 15
  · rw [outsAt0_C m c t h0 h1]
    frame_out
    simp only [read_unread_whole]
    rw [pay2]
  · rw [outsAt0_B m c t h0 h1]
    frame_out
    simp only [read_unread_whole]
    rw [pay2]

/-- The last point of a block's run leaves the block of the product. -/
theorem out_C (t : Fin cfg0.N) (h1 : t.val % 16 = 15) (p : Fin 1024) (q : Fin 1152) :
    (outsAt0 m c t.val t.isLt).1 (ix2 p q)
      = res (X m c) (Y m c) (ix2 ⟨t.val / 16 / 4 * 1024 + p.val, by have := Nat.lt_of_lt_of_eq t.isLt N_0; have := p.isLt; omega⟩
          ⟨t.val / 16 % 4 * 1152 + q.val, by have := q.isLt; omega⟩) := by
  have e : (outsAt0 m c t.val t.isLt).1 (ix2 p q) = (outsAt0 m c t.val t.isLt).2 (ix2 p q) := by
    rw [outsAt0_C m c t (by omega) h1]
    frame_out
    simp only [read_unread_whole]
    pointwise [k0_pay3]
  rw [e]
  exact run_eq (n := 16) (r := 512) (by decide) (by decide) (X m c) (Y m c) (· / 4) (· % 4) (fun n h => (outsAt0 m c n h).2) (scr_A m c) (scr_BC m c) t h1 p q _ _

/-- The kernel's result array is the product over all rows. -/
theorem final : (dats m 0 c).arrAt 2 cfg0.N = res (X m c) (Y m c) := by
  refine (dats m 0 c).arrAt_eq_of_covers 2 _ (by decide +kernel) fun t hf y => ?_
  have h1 : t.val % 16 = 15 := (flush0_2 t).mp hf
  blk_simp
  rw [after0_2]
  obtain ⟨p, q, rfl⟩ : ∃ (p : Fin 1024) (q : Fin 1152), y = ix2 p q := ⟨y 0, y 1, by funext a; match a with | 0 => rfl | 1 => rfl⟩
  rw [out_C m c t h1]
  blk_ext [idx t]

/-- The printed kernel runs, its arguments unchanged and every counter back at zero. -/
theorem frame_kernel : Cert.quiescent_Kernel9 (hKernel9 := Cert.Kernel9.Gen.facts) := fun m g _ =>
  Cert.Kernel9.Gen.frame (F := Bits) m g

/-- The same of its idealization. -/
theorem frame_ideal : Cert.quiescent_Kernel9Ideal (hKernel9Ideal := Cert.Kernel9Ideal.Gen.facts) := fun m g _ =>
  Cert.Kernel9Ideal.Gen.frame (F := Ideal) m g

/-- The same of the reference, which has no counters. -/
theorem frame_reference : Cert.quiescent_Reference9Ideal (hReference9Ideal := Cert.Reference9Ideal.Gen.facts) := fun m g _ =>
  (θ_run Cert.Reference9Ideal.defs _ _).mono (fun r h => ⟨fun c => (h c).2,
    Idealize.ShloMosaic.sem_eq_zero_of_no_sems (by decide) r.2⟩) (Cert.Reference9Ideal.Value.run (F := Ideal) m g)

/-- At extended reals the kernel's result is the derivative of the projections' product with respect to the weight. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => res (X m c) (Y m c), ?_, ?_⟩
  · refine (θ_run Cert.Kernel9Ideal.defs _ _).mono (fun r h c => ⟨((h c).1 2).trans (final m c), ?_, ?_⟩)
      (run_main (F := Ideal) m g)
    · exact ((h c).1 0).trans ((dats m 0 c).arrAt_in 0 rfl _)
    · exact ((h c).1 1).trans ((dats m 0 c).arrAt_in 1 rfl _)
  · refine (θ_run Cert.Reference9Ideal.defs _ _).mono (fun r h c => ⟨(h c).1.trans ?_, (h c).2⟩)
      (Cert.Reference9Ideal.Value.run (F := Ideal) m' g')
    rw [(hargs c).1, (hargs c).2]
    funext j
    pointwise
    exact Finset.sum_congr rfl fun k _ => mul_comm _ _

end Cert.Proof.In

end
-- ==== Proof.Norm.Head.lean ====
/- The residual, the norm after the layer and the loss, with their gradients: the entries of the kernel's payloads. -/
module

public import proofs.«01_k».proof.Defs
public import proofs.«01_k».proof.Proof.Norm.Common
public import Idealize.ShloMosaic.Lib.Pipeline.ReadBack
public import proofs.«01_k».proof.Proof.Gen.Kernel6Ideal.Frame

@[expose] public section

set_option maxRecDepth 16384

noncomputable section

namespace Cert.Proof.Head

open Idealize.ShloMosaic Idealize.ShloMosaic.TcCoe Idealize.SL.Sem Cert.Kernel6Ideal Cert.Kernel6Ideal.Gen
open Cert.Proof.Norm Finset

/-- The windows' block indices at a point: row blocks move with it, the rest stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

variable (m : (ℓ : Loc nD τ sig) → Buf (Elt Ideal) ℓ) (c : Dev nD)

/-- The arguments: the merged branches, the layer's input, the target, the output weight, the norm's gain, the modulation. -/
abbrev Mg : (⟨2, ![8192, 2048]⟩ : Shape).Idx → EReal := m ((c : Thread nD τ).loc main_arg0)
abbrev X : (⟨2, ![8192, 2048]⟩ : Shape).Idx → EReal := m ((c : Thread nD τ).loc main_arg1)
abbrev Tg : (⟨2, ![8192, 2048]⟩ : Shape).Idx → EReal := m ((c : Thread nD τ).loc main_arg2)
abbrev W : (⟨2, ![2048, 2048]⟩ : Shape).Idx → EReal := m ((c : Thread nD τ).loc main_arg3)
abbrev Pg : (⟨2, ![1, 2048]⟩ : Shape).Idx → EReal := m ((c : Thread nD τ).loc main_arg4)
abbrev Mo : (⟨2, ![1, 6144]⟩ : Shape).Idx → EReal := m ((c : Thread nD τ).loc main_arg5)

/-- The modulation's gate. -/
abbrev gt (k : Fin 2048) : EReal := Mo m c (ix2 0 ⟨4096 + k.val, by have := k.isLt; omega⟩)

/-- A row of the layer's product, its normalised form with the gain, and the row's error. -/
def ro (s : Fin 8192) : Fin 2048 → EReal := fun k => ∑ l : Fin 2048, Mg m c (ix2 s l) * W m c (ix2 l k)
def hat (s : Fin 8192) (k : Fin 2048) : EReal := ro m c s k * rinv (ro m c s)
def yy (s : Fin 8192) (k : Fin 2048) : EReal := hat m c s k * Pg m c (ix2 0 k)
def err (s : Fin 8192) (k : Fin 2048) : EReal := X m c (ix2 s k) + gt m c k * yy m c s k - Tg m c (ix2 s k)

/-- The loss's cotangent of a row, and what reaches the norm's result. -/
def dres (s : Fin 8192) (k : Fin 2048) : EReal := err m c s k * Ideal.ofBits .f32 973078528#32
def dy (s : Fin 8192) (k : Fin 2048) : EReal := dres m c s k * gt m c k

/-- The gradient of the layer's product. -/
def dro (s : Fin 8192) (k : Fin 2048) : EReal :=
  rinv (ro m c s) * (dy m c s k * Pg m c (ix2 0 k) - hat m c s k
    * Ideal.div (∑ j, dy m c s j * Pg m c (ix2 0 j) * hat m c s j) (Ideal.ofBits .f32 1157627904#32))

/-- What the payloads read of 128 rows, given the rows they are. -/
structure Half (s : Fin 128 → Fin 8192) (v3 v4 : Vec Ideal S1x2048 .f32) (v5 : Vec Ideal S128x2048 .bf16)
    (v6 : Vec Ideal S2048x2048 .bf16) (v20 v24 : Vec Ideal S128x2048 .f32) : Prop where
  pg : ∀ k : Fin 2048, v3 (ix2 0 k) = Pg m c (ix2 0 k)
  gt : ∀ k : Fin 2048, v4 (ix2 0 k) = gt m c k
  mg : ∀ (p : Fin 128) (k : Fin 2048), v5 (ix2 p k) = Mg m c (ix2 (s p) k)
  w : ∀ l k : Fin 2048, v6 (ix2 l k) = W m c (ix2 l k)
  x : ∀ (p : Fin 128) (k : Fin 2048), v20 (ix2 p k) = X m c (ix2 (s p) k)
  tg : ∀ (p : Fin 128) (k : Fin 2048), v24 (ix2 p k) = Tg m c (ix2 (s p) k)

section

variable {m c} {s : Fin 128 → Fin 8192} {v3 v4 : Vec Ideal S1x2048 .f32} {v5 : Vec Ideal S128x2048 .bf16}
  {v6 : Vec Ideal S2048x2048 .bf16} {v20 v24 : Vec Ideal S128x2048 .f32} (H : Half m c s v3 v4 v5 v6 v20 v24)

include H

/-- The first half's payloads at an entry. -/
theorem a_ro (p : Fin 128) (q : Fin 2048) : k0_pay8 v5 v6 (ix2 p q) = ro m c (s p) q := by
  pointwise [k0_pay8]
  simp only [H.mg, H.w]
  rfl

theorem a_inv (p : Fin 128) (q : Fin 1) : k0_pay9 v5 v6 (ix2 p q) = rinv (ro m c (s p)) := by
  pointwise [k0_pay9]
  simp only [a_ro H]
  rfl

theorem a_hat (p : Fin 128) (q : Fin 2048) : k0_pay10 v5 v6 (ix2 p q) = hat m c (s p) q := by
  pointwise [k0_pay10]
  rw [a_ro H, a_inv H]
  rfl

theorem a_y (p : Fin 128) (q : Fin 2048) : k0_pay11 v3 v5 v6 (ix2 p q) = yy m c (s p) q := by
  pointwise [k0_pay11]
  rw [a_hat H, H.pg]
  rfl

theorem a_err (p : Fin 128) (q : Fin 2048) : k0_pay12 v3 v4 v5 v6 v20 v24 (ix2 p q) = err m c (s p) q := by
  pointwise [k0_pay12]
  rw [a_y H, H.gt, H.x, H.tg]
  rfl

theorem a_dres (p : Fin 128) (q : Fin 2048) : k0_pay14 (k0_pay12 v3 v4 v5 v6 v20 v24) (ix2 p q) = dres m c (s p) q := by
  pointwise [k0_pay14]
  rw [a_err H]
  rfl

theorem a_dy (p : Fin 128) (q : Fin 2048) : k0_pay16 v4 (k0_pay12 v3 v4 v5 v6 v20 v24) (ix2 p q) = dy m c (s p) q := by
  pointwise [k0_pay16]
  rw [a_dres H, H.gt]
  rfl

/-- The second half's, which are the same. -/
theorem b_ro (p : Fin 128) (q : Fin 2048) : k0_pay19 v5 v6 (ix2 p q) = ro m c (s p) q := by
  pointwise [k0_pay19]
  simp only [H.mg, H.w]
  rfl

theorem b_inv (p : Fin 128) (q : Fin 1) : k0_pay20 v5 v6 (ix2 p q) = rinv (ro m c (s p)) := by
  pointwise [k0_pay20]
  simp only [b_ro H]
  rfl

theorem b_hat (p : Fin 128) (q : Fin 2048) : k0_pay21 v5 v6 (ix2 p q) = hat m c (s p) q := by
  pointwise [k0_pay21]
  rw [b_ro H, b_inv H]
  rfl

theorem b_y (p : Fin 128) (q : Fin 2048) : k0_pay22 v3 v5 v6 (ix2 p q) = yy m c (s p) q := by
  pointwise [k0_pay22]
  rw [b_hat H, H.pg]
  rfl

theorem b_err (p : Fin 128) (q : Fin 2048) : k0_pay23 v3 v4 v5 v6 v20 v24 (ix2 p q) = err m c (s p) q := by
  pointwise [k0_pay23]
  rw [b_y H, H.gt, H.x, H.tg]
  rfl

theorem b_dres (p : Fin 128) (q : Fin 2048) : k0_pay25 v3 v4 v5 v6 v20 v24 (ix2 p q) = dres m c (s p) q := by
  pointwise [k0_pay25]
  rw [b_err H]
  rfl

theorem b_dy (p : Fin 128) (q : Fin 2048) : k0_pay1 v4 (k0_pay25 v3 v4 v5 v6 v20 v24) (ix2 p q) = dy m c (s p) q := by
  pointwise [k0_pay1]
  rw [b_dres H, H.gt]
  rfl

/-- What 128 rows add to the squared error, to the gate's gradient and to the gain's. -/
theorem a_loss (v : Vec Ideal S1x2048 .f32) (q : Fin 2048) :
    k0_pay13 v3 v4 v5 v6 v20 v24 v (ix2 0 q) = v (ix2 0 q) + ∑ p : Fin 128, err m c (s p) q * err m c (s p) q := by
  pointwise [k0_pay13]
  simp only [a_err H]

theorem b_loss (v : Vec Ideal S1x2048 .f32) (q : Fin 2048) :
    k0_pay24 v3 v4 v5 v6 v20 v24 v (ix2 0 q) = v (ix2 0 q) + ∑ p : Fin 128, err m c (s p) q * err m c (s p) q := by
  pointwise [k0_pay24]
  simp only [b_err H]

theorem a_gate (v : Vec Ideal S1x2048 .f32) (q : Fin 2048) :
    k0_pay15 (k0_pay11 v3 v5 v6) (k0_pay12 v3 v4 v5 v6 v20 v24) v (ix2 0 q)
      = v (ix2 0 q) + ∑ p : Fin 128, dres m c (s p) q * yy m c (s p) q := by
  pointwise [k0_pay15]
  simp only [a_dres H, a_y H]

theorem b_gate (v : Vec Ideal S1x2048 .f32) (q : Fin 2048) :
    k0_pay26 v3 v4 v5 v6 v20 v24 v (ix2 0 q) = v (ix2 0 q) + ∑ p : Fin 128, dres m c (s p) q * yy m c (s p) q := by
  pointwise [k0_pay26]
  simp only [b_dres H, b_y H]

theorem a_gain (v : Vec Ideal S1x2048 .f32) (q : Fin 2048) :
    k0_pay17 v4 (k0_pay10 v5 v6) (k0_pay12 v3 v4 v5 v6 v20 v24) v (ix2 0 q)
      = v (ix2 0 q) + ∑ p : Fin 128, dy m c (s p) q * hat m c (s p) q := by
  pointwise [k0_pay17]
  simp only [a_dy H, a_hat H]

theorem b_gain (v : Vec Ideal S1x2048 .f32) (q : Fin 2048) :
    k0_pay2 v4 (k0_pay21 v5 v6) (k0_pay25 v3 v4 v5 v6 v20 v24) v (ix2 0 q)
      = v (ix2 0 q) + ∑ p : Fin 128, dy m c (s p) q * hat m c (s p) q := by
  pointwise [k0_pay2]
  simp only [b_dy H, b_hat H]

/-- The product's gradient at an entry of 128 rows. -/
theorem a_do (p : Fin 128) (q : Fin 2048) :
    k0_pay18 v3 v4 (k0_pay9 v5 v6) (k0_pay10 v5 v6) (k0_pay12 v3 v4 v5 v6 v20 v24) (ix2 p q) = dro m c (s p) q := by
  pointwise [k0_pay18]
  simp only [a_dy H, a_hat H, a_inv H, H.pg]
  rfl

theorem b_do (p : Fin 128) (q : Fin 2048) :
    k0_pay3 v3 v4 (k0_pay20 v5 v6) (k0_pay21 v5 v6) (k0_pay25 v3 v4 v5 v6 v20 v24) (ix2 p q) = dro m c (s p) q := by
  pointwise [k0_pay3]
  simp only [b_dy H, b_hat H, b_inv H, H.pg]
  rfl

end

/-- The two stores of 128 rows read back at an entry. -/
theorem two {e : EltTy} (w1 w0 : S128x2048.Idx → Elt Ideal e) (p : Fin 256) (q : Fin 2048) (v : Elt Ideal e)
    (h1 : ∀ l : Fin 128, p.val = 128 + l.val → w1 (ix2 l q) = v) (h0 : ∀ l : Fin 128, p.val = l.val → w0 (ix2 l q) = v) :
    View.canon (Val := Elt Ideal) (s := S256x2048) (e := e)
      [⟨Rect.unit ![128, 0] ![128, 2048] inb_S256x2048_S128x2048_128_0, w1⟩,
        ⟨Rect.unit ![0, 0] ![128, 2048] inb_S256x2048_S128x2048_0_0, w0⟩] (ix2 p q) = v := by
  refine View.canon_eq_of_allAt _ _ _ (View.cover_of_tiled_head _ _ _ rfl _) ?_
  refine View.allAt_cons_unit _ _ _ _ _ (fun x hx => ?_) (View.allAt_cons_unit _ _ _ _ _ (fun x hx => ?_) (View.allAt_nil _ _))
  · have e0 := hx 0
    have e1 := hx 1
    refine Eq.trans (congrArg w1 ?_) (h1 (x 0) e0)
    funext a
    match a with
    | 0 => rfl
    | 1 => exact Fin.ext (by simpa using e1.symm)
  · have e0 := hx 0
    have e1 := hx 1
    refine Eq.trans (congrArg w0 ?_) (h0 (x 0) (by simpa using e0))
    funext a
    match a with
    | 0 => rfl
    | 1 => exact Fin.ext (by simpa using e1.symm)

/-- The row of the arrays that a half's row is. -/
abbrev lo (t : Fin cfg0.N) (p : Fin 128) : Fin 8192 :=
  ⟨t.val * 256 + p.val, by have := Nat.lt_of_lt_of_eq t.isLt N_0; have := p.isLt; omega⟩
abbrev hi (t : Fin cfg0.N) (p : Fin 128) : Fin 8192 :=
  ⟨t.val * 256 + (128 + p.val), by have := Nat.lt_of_lt_of_eq t.isLt N_0; have := p.isLt; omega⟩

/-- A block's entries of the arguments. -/
theorem blk (t : Fin cfg0.N) (p : Fin 256) (q : Fin 2048) :
    iblk m c 0 t (ix2 p q) = Mg m c (ix2 ⟨t.val * 256 + p.val, by have := Nat.lt_of_lt_of_eq t.isLt N_0; have := p.isLt; omega⟩ q)
      ∧ iblk m c 1 t (ix2 p q) = X m c (ix2 ⟨t.val * 256 + p.val, by have := Nat.lt_of_lt_of_eq t.isLt N_0; have := p.isLt; omega⟩ q)
      ∧ iblk m c 2 t (ix2 p q) = Tg m c (ix2 ⟨t.val * 256 + p.val, by have := Nat.lt_of_lt_of_eq t.isLt N_0; have := p.isLt; omega⟩ q) := by
  refine ⟨?_, ?_, ?_⟩ <;> blk_ext [iblk, V, idx t]

theorem gate_blk (t : Fin cfg0.N) (k : Fin 2048) :
    View.ld (iblk m c 5 t) (Rect.unit ![0, 4096] ![1, 2048] inb_S1x6144_S1x2048_0_4096) (ix2 0 k) = gt m c k := by
  refine (View.ld_unit_apply_of _ _ _ _ _ (ix2 0 ⟨4096 + k.val, by have := k.isLt; omega⟩) fun a => ?_).trans ?_
  · match a with
    | 0 => rfl
    | 1 => rfl
  · blk_ext [iblk, V, idx t]

/-- What a point's first 128 rows read. -/
theorem half_lo (t : Fin cfg0.N) : Half m c (lo t) (iblk m c 4 t)
    (View.ld (iblk m c 5 t) (Rect.unit ![0, 4096] ![1, 2048] inb_S1x6144_S1x2048_0_4096))
    (View.ld (iblk m c 0 t) (Rect.unit ![0, 0] ![128, 2048] inb_S256x2048_S128x2048_0_0)) (iblk m c 3 t)
    (View.ld (iblk m c 1 t) (Rect.unit ![0, 0] ![128, 2048] inb_S256x2048_S128x2048_0_0))
    (View.ld (iblk m c 2 t) (Rect.unit ![0, 0] ![128, 2048] inb_S256x2048_S128x2048_0_0)) := by
  have e : ∀ {φ : EltTy} (Z : S256x2048.Idx → Elt Ideal φ) (p : Fin 128) (k : Fin 2048),
      View.ld (Val := Elt Ideal) (e' := φ) Z (Rect.unit ![0, 0] ![128, 2048] inb_S256x2048_S128x2048_0_0) (ix2 p k)
        = Z (ix2 ⟨p.val, by have := p.isLt; omega⟩ k) := @fun φ Z p k =>
    View.ld_unit_apply_of _ _ _ _ _ (ix2 ⟨p.val, by have := p.isLt; omega⟩ k) fun a => by
      match a with
      | 0 => exact (Nat.zero_add _).symm
      | 1 => exact (Nat.zero_add _).symm
  refine ⟨fun k => ?_, fun k => ?_, fun p k => (e _ p k).trans (blk m c t _ k).1, fun l k => ?_,
    fun p k => (e _ p k).trans (blk m c t _ k).2.1, fun p k => (e _ p k).trans (blk m c t _ k).2.2⟩
  · blk_ext [iblk, V, idx t]
  · exact gate_blk m c t k
  · blk_ext [iblk, V, idx t]

/-- What its other 128 rows read. -/
theorem half_hi (t : Fin cfg0.N) : Half m c (hi t) (iblk m c 4 t)
    (View.ld (iblk m c 5 t) (Rect.unit ![0, 4096] ![1, 2048] inb_S1x6144_S1x2048_0_4096))
    (View.ld (iblk m c 0 t) (Rect.unit ![128, 0] ![128, 2048] inb_S256x2048_S128x2048_128_0)) (iblk m c 3 t)
    (View.ld (iblk m c 1 t) (Rect.unit ![128, 0] ![128, 2048] inb_S256x2048_S128x2048_128_0))
    (View.ld (iblk m c 2 t) (Rect.unit ![128, 0] ![128, 2048] inb_S256x2048_S128x2048_128_0)) := by
  have e : ∀ {φ : EltTy} (Z : S256x2048.Idx → Elt Ideal φ) (p : Fin 128) (k : Fin 2048),
      View.ld (Val := Elt Ideal) (e' := φ) Z (Rect.unit ![128, 0] ![128, 2048] inb_S256x2048_S128x2048_128_0) (ix2 p k)
        = Z (ix2 ⟨128 + p.val, by have := p.isLt; omega⟩ k) := @fun φ Z p k =>
    View.ld_unit_apply_of _ _ _ _ _ (ix2 ⟨128 + p.val, by have := p.isLt; omega⟩ k) fun a => by
      match a with
      | 0 => rfl
      | 1 => exact (Nat.zero_add _).symm
  refine ⟨fun k => ?_, fun k => ?_, fun p k => (e _ p k).trans (blk m c t _ k).1, fun l k => ?_,
    fun p k => (e _ p k).trans (blk m c t _ k).2.1, fun p k => (e _ p k).trans (blk m c t _ k).2.2⟩
  · blk_ext [iblk, V, idx t]
  · exact gate_blk m c t k
  · blk_ext [iblk, V, idx t]

end Cert.Proof.Head

end
-- ==== Proof.Norm.HeadRun.lean ====
/- The residual, the norm after the layer and the loss: the kernel's arrays after its grid. -/
module

public import proofs.«01_k».proof.Proof.Norm.Head

@[expose] public section

set_option maxRecDepth 16384

noncomputable section

namespace Cert.Proof.Head

open Idealize.ShloMosaic Idealize.ShloMosaic.TcCoe Idealize.SL.Sem Cert.Kernel6Ideal Cert.Kernel6Ideal.Gen
open Cert.Proof.Norm Finset

variable (m : (ℓ : Loc nD τ sig) → Buf (Elt Ideal) ℓ) (c : Dev nD)

/-- The row of the arrays that a block's row is. -/
abbrev at' (t : Fin cfg0.N) (p : Fin 256) : Fin 8192 :=
  ⟨t.val * 256 + p.val, by have := Nat.lt_of_lt_of_eq t.isLt N_0; have := p.isLt; omega⟩

theorem at_hi (t : Fin cfg0.N) {p : Fin 256} {l : Fin 128} (h : p.val = 128 + l.val) : hi t l = at' t p :=
  Fin.ext (by simp only; omega)

theorem at_lo (t : Fin cfg0.N) {p : Fin 256} {l : Fin 128} (h : p.val = l.val) : lo t l = at' t p :=
  Fin.ext (by simp only; omega)

/-- A block of the loss's cotangent. -/
theorem o_dres (t : Fin cfg0.N) (p : Fin 256) (q : Fin 2048) : (outsAt0 m c t.val t.isLt).1 (ix2 p q) = dres m c (at' t p) q := by
  by_cases h0 : t.val % 32 = 0
  · rw [outsAt0_A m c t h0 (by omega)]
    frame_out
    exact two _ _ p q _ (fun l h => at_hi t h ▸ b_dres (half_hi m c t) l q) fun l h => at_lo t h ▸ a_dres (half_lo m c t) l q
  · by_cases h1 : t.val % 32 = 31
    · rw [outsAt0_C m c t h0 h1]
      frame_out
      exact two _ _ p q _ (fun l h => at_hi t h ▸ b_dres (half_hi m c t) l q) fun l h => at_lo t h ▸ a_dres (half_lo m c t) l q
    · rw [outsAt0_B m c t h0 h1]
      frame_out
      exact two _ _ p q _ (fun l h => at_hi t h ▸ b_dres (half_hi m c t) l q) fun l h => at_lo t h ▸ a_dres (half_lo m c t) l q

/-- A block of the product's gradient. -/
theorem o_dro (t : Fin cfg0.N) (p : Fin 256) (q : Fin 2048) : (outsAt0 m c t.val t.isLt).2.1 (ix2 p q) = dro m c (at' t p) q := by
  by_cases h0 : t.val % 32 = 0
  · rw [outsAt0_A m c t h0 (by omega)]
    frame_out
    exact two _ _ p q _ (fun l h => at_hi t h ▸ b_do (half_hi m c t) l q) fun l h => at_lo t h ▸ a_do (half_lo m c t) l q
  · by_cases h1 : t.val % 32 = 31
    · rw [outsAt0_C m c t h0 h1]
      frame_out
      exact two _ _ p q _ (fun l h => at_hi t h ▸ b_do (half_hi m c t) l q) fun l h => at_lo t h ▸ a_do (half_lo m c t) l q
    · rw [outsAt0_B m c t h0 h1]
      frame_out
      exact two _ _ p q _ (fun l h => at_hi t h ▸ b_do (half_hi m c t) l q) fun l h => at_lo t h ▸ a_do (half_lo m c t) l q

/-- The two halves' sums are the block's. -/
theorem halves (g : Fin 8192 → EReal) (t : Fin cfg0.N) (v : EReal) :
    v + ∑ p : Fin 128, g (lo t p) + ∑ p : Fin 128, g (hi t p) = v + ∑ l : Fin 256, g (at' t l) := by
  rw [add_assoc]
  exact congrArg (v + ·) (Fin.sum_univ_add (a := 128) (b := 128) fun l => g (at' t l)).symm

/-- The rows' terms of the three accumulators. -/
abbrev uGate (q : Fin 2048) (s : Fin 8192) : EReal := dres m c s q * yy m c s q
abbrev uGain (q : Fin 2048) (s : Fin 8192) : EReal := dy m c s q * hat m c s q
abbrev uLoss (q : Fin 2048) (s : Fin 8192) : EReal := err m c s q * err m c s q

/-- The first point leaves its own block's terms. -/
theorem acc_A (t : Fin cfg0.N) (h0 : t.val % 32 = 0) (q : Fin 2048) :
    (outsAt0 m c t.val t.isLt).2.2.2.1 (ix2 0 q) = ∑ l : Fin 256, uGate m c q (at' t l)
      ∧ (outsAt0 m c t.val t.isLt).2.2.2.2.1 (ix2 0 q) = ∑ l : Fin 256, uGain m c q (at' t l)
      ∧ (outsAt0 m c t.val t.isLt).2.2.2.2.2 (ix2 0 q) = ∑ l : Fin 256, uLoss m c q (at' t l) := by
  rw [outsAt0_A m c t h0 (by omega)]
  refine ⟨?_, ?_, ?_⟩
  · frame_out
    refine ((b_gate (half_hi m c t) _ q).trans (congrArg (· + _) (a_gate (half_lo m c t) _ q))).trans ((halves (uGate m c q) t _).trans ?_)
    pointwise [k0_pay6]
  · frame_out
    refine ((b_gain (half_hi m c t) _ q).trans (congrArg (· + _) (a_gain (half_lo m c t) _ q))).trans ((halves (uGain m c q) t _).trans ?_)
    pointwise [k0_pay7]
  · frame_out
    refine ((b_loss (half_hi m c t) _ q).trans (congrArg (· + _) (a_loss (half_lo m c t) _ q))).trans ((halves (uLoss m c q) t _).trans ?_)
    pointwise [k0_pay5]

/-- Every further point adds its block's. -/
theorem acc_BC (t : Fin cfg0.N) (h0 : ¬t.val % 32 = 0) (q : Fin 2048) :
    (outsAt0 m c t.val t.isLt).2.2.2.1 (ix2 0 q)
        = (outsAt0 m c (t.val - 1) (Nat.lt_of_le_of_lt (Nat.sub_le _ _) t.isLt)).2.2.2.1 (ix2 0 q) + ∑ l : Fin 256, uGate m c q (at' t l)
      ∧ (outsAt0 m c t.val t.isLt).2.2.2.2.1 (ix2 0 q)
        = (outsAt0 m c (t.val - 1) (Nat.lt_of_le_of_lt (Nat.sub_le _ _) t.isLt)).2.2.2.2.1 (ix2 0 q) + ∑ l : Fin 256, uGain m c q (at' t l)
      ∧ (outsAt0 m c t.val t.isLt).2.2.2.2.2 (ix2 0 q)
        = (outsAt0 m c (t.val - 1) (Nat.lt_of_le_of_lt (Nat.sub_le _ _) t.isLt)).2.2.2.2.2 (ix2 0 q) + ∑ l : Fin 256, uLoss m c q (at' t l) := by
  by_cases h1 : t.val % 32 = 31
  · rw [outsAt0_C m c t h0 h1]
    refine ⟨?_, ?_, ?_⟩
    · frame_out
      exact ((b_gate (half_hi m c t) _ q).trans (congrArg (· + _) (a_gate (half_lo m c t) _ q))).trans ((halves (uGate m c q) t _))
    · frame_out
      exact ((b_gain (half_hi m c t) _ q).trans (congrArg (· + _) (a_gain (half_lo m c t) _ q))).trans ((halves (uGain m c q) t _))
    · frame_out
      simp only [read_unread_whole]
      exact ((b_loss (half_hi m c t) _ q).trans (congrArg (· + _) (a_loss (half_lo m c t) _ q))).trans ((halves (uLoss m c q) t _))
  · rw [outsAt0_B m c t h0 h1]
    refine ⟨?_, ?_, ?_⟩
    · frame_out
      exact ((b_gate (half_hi m c t) _ q).trans (congrArg (· + _) (a_gate (half_lo m c t) _ q))).trans ((halves (uGate m c q) t _))
    · frame_out
      exact ((b_gain (half_hi m c t) _ q).trans (congrArg (· + _) (a_gain (half_lo m c t) _ q))).trans ((halves (uGain m c q) t _))
    · frame_out
      simp only [read_unread_whole]
      exact ((b_loss (half_hi m c t) _ q).trans (congrArg (· + _) (a_loss (half_lo m c t) _ q))).trans ((halves (uLoss m c q) t _))

/-- The last point's loss is the scaled sum of the accumulated squares. -/
theorem loss_C (t : Fin cfg0.N) (h1 : t.val % 32 = 31) :
    (outsAt0 m c t.val t.isLt).2.2.1 (ix2 0 0)
      = Ideal.ofBits .f32 964689920#32 * ∑ q : Fin 2048, (outsAt0 m c t.val t.isLt).2.2.2.2.2 (ix2 0 q) := by
  rw [outsAt0_C m c t (by omega) h1]
  frame_out
  pointwise [k0_pay4]

/-- The accumulators' entries after a point. -/
def vGate (q : Fin 2048) (n : ℕ) (h : n < 32) : EReal := (outsAt0 m c n (h.trans_eq N_0.symm)).2.2.2.1 (ix2 0 q)
def vGain (q : Fin 2048) (n : ℕ) (h : n < 32) : EReal := (outsAt0 m c n (h.trans_eq N_0.symm)).2.2.2.2.1 (ix2 0 q)
def vLoss (q : Fin 2048) (n : ℕ) (h : n < 32) : EReal := (outsAt0 m c n (h.trans_eq N_0.symm)).2.2.2.2.2 (ix2 0 q)

/-- After the last point the accumulators are the sums over all rows. -/
theorem last_gate (q : Fin 2048) : vGate m c q 31 (by omega) = ∑ s, uGate m c q s :=
  run_sum (uGate m c q) (vGate m c q) (acc_A m c ⟨0, Nat.lt_of_lt_of_eq (by omega) N_0.symm⟩ rfl q).1 fun n h hn =>
    (acc_BC m c ⟨n, h.trans_eq N_0.symm⟩ (by simp only; omega) q).1

theorem last_gain (q : Fin 2048) : vGain m c q 31 (by omega) = ∑ s, uGain m c q s :=
  run_sum (uGain m c q) (vGain m c q) (acc_A m c ⟨0, Nat.lt_of_lt_of_eq (by omega) N_0.symm⟩ rfl q).2.1 fun n h hn =>
    (acc_BC m c ⟨n, h.trans_eq N_0.symm⟩ (by simp only; omega) q).2.1

theorem last_loss (q : Fin 2048) : vLoss m c q 31 (by omega) = ∑ s, uLoss m c q s :=
  run_sum (uLoss m c q) (vLoss m c q) (acc_A m c ⟨0, Nat.lt_of_lt_of_eq (by omega) N_0.symm⟩ rfl q).2.2 fun n h hn =>
    (acc_BC m c ⟨n, h.trans_eq N_0.symm⟩ (by simp only; omega) q).2.2

theorem acc (t : Fin cfg0.N) (ht : t.val % 32 = 31) (q : Fin 2048) :
    (outsAt0 m c t.val t.isLt).2.2.2.1 (ix2 0 q) = ∑ s, uGate m c q s
      ∧ (outsAt0 m c t.val t.isLt).2.2.2.2.1 (ix2 0 q) = ∑ s, uGain m c q s
      ∧ (outsAt0 m c t.val t.isLt).2.2.2.2.2 (ix2 0 q) = ∑ s, uLoss m c q s := by
  have h32 := Nat.lt_of_lt_of_eq t.isLt N_0
  have h31 : t.val = 31 := by omega
  rw [← last_gate, ← last_gain, ← last_loss]
  have e : ∀ n (h : n < 32), n = 31 → vGate m c q n h = vGate m c q 31 (by omega) ∧ vGain m c q n h = vGain m c q 31 (by omega)
      ∧ vLoss m c q n h = vLoss m c q 31 (by omega) := by
    intro n h hn
    subst hn
    exact ⟨rfl, rfl, rfl⟩
  exact e t.val h32 h31

/-- The kernel's results. -/
def rDres : (⟨2, ![8192, 2048]⟩ : Shape).Idx → EReal := fun j => dres m c (j 0) (j 1)
def rDro : (⟨2, ![8192, 2048]⟩ : Shape).Idx → EReal := fun j => dro m c (j 0) (j 1)
def rLoss : (⟨2, ![1, 1]⟩ : Shape).Idx → EReal := fun _ => Ideal.ofBits .f32 964689920#32 * ∑ q : Fin 2048, ∑ s, uLoss m c q s
def rGate : (⟨2, ![1, 2048]⟩ : Shape).Idx → EReal := fun j => ∑ s, uGate m c (j 1) s
def rGain : (⟨2, ![1, 2048]⟩ : Shape).Idx → EReal := fun j => ∑ s, uGain m c (j 1) s

theorem final_dres : (dats m 0 c).arrAt 6 cfg0.N = rDres m c := by
  refine (dats m 0 c).arrAt_eq_of_covers 6 _ (by decide +kernel) fun t hf y => ?_
  blk_simp
  rw [after0_6]
  obtain ⟨p, q, rfl⟩ : ∃ (p : Fin 256) (q : Fin 2048), y = ix2 p q := ⟨y 0, y 1, by funext a; match a with | 0 => rfl | 1 => rfl⟩
  rw [o_dres m c t]
  show rDres m c (ix2 (at' t p) q) = _
  blk_ext [idx t]

theorem final_dro : (dats m 0 c).arrAt 7 cfg0.N = rDro m c := by
  refine (dats m 0 c).arrAt_eq_of_covers 7 _ (by decide +kernel) fun t hf y => ?_
  blk_simp
  rw [after0_7]
  obtain ⟨p, q, rfl⟩ : ∃ (p : Fin 256) (q : Fin 2048), y = ix2 p q := ⟨y 0, y 1, by funext a; match a with | 0 => rfl | 1 => rfl⟩
  rw [o_dro m c t]
  show rDro m c (ix2 (at' t p) q) = _
  blk_ext [idx t]

theorem final_loss : (dats m 0 c).arrAt 8 cfg0.N = rLoss m c := by
  refine (dats m 0 c).arrAt_eq_of_covers 8 _ (by decide +kernel) fun t hf y => ?_
  have h1 : t.val % 32 = 31 := (flush0_8 t).mp hf
  blk_simp
  rw [after0_8]
  obtain rfl : y = ix2 0 0 := by
    funext a
    match a with
    | 0 => exact Subsingleton.elim (α := Fin 1) _ _
    | 1 => exact Subsingleton.elim (α := Fin 1) _ _
  rw [loss_C m c t h1]
  simp only [(acc m c t h1 _).2.2]
  rfl

theorem final_gate : (dats m 0 c).arrAt 9 cfg0.N = rGate m c := by
  refine (dats m 0 c).arrAt_eq_of_covers 9 _ (by decide +kernel) fun t hf y => ?_
  have h1 : t.val % 32 = 31 := (flush0_9 t).mp hf
  blk_simp
  rw [after0_9]
  obtain ⟨q, rfl⟩ : ∃ (q : Fin 2048), y = ix2 0 q := ⟨y 1, by funext a; match a with | 0 => exact Subsingleton.elim (α := Fin 1) _ _ | 1 => rfl⟩
  rw [(acc m c t h1 q).1]
  show rGate m c (ix2 0 q) = _
  blk_ext [idx t]

theorem final_gain : (dats m 0 c).arrAt 10 cfg0.N = rGain m c := by
  refine (dats m 0 c).arrAt_eq_of_covers 10 _ (by decide +kernel) fun t hf y => ?_
  have h1 : t.val % 32 = 31 := (flush0_10 t).mp hf
  blk_simp
  rw [after0_10]
  obtain ⟨q, rfl⟩ : ∃ (q : Fin 2048), y = ix2 0 q := ⟨y 1, by funext a; match a with | 0 => exact Subsingleton.elim (α := Fin 1) _ _ | 1 => rfl⟩
  rw [(acc m c t h1 q).2.1]
  show rGain m c (ix2 0 q) = _
  blk_ext [idx t]

end Cert.Proof.Head

end
-- ==== Proof.Norm.HeadVal.lean ====
/- The residual, the norm after the layer and the loss: the kernel's results are the loss and its derivatives. -/
module

public import proofs.«01_k».proof.Defs
public import proofs.«01_k».proof.Proof.Norm.HeadRun
public import proofs.«01_k».proof.Proof.Val.Algebraic
public import proofs.«01_k».proof.Proof.Gen.Kernel6.Frame
public import proofs.«01_k».proof.Proof.Gen.Reference6Ideal.Run

@[expose] public section

set_option maxRecDepth 16384

noncomputable section

namespace Cert.Proof.Head

open Idealize.ShloMosaic Idealize.ShloMosaic.TcCoe Idealize.SL.Sem Cert.Kernel6Ideal Cert.Kernel6Ideal.Gen
open Cert.Proof.Norm Finset

/-- The constants: a half, two, the reciprocals of the row's length and of its double. -/
theorem c_half : Ideal.ofBits .f32 1056964608#32 = ((1 / 2 : ℝ) : EReal) := by
  simp [Ideal.ofBits, Ideal.ieee, -EReal.coe_mul]
  norm_num

theorem c_two : Ideal.ofBits .f32 1073741824#32 = ((2 : ℝ) : EReal) := by
  simp [Ideal.ofBits, Ideal.ieee, -EReal.coe_mul]
  norm_num

theorem c_len : Ideal.ofBits .f32 973078528#32 = ((1 / 2048 : ℝ) : EReal) := by
  simp [Ideal.ofBits, Ideal.ieee, -EReal.coe_mul]
  norm_num

theorem c_two_len : Ideal.ofBits .f32 964689920#32 = ((1 / 4096 : ℝ) : EReal) := by
  simp [Ideal.ofBits, Ideal.ieee, -EReal.coe_mul]
  norm_num

/-- Half the mean of squares has the error over the length for derivative. -/
theorem half_mean (e : EReal) : Ideal.div (Ideal.ofBits .f32 1056964608#32) (Ideal.ofBits .f32 1157627904#32)
    * (Ideal.ofBits .f32 1073741824#32 * e) = e * Ideal.ofBits .f32 973078528#32 := by
  rw [div_len, c_half, c_two, c_len, ← mul_assoc, mul_comm e]
  simp only [← EReal.coe_mul]
  congr 2
  norm_num

/-- Half the sum of the rows' means of squares is the scaled sum of all squares. -/
theorem half_means (e : Fin 8192 → Fin 2048 → EReal) :
    Ideal.ofBits .f32 1056964608#32 * ∑ s, Ideal.div (∑ q, e s q * e s q) (Ideal.ofBits .f32 1157627904#32)
      = Ideal.ofBits .f32 964689920#32 * ∑ q, ∑ s, e s q * e s q := by
  simp only [div_len, c_half, c_two_len]
  rw [← sum_mul_pos _ _ (by norm_num), Finset.sum_comm, mul_comm _ (((2048 : ℝ)⁻¹ : ℝ) : EReal), ← mul_assoc, ← EReal.coe_mul]
  congr 2
  norm_num

variable (m : (ℓ : Loc nD τ sig) → Buf (Elt Ideal) ℓ) (c : Dev nD)

/-- The printed kernel runs, its arguments unchanged and every counter back at zero. -/
theorem frame_kernel : Cert.quiescent_Kernel6 (hKernel6 := Cert.Kernel6.Gen.facts) := fun m g _ =>
  Cert.Kernel6.Gen.frame (F := Bits) m g

/-- The same of its idealization. -/
theorem frame_ideal : Cert.quiescent_Kernel6Ideal (hKernel6Ideal := Cert.Kernel6Ideal.Gen.facts) := fun m g _ =>
  Cert.Kernel6Ideal.Gen.frame (F := Ideal) m g

/-- The same of the reference, which has no counters. -/
theorem frame_reference : Cert.quiescent_Reference6Ideal (hReference6Ideal := Cert.Reference6Ideal.Gen.facts) := fun m g _ =>
  (θ_run Cert.Reference6Ideal.defs _ _).mono (fun r h => ⟨fun c => (h c).2.2.2.2.2,
    Idealize.ShloMosaic.sem_eq_zero_of_no_sems (by decide) r.2⟩) (Cert.Reference6Ideal.Value.run (F := Ideal) m g)

set_option maxHeartbeats 4000000 in
/-- At extended reals the kernel's results are the loss and its derivatives with respect to the layer's result, the
    product before the norm, the gate and the gain. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => rDres m c, fun c => rDro m c, fun c => rLoss m c, fun c => rGate m c, fun c => rGain m c, ?_, ?_⟩
  · refine (θ_run Cert.Kernel6Ideal.defs _ _).mono (fun r h c => ?_) (run_main (F := Ideal) m g)
    refine ⟨((h c).1 6).trans (final_dres m c), ((h c).1 7).trans (final_dro m c), ((h c).1 8).trans (final_loss m c),
      ((h c).1 9).trans (final_gate m c), ((h c).1 10).trans (final_gain m c), ?_, ?_, ?_, ?_, ?_, ?_⟩
    · exact ((h c).1 0).trans ((dats m 0 c).arrAt_in 0 rfl _)
    · exact ((h c).1 1).trans ((dats m 0 c).arrAt_in 1 rfl _)
    · exact ((h c).1 2).trans ((dats m 0 c).arrAt_in 2 rfl _)
    · exact ((h c).1 3).trans ((dats m 0 c).arrAt_in 3 rfl _)
    · exact ((h c).1 4).trans ((dats m 0 c).arrAt_in 4 rfl _)
    · exact ((h c).1 5).trans ((dats m 0 c).arrAt_in 5 rfl _)
  · refine (θ_run Cert.Reference6Ideal.defs _ _).mono (fun r h c => ?_) (Cert.Reference6Ideal.Value.run (F := Ideal) m' g')
    obtain ⟨a0, a1, a2, a3, a4, a5⟩ := hargs c
    obtain ⟨h0, h1, h2, h3, h4, h5⟩ := h c
    refine ⟨h0.trans ?_, h1.trans ?_, h2.trans ?_, h3.trans ?_, h4.trans ?_, h5⟩
    all_goals clear h h0 h1 h2 h3 h4 h5 hargs
    · funext j
      obtain ⟨p, q, rfl⟩ : ∃ (p : Fin 8192) (q : Fin 2048), j = ix2 p q := ⟨j 0, j 1, by funext a; match a with | 0 => rfl | 1 => rfl⟩
      pointwise
      rw [a0, a1, a2, a3, a4, a5]
      exact half_mean (err m c p q)
    · funext j
      obtain ⟨p, q, rfl⟩ : ∃ (p : Fin 8192) (q : Fin 2048), j = ix2 p q := ⟨j 0, j 1, by funext a; match a with | 0 => rfl | 1 => rfl⟩
      pointwise [Cert.Reference6Ideal.Value.res_main_v66]
      rw [a0, a1, a2, a3, a4, a5]
      simp only [Fintype.sum_unique]
      have hc : ∀ k, gt m c k * (Ideal.div (Ideal.ofBits .f32 1056964608#32) (Ideal.ofBits .f32 1157627904#32)
          * (Ideal.ofBits .f32 1073741824#32 * err m c p k)) * Pg m c (ix2 0 k) = dy m c p k * Pg m c (ix2 0 k) := fun k => by
        rw [half_mean (err m c p k), mul_comm (gt m c k)]
        rfl
      refine Eq.trans ?_ (norm_grad (ro m c p) (fun k => dy m c p k * Pg m c (ix2 0 k)) q).symm
      simp only [← hc]
      rfl
    · funext j
      pointwise
      rw [a0, a1, a2, a3, a4, a5]
      exact half_means (err m c)
    · funext j
      obtain ⟨q, rfl⟩ : ∃ (q : Fin 2048), j = ix2 0 q := ⟨j 1, by funext a; match a with | 0 => exact Subsingleton.elim (α := Fin 1) _ _ | 1 => rfl⟩
      pointwise
      rw [a0, a1, a2, a3, a4, a5]
      refine Finset.sum_congr rfl fun s _ => ?_
      exact congrArg (· * yy m c s q) (half_mean (err m c s q))
    · funext j
      obtain ⟨q, rfl⟩ : ∃ (q : Fin 2048), j = ix2 0 q := ⟨j 1, by funext a; match a with | 0 => exact Subsingleton.elim (α := Fin 1) _ _ | 1 => rfl⟩
      pointwise
      rw [a0, a1, a2, a3, a4, a5]
      simp only [Fintype.sum_unique]
      refine Finset.sum_congr rfl fun s _ => ?_
      refine (congrArg (hat m c s q * ·) (congrArg (gt m c q * ·) (half_mean (err m c s q)))).trans ?_
      show hat m c s q * (gt m c q * dres m c s q) = dres m c s q * gt m c q * hat m c s q
      rw [mul_comm, mul_comm (gt m c q)]

end Cert.Proof.Head

end
-- ==== Proof.Mul.Group.lean ====
/- The gradient of the pool's group weights: each group's sixteen blocks of rows summed in a scratch are one product over all rows. -/
module

public import proofs.«01_k».proof.Defs
public import proofs.«01_k».proof.Proof.Mul.Common
public import Idealize.ShloMosaic.Lib.Pipeline.ReadBack
public import proofs.«01_k».proof.Proof.Gen.Kernel10.Frame
public import proofs.«01_k».proof.Proof.Gen.Kernel10Ideal.Frame
public import proofs.«01_k».proof.Proof.Gen.Reference10Ideal.Run

@[expose] public section

set_option maxRecDepth 16384

noncomputable section

namespace Cert.Proof.Group

open Idealize.ShloMosaic Idealize.ShloMosaic.TcCoe Idealize.SL.Sem Cert.Kernel10Ideal Cert.Kernel10Ideal.Gen
open Cert.Proof.Mul Finset

/-- The windows' block indices at a point: the row block moves fastest, then the group. -/
theorem idx : ∀ t : Fin cfg0.N, win0_0.index t = ![t.val % 16, t.val / 16] ∧ win0_1.index t = ![t.val % 16, t.val / 16]
    ∧ win0_2.index t = ![t.val / 16, 0, 0] :=
  (by decide +kernel : ∀ t : Fin grid0.N, _)

variable (m : (ℓ : Loc nD τ sig) → Buf (Elt Ideal) ℓ) (c : Dev nD)

/-- The two operands: the pooled rows and the cotangent of the groups' products. -/
abbrev X : (⟨2, ![8192, 1024]⟩ : Shape).Idx → EReal := m ((c : Thread nD τ).loc main_arg0)
abbrev Y : (⟨2, ![8192, 1024]⟩ : Shape).Idx → EReal := m ((c : Thread nD τ).loc main_arg1)

/-- A group's column among all columns. -/
abbrev col (g : Fin 4) (p : Fin 256) : Fin 1024 := ⟨g.val * 256 + p.val, by have := g.isLt; have := p.isLt; omega⟩

/-- The result: in each group, the product of the group's columns over all rows. -/
def grad : (⟨3, ![4, 256, 256]⟩ : Shape).Idx → EReal := fun j => res (X m c) (Y m c) (ix2 (col (j 0) (j 1)) (col (j 0) (j 2)))

/-- What point `n` adds at an entry of its block. -/
abbrev term (n : ℕ) (j : S256x256.Idx) : EReal :=
  part 512 (X m c) (Y m c) (n % 16) (n / 16 * 256 + (j 0).val) (n / 16 * 256 + (j 1).val)

/-- A point's payload at an entry: what the scratch held, and the point's part of the product. -/
theorem pay2 (t : Fin cfg0.N) (v : Vec Ideal S256x256 .f32) (j : S256x256.Idx) :
    k0_pay2 v (iblk m c 0 t) (iblk m c 1 t) j = v j + term m c t.val j := by
  have hN : cfg0.N = 64 := N_0
  have ht := Nat.lt_of_lt_of_eq t.isLt hN
  have hp : (j 0).val < 256 := (j 0).isLt
  have hq : (j 1).val < 256 := (j 1).isLt
  pointwise [k0_pay2]
  rw [term, part_eq _ _ (by omega) (by omega) (by omega)]
  refine congrArg (_ + ·) (Finset.sum_congr rfl fun l _ => ?_)
  congr 1 <;> blk_ext [iblk, V, idx t]

/-- The first point of a group's run starts the scratch from zero. -/
theorem scr_A (t : Fin cfg0.N) (h0 : t.val % 16 = 0) (j : S256x256.Idx) :
    (outsAt0 m c t.val t.isLt).2 j = 0 + term m c t.val j := by
  rw [outsAt0_A m c t h0 (by omega)]
  frame_out
  rw [pay2]
  pointwise [k0_pay1]

/-- Every further point adds its part. -/
theorem scr_BC (t : Fin cfg0.N) (h0 : ¬t.val % 16 = 0) (j : S256x256.Idx) :
    (outsAt0 m c t.val t.isLt).2 j = (outsAt0 m c (t.val - 1) (Nat.lt_of_le_of_lt (Nat.sub_le _ _) t.isLt)).2 j + term m c t.val j := by
  by_cases h1 : t.val % 16 = 15
  · rw [outsAt0_C m c t h0 h1]
    frame_out
    simp only [read_unread_whole]
    rw [pay2]
  · rw [outsAt0_B m c t h0 h1]
    frame_out
    simp only [read_unread_whole]
    rw [pay2]

/-- The last point of a group's run leaves the group's product. -/
theorem out_C (t : Fin cfg0.N) (h1 : t.val % 16 = 15) (p : Fin 256) (q : Fin 256) :
    (outsAt0 m c t.val t.isLt).1 (ix3 0 p q)
      = grad m c (ix3 ⟨t.val / 16, by have := Nat.lt_of_lt_of_eq t.isLt N_0; omega⟩ p q) := by
  have e : (outsAt0 m c t.val t.isLt).1 (ix3 0 p q) = (outsAt0 m c t.val t.isLt).2 (ix2 p q) := by
    rw [outsAt0_C m c t (by omega) h1]
    frame_out
    simp only [read_unread_whole]
    pointwise [k0_pay3]
  rw [e]
  exact run_eq (n := 16) (r := 512) (by decide) (by decide) (X m c) (Y m c) (·) (·) (fun n h => (outsAt0 m c n h).2) (scr_A m c) (scr_BC m c) t h1 p q _ _

/-- The kernel's result array is every group's product over all rows. -/
theorem final : (dats m 0 c).arrAt 2 cfg0.N = grad m c := by
  refine (dats m 0 c).arrAt_eq_of_covers 2 _ (by decide +kernel) fun t hf y => ?_
  have h1 : t.val % 16 = 15 := (flush0_2 t).mp hf
  blk_simp
  rw [after0_2]
  obtain ⟨p, q, rfl⟩ : ∃ (p : Fin 256) (q : Fin 256), y = ix3 0 p q :=
    ⟨y 1, y 2, by funext a; match a with | 0 => exact Subsingleton.elim (α := Fin 1) _ _ | 1 => rfl | 2 => rfl⟩
  rw [out_C m c t h1]
  blk_ext [idx t]

/-- The printed kernel runs, its arguments unchanged and every counter back at zero. -/
theorem frame_kernel : Cert.quiescent_Kernel10 (hKernel10 := Cert.Kernel10.Gen.facts) := fun m g _ =>
  Cert.Kernel10.Gen.frame (F := Bits) m g

/-- The same of its idealization. -/
theorem frame_ideal : Cert.quiescent_Kernel10Ideal (hKernel10Ideal := Cert.Kernel10Ideal.Gen.facts) := fun m g _ =>
  Cert.Kernel10Ideal.Gen.frame (F := Ideal) m g

/-- The same of the reference, which has no counters. -/
theorem frame_reference : Cert.quiescent_Reference10Ideal (hReference10Ideal := Cert.Reference10Ideal.Gen.facts) := fun m g _ =>
  (θ_run Cert.Reference10Ideal.defs _ _).mono (fun r h => ⟨fun c => (h c).2,
    Idealize.ShloMosaic.sem_eq_zero_of_no_sems (by decide) r.2⟩) (Cert.Reference10Ideal.Value.run (F := Ideal) m g)

/-- At extended reals the kernel's result is the derivative of the groups' products with respect to their weights. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => grad m c, ?_, ?_⟩
  · refine (θ_run Cert.Kernel10Ideal.defs _ _).mono (fun r h c => ⟨((h c).1 2).trans (final m c), ?_, ?_⟩)
      (run_main (F := Ideal) m g)
    · exact ((h c).1 0).trans ((dats m 0 c).arrAt_in 0 rfl _)
    · exact ((h c).1 1).trans ((dats m 0 c).arrAt_in 1 rfl _)
  · refine (θ_run Cert.Reference10Ideal.defs _ _).mono (fun r h c => ⟨(h c).1.trans ?_, (h c).2⟩)
      (Cert.Reference10Ideal.Value.run (F := Ideal) m' g')
    rw [(hargs c).1, (hargs c).2]
    funext j
    obtain ⟨g, p, q, rfl⟩ : ∃ (g : Fin 4) (p : Fin 256) (q : Fin 256), j = ix3 g p q :=
      ⟨j 0, j 1, j 2, by funext a; match a with | 0 => rfl | 1 => rfl | 2 => rfl⟩
    pointwise
    exact Finset.sum_congr rfl fun k _ => mul_comm _ _

end Cert.Proof.Group

end
-- ==== Proof.Mul.Forward.lean ====
/- Two products of the forward pass: the projections of the hidden and the merge gates. Every grid point computes one tile at once. -/
module

public import proofs.«01_k».proof.Defs
public import Idealize.ShloMosaic.Lib.Pipeline.ReadBack
public import Idealize.ShloMosaic.Lib.Pipeline.ValueKit
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run

@[expose] public section

set_option maxRecDepth 16384

noncomputable section

namespace Cert.Proof.Proj

open Idealize.ShloMosaic Idealize.ShloMosaic.TcCoe Idealize.SL.Sem Cert.Kernel11Ideal Cert.Kernel11Ideal.Gen Finset

/-- The windows' block indices at a point: the column block moves fastest. -/
theorem idx : ∀ t : Fin cfg0.N, win0_0.index t = ![t.val / 9, 0] ∧ win0_1.index t = ![0, t.val % 9]
    ∧ win0_2.index t = ![t.val / 9, t.val % 9] :=
  (by decide +kernel : ∀ t : Fin grid0.N, _)

variable (m : (ℓ : Loc nD τ sig) → Buf (Elt Ideal) ℓ) (c : Dev nD)

/-- The hidden and the projections' weight. -/
abbrev X : (⟨2, ![8192, 2048]⟩ : Shape).Idx → EReal := m ((c : Thread nD τ).loc main_arg0)
abbrev W : (⟨2, ![2048, 4608]⟩ : Shape).Idx → EReal := m ((c : Thread nD τ).loc main_arg1)

/-- Their product. -/
def prod : (⟨2, ![8192, 4608]⟩ : Shape).Idx → EReal := fun j => ∑ k : Fin 2048, X m c (ix2 (j 0) k) * W m c (ix2 k (j 1))

/-- A point leaves its tile of the product. -/
theorem out (t : Fin cfg0.N) (p : Fin 1024) (q : Fin 512) :
    out0_2 (iblk m c 0 t) (iblk m c 1 t) (ix2 p q)
      = prod m c (ix2 ⟨t.val / 9 * 1024 + p.val, by have := Nat.lt_of_lt_of_eq t.isLt N_0; have := p.isLt; omega⟩
          ⟨t.val % 9 * 512 + q.val, by have := q.isLt; omega⟩) := by
  frame_out
  pointwise [k0_pay1]
  refine Finset.sum_congr rfl fun k _ => ?_
  congr 1 <;> blk_ext [iblk, V, idx t]

/-- The kernel's result array is the product. -/
theorem final : (dats m 0 c).arrAt 2 cfg0.N = prod m c := by
  refine (dats m 0 c).arrAt_eq_of_covers 2 _ (by decide +kernel) fun t hf y => ?_
  blk_simp
  rw [after0_2]
  obtain ⟨p, q, rfl⟩ : ∃ (p : Fin 1024) (q : Fin 512), y = ix2 p q := ⟨y 0, y 1, by funext a; match a with | 0 => rfl | 1 => rfl⟩
  rw [out m c t]
  blk_ext [idx t]

/-- The printed kernel runs, its arguments unchanged and every counter back at zero. -/
theorem frame_kernel : Cert.quiescent_Kernel11 (hKernel11 := Cert.Kernel11.Gen.facts) := fun m g _ =>
  Cert.Kernel11.Gen.frame (F := Bits) m g

/-- The same of its idealization. -/
theorem frame_ideal : Cert.quiescent_Kernel11Ideal (hKernel11Ideal := Cert.Kernel11Ideal.Gen.facts) := fun m g _ =>
  Cert.Kernel11Ideal.Gen.frame (F := Ideal) m g

/-- The same of the reference, which has no counters. -/
theorem frame_reference : Cert.quiescent_Reference11Ideal (hReference11Ideal := Cert.Reference11Ideal.Gen.facts) := fun m g _ =>
  (θ_run Cert.Reference11Ideal.defs _ _).mono (fun r h => ⟨fun c => (h c).2,
    Idealize.ShloMosaic.sem_eq_zero_of_no_sems (by decide) r.2⟩) (Cert.Reference11Ideal.Value.run (F := Ideal) m g)

/-- At extended reals the kernel's result is the projections of the hidden. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => prod m c, ?_, ?_⟩
  · refine (θ_run Cert.Kernel11Ideal.defs _ _).mono (fun r h c => ⟨((h c).1 2).trans (final m c), ?_, ?_⟩)
      (run_main (F := Ideal) m g)
    · exact ((h c).1 0).trans ((dats m 0 c).arrAt_in 0 rfl _)
    · exact ((h c).1 1).trans ((dats m 0 c).arrAt_in 1 rfl _)
  · refine (θ_run Cert.Reference11Ideal.defs _ _).mono (fun r h c => ⟨(h c).1.trans ?_, (h c).2⟩)
      (Cert.Reference11Ideal.Value.run (F := Ideal) m' g')
    rw [(hargs c).1, (hargs c).2]
    funext j
    pointwise
    rfl

end Cert.Proof.Proj

namespace Cert.Proof.Gates

section Reference

open Idealize.ShloMosaic Idealize.ShloMosaic.TcCoe Cert.Reference12Ideal Cert.Reference12Ideal.Facts₀

/-- What the reference takes the logistic function of: the product and the bias. -/
def rLin (x : FVec Ideal S8192x2048 .bf16) (w : FVec Ideal S2048x4096 .bf16) (b : FVec Ideal S1x4096 .f32) : FVec Ideal S8192x4096 .f32 :=
  addf (Host.dotGeneral dot_S8192x2048_S2048x4096_S8192x4096_1_0_0_1_n_n none (extf .f32 x bitsLt_bf16_f32) (extf .f32 w bitsLt_bf16_f32))
    (broadcastInDim S8192x4096 ![0, 1] bcast_S1x4096_S8192x4096_0_1 (broadcastInDim S1x4096 ![1] bcast_S4096_S1x4096_1 (shapeCast _ b shapeCasts_S1x4096_S4096)))

/-- The logistic function as the reference spells it. -/
def rSig (v : FVec Ideal S8192x4096 .f32) : FVec Ideal S8192x4096 .bf16 :=
  truncf .bf16 (Host.divf (broadcastInDim S8192x4096 ![] bcast_S_S8192x4096 (constant S_ .f32 0x3F800000#32)) (addf (broadcastInDim S8192x4096 ![] bcast_S_S8192x4096 (constant S_ .f32 0x3F800000#32)) (Host.exp (Host.negf v)))) bitsLt_bf16_f32

/-- Its entry: a sum of products and the bias. -/
theorem rLin_apply (x : FVec Ideal S8192x2048 .bf16) (w : FVec Ideal S2048x4096 .bf16) (b : FVec Ideal S1x4096 .f32) (p : Fin 8192) (q : Fin 4096) :
    rLin x w b (ix2 p q) = ∑ k : Fin 2048, x (ix2 p k) * w (ix2 k q) + b (ix2 0 q) := by
  unfold rLin
  pointwise

/-- Its entry, in the extended reals' own operations. -/
theorem rSig_apply (v : FVec Ideal S8192x4096 .f32) (p : Fin 8192) (q : Fin 4096) :
    rSig v (ix2 p q) = Ideal.div 1 (1 + Ideal.exp (-(v (ix2 p q)))) := by
  unfold rSig
  pointwise

end Reference

open Idealize.ShloMosaic Idealize.ShloMosaic.TcCoe Idealize.SL.Sem Cert.Kernel12Ideal Cert.Kernel12Ideal.Gen Finset

/-- The windows' block indices at a point: the column block moves fastest. -/
theorem idx : ∀ t : Fin cfg0.N, win0_0.index t = ![t.val / 8, 0] ∧ win0_1.index t = ![0, t.val % 8]
    ∧ win0_2.index t = ![0, t.val % 8] ∧ win0_3.index t = ![t.val / 8, t.val % 8] :=
  (by decide +kernel : ∀ t : Fin grid0.N, _)

variable (m : (ℓ : Loc nD τ sig) → Buf (Elt Ideal) ℓ) (c : Dev nD)

/-- The hidden, the gates' weight and their bias. -/
abbrev X : (⟨2, ![8192, 2048]⟩ : Shape).Idx → EReal := m ((c : Thread nD τ).loc main_arg0)
abbrev W : (⟨2, ![2048, 4096]⟩ : Shape).Idx → EReal := m ((c : Thread nD τ).loc main_arg1)
abbrev B : (⟨2, ![1, 4096]⟩ : Shape).Idx → EReal := m ((c : Thread nD τ).loc main_arg2)

/-- The gates: the logistic function of the product and the bias. -/
def gates : (⟨2, ![8192, 4096]⟩ : Shape).Idx → EReal := fun j =>
  Ideal.div 1 (1 + Ideal.exp (-(∑ k : Fin 2048, X m c (ix2 (j 0) k) * W m c (ix2 k (j 1)) + B m c (ix2 0 (j 1)))))

/-- A block's entries of the arguments. -/
theorem blk (t : Fin cfg0.N) (p : Fin 1024) (q : Fin 512) (k : Fin 2048) :
    iblk m c 0 t (ix2 p k) = X m c (ix2 ⟨t.val / 8 * 1024 + p.val, by have := Nat.lt_of_lt_of_eq t.isLt N_0; have := p.isLt; omega⟩ k)
      ∧ iblk m c 1 t (ix2 k q) = W m c (ix2 k ⟨t.val % 8 * 512 + q.val, by have := q.isLt; omega⟩)
      ∧ iblk m c 2 t (ix2 0 q) = B m c (ix2 0 ⟨t.val % 8 * 512 + q.val, by have := q.isLt; omega⟩) := by
  refine ⟨?_, ?_, ?_⟩ <;> blk_ext [iblk, V, idx t]

/-- A point leaves its tile of the gates. -/
theorem out (t : Fin cfg0.N) (p : Fin 1024) (q : Fin 512) :
    out0_3 (iblk m c 0 t) (iblk m c 1 t) (iblk m c 2 t) (ix2 p q)
      = gates m c (ix2 ⟨t.val / 8 * 1024 + p.val, by have := Nat.lt_of_lt_of_eq t.isLt N_0; have := p.isLt; omega⟩
          ⟨t.val % 8 * 512 + q.val, by have := q.isLt; omega⟩) := by
  frame_out
  pointwise [k0_pay1]
  simp only [(blk m c t p q _).1, (blk m c t p q _).2.1, (blk m c t p q 0).2.2]
  rfl

/-- The kernel's result array is the gates. -/
theorem final : (dats m 0 c).arrAt 3 cfg0.N = gates m c := by
  refine (dats m 0 c).arrAt_eq_of_covers 3 _ (by decide +kernel) fun t hf y => ?_
  blk_simp
  rw [after0_3]
  obtain ⟨p, q, rfl⟩ : ∃ (p : Fin 1024) (q : Fin 512), y = ix2 p q := ⟨y 0, y 1, by funext a; match a with | 0 => rfl | 1 => rfl⟩
  rw [out m c t]
  blk_ext [idx t]

/-- The printed kernel runs, its arguments unchanged and every counter back at zero. -/
theorem frame_kernel : Cert.quiescent_Kernel12 (hKernel12 := Cert.Kernel12.Gen.facts) := fun m g _ =>
  Cert.Kernel12.Gen.frame (F := Bits) m g

/-- The same of its idealization. -/
theorem frame_ideal : Cert.quiescent_Kernel12Ideal (hKernel12Ideal := Cert.Kernel12Ideal.Gen.facts) := fun m g _ =>
  Cert.Kernel12Ideal.Gen.frame (F := Ideal) m g

/-- The same of the reference, which has no counters. -/
theorem frame_reference : Cert.quiescent_Reference12Ideal (hReference12Ideal := Cert.Reference12Ideal.Gen.facts) := fun m g _ =>
  (θ_run Cert.Reference12Ideal.defs _ _).mono (fun r h => ⟨fun c => (h c).2,
    Idealize.ShloMosaic.sem_eq_zero_of_no_sems (by decide) r.2⟩) (Cert.Reference12Ideal.Value.run (F := Ideal) m g)

/-- At extended reals the kernel's result is the merge gates of the hidden. -/
theorem algebraic : Cert.algebraic_Kernel12Ideal_Reference12Ideal (hKernel12Ideal := Cert.Kernel12Ideal.Gen.facts)
    (hReference12Ideal := Cert.Reference12Ideal.Gen.facts) := by
  intro m g m' g' _ hargs
  refine ⟨fun c => gates m c, ?_, ?_⟩
  · refine (θ_run Cert.Kernel12Ideal.defs _ _).mono (fun r h c => ⟨((h c).1 3).trans (final m c), ?_, ?_, ?_⟩)
      (run_main (F := Ideal) m g)
    · exact ((h c).1 0).trans ((dats m 0 c).arrAt_in 0 rfl _)
    · exact ((h c).1 1).trans ((dats m 0 c).arrAt_in 1 rfl _)
    · exact ((h c).1 2).trans ((dats m 0 c).arrAt_in 2 rfl _)
  · refine (θ_run Cert.Reference12Ideal.defs _ _).mono (fun r h c => ⟨(h c).1.trans ?_, (h c).2⟩)
      (Cert.Reference12Ideal.Value.run (F := Ideal) m' g')
    obtain ⟨a0, a1, a2⟩ := hargs c
    rw [a0, a1, a2]
    funext j
    obtain ⟨p, q, rfl⟩ : ∃ (p : Fin 8192) (q : Fin 4096), j = ix2 p q := ⟨j 0, j 1, by funext a; match a with | 0 => rfl | 1 => rfl⟩
    refine (rSig_apply (rLin (X m c) (W m c) (B m c)) p q).trans ?_
    rw [rLin_apply]
    rfl

end Cert.Proof.Gates

end
-- ==== Proof.Norm.Forward.lean ====
/- The norm before the layer: every grid point normalises and modulates its own block of rows. -/
module

public import proofs.«01_k».proof.Defs
public import proofs.«01_k».proof.Proof.Norm.Common
public import Idealize.ShloMosaic.Lib.Pipeline.ReadBack
public import proofs.«01_k».proof.Proof.Gen.Kernel13.Frame
public import proofs.«01_k».proof.Proof.Gen.Kernel13Ideal.Frame
public import proofs.«01_k».proof.Proof.Gen.Reference13Ideal.Run

@[expose] public section

set_option maxRecDepth 16384

noncomputable section

namespace Cert.Proof.PreFwd

open Idealize.ShloMosaic Idealize.ShloMosaic.TcCoe Idealize.SL.Sem Cert.Kernel13Ideal Cert.Kernel13Ideal.Gen
open Cert.Proof.Norm Finset

/-- The windows' block indices at a point: the row blocks move with it, the vectors stay. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

variable (m : (ℓ : Loc nD τ sig) → Buf (Elt Ideal) ℓ) (c : Dev nD)

/-- The arguments: the layer's input, the modulation and the norm's gain. -/
abbrev X : (⟨2, ![8192, 2048]⟩ : Shape).Idx → EReal := m ((c : Thread nD τ).loc main_arg0)
abbrev Mo : (⟨2, ![1, 6144]⟩ : Shape).Idx → EReal := m ((c : Thread nD τ).loc main_arg1)
abbrev Pg : (⟨2, ![1, 2048]⟩ : Shape).Idx → EReal := m ((c : Thread nD τ).loc main_arg2)

/-- A column's place among the modulation's shifts and among its scales. -/
abbrev sh (k : Fin 2048) : Fin 6144 := ⟨k.val, by have := k.isLt; omega⟩
abbrev sc (k : Fin 2048) : Fin 6144 := ⟨2048 + k.val, by have := k.isLt; omega⟩

/-- A row of the input. -/
abbrev row (s : Fin 8192) : Fin 2048 → EReal := fun k => X m c (ix2 s k)

/-- The result: the row over its root mean square, times the gain and one plus the scale, plus the shift. -/
def normed : (⟨2, ![8192, 2048]⟩ : Shape).Idx → EReal := fun j =>
  row m c (j 0) (j 1) * rinv (row m c (j 0)) * Pg m c (ix2 0 (j 1)) * (1 + Mo m c (ix2 0 (sc (j 1)))) + Mo m c (ix2 0 (sh (j 1)))

/-- The row of the arrays that a block's row is. -/
abbrev at' (t : Fin cfg0.N) (p : Fin 512) : Fin 8192 :=
  ⟨t.val * 512 + p.val, by have := Nat.lt_of_lt_of_eq t.isLt N_0; have := p.isLt; omega⟩

/-- A block's entries of the arguments. -/
theorem blk (t : Fin cfg0.N) (p : Fin 512) (q : Fin 2048) :
    iblk m c 0 t (ix2 p q) = X m c (ix2 (at' t p) q) ∧ iblk m c 1 t (ix2 0 (sh q)) = Mo m c (ix2 0 (sh q))
      ∧ iblk m c 1 t (ix2 0 (sc q)) = Mo m c (ix2 0 (sc q)) ∧ iblk m c 2 t (ix2 0 q) = Pg m c (ix2 0 q) := by
  refine ⟨?_, ?_, ?_, ?_⟩ <;> blk_ext [iblk, V, idx t]

/-- A point leaves its rows of the result. -/
theorem out (t : Fin cfg0.N) (p : Fin 512) (q : Fin 2048) :
    out0_3 (iblk m c 0 t) (iblk m c 1 t) (iblk m c 2 t) (ix2 p q) = normed m c (ix2 (at' t p) q) := by
  frame_out
  pointwise [k0_pay1]
  simp only [(blk m c t p _).1, (blk m c t p q).2.1, (blk m c t p q).2.2.1, (blk m c t p q).2.2.2]
  rfl

/-- The kernel's result array is the normed input. -/
theorem final : (dats m 0 c).arrAt 3 cfg0.N = normed m c := by
  refine (dats m 0 c).arrAt_eq_of_covers 3 _ (by decide +kernel) fun t hf y => ?_
  blk_simp
  rw [after0_3]
  obtain ⟨p, q, rfl⟩ : ∃ (p : Fin 512) (q : Fin 2048), y = ix2 p q := ⟨y 0, y 1, by funext a; match a with | 0 => rfl | 1 => rfl⟩
  rw [out m c t]
  blk_ext [idx t]

/-- The printed kernel runs, its arguments unchanged and every counter back at zero. -/
theorem frame_kernel : Cert.quiescent_Kernel13 (hKernel13 := Cert.Kernel13.Gen.facts) := fun m g _ =>
  Cert.Kernel13.Gen.frame (F := Bits) m g

/-- The same of its idealization. -/
theorem frame_ideal : Cert.quiescent_Kernel13Ideal (hKernel13Ideal := Cert.Kernel13Ideal.Gen.facts) := fun m g _ =>
  Cert.Kernel13Ideal.Gen.frame (F := Ideal) m g

/-- The same of the reference, which has no counters. -/
theorem frame_reference : Cert.quiescent_Reference13Ideal (hReference13Ideal := Cert.Reference13Ideal.Gen.facts) := fun m g _ =>
  (θ_run Cert.Reference13Ideal.defs _ _).mono (fun r h => ⟨fun c => (h c).2,
    Idealize.ShloMosaic.sem_eq_zero_of_no_sems (by decide) r.2⟩) (Cert.Reference13Ideal.Value.run (F := Ideal) m g)

/-- At extended reals the kernel's result is the norm before the layer. -/
theorem algebraic : Cert.algebraic_Kernel13Ideal_Reference13Ideal (hKernel13Ideal := Cert.Kernel13Ideal.Gen.facts)
    (hReference13Ideal := Cert.Reference13Ideal.Gen.facts) := by
  intro m g m' g' _ hargs
  refine ⟨fun c => normed m c, ?_, ?_⟩
  · refine (θ_run Cert.Kernel13Ideal.defs _ _).mono (fun r h c => ⟨((h c).1 3).trans (final m c), ?_, ?_, ?_⟩)
      (run_main (F := Ideal) m g)
    · exact ((h c).1 0).trans ((dats m 0 c).arrAt_in 0 rfl _)
    · exact ((h c).1 1).trans ((dats m 0 c).arrAt_in 1 rfl _)
    · exact ((h c).1 2).trans ((dats m 0 c).arrAt_in 2 rfl _)
  · refine (θ_run Cert.Reference13Ideal.defs _ _).mono (fun r h c => ⟨(h c).1.trans ?_, (h c).2⟩)
      (Cert.Reference13Ideal.Value.run (F := Ideal) m' g')
    obtain ⟨a0, a1, a2⟩ := hargs c
    rw [a0, a1, a2]
    funext j
    obtain ⟨p, q, rfl⟩ : ∃ (p : Fin 8192) (q : Fin 2048), j = ix2 p q := ⟨j 0, j 1, by funext a; match a with | 0 => rfl | 1 => rfl⟩
    pointwise
    rfl

end Cert.Proof.PreFwd

end
-- ==== Proof.Gate.Branches.lean ====
/- The branches' backward call: the gradients of the two gated branches are those of the gating written out, the pooled
   rows' gradient is the groups' product, and the scale's sum is over all rows. -/
module

public import proofs.«01_k».proof.Defs
public import proofs.«01_k».proof.Proof.Norm.Common
public import proofs.«01_k».proof.Proof.Val.Algebraic
public import Idealize.ShloMosaic.Lib.Pipeline.ReadBack
public import Idealize.ShloMosaic.Lib.Pipeline.ValueKit
public import proofs.«01_k».proof.Proof.Gen.Kernel14.Frame
public import proofs.«01_k».proof.Proof.Gen.Kernel14Ideal.Frame
public import proofs.«01_k».proof.Proof.Gen.Reference14Ideal.Run

@[expose] public section

set_option maxRecDepth 16384

noncomputable section

namespace Cert.Proof.BrBwd

open Idealize.ShloMosaic Cert.Proof.Norm Finset

/-- The logistic function as the programs spell it. -/
def sg (x : EReal) : EReal := Ideal.div 1 (1 + Ideal.exp (-x))

/-- At a real it is a real. -/
theorem sg_coe (r : ℝ) : sg r = ((1 + Real.exp (-r))⁻¹ : ℝ) := by
  have h : (0 : ℝ) < 1 + Real.exp (-r) := by positivity
  have e : (1 : EReal) + Ideal.exp (-(r : EReal)) = ((1 + Real.exp (-r) : ℝ) : EReal) := by
    rw [← EReal.coe_neg]
    rfl
  unfold sg
  rw [e]
  unfold Ideal.div
  rw [if_neg (by exact_mod_cast h.ne'), one_mul, EReal.coe_inv]

/-- At ∞ it is one. -/
theorem sg_top : sg ⊤ = 1 := by
  unfold sg
  rw [EReal.neg_top]
  show Ideal.div 1 (1 + 0) = 1
  unfold Ideal.div
  simp

/-- At −∞ it is zero. -/
theorem sg_bot : sg ⊥ = 0 := by
  unfold sg
  rw [EReal.neg_bot]
  have e : (1 : EReal) + ⊤ = ⊤ := rfl
  show Ideal.div 1 (1 + ⊤) = 0
  rw [e]
  unfold Ideal.div
  simp

/-- The derivative of the gating as one factor is the two terms of the product rule, for a real cotangent. -/
theorem dsilu {D : EReal} (hD : Fin1 D) (x : EReal) :
    D * (sg x * (1 + x * (1 - sg x))) = D * sg x + x * D * (sg x * (1 - sg x)) := by
  obtain ⟨d, rfl⟩ := hD
  have h1 : (1 : EReal) - 1 = 0 := by
    rw [← EReal.coe_one, ← EReal.coe_sub, sub_self, EReal.coe_zero]
  induction x using EReal.rec with
  | bot => simp [sg_bot]
  | top => simp [sg_top, h1]
  | coe r =>
    rw [sg_coe]
    generalize (1 + Real.exp (-r))⁻¹ = s
    rw [← EReal.coe_one]
    simp only [← EReal.coe_sub, ← EReal.coe_mul, ← EReal.coe_add]
    congr 1
    ring

section Reference

open Idealize.ShloMosaic.TcCoe Cert.Reference14Ideal Cert.Reference14Ideal.Facts₀

/-- The cotangent of a branch: the given cotangent times the branch's weight. -/
def rDy (d : FVec Ideal S8192x2048 .bf16) (w : FVec Ideal S1024x2048 .bf16) : FVec Ideal S8192x1024 .f32 :=
  Host.dotGeneral dot_S8192x2048_S1024x2048_S8192x1024_1_1_0_0_n_n none (extf .f32 d bitsLt_bf16_f32) (extf .f32 w bitsLt_bf16_f32)

/-- Its entry: a sum of products. -/
theorem rDy_at (d : FVec Ideal S8192x2048 .bf16) (w : FVec Ideal S1024x2048 .bf16) (s : Fin 8192) (q : Fin 1024) :
    rDy d w (ix2 s q) = ∑ k : Fin 2048, d (ix2 s k) * w (ix2 q k) := by
  pointwise [rDy]

/-- The two gates among the projections' columns. -/
def rGa (x : FVec Ideal S8192x4608 .bf16) : FVec Ideal S8192x1024 .f32 :=
  extractStridedSlice S8192x1024 ![0, 1536] (extf .f32 x bitsLt_bf16_f32) slices_S8192x4608_S8192x1024_0_1536

def rGp (x : FVec Ideal S8192x4608 .bf16) : FVec Ideal S8192x1024 .f32 :=
  extractStridedSlice S8192x1024 ![0, 3584] (extf .f32 x bitsLt_bf16_f32) slices_S8192x4608_S8192x1024_0_3584

/-- The first gate's entry. -/
theorem rGa_at (x : FVec Ideal S8192x4608 .bf16) (s : Fin 8192) (q : Fin 1024) :
    rGa x (ix2 s q) = x (ix2 s ⟨1536 + q.val, by have := q.isLt; omega⟩) := by
  pointwise [rGa]

/-- The second gate's entry. -/
theorem rGp_at (x : FVec Ideal S8192x4608 .bf16) (s : Fin 8192) (q : Fin 1024) :
    rGp x (ix2 s q) = x (ix2 s ⟨3584 + q.val, by have := q.isLt; omega⟩) := by
  pointwise [rGp]

/-- A matrix of ones, and the logistic function of a matrix. -/
def rOne : FVec Ideal S8192x1024 .f32 := broadcastInDim S8192x1024 ![] bcast_S_S8192x1024 (constant S_ .f32 0x3F800000#32)

def rSig (x : FVec Ideal S8192x1024 .f32) : FVec Ideal S8192x1024 .f32 := Host.divf rOne (addf rOne (Host.exp (Host.negf x)))

/-- Its entry is one. -/
theorem rOne_at (s : Fin 8192) (q : Fin 1024) : rOne (ix2 s q) = 1 := by
  pointwise [rOne]

/-- The logistic function's entry. -/
theorem rSig_at (x : FVec Ideal S8192x1024 .f32) (s : Fin 8192) (q : Fin 1024) : rSig x (ix2 s q) = sg (x (ix2 s q)) := by
  pointwise [rSig, rOne]
  rfl

/-- The scale, repeated over the rows. -/
def rPs (x : FVec Ideal S1x1024 .f32) : FVec Ideal S8192x1024 .f32 :=
  broadcastInDim S8192x1024 ![0, 1] bcast_S1x1024_S8192x1024_0_1 (broadcastInDim S1x1024 ![1] bcast_S1024_S1x1024_1 (shapeCast _ x shapeCasts_S1x1024_S1024))

/-- Its entry does not depend on the row. -/
theorem rPs_at (x : FVec Ideal S1x1024 .f32) (s : Fin 8192) (q : Fin 1024) : rPs x (ix2 s q) = x (ix2 0 q) := by
  pointwise [rPs]

/-- The gradient of a gated branch's value. -/
def rVal (d g : FVec Ideal S8192x1024 .f32) : FVec Ideal S8192x1024 .f32 := mulf d (mulf g (rSig g))

/-- Its entry, in the extended reals' own operations. -/
theorem rVal_at (d g : FVec Ideal S8192x1024 .f32) (s : Fin 8192) (q : Fin 1024) :
    rVal d g (ix2 s q) = d (ix2 s q) * (g (ix2 s q) * sg (g (ix2 s q))) := by
  rw [← rSig_at g s q]
  rfl

/-- The gradient of a gate: the two terms of the product rule. -/
def rGate (d g : FVec Ideal S8192x1024 .f32) : FVec Ideal S8192x1024 .f32 :=
  addf (mulf d (rSig g)) (mulf (mulf g d) (mulf (rSig g) (subf rOne (rSig g))))

/-- Its entry. -/
theorem rGate_at (d g : FVec Ideal S8192x1024 .f32) (s : Fin 8192) (q : Fin 1024) :
    rGate d g (ix2 s q) = d (ix2 s q) * sg (g (ix2 s q)) + g (ix2 s q) * d (ix2 s q) * (sg (g (ix2 s q)) * (1 - sg (g (ix2 s q)))) := by
  rw [← rSig_at g s q, ← rOne_at s q]
  rfl

/-- The groups' product of a matrix's columns with the groups' weights. -/
def rPool (d : FVec Ideal S8192x1024 .f32) (w : FVec Ideal S4x256x256 .bf16) : FVec Ideal S8192x1024 .bf16 :=
  truncf .bf16 (shapeCast _ (transpose S8192x4x256 [1, 0, 2] (Host.dotGeneral dot_S4x256x8192_S4x256x256_S4x8192x256_1_2_2_1_0_0 none (transpose S4x256x8192 [1, 2, 0] (shapeCast _ d shapeCasts_S8192x1024_S8192x4x256) transposes_S8192x4x256_S4x256x8192_1_2_0) (extf .f32 w bitsLt_bf16_f32)) transposes_S4x8192x256_S8192x4x256_1_0_2) shapeCasts_S8192x4x256_S8192x1024) bitsLt_bf16_f32

/-- A column of a group among all columns. -/
abbrev col (g : Fin 4) (k : Fin 256) : Fin 1024 := ⟨g.val * 256 + k.val, by have := g.isLt; have := k.isLt; omega⟩

/-- Its entry at a group's column. -/
theorem rPool_at (d : FVec Ideal S8192x1024 .f32) (w : FVec Ideal S4x256x256 .bf16) (s : Fin 8192) (g : Fin 4) (q : Fin 256) :
    rPool d w (ix2 s (col g q)) = ∑ k : Fin 256, d (ix2 s (col g k)) * w (ix3 g q k) := by
  have hq := q.isLt
  have hg := g.isLt
  have eg : (g.val * 256 + q.val) / 256 = g.val := by omega
  have eq : (g.val * 256 + q.val) % 256 = q.val := by omega
  pointwise [rPool]
  simp only [eg, eq]

/-- The sum over rows, and then over the one row of the row that it leaves. -/
theorem rSum_at (x : FVec Ideal S8192x1024 .f32) (j : Fin 1024) :
    broadcastInDim S1x1024 ![1] bcast_S1024_S1x1024_1 (Host.reduceAdd (shapeCast S1x1024 (Host.reduceAdd x (constant S_ .f32 0x00000000#32) reducesTo_S8192x1024_S1024_d0 h_S_) shapeCasts_S1024_S1x1024) (constant S_ .f32 0x00000000#32) reducesTo_S1x1024_S1024_d0 h_S_) (ix2 0 j)
      = ∑ s : Fin 8192, x (ix2 s j) := by
  pointwise
  exact Fintype.sum_unique _

end Reference

open Idealize.ShloMosaic.TcCoe Idealize.SL.Sem Cert.Kernel14Ideal Cert.Kernel14Ideal.Gen

/-- The windows' block indices at a point: row blocks move with it, the weights and the scale stay. -/
theorem idx : ∀ t : Fin cfg0.N, win0_0.index t = ![t.val, 0] ∧ win0_1.index t = ![t.val, 0] ∧ win0_2.index t = ![t.val, 0]
    ∧ win0_3.index t = ![t.val, 3] ∧ win0_4.index t = ![t.val, 4] ∧ win0_5.index t = ![t.val, 7] ∧ win0_6.index t = ![t.val, 8]
    ∧ win0_7.index t = ![t.val, 0] ∧ win0_8.index t = ![0, 0] ∧ win0_9.index t = ![0, 0] ∧ win0_10.index t = ![0, 0, 0]
    ∧ win0_11.index t = ![0, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![0, 0] :=
  (by decide +kernel : ∀ t : Fin grid0.N, _)

variable (m : (ℓ : Loc nD τ sig) → Buf (Elt Ideal) ℓ) (c : Dev nD)

/-- The arguments: the two branches' cotangents, attention's output, the projections, the groups' product, the branches'
    weights, the groups' weights and the scale. -/
abbrev DA : (⟨2, ![8192, 2048]⟩ : Shape).Idx → EReal := m ((c : Thread nD τ).loc main_arg0)
abbrev DP : (⟨2, ![8192, 2048]⟩ : Shape).Idx → EReal := m ((c : Thread nD τ).loc main_arg1)
abbrev At : (⟨2, ![8192, 1024]⟩ : Shape).Idx → EReal := m ((c : Thread nD τ).loc main_arg2)
abbrev Pr : (⟨2, ![8192, 4608]⟩ : Shape).Idx → EReal := m ((c : Thread nD τ).loc main_arg3)
abbrev Mx : (⟨2, ![8192, 1024]⟩ : Shape).Idx → EReal := m ((c : Thread nD τ).loc main_arg4)
abbrev WA : (⟨2, ![1024, 2048]⟩ : Shape).Idx → EReal := m ((c : Thread nD τ).loc main_arg5)
abbrev WP : (⟨2, ![1024, 2048]⟩ : Shape).Idx → EReal := m ((c : Thread nD τ).loc main_arg6)
abbrev WG : (⟨3, ![4, 256, 256]⟩ : Shape).Idx → EReal := m ((c : Thread nD τ).loc main_arg7)
abbrev Ps : (⟨2, ![1, 1024]⟩ : Shape).Idx → EReal := m ((c : Thread nD τ).loc main_arg8)

/-- The branches' cotangents before their weights, and their gates. -/
def dya (s : Fin 8192) (q : Fin 1024) : EReal := ∑ k : Fin 2048, DA m c (ix2 s k) * WA m c (ix2 q k)
def dyp (s : Fin 8192) (q : Fin 1024) : EReal := ∑ k : Fin 2048, DP m c (ix2 s k) * WP m c (ix2 q k)
def ga (s : Fin 8192) (q : Fin 1024) : EReal := Pr m c (ix2 s ⟨1536 + q.val, by have := q.isLt; omega⟩)
def gp (s : Fin 8192) (q : Fin 1024) : EReal := Pr m c (ix2 s ⟨3584 + q.val, by have := q.isLt; omega⟩)

/-- The cotangent of the groups' product, and what a row adds to the scale's gradient. -/
def dmx (s : Fin 8192) (q : Fin 1024) : EReal := dyp m c s q * (gp m c s q * sg (gp m c s q)) * Ps m c (ix2 0 q)
def ups (q : Fin 1024) (s : Fin 8192) : EReal := dyp m c s q * (gp m c s q * sg (gp m c s q)) * Mx m c (ix2 s q)

/-- The derivative of the gating as one factor. -/
def ds (x : EReal) : EReal := sg x * (1 + x * (1 - sg x))

/-- The kernel's six results. -/
def oAt : (⟨2, ![8192, 1024]⟩ : Shape).Idx → EReal := fun j => dya m c (j 0) (j 1) * (ga m c (j 0) (j 1) * sg (ga m c (j 0) (j 1)))
def oGa : (⟨2, ![8192, 1024]⟩ : Shape).Idx → EReal := fun j => dya m c (j 0) (j 1) * At m c (ix2 (j 0) (j 1)) * ds (ga m c (j 0) (j 1))
def oGp : (⟨2, ![8192, 1024]⟩ : Shape).Idx → EReal := fun j =>
  dyp m c (j 0) (j 1) * Mx m c (ix2 (j 0) (j 1)) * Ps m c (ix2 0 (j 1)) * ds (gp m c (j 0) (j 1))
def oMx : (⟨2, ![8192, 1024]⟩ : Shape).Idx → EReal := fun j => dmx m c (j 0) (j 1)
def pool (s : Fin 8192) (g : Fin 4) (q : Fin 256) : EReal := ∑ k : Fin 256, dmx m c s (col g k) * WG m c (ix3 g q k)
def oPl : (⟨2, ![8192, 1024]⟩ : Shape).Idx → EReal := fun j =>
  pool m c (j 0) ⟨(j 1).val / 256, by have h : (j 1).val < 1024 := (j 1).isLt; omega⟩ ⟨(j 1).val % 256, by omega⟩
def oPs : (⟨2, ![1, 1024]⟩ : Shape).Idx → EReal := fun j => ∑ s : Fin 8192, ups m c (j 1) s

/-- Every column is a group's. -/
theorem col_surj (q : Fin 1024) : ∃ (g : Fin 4) (k : Fin 256), q = col g k :=
  ⟨⟨q.val / 256, by have := q.isLt; omega⟩, ⟨q.val % 256, by omega⟩, Fin.ext (by simp only; omega)⟩

/-- The pooled rows' gradient at a group's column. -/
theorem oPl_col (s : Fin 8192) (g : Fin 4) (q : Fin 256) : oPl m c (ix2 s (col g q)) = pool m c s g q := by
  have hq := q.isLt
  unfold oPl
  congr 1
  · exact Fin.ext (by show (g.val * 256 + q.val) / 256 = g.val; omega)
  · exact Fin.ext (by show (g.val * 256 + q.val) % 256 = q.val; omega)

/-- The row of the arrays that a block's row is. -/
abbrev at' (t : Fin cfg0.N) (p : Fin 256) : Fin 8192 :=
  ⟨t.val * 256 + p.val, by have := Nat.lt_of_lt_of_eq t.isLt N_0; have := p.isLt; omega⟩

/-- A block's entries of the arguments. -/
theorem blk (t : Fin cfg0.N) (p : Fin 256) (q : Fin 1024) (k : Fin 2048) :
    iblk m c 0 t (ix2 p k) = DA m c (ix2 (at' t p) k) ∧ iblk m c 1 t (ix2 p k) = DP m c (ix2 (at' t p) k)
      ∧ iblk m c 2 t (ix2 p q) = At m c (ix2 (at' t p) q) ∧ iblk m c 7 t (ix2 p q) = Mx m c (ix2 (at' t p) q)
      ∧ iblk m c 8 t (ix2 q k) = WA m c (ix2 q k) ∧ iblk m c 9 t (ix2 q k) = WP m c (ix2 q k)
      ∧ iblk m c 11 t (ix2 0 q) = Ps m c (ix2 0 q) := by
  refine ⟨?_, ?_, ?_, ?_, ?_, ?_, ?_⟩ <;> blk_ext [iblk, V, idx t]

/-- The groups' weights are the same at every point. -/
theorem blk_g (t : Fin cfg0.N) (g : Fin 4) (q k : Fin 256) : iblk m c 10 t (ix3 g q k) = WG m c (ix3 g q k) := by
  blk_ext [iblk, V, idx t]

/-- The projections' four blocks of columns. -/
theorem blk_p (t : Fin cfg0.N) (p : Fin 256) (l : Fin 512) :
    iblk m c 3 t (ix2 p l) = Pr m c (ix2 (at' t p) ⟨1536 + l.val, by have := l.isLt; omega⟩)
      ∧ iblk m c 4 t (ix2 p l) = Pr m c (ix2 (at' t p) ⟨2048 + l.val, by have := l.isLt; omega⟩)
      ∧ iblk m c 5 t (ix2 p l) = Pr m c (ix2 (at' t p) ⟨3584 + l.val, by have := l.isLt; omega⟩)
      ∧ iblk m c 6 t (ix2 p l) = Pr m c (ix2 (at' t p) ⟨4096 + l.val, by have := l.isLt; omega⟩) := by
  refine ⟨?_, ?_, ?_, ?_⟩ <;> blk_ext [iblk, V, idx t]

/-- Two blocks of columns side by side, read at either. -/
theorem cat_at (x y : FVec Ideal S256x512 .bf16) (p : Fin 256) (q : Fin 1024) (v : EReal)
    (hx : ∀ l : Fin 512, q.val = l.val → x (ix2 p l) = v) (hy : ∀ l : Fin 512, q.val = 512 + l.val → y (ix2 p l) = v) :
    concatenate S256x1024 1 [⟨S256x512, x⟩, ⟨S256x512, y⟩] concatenates_S256x512_S256x512_S256x1024_d1 (ix2 p q) = v := by
  have hq := q.isLt
  by_cases h : q.val < 512
  · refine (concatenate_pair_apply_left _ _ _ _ _ ?_ (ix2 p ⟨q.val, h⟩) ?_).trans (hx ⟨q.val, h⟩ rfl)
    · rfl
    · intro b
      match b with
      | 0 => rfl
      | 1 => rfl
  · refine (concatenate_pair_apply_right _ _ _ _ _ ?_ ?_ (ix2 p ⟨q.val - 512, by omega⟩) ?_ ?_).trans (hy ⟨q.val - 512, by omega⟩ (by simp only; omega))
    · rfl
    · rfl
    · intro b hb
      match b with
      | 0 => rfl
      | 1 => exact absurd rfl hb
    · show q.val - 512 + 512 = q.val
      omega

/-- A point's payloads at an entry: first the first branch's cotangent. -/
theorem pay6 (t : Fin cfg0.N) (p : Fin 256) (q : Fin 1024) : k0_pay6 (iblk m c 0 t) (iblk m c 8 t) (ix2 p q) = dya m c (at' t p) q := by
  pointwise [k0_pay6]
  simp only [(blk m c t _ 0 _).1, (blk m c t 0 _ _).2.2.2.2.1]
  rfl

/-- The second branch's cotangent. -/
theorem pay10 (t : Fin cfg0.N) (p : Fin 256) (q : Fin 1024) : k0_pay10 (iblk m c 1 t) (iblk m c 9 t) (ix2 p q) = dyp m c (at' t p) q := by
  pointwise [k0_pay10]
  simp only [(blk m c t _ 0 _).2.1, (blk m c t 0 _ _).2.2.2.2.2.1]
  rfl

/-- The first gate, put together from two blocks of columns. -/
theorem pay7 (t : Fin cfg0.N) (p : Fin 256) (q : Fin 1024) : k0_pay7 (iblk m c 3 t) (iblk m c 4 t) (ix2 p q) = ga m c (at' t p) q := by
  refine cat_at _ _ p q _ (fun l h => (blk_p m c t p l).1.trans ?_) fun l h => (blk_p m c t p l).2.1.trans ?_
  · exact congrArg (fun i => Pr m c (ix2 (at' t p) i)) (Fin.ext (by simp only; omega))
  · exact congrArg (fun i => Pr m c (ix2 (at' t p) i)) (Fin.ext (by simp only; omega))

/-- The second gate, the same way. -/
theorem pay11 (t : Fin cfg0.N) (p : Fin 256) (q : Fin 1024) : k0_pay11 (iblk m c 5 t) (iblk m c 6 t) (ix2 p q) = gp m c (at' t p) q := by
  refine cat_at _ _ p q _ (fun l h => (blk_p m c t p l).2.2.1.trans ?_) fun l h => (blk_p m c t p l).2.2.2.trans ?_
  · exact congrArg (fun i => Pr m c (ix2 (at' t p) i)) (Fin.ext (by simp only; omega))
  · exact congrArg (fun i => Pr m c (ix2 (at' t p) i)) (Fin.ext (by simp only; omega))

/-- The gradient of attention's output. -/
theorem pay8 (t : Fin cfg0.N) (p : Fin 256) (q : Fin 1024) :
    k0_pay8 (iblk m c 0 t) (iblk m c 8 t) (iblk m c 3 t) (iblk m c 4 t) (ix2 p q) = oAt m c (ix2 (at' t p) q) := by
  pointwise [k0_pay8]
  rw [pay6, pay7]
  rfl

/-- The first gate's gradient. -/
theorem pay9 (t : Fin cfg0.N) (p : Fin 256) (q : Fin 1024) :
    k0_pay9 (iblk m c 0 t) (iblk m c 8 t) (iblk m c 3 t) (iblk m c 4 t) (iblk m c 2 t) (ix2 p q) = oGa m c (ix2 (at' t p) q) := by
  pointwise [k0_pay9]
  rw [pay6, pay7, (blk m c t p q 0).2.2.1]
  rfl

/-- The second gating. -/
theorem pay13 (t : Fin cfg0.N) (p : Fin 256) (q : Fin 1024) :
    k0_pay13 (iblk m c 5 t) (iblk m c 6 t) (ix2 p q) = gp m c (at' t p) q * sg (gp m c (at' t p) q) := by
  pointwise [k0_pay13]
  rw [pay11]
  rfl

/-- The second gate's gradient. -/
theorem pay14 (t : Fin cfg0.N) (p : Fin 256) (q : Fin 1024) :
    k0_pay14 (k0_pay10 (iblk m c 1 t) (iblk m c 9 t)) (iblk m c 5 t) (iblk m c 6 t) (iblk m c 7 t) (iblk m c 11 t) (ix2 p q)
      = oGp m c (ix2 (at' t p) q) := by
  pointwise [k0_pay14, k0_pay12]
  rw [pay10, pay11, (blk m c t p q 0).2.2.2.1, (blk m c t 0 q 0).2.2.2.2.2.2]
  rfl

/-- The cotangent of the groups' product. -/
theorem pay16 (t : Fin cfg0.N) (p : Fin 256) (q : Fin 1024) :
    k0_pay16 (k0_pay10 (iblk m c 1 t) (iblk m c 9 t)) (iblk m c 5 t) (iblk m c 6 t) (iblk m c 11 t) (ix2 p q)
      = dmx m c (at' t p) q := by
  pointwise [k0_pay16]
  rw [pay10, pay13, (blk m c t 0 q 0).2.2.2.2.2.2]
  rfl

/-- The scale's sum with the point's terms added. -/
theorem pay15 (t : Fin cfg0.N) (v : Vec Ideal S1x1024 .f32) (q : Fin 1024) :
    k0_pay15 (k0_pay10 (iblk m c 1 t) (iblk m c 9 t)) (iblk m c 5 t) (iblk m c 6 t) (iblk m c 7 t) v (ix2 0 q)
      = v (ix2 0 q) + ∑ p : Fin 256, ups m c q (at' t p) := by
  pointwise [k0_pay15, k0_pay12]
  simp only [pay10, pay13, (blk m c t _ q 0).2.2.2.1]
  rfl

/-- A block of the gradient of attention's output. -/
theorem out_at (t : Fin cfg0.N) (p : Fin 256) (q : Fin 1024) : (outsAt0 m c t.val t.isLt).1 (ix2 p q) = oAt m c (ix2 (at' t p) q) := by
  by_cases h0 : t.val % 32 = 0
  · rw [outsAt0_A m c t h0]
    frame_out
    exact pay8 m c t p q
  · rw [outsAt0_B m c t h0]
    frame_out
    exact pay8 m c t p q

/-- A block of the first gate's gradient. -/
theorem out_ga (t : Fin cfg0.N) (p : Fin 256) (q : Fin 1024) : (outsAt0 m c t.val t.isLt).2.1 (ix2 p q) = oGa m c (ix2 (at' t p) q) := by
  by_cases h0 : t.val % 32 = 0
  · rw [outsAt0_A m c t h0]
    frame_out
    exact pay9 m c t p q
  · rw [outsAt0_B m c t h0]
    frame_out
    exact pay9 m c t p q

/-- A block of the second gate's gradient. -/
theorem out_gp (t : Fin cfg0.N) (p : Fin 256) (q : Fin 1024) : (outsAt0 m c t.val t.isLt).2.2.1 (ix2 p q) = oGp m c (ix2 (at' t p) q) := by
  by_cases h0 : t.val % 32 = 0
  · rw [outsAt0_A m c t h0]
    frame_out
    exact pay14 m c t p q
  · rw [outsAt0_B m c t h0]
    frame_out
    exact pay14 m c t p q

/-- A block of the cotangent of the groups' product. -/
theorem out_mx (t : Fin cfg0.N) (p : Fin 256) (q : Fin 1024) : (outsAt0 m c t.val t.isLt).2.2.2.1 (ix2 p q) = oMx m c (ix2 (at' t p) q) := by
  by_cases h0 : t.val % 32 = 0
  · rw [outsAt0_A m c t h0]
    frame_out
    exact pay16 m c t p q
  · rw [outsAt0_B m c t h0]
    frame_out
    exact pay16 m c t p q

/-- A group's product at an entry of a block, from the group's columns and its weights. -/
theorem pay1_at (x : FVec Ideal S256x256 .bf16) (w : Vec Ideal S1x256x256 .bf16) (p q : Fin 256) :
    k0_pay1 x w (ix2 p q) = ∑ k : Fin 256, x (ix2 p k) * w (ix3 0 q k) := by
  pointwise [k0_pay1]

/-- The second group's product. -/
theorem pay2_at (x : FVec Ideal S256x1024 .bf16) (w : Vec Ideal S1x256x256 .bf16) (p q : Fin 256) :
    k0_pay2 x w (ix2 p q) = ∑ k : Fin 256, x (ix2 p (col 1 k)) * w (ix3 0 q k) := by
  pointwise [k0_pay2]
  rfl

/-- The third group's product. -/
theorem pay3_at (x : FVec Ideal S256x1024 .bf16) (w : Vec Ideal S1x256x256 .bf16) (p q : Fin 256) :
    k0_pay3 x w (ix2 p q) = ∑ k : Fin 256, x (ix2 p (col 2 k)) * w (ix3 0 q k) := by
  pointwise [k0_pay3]
  rfl

/-- The fourth group's product. -/
theorem pay4_at (x : FVec Ideal S256x1024 .bf16) (w : Vec Ideal S1x256x256 .bf16) (p q : Fin 256) :
    k0_pay4 x w (ix2 p q) = ∑ k : Fin 256, x (ix2 p (col 3 k)) * w (ix3 0 q k) := by
  pointwise [k0_pay4]
  rfl

/-- A group's weights as a point reads them. -/
theorem ld_g (t : Fin cfg0.N) (g : Fin 4) (inb : ∀ i, (![g.val, 0, 0] : Fin 3 → ℕ) i + (![1, 256, 256] : Fin 3 → ℕ) i ≤ S4x256x256.size i) (q k : Fin 256) :
    View.ld (iblk m c 10 t) (Rect.unit (s := S4x256x256) ![g.val, 0, 0] ![1, 256, 256] inb) (ix3 0 q k) = WG m c (ix3 g q k) := by
  refine Eq.trans (congrArg (iblk m c 10 t) (funext fun i => Fin.ext ?_)) (blk_g m c t g q k)
  refine (Rect.idx_unit_val _ _ inb (ix3 0 q k) i).trans ?_
  match i with
  | 0 => exact Nat.add_zero _
  | 1 => exact Nat.zero_add _
  | 2 => exact Nat.zero_add _

/-- Four stores of 256 columns side by side, read back at an entry of any. -/
theorem four {e : EltTy} (w3 w2 w1 w0 : S256x256.Idx → Elt Ideal e) (p : Fin 256) (q : Fin 1024) (v : Elt Ideal e)
    (h : ∀ (g : Fin 4) (l : Fin 256), q = col g l → (match g with | 0 => w0 | 1 => w1 | 2 => w2 | 3 => w3) (ix2 p l) = v) :
    View.canon (Val := Elt Ideal) (s := S256x1024) (e := e)
      [⟨Rect.unit ![0, 768] ![256, 256] inb_S256x1024_S256x256_0_768, w3⟩, ⟨Rect.unit ![0, 512] ![256, 256] inb_S256x1024_S256x256_0_512, w2⟩,
        ⟨Rect.unit ![0, 256] ![256, 256] inb_S256x1024_S256x256_0_256, w1⟩, ⟨Rect.unit ![0, 0] ![256, 256] inb_S256x1024_S256x256_0_0, w0⟩]
      (ix2 p q) = v := by
  have piece : ∀ (g : Fin 4) (o : ℕ) (w : S256x256.Idx → Elt Ideal e) (x : S256x256.Idx), o = g.val * 256 → p.val = 0 + (x 0).val →
      q.val = o + (x 1).val → (∀ l : Fin 256, q = col g l → w (ix2 p l) = v) → w x = v := by
    intro g o w x ho e0 e1 hw
    refine Eq.trans (congrArg w ?_) (hw (x 1) (Fin.ext (by rw [e1, ho])))
    funext a
    match a with
    | 0 => exact Fin.ext ((Nat.zero_add _).symm.trans e0.symm)
    | 1 => rfl
  refine View.canon_eq_of_allAt _ _ _ (View.cover_of_tiled_head _ _ _ rfl _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · exact piece 3 768 w3 x rfl (hx 0) (hx 1) (h 3)
  · exact piece 2 512 w2 x rfl (hx 0) (hx 1) (h 2)
  · exact piece 1 256 w1 x rfl (hx 0) (hx 1) (h 1)
  · exact piece 0 0 w0 x rfl (hx 0) (hx 1) (h 0)

/-- A block of the pooled rows' gradient: four groups' products side by side. -/
theorem out_pl (t : Fin cfg0.N) (p : Fin 256) (q : Fin 1024) : (outsAt0 m c t.val t.isLt).2.2.2.2.1 (ix2 p q) = oPl m c (ix2 (at' t p) q) := by
  have e0 : ∀ k, k0_pay17 (k0_pay10 (iblk m c 1 t) (iblk m c 9 t)) (iblk m c 5 t) (iblk m c 6 t) (iblk m c 11 t) (ix2 p k)
      = dmx m c (at' t p) (col 0 k) := fun k => by
    rw [← pay16]
    pointwise [k0_pay17]
    exact congrArg (fun i => k0_pay16 _ _ _ _ (ix2 p i)) (Fin.ext (by simp))
  have hl : ∀ (g : Fin 4) (l : Fin 256), q = col g l →
      (match g with
        | 0 => k0_pay1 (k0_pay17 (k0_pay10 (iblk m c 1 t) (iblk m c 9 t)) (iblk m c 5 t) (iblk m c 6 t) (iblk m c 11 t))
            (View.ld (iblk m c 10 t) (Rect.unit ![0, 0, 0] ![1, 256, 256] inb_S4x256x256_S1x256x256_0_0_0))
        | 1 => k0_pay2 (k0_pay16 (k0_pay10 (iblk m c 1 t) (iblk m c 9 t)) (iblk m c 5 t) (iblk m c 6 t) (iblk m c 11 t))
            (View.ld (iblk m c 10 t) (Rect.unit ![1, 0, 0] ![1, 256, 256] inb_S4x256x256_S1x256x256_1_0_0))
        | 2 => k0_pay3 (k0_pay16 (k0_pay10 (iblk m c 1 t) (iblk m c 9 t)) (iblk m c 5 t) (iblk m c 6 t) (iblk m c 11 t))
            (View.ld (iblk m c 10 t) (Rect.unit ![2, 0, 0] ![1, 256, 256] inb_S4x256x256_S1x256x256_2_0_0))
        | 3 => k0_pay4 (k0_pay16 (k0_pay10 (iblk m c 1 t) (iblk m c 9 t)) (iblk m c 5 t) (iblk m c 6 t) (iblk m c 11 t))
            (View.ld (iblk m c 10 t) (Rect.unit ![3, 0, 0] ![1, 256, 256] inb_S4x256x256_S1x256x256_3_0_0)) : FVec Ideal S256x256 .bf16) (ix2 p l)
        = oPl m c (ix2 (at' t p) q) := by
    rintro g l rfl
    rw [oPl_col]
    match g with
    | 0 => exact (pay1_at _ _ p l).trans (Finset.sum_congr rfl fun k _ => congr (congrArg _ (e0 k)) (ld_g m c t 0 _ l k))
    | 1 => exact (pay2_at _ _ p l).trans (Finset.sum_congr rfl fun k _ => congr (congrArg _ (pay16 m c t p _)) (ld_g m c t 1 _ l k))
    | 2 => exact (pay3_at _ _ p l).trans (Finset.sum_congr rfl fun k _ => congr (congrArg _ (pay16 m c t p _)) (ld_g m c t 2 _ l k))
    | 3 => exact (pay4_at _ _ p l).trans (Finset.sum_congr rfl fun k _ => congr (congrArg _ (pay16 m c t p _)) (ld_g m c t 3 _ l k))
  by_cases h0 : t.val % 32 = 0
  · rw [outsAt0_A m c t h0]
    frame_out
    exact four _ _ _ _ p q _ hl
  · rw [outsAt0_B m c t h0]
    frame_out
    exact four _ _ _ _ p q _ hl

/-- The first point leaves its own block's terms of the scale's gradient. -/
theorem acc_A (t : Fin cfg0.N) (h0 : t.val % 32 = 0) (q : Fin 1024) :
    (outsAt0 m c t.val t.isLt).2.2.2.2.2 (ix2 0 q) = ∑ p : Fin 256, ups m c q (at' t p) := by
  rw [outsAt0_A m c t h0]
  frame_out
  rw [pay15]
  pointwise [k0_pay5]

/-- Every further point adds its own. -/
theorem acc_B (t : Fin cfg0.N) (h0 : ¬t.val % 32 = 0) (q : Fin 1024) :
    (outsAt0 m c t.val t.isLt).2.2.2.2.2 (ix2 0 q)
      = (outsAt0 m c (t.val - 1) (Nat.lt_of_le_of_lt (Nat.sub_le _ _) t.isLt)).2.2.2.2.2 (ix2 0 q) + ∑ p : Fin 256, ups m c q (at' t p) := by
  rw [outsAt0_B m c t h0]
  frame_out
  rw [pay15]

/-- The scale's gradient after a point. -/
def vPs (q : Fin 1024) (n : ℕ) (h : n < 32) : EReal := (outsAt0 m c n (h.trans_eq N_0.symm)).2.2.2.2.2 (ix2 0 q)

/-- After the last point it is the sum over all rows. -/
theorem last_ps (q : Fin 1024) : vPs m c q 31 (by omega) = oPs m c (ix2 0 q) :=
  run_sum (ups m c q) (vPs m c q) (acc_A m c ⟨0, Nat.lt_of_lt_of_eq (by omega) N_0.symm⟩ rfl q) fun n h hn =>
    acc_B m c ⟨n, h.trans_eq N_0.symm⟩ (by simp only; omega) q

/-- At the point that writes it out, the scale's gradient is the sum over all rows. -/
theorem acc (t : Fin cfg0.N) (ht : t.val % 32 = 31) (q : Fin 1024) :
    (outsAt0 m c t.val t.isLt).2.2.2.2.2 (ix2 0 q) = oPs m c (ix2 0 q) := by
  have h32 := Nat.lt_of_lt_of_eq t.isLt N_0
  have h31 : t.val = 31 := by omega
  rw [← last_ps]
  have e : ∀ n (h : n < 32), n = 31 → vPs m c q n h = vPs m c q 31 (by omega) := by
    intro n h hn
    subst hn
    rfl
  exact e t.val h32 h31

/-- The kernel's result arrays: first the gradient of attention's output. -/
theorem final_at : (dats m 0 c).arrAt 12 cfg0.N = oAt m c := by
  refine (dats m 0 c).arrAt_eq_of_covers 12 _ (by decide +kernel) fun t hf y => ?_
  blk_simp
  rw [after0_12]
  obtain ⟨p, q, rfl⟩ : ∃ (p : Fin 256) (q : Fin 1024), y = ix2 p q := ⟨y 0, y 1, by funext a; match a with | 0 => rfl | 1 => rfl⟩
  rw [out_at m c t]
  blk_ext [idx t]

/-- The first gate's gradient. -/
theorem final_ga : (dats m 0 c).arrAt 13 cfg0.N = oGa m c := by
  refine (dats m 0 c).arrAt_eq_of_covers 13 _ (by decide +kernel) fun t hf y => ?_
  blk_simp
  rw [after0_13]
  obtain ⟨p, q, rfl⟩ : ∃ (p : Fin 256) (q : Fin 1024), y = ix2 p q := ⟨y 0, y 1, by funext a; match a with | 0 => rfl | 1 => rfl⟩
  rw [out_ga m c t]
  blk_ext [idx t]

/-- The second gate's gradient. -/
theorem final_gp : (dats m 0 c).arrAt 14 cfg0.N = oGp m c := by
  refine (dats m 0 c).arrAt_eq_of_covers 14 _ (by decide +kernel) fun t hf y => ?_
  blk_simp
  rw [after0_14]
  obtain ⟨p, q, rfl⟩ : ∃ (p : Fin 256) (q : Fin 1024), y = ix2 p q := ⟨y 0, y 1, by funext a; match a with | 0 => rfl | 1 => rfl⟩
  rw [out_gp m c t]
  blk_ext [idx t]

/-- The cotangent of the groups' product. -/
theorem final_mx : (dats m 0 c).arrAt 15 cfg0.N = oMx m c := by
  refine (dats m 0 c).arrAt_eq_of_covers 15 _ (by decide +kernel) fun t hf y => ?_
  blk_simp
  rw [after0_15]
  obtain ⟨p, q, rfl⟩ : ∃ (p : Fin 256) (q : Fin 1024), y = ix2 p q := ⟨y 0, y 1, by funext a; match a with | 0 => rfl | 1 => rfl⟩
  rw [out_mx m c t]
  blk_ext [idx t]

/-- The pooled rows' gradient. -/
theorem final_pl : (dats m 0 c).arrAt 16 cfg0.N = oPl m c := by
  refine (dats m 0 c).arrAt_eq_of_covers 16 _ (by decide +kernel) fun t hf y => ?_
  blk_simp
  rw [after0_16]
  obtain ⟨p, q, rfl⟩ : ∃ (p : Fin 256) (q : Fin 1024), y = ix2 p q := ⟨y 0, y 1, by funext a; match a with | 0 => rfl | 1 => rfl⟩
  rw [out_pl m c t]
  blk_ext [idx t]

/-- The scale's gradient. -/
theorem final_ps : (dats m 0 c).arrAt 17 cfg0.N = oPs m c := by
  refine (dats m 0 c).arrAt_eq_of_covers 17 _ (by decide +kernel) fun t hf y => ?_
  have h1 : t.val % 32 = 31 := (flush0_17 t).mp hf
  blk_simp
  rw [after0_17]
  obtain ⟨q, rfl⟩ : ∃ (q : Fin 1024), y = ix2 0 q := ⟨y 1, by funext a; match a with | 0 => exact Subsingleton.elim (α := Fin 1) _ _ | 1 => rfl⟩
  rw [acc m c t h1 q]
  blk_ext [idx t]

/-- What the value claim needs of the arguments: the cotangents that the two gates' derivatives multiply are finite. -/
structure Fins : Prop where
  da : ∀ s q, Fin1 (At m c (ix2 s q) * dya m c s q)
  dp : ∀ s q, Fin1 (Mx m c (ix2 s q) * Ps m c (ix2 0 q) * dyp m c s q)

/-- The precondition's shape facts. -/
theorem pre_facts : Cert.Pre_finite_branches.Facts where
  bitsLt_bf16_f32 := by decide
  bcast_S_S8192x2048 := by decide
  bcast_S_S8192x1024 := by decide
  bcast_S_S1024x2048 := by decide
  bcast_S_S1x1024 := by decide

/-- The precondition gives that finiteness. -/
theorem fins_of_pre (hpre : Cert.Pre_Kernel14Ideal_finite_branches (hPre_finite_branches := pre_facts) m) : Fins m c := by
  obtain ⟨h0, h1, h2, h3, h4, h5, h6⟩ := hpre c
  have f0 : ∀ s k, Fin1 (DA m c (ix2 s k)) := fun s k => Attn.real_of_lt _ (congrFun h0 (ix2 s k))
  have f1 : ∀ s k, Fin1 (DP m c (ix2 s k)) := fun s k => Attn.real_of_lt _ (congrFun h1 (ix2 s k))
  have f2 : ∀ s k, Fin1 (At m c (ix2 s k)) := fun s k => Attn.real_of_lt _ (congrFun h2 (ix2 s k))
  have f3 : ∀ s k, Fin1 (Mx m c (ix2 s k)) := fun s k => Attn.real_of_lt _ (congrFun h3 (ix2 s k))
  have f4 : ∀ s k, Fin1 (WA m c (ix2 s k)) := fun s k => Attn.real_of_lt _ (congrFun h4 (ix2 s k))
  have f5 : ∀ s k, Fin1 (WP m c (ix2 s k)) := fun s k => Attn.real_of_lt _ (congrFun h5 (ix2 s k))
  have f6 : ∀ k, Fin1 (Ps m c (ix2 0 k)) := fun k => Attn.real_of_lt _ (congrFun h6 (ix2 0 k))
  exact ⟨fun s q => (f2 s q).mul (Fin1.sum fun k => (f0 s k).mul (f4 q k)),
    fun s q => ((f3 s q).mul (f6 q)).mul (Fin1.sum fun k => (f1 s k).mul (f5 q k))⟩

/-- The printed kernel runs, its arguments unchanged and every counter back at zero. -/
theorem frame_kernel : Cert.quiescent_Kernel14 (hKernel14 := Cert.Kernel14.Gen.facts) := fun m g _ =>
  Cert.Kernel14.Gen.frame (F := Bits) m g

/-- The same of its idealization, with the precondition or without. -/
theorem frame_ideal : Cert.quiescent_Kernel14Ideal (hKernel14Ideal := Cert.Kernel14Ideal.Gen.facts) := fun m g _ =>
  Cert.Kernel14Ideal.Gen.frame (F := Ideal) m g

/-- The same under the precondition. -/
theorem frame_ideal_pre : Cert.quiescent_Kernel14Ideal_pre_finite_branches (hKernel14Ideal := Cert.Kernel14Ideal.Gen.facts)
    (hPre_finite_branches := pre_facts) := fun m g _ => Cert.Kernel14Ideal.Gen.frame (F := Ideal) m g

/-- The same of the reference, which has no counters. -/
theorem frame_reference : Cert.quiescent_Reference14Ideal (hReference14Ideal := Cert.Reference14Ideal.Gen.facts) := fun m g _ =>
  (θ_run Cert.Reference14Ideal.defs _ _).mono (fun r h => ⟨fun c => (h c).2.2.2.2.2.2,
    Idealize.ShloMosaic.sem_eq_zero_of_no_sems (by decide) r.2⟩) (Cert.Reference14Ideal.Value.run (F := Ideal) m g)

/-- The same under the precondition. -/
theorem frame_reference_pre : Cert.quiescent_Reference14Ideal_pre_finite_branches (hReference14Ideal := Cert.Reference14Ideal.Gen.facts)
    (hPre_finite_branches := pre_facts) := fun m g _ => frame_reference m g trivial

/-- The reference's two products are the kernel's cotangents. -/
theorem rDa (s : Fin 8192) (q : Fin 1024) : rDy (DA m c) (WA m c) (ix2 s q) = dya m c s q := rDy_at _ _ s q
/-- The second product, the same way. -/
theorem rDp (s : Fin 8192) (q : Fin 1024) : rDy (DP m c) (WP m c) (ix2 s q) = dyp m c s q := rDy_at _ _ s q

/-- The reference's gradient of a pooled branch's value, at an entry. -/
theorem rValP (s : Fin 8192) (q : Fin 1024) :
    rVal (rDy (DP m c) (WP m c)) (rGp (Pr m c)) (ix2 s q) = dyp m c s q * (gp m c s q * sg (gp m c s q)) := by
  rw [rVal_at, rDp, rGp_at]
  rfl

/-- The reference's cotangent of the groups' product, at an entry. -/
theorem rMx (s : Fin 8192) (q : Fin 1024) :
    mulf (rVal (rDy (DP m c) (WP m c)) (rGp (Pr m c))) (rPs (Ps m c)) (ix2 s q) = dmx m c s q := by
  show rVal (rDy (DP m c) (WP m c)) (rGp (Pr m c)) (ix2 s q) * rPs (Ps m c) (ix2 s q) = _
  rw [rValP, rPs_at]
  rfl

set_option maxHeartbeats 4000000 in
/-- At extended reals the kernel's results are the derivatives of the two gated branches and of the groups' product. -/
theorem algebraic : Cert.algebraic_Kernel14Ideal_Reference14Ideal_pre_finite_branches (hKernel14Ideal := Cert.Kernel14Ideal.Gen.facts)
    (hReference14Ideal := Cert.Reference14Ideal.Gen.facts) (hPre_finite_branches := pre_facts) := by
  intro m g m' g' hpre hargs
  refine ⟨fun c => oAt m c, fun c => oGa m c, fun c => oGp m c, fun c => oMx m c, fun c => oPl m c, fun c => oPs m c, ?_, ?_⟩
  · refine (θ_run Cert.Kernel14Ideal.defs _ _).mono (fun r h c => ?_) (run_main (F := Ideal) m g)
    refine ⟨((h c).1 12).trans (final_at m c), ((h c).1 13).trans (final_ga m c), ((h c).1 14).trans (final_gp m c),
      ((h c).1 15).trans (final_mx m c), ((h c).1 16).trans (final_pl m c), ((h c).1 17).trans (final_ps m c), ?_, ?_, ?_, ?_, ?_, ?_, ?_, ?_, ?_⟩
    · exact ((h c).1 0).trans ((dats m 0 c).arrAt_in 0 rfl _)
    · exact ((h c).1 1).trans ((dats m 0 c).arrAt_in 1 rfl _)
    · exact ((h c).1 2).trans ((dats m 0 c).arrAt_in 2 rfl _)
    · exact ((h c).1 3).trans ((dats m 0 c).arrAt_in 3 rfl _)
    · exact ((h c).1 7).trans ((dats m 0 c).arrAt_in 7 rfl _)
    · exact ((h c).1 8).trans ((dats m 0 c).arrAt_in 8 rfl _)
    · exact ((h c).1 9).trans ((dats m 0 c).arrAt_in 9 rfl _)
    · exact ((h c).1 10).trans ((dats m 0 c).arrAt_in 10 rfl _)
    · exact ((h c).1 11).trans ((dats m 0 c).arrAt_in 11 rfl _)
  · refine (θ_run Cert.Reference14Ideal.defs _ _).mono (fun r h c => ?_) (Cert.Reference14Ideal.Value.run (F := Ideal) m' g')
    have hF := fins_of_pre m c hpre
    obtain ⟨a0, a1, a2, a3, a4, a5, a6, a7, a8⟩ := hargs c
    obtain ⟨h0, h1, h2, h3, h4, h5, h6⟩ := h c
    refine ⟨h0.trans ?_, h1.trans ?_, h2.trans ?_, h3.trans ?_, h4.trans ?_, h5.trans ?_, h6⟩
    all_goals clear h h0 h1 h2 h3 h4 h5 h6 hpre hargs
    · rw [a0, a3, a5]
      funext j
      obtain ⟨p, q, rfl⟩ : ∃ (p : Fin 8192) (q : Fin 1024), j = ix2 p q := ⟨j 0, j 1, by funext a; match a with | 0 => rfl | 1 => rfl⟩
      refine (rVal_at (rDy (DA m c) (WA m c)) (rGa (Pr m c)) p q).trans ?_
      rw [rDa, rGa_at]
      rfl
    · rw [a0, a2, a3, a5]
      funext j
      obtain ⟨p, q, rfl⟩ : ∃ (p : Fin 8192) (q : Fin 1024), j = ix2 p q := ⟨j 0, j 1, by funext a; match a with | 0 => rfl | 1 => rfl⟩
      refine (rGate_at (mulf (At m c) (rDy (DA m c) (WA m c))) (rGa (Pr m c)) p q).trans ?_
      have e : mulf (F := Ideal) (s := (⟨2, ![8192, 1024]⟩ : Shape)) (φ := .f32) (At m c) (rDy (DA m c) (WA m c)) (ix2 p q) = At m c (ix2 p q) * dya m c p q :=
        congrArg (At m c (ix2 p q) * ·) (rDa m c p q)
      rw [e, rGa_at]
      refine (dsilu (hF.da p q) _).symm.trans ?_
      rw [mul_comm (At m c (ix2 p q))]
      rfl
    · rw [a1, a3, a4, a6, a8]
      funext j
      obtain ⟨p, q, rfl⟩ : ∃ (p : Fin 8192) (q : Fin 1024), j = ix2 p q := ⟨j 0, j 1, by funext a; match a with | 0 => rfl | 1 => rfl⟩
      refine (rGate_at (mulf (mulf (Mx m c) (rPs (Ps m c))) (rDy (DP m c) (WP m c))) (rGp (Pr m c)) p q).trans ?_
      have e : mulf (F := Ideal) (s := (⟨2, ![8192, 1024]⟩ : Shape)) (φ := .f32) (mulf (Mx m c) (rPs (Ps m c))) (rDy (DP m c) (WP m c)) (ix2 p q)
          = Mx m c (ix2 p q) * Ps m c (ix2 0 q) * dyp m c p q := by
        rw [← rDp m c p q, ← rPs_at (Ps m c) p q]
        rfl
      rw [e, rGp_at]
      refine (dsilu (hF.dp p q) _).symm.trans ?_
      rw [mul_comm _ (dyp m c p q), ← mul_assoc (dyp m c p q)]
      rfl
    · rw [a1, a3, a6, a8]
      funext j
      obtain ⟨p, q, rfl⟩ : ∃ (p : Fin 8192) (q : Fin 1024), j = ix2 p q := ⟨j 0, j 1, by funext a; match a with | 0 => rfl | 1 => rfl⟩
      exact rMx m c p q
    · rw [a1, a3, a6, a7, a8]
      funext j
      obtain ⟨p, q, rfl⟩ : ∃ (p : Fin 8192) (q : Fin 1024), j = ix2 p q := ⟨j 0, j 1, by funext a; match a with | 0 => rfl | 1 => rfl⟩
      obtain ⟨g, l, rfl⟩ := col_surj q
      refine (rPool_at (mulf (rVal (rDy (DP m c) (WP m c)) (rGp (Pr m c))) (rPs (Ps m c))) (WG m c) p g l).trans ?_
      simp only [rMx]
      exact (oPl_col m c p g l).symm
    · rw [a1, a3, a4, a6]
      funext j
      obtain ⟨q, rfl⟩ : ∃ (q : Fin 1024), j = ix2 0 q := ⟨j 1, by funext a; match a with | 0 => exact Subsingleton.elim (α := Fin 1) _ _ | 1 => rfl⟩
      refine (rSum_at (mulf (Mx m c) (rVal (rDy (DP m c) (WP m c)) (rGp (Pr m c)))) q).trans ?_
      refine Finset.sum_congr rfl fun s _ => ?_
      refine (congrArg (Mx m c (ix2 s q) * ·) (rValP m c s q)).trans ?_
      exact mul_comm _ _

end Cert.Proof.BrBwd

end
-- ==== Proof.Gate.Forward.lean ====
/- The branches' forward call, of its results the two of the attention's branch: every grid point gates its own block of
   rows and multiplies it by the branch's weight. -/
module

public import proofs.«01_k».proof.Defs
public import proofs.«01_k».proof.Proof.Gate.Branches
public import Idealize.ShloMosaic.Lib.Pipeline.ReadBack
public import proofs.«01_k».proof.Proof.Gen.Kernel15.Frame
public import proofs.«01_k».proof.Proof.Gen.Kernel15Ideal.Frame
public import proofs.«01_k».proof.Proof.Gen.Reference15Ideal.Run

@[expose] public section

set_option maxRecDepth 16384

noncomputable section

namespace Cert.Proof.BrFwd

open Idealize.ShloMosaic Cert.Proof.Norm Finset
open Cert.Proof.BrBwd (sg cat_at rVal rGa rVal_at rGa_at)

section Reference

open Idealize.ShloMosaic.TcCoe Cert.Reference15Ideal Cert.Reference15Ideal.Facts₀

/-- The branch's product, rounded as it is returned. -/
def rDot (x : FVec Ideal S8192x1024 .f32) (w : FVec Ideal S1024x2048 .bf16) : FVec Ideal S8192x2048 .bf16 :=
  truncf .bf16 (Host.dotGeneral dot_S8192x1024_S1024x2048_S8192x2048_1_0_0_1_n_n none x (extf .f32 w bitsLt_bf16_f32)) bitsLt_bf16_f32

/-- Its entry: a sum of products. -/
theorem rDot_at (x : FVec Ideal S8192x1024 .f32) (w : FVec Ideal S1024x2048 .bf16) (s : Fin 8192) (q : Fin 2048) :
    rDot x w (ix2 s q) = ∑ k : Fin 1024, x (ix2 s k) * w (ix2 k q) := by
  pointwise [rDot]

end Reference

open Idealize.ShloMosaic.TcCoe Idealize.SL.Sem Cert.Kernel15Ideal Cert.Kernel15Ideal.Gen

/-- The block indices of the windows that the two results depend on: row blocks move with the point, the weight stays. -/
theorem idx : ∀ t : Fin cfg0.N, win0_0.index t = ![t.val, 0] ∧ win0_1.index t = ![t.val, 3] ∧ win0_2.index t = ![t.val, 4]
    ∧ win0_12.index t = ![0, 0] ∧ win0_16.index t = ![t.val, 0] ∧ win0_18.index t = ![t.val, 0] :=
  (by decide +kernel : ∀ t : Fin grid0.N, _)

variable (m : (ℓ : Loc nD τ sig) → Buf (Elt Ideal) ℓ) (c : Dev nD)

/-- The arguments that matter: the projections, the attention's output and the branch's weight. -/
abbrev Pr : (⟨2, ![8192, 4608]⟩ : Shape).Idx → EReal := m ((c : Thread nD τ).loc main_arg0)
abbrev At : (⟨2, ![8192, 1024]⟩ : Shape).Idx → EReal := m ((c : Thread nD τ).loc main_arg1)
abbrev WA : (⟨2, ![1024, 2048]⟩ : Shape).Idx → EReal := m ((c : Thread nD τ).loc main_arg3)

/-- The gate, and the two results: the gated branch and its product. -/
def ga (s : Fin 8192) (q : Fin 1024) : EReal := Pr m c (ix2 s ⟨1536 + q.val, by have := q.isLt; omega⟩)
def ya (s : Fin 8192) (q : Fin 1024) : EReal := At m c (ix2 s q) * (ga m c s q * sg (ga m c s q))
def oY : (⟨2, ![8192, 1024]⟩ : Shape).Idx → EReal := fun j => ya m c (j 0) (j 1)
def oZ : (⟨2, ![8192, 2048]⟩ : Shape).Idx → EReal := fun j => ∑ k : Fin 1024, ya m c (j 0) k * WA m c (ix2 k (j 1))

/-- The row of the arrays that a block's row is. -/
abbrev at' (t : Fin cfg0.N) (p : Fin 256) : Fin 8192 :=
  ⟨t.val * 256 + p.val, by have := Nat.lt_of_lt_of_eq t.isLt N_0; have := p.isLt; omega⟩

/-- A block's entries of the attention's output and of the weight. -/
theorem blk (t : Fin cfg0.N) (p : Fin 256) (q : Fin 1024) (k : Fin 2048) :
    iblk m c 0 t (ix2 p q) = At m c (ix2 (at' t p) q) ∧ iblk m c 12 t (ix2 q k) = WA m c (ix2 q k) := by
  refine ⟨?_, ?_⟩ <;> blk_ext [iblk, V, idx t]

/-- The gate's two blocks of columns. -/
theorem blk_p (t : Fin cfg0.N) (p : Fin 256) (l : Fin 512) :
    iblk m c 1 t (ix2 p l) = Pr m c (ix2 (at' t p) ⟨1536 + l.val, by have := l.isLt; omega⟩)
      ∧ iblk m c 2 t (ix2 p l) = Pr m c (ix2 (at' t p) ⟨2048 + l.val, by have := l.isLt; omega⟩) := by
  refine ⟨?_, ?_⟩ <;> blk_ext [iblk, V, idx t]

/-- A point's gated branch at an entry, its gate put together from two blocks of columns. -/
theorem pay2 (t : Fin cfg0.N) (p : Fin 256) (q : Fin 1024) :
    k0_pay2 (iblk m c 0 t) (iblk m c 1 t) (iblk m c 2 t) (ix2 p q) = ya m c (at' t p) q := by
  have e := cat_at (iblk m c 1 t) (iblk m c 2 t) p q (ga m c (at' t p) q)
    (fun l h => (blk_p m c t p l).1.trans (congrArg (fun i => Pr m c (ix2 (at' t p) i)) (Fin.ext (by simp only; omega))))
    (fun l h => (blk_p m c t p l).2.trans (congrArg (fun i => Pr m c (ix2 (at' t p) i)) (Fin.ext (by simp only; omega))))
  unfold ya
  rw [← (blk m c t p q 0).1, ← e]
  rfl

/-- Its product with the weight. -/
theorem pay4 (t : Fin cfg0.N) (p : Fin 256) (q : Fin 2048) :
    k0_pay4 (iblk m c 0 t) (iblk m c 1 t) (iblk m c 2 t) (iblk m c 12 t) (ix2 p q) = oZ m c (ix2 (at' t p) q) := by
  pointwise [k0_pay4, k0_pay3]
  simp only [pay2, (blk m c t 0 _ _).2]
  rfl

/-- A point leaves its rows of the gated branch. -/
theorem out_y (t : Fin cfg0.N) (p : Fin 256) (q : Fin 1024) :
    out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p q)
      = oY m c (ix2 (at' t p) q) := by
  frame_out
  exact pay2 m c t p q

/-- A point leaves its rows of the branch's product. -/
theorem out_z (t : Fin cfg0.N) (p : Fin 256) (q : Fin 2048) :
    out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p q)
      = oZ m c (ix2 (at' t p) q) := by
  frame_out
  exact pay4 m c t p q

/-- The kernel's first result array is the gated branch. -/
theorem final_y : (dats m 0 c).arrAt 16 cfg0.N = oY m c := by
  refine (dats m 0 c).arrAt_eq_of_covers 16 _ (by decide +kernel) fun t hf y => ?_
  blk_simp
  rw [after0_16]
  obtain ⟨p, q, rfl⟩ : ∃ (p : Fin 256) (q : Fin 1024), y = ix2 p q := ⟨y 0, y 1, by funext a; match a with | 0 => rfl | 1 => rfl⟩
  rw [out_y m c t]
  blk_ext [idx t]

/-- Its other one is the branch's product. -/
theorem final_z : (dats m 0 c).arrAt 18 cfg0.N = oZ m c := by
  refine (dats m 0 c).arrAt_eq_of_covers 18 _ (by decide +kernel) fun t hf y => ?_
  blk_simp
  rw [after0_18]
  obtain ⟨p, q, rfl⟩ : ∃ (p : Fin 256) (q : Fin 2048), y = ix2 p q := ⟨y 0, y 1, by funext a; match a with | 0 => rfl | 1 => rfl⟩
  rw [out_z m c t]
  blk_ext [idx t]

/-- The printed kernel runs, its arguments unchanged and every counter back at zero. -/
theorem frame_kernel : Cert.quiescent_Kernel15 (hKernel15 := Cert.Kernel15.Gen.facts) := fun m g _ =>
  Cert.Kernel15.Gen.frame (F := Bits) m g

/-- The same of its idealization. -/
theorem frame_ideal : Cert.quiescent_Kernel15Ideal (hKernel15Ideal := Cert.Kernel15Ideal.Gen.facts) := fun m g _ =>
  Cert.Kernel15Ideal.Gen.frame (F := Ideal) m g

/-- The same of the reference, which has no counters. -/
theorem frame_reference : Cert.quiescent_Reference15Ideal (hReference15Ideal := Cert.Reference15Ideal.Gen.facts) := fun m g _ =>
  (θ_run Cert.Reference15Ideal.defs _ _).mono (fun r h => ⟨fun c => (h c).2.2,
    Idealize.ShloMosaic.sem_eq_zero_of_no_sems (by decide) r.2⟩) (Cert.Reference15Ideal.Value.run (F := Ideal) m g)

/-- The reference's gated branch, at an entry. -/
theorem rY (s : Fin 8192) (q : Fin 1024) : rVal (At m c) (rGa (Pr m c)) (ix2 s q) = ya m c s q := by
  rw [rVal_at, rGa_at]
  rfl

/-- At extended reals the kernel's two results are the gated branch and its product. -/
theorem algebraic : Cert.algebraic_Kernel15Ideal_Reference15Ideal (hKernel15Ideal := Cert.Kernel15Ideal.Gen.facts)
    (hReference15Ideal := Cert.Reference15Ideal.Gen.facts) := by
  intro m g m' g' _ hargs
  refine ⟨fun c => oY m c, fun c => oZ m c, ?_, ?_⟩
  · refine (θ_run Cert.Kernel15Ideal.defs _ _).mono (fun r h c => ?_) (run_main (F := Ideal) m g)
    refine ⟨((h c).1 16).trans (final_y m c), ((h c).1 18).trans (final_z m c), ?_, ?_, ?_, ?_, ?_, ?_, ?_⟩
    · exact ((h c).1 1).trans ((dats m 0 c).arrAt_in 1 rfl _)
    · exact ((h c).1 0).trans ((dats m 0 c).arrAt_in 0 rfl _)
    · exact ((h c).1 11).trans ((dats m 0 c).arrAt_in 11 rfl _)
    · exact ((h c).1 12).trans ((dats m 0 c).arrAt_in 12 rfl _)
    · exact ((h c).1 13).trans ((dats m 0 c).arrAt_in 13 rfl _)
    · exact ((h c).1 14).trans ((dats m 0 c).arrAt_in 14 rfl _)
    · exact ((h c).1 15).trans ((dats m 0 c).arrAt_in 15 rfl _)
  · refine (θ_run Cert.Reference15Ideal.defs _ _).mono (fun r h c => ?_) (Cert.Reference15Ideal.Value.run (F := Ideal) m' g')
    obtain ⟨a0, a1, a2, a3, a4, a5, a6⟩ := hargs c
    obtain ⟨h0, h1, h2⟩ := h c
    refine ⟨h0.trans ?_, h1.trans ?_, h2⟩
    all_goals clear h h0 h1 h2 hargs
    · rw [a0, a1]
      funext j
      obtain ⟨p, q, rfl⟩ : ∃ (p : Fin 8192) (q : Fin 1024), j = ix2 p q := ⟨j 0, j 1, by funext a; match a with | 0 => rfl | 1 => rfl⟩
      exact rY m c p q
    · rw [a0, a1, a3]
      funext j
      obtain ⟨p, q, rfl⟩ : ∃ (p : Fin 8192) (q : Fin 2048), j = ix2 p q := ⟨j 0, j 1, by funext a; match a with | 0 => rfl | 1 => rfl⟩
      refine (rDot_at (rVal (At m c) (rGa (Pr m c))) (WA m c) p q).trans ?_
      simp only [rY]
      rfl

end Cert.Proof.BrFwd

end
-- ==== Proof.lean ====
/- The claim: the frames of the programs, the idealizations' ledgers and the value claims. -/
module

public import proofs.«01_k».proof.Defs
public import proofs.«01_k».proof.Proof.Frames
public import proofs.«01_k».proof.Proof.Val.Algebraic
public import proofs.«01_k».proof.Proof.Mul.Merge
public import proofs.«01_k».proof.Proof.Mul.Out
public import proofs.«01_k».proof.Proof.Mul.Branch
public import proofs.«01_k».proof.Proof.Norm.Pre
public import proofs.«01_k».proof.Proof.Gate.Out
public import proofs.«01_k».proof.Proof.Norm.Input
public import proofs.«01_k».proof.Proof.Mul.In
public import proofs.«01_k».proof.Proof.Norm.HeadVal
public import proofs.«01_k».proof.Proof.Mul.Group
public import proofs.«01_k».proof.Proof.Mul.Forward
public import proofs.«01_k».proof.Proof.Norm.Forward
public import proofs.«01_k».proof.Proof.Gate.Branches
public import proofs.«01_k».proof.Proof.Gate.Forward

@[expose] public section

noncomputable section

namespace Cert.Proof

/-- The certificate's claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Attn.pre_facts, PreNorm.pre_facts, Input.pre_facts, BrBwd.pre_facts,
    Attn.frame_kernel, Attn.frame_ideal, Attn.frame_ideal_pre, Attn.frame_reference, Attn.frame_reference_pre,
    Merge.frame_kernel, Merge.frame_ideal, Merge.frame_reference,
    Out.frame_kernel, Out.frame_ideal, Out.frame_reference,
    Branch.frame_kernel, Branch.frame_ideal, Branch.frame_reference,
    PreNorm.frame_kernel, PreNorm.frame_ideal, PreNorm.frame_ideal_pre, PreNorm.frame_reference, PreNorm.frame_reference_pre,
    Head.frame_kernel, Head.frame_ideal, Head.frame_reference,
    Gate.frame_kernel, Gate.frame_ideal, Gate.frame_reference,
    Input.frame_kernel, Input.frame_ideal, Input.frame_ideal_pre, Input.frame_reference, Input.frame_reference_pre,
    In.frame_kernel, In.frame_ideal, In.frame_reference,
    Group.frame_kernel, Group.frame_ideal, Group.frame_reference,
    Proj.frame_kernel, Proj.frame_ideal, Proj.frame_reference,
    Gates.frame_kernel, Gates.frame_ideal, Gates.frame_reference,
    PreFwd.frame_kernel, PreFwd.frame_ideal, PreFwd.frame_reference,
    BrBwd.frame_kernel, BrBwd.frame_ideal, BrBwd.frame_ideal_pre, BrBwd.frame_reference, BrBwd.frame_reference_pre,
    BrFwd.frame_kernel, BrFwd.frame_ideal, BrFwd.frame_reference,
    Attn.preserves, Attn.algebraic, trivial, Merge.algebraic, trivial, Out.algebraic, trivial, Branch.algebraic,
    trivial, PreNorm.algebraic, trivial, Head.algebraic, trivial, Gate.algebraic, trivial, Input.algebraic,
    trivial, In.algebraic, trivial, Group.algebraic, trivial, Proj.algebraic, trivial, Gates.algebraic, trivial, PreFwd.algebraic,
    trivial, BrBwd.algebraic, trivial, BrFwd.algebraic⟩

end Cert.Proof

end
